-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S50000x256 : Shape := ⟨2, ![50000, 256]⟩
abbrev S50000 : Shape := ⟨1, ![50000]⟩
abbrev S768x256 : Shape := ⟨2, ![768, 256]⟩
abbrev S256 : Shape := ⟨1, ![256]⟩
abbrev S_ : Shape := ⟨0, ![]⟩
abbrev S49999 : Shape := ⟨1, ![49999]⟩

class Facts : Prop where
  bcast_S_S50000 : S_.BroadcastsInDim S50000 (![] : Fin 0 → Fin S50000.rank)
  reducesTo_S50000_S_d0 : S50000.ReducesTo [0] S_
  h_S_ : 0 < S_.numel
  slices_S50000_S49999_0 : S50000.Slices ![0] S49999
  slices_S50000_S49999_1 : S50000.Slices ![1] S49999
  reducesTo_S49999_S_d0 : S49999.ReducesTo [0] S_

variable [Facts]

def fn {F : FTy → Type} [FloatOps F] (main_arg0 : FVec F S50000x256 .f32) (main_arg1 : IVec S50000 32) (main_arg2 : FVec F S768x256 .f32) (main_arg3 : FVec F S256 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 128#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_v6 : IVec S49999 32 := (extractStridedSlice S49999 ![0] · slices_S50000_S49999_0) main_arg1
  let main_v7 : IVec S49999 32 := (extractStridedSlice S49999 ![1] · slices_S50000_S49999_1) main_arg1
  let main_v8 : IVec S49999 1 := cmpi .sle main_v6 main_v7
  let main_c_2 : IVec S_ 1 := constantI S_ 1 1#1
  let main_v9 : IVec S_ 1 := (fun x v => Host.reduce IntOp.andi x v reducesTo_S49999_S_d0 h_S_) main_v8 main_c_2
  let main_v10 : IVec S_ 1 := andi main_v5 main_v9
  main_v10
-- ==== Kernel.lean ====
abbrev S50000x256 : Shape := ⟨2, ![50000, 256]⟩
abbrev S50000 : Shape := ⟨1, ![50000]⟩
abbrev S768x256 : Shape := ⟨2, ![768, 256]⟩
abbrev S256 : Shape := ⟨1, ![256]⟩
abbrev S128x768 : Shape := ⟨2, ![128, 768]⟩
abbrev S50016 : Shape := ⟨1, ![50016]⟩
abbrev S144x256 : Shape := ⟨2, ![144, 256]⟩
abbrev S3072 : Shape := ⟨1, ![3072]⟩
abbrev S5 : Shape := ⟨1, ![5]⟩
abbrev S_ : Shape := ⟨0, ![]⟩
abbrev S16 : Shape := ⟨1, ![16]⟩
abbrev S1 : Shape := ⟨1, ![1]⟩
abbrev S1x16 : Shape := ⟨2, ![1, 16]⟩
abbrev S768 : Shape := ⟨1, ![768]⟩
abbrev S1x768 : Shape := ⟨2, ![1, 768]⟩
abbrev S1x256 : Shape := ⟨2, ![1, 256]⟩
abbrev S128x256 : Shape := ⟨2, ![128, 256]⟩

abbrev nBuf : Table → Nat
  | .hbm => 7
  | .local .tc .vmem => 4
  | .local .scVector .smem => 1
  | .local .scVector .vmem => 4
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S768x256, .f32⟩
  | .hbm, ⟨3, _⟩ => ⟨S256, .f32⟩
  | .hbm, ⟨4, _⟩ => ⟨S128x768, .f32⟩
  | .hbm, ⟨5, _⟩ => ⟨S1x256, .f32⟩
  | .hbm, ⟨6, _⟩ => ⟨S128x256, .f32⟩
  | .local .tc .vmem, ⟨0, _⟩ => ⟨S128x768, .f32⟩
  | .local .tc .vmem, ⟨1, _⟩ => ⟨S768x256, .f32⟩
  | .local .tc .vmem, ⟨2, _⟩ => ⟨S1x256, .f32⟩
  | .local .tc .vmem, ⟨3, _⟩ => ⟨S128x256, .f32⟩
  | .local .scVector .smem, ⟨0, _⟩ => ⟨S5, .i32⟩
  | .local .scVector .vmem, ⟨0, _⟩ => ⟨S50016, .i32⟩
  | .local .scVector .vmem, ⟨1, _⟩ => ⟨S144x256, .f32⟩
  | .local .scVector .vmem, ⟨2, _⟩ => ⟨S144x256, .f32⟩
  | .local .scVector .vmem, ⟨3, _⟩ => ⟨S3072, .f32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch4 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem2_0 : DmaSem sig := 6
abbrev cc1_sem3_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c16_i32 : BitVec 32 := 16#32
  let v8 : BitVec 32 := Scalar.addi c0_i32_1 c16_i32
  let c1_i32 : BitVec 32 := 1#32
  ⟨c0_i32_1, v8, c1_i32⟩
def k0_off1 (arg13 : BitVec 32) (arg14 : BitVec 32) : Fin 1 → Nat :=
  let v106 : BitVec 32 := Scalar.addi arg13 arg14
  let c0_i32_78 : BitVec 32 := 0#32
  let v108 : BitVec 1 := Scalar.cmpi .sgt v106 c0_i32_78
  let v109 : BitVec 32 := Scalar.extui v108
  let c0_i32_79 : BitVec 32 := 0#32
  let v110 : BitVec 1 := Scalar.cmpi .slt v106 c0_i32_79
  let v111 : BitVec 32 := Scalar.extui v110
  let v112 : BitVec 32 := Scalar.subi v109 v111
  let c2_i32_77 : BitVec 32 := 2#32
  let c0_i32_80 : BitVec 32 := 0#32
  let v113 : BitVec 1 := Scalar.cmpi .sgt c2_i32_77 c0_i32_80
  let v114 : BitVec 32 := Scalar.extui v113
  let c0_i32_81 : BitVec 32 := 0#32
  let v115 : BitVec 1 := Scalar.cmpi .slt c2_i32_77 c0_i32_81
  let v116 : BitVec 32 := Scalar.extui v115
  let v117 : BitVec 32 := Scalar.subi v114 v116
  let v118 : BitVec 1 := Scalar.cmpi .ne v112 v117
  let v119 : BitVec 32 := Scalar.remsi v106 c2_i32_77
  let c0_i32_82 : BitVec 32 := 0#32
  let v120 : BitVec 1 := Scalar.cmpi .ne v119 c0_i32_82
  let v121 : BitVec 1 := Scalar.andi v118 v120
  let v107 : BitVec 32 := Scalar.divsi v106 c2_i32_77
  let c1_i32_83 : BitVec 32 := 1#32
  let v122 : BitVec 32 := Scalar.subi v107 c1_i32_83
  let v123 : BitVec 32 := Scalar.select v121 v122 v107
  let v124 : Index := Scalar.indexCast v123
  ![v124.toNat]

def k0_chk1 (arg13 : BitVec 32) (arg14 : BitVec 32) : Prop :=
  (∀ a, (k0_off1 arg13 arg14) a + S16.size a ≤ S50016.size a)
theorem k0_off1_inb : ∀ (arg13 : BitVec 32) (arg14 : BitVec 32) (k0_hw1 : k0_chk1 arg13 arg14), ∀ a, (k0_off1 arg13 arg14) a + S16.size a ≤ S50016.size a := fun arg13 arg14 k0_hw1 => k0_hw1

@[reducible] def k0_t2_loop : Scf.Loop 32 :=
  let c0_i32_7 : BitVec 32 := 0#32
  let c16_i32_8 : BitVec 32 := 16#32
  let v13 : BitVec 32 := Scalar.addi c0_i32_7 c16_i32_8
  let c1_i32_9 : BitVec 32 := 1#32
  ⟨c0_i32_7, v13, c1_i32_9⟩
def k0_off2 (arg13 : BitVec 32) (arg14 : BitVec 32) : Fin 1 → Nat :=
  let v106 : BitVec 32 := Scalar.addi arg13 arg14
  let c0_i32_78 : BitVec 32 := 0#32
  let v108 : BitVec 1 := Scalar.cmpi .sgt v106 c0_i32_78
  let v109 : BitVec 32 := Scalar.extui v108
  let c0_i32_79 : BitVec 32 := 0#32
  let v110 : BitVec 1 := Scalar.cmpi .slt v106 c0_i32_79
  let v111 : BitVec 32 := Scalar.extui v110
  let v112 : BitVec 32 := Scalar.subi v109 v111
  let c2_i32_77 : BitVec 32 := 2#32
  let c0_i32_80 : BitVec 32 := 0#32
  let v113 : BitVec 1 := Scalar.cmpi .sgt c2_i32_77 c0_i32_80
  let v114 : BitVec 32 := Scalar.extui v113
  let c0_i32_81 : BitVec 32 := 0#32
  let v115 : BitVec 1 := Scalar.cmpi .slt c2_i32_77 c0_i32_81
  let v116 : BitVec 32 := Scalar.extui v115
  let v117 : BitVec 32 := Scalar.subi v114 v116
  let v118 : BitVec 1 := Scalar.cmpi .ne v112 v117
  let v119 : BitVec 32 := Scalar.remsi v106 c2_i32_77
  let c0_i32_82 : BitVec 32 := 0#32
  let v120 : BitVec 1 := Scalar.cmpi .ne v119 c0_i32_82
  let v121 : BitVec 1 := Scalar.andi v118 v120
  let v107 : BitVec 32 := Scalar.divsi v106 c2_i32_77
  let c1_i32_83 : BitVec 32 := 1#32
  let v122 : BitVec 32 := Scalar.subi v107 c1_i32_83
  let v123 : BitVec 32 := Scalar.select v121 v122 v107
  let v124 : Index := Scalar.indexCast v123
  ![v124.toNat]

def k0_chk2 (arg13 : BitVec 32) (arg14 : BitVec 32) : Prop :=
  (∀ a, (k0_off2 arg13 arg14) a + S16.size a ≤ S50016.size a)
theorem k0_off2_inb : ∀ (arg13 : BitVec 32) (arg14 : BitVec 32) (k0_hw2 : k0_chk2 arg13 arg14), ∀ a, (k0_off2 arg13 arg14) a + S16.size a ≤ S50016.size a := fun arg13 arg14 k0_hw2 => k0_hw2

@[reducible] def k0_t3_loop : Scf.Loop 32 :=
  let c0_i32_15 : BitVec 32 := 0#32
  let c16_i32_16 : BitVec 32 := 16#32
  let v18 : BitVec 32 := Scalar.addi c0_i32_15 c16_i32_16
  let c1_i32_17 : BitVec 32 := 1#32
  ⟨c0_i32_15, v18, c1_i32_17⟩
def k0_off3 (arg13 : BitVec 32) (arg14 : BitVec 32) : Fin 1 → Nat :=
  let v106 : BitVec 32 := Scalar.addi arg13 arg14
  let c0_i32_78 : BitVec 32 := 0#32
  let v108 : BitVec 1 := Scalar.cmpi .sgt v106 c0_i32_78
  let v109 : BitVec 32 := Scalar.extui v108
  let c0_i32_79 : BitVec 32 := 0#32
  let v110 : BitVec 1 := Scalar.cmpi .slt v106 c0_i32_79
  let v111 : BitVec 32 := Scalar.extui v110
  let v112 : BitVec 32 := Scalar.subi v109 v111
  let c2_i32_77 : BitVec 32 := 2#32
  let c0_i32_80 : BitVec 32 := 0#32
  let v113 : BitVec 1 := Scalar.cmpi .sgt c2_i32_77 c0_i32_80
  let v114 : BitVec 32 := Scalar.extui v113
  let c0_i32_81 : BitVec 32 := 0#32
  let v115 : BitVec 1 := Scalar.cmpi .slt c2_i32_77 c0_i32_81
  let v116 : BitVec 32 := Scalar.extui v115
  let v117 : BitVec 32 := Scalar.subi v114 v116
  let v118 : BitVec 1 := Scalar.cmpi .ne v112 v117
  let v119 : BitVec 32 := Scalar.remsi v106 c2_i32_77
  let c0_i32_82 : BitVec 32 := 0#32
  let v120 : BitVec 1 := Scalar.cmpi .ne v119 c0_i32_82
  let v121 : BitVec 1 := Scalar.andi v118 v120
  let v107 : BitVec 32 := Scalar.divsi v106 c2_i32_77
  let c1_i32_83 : BitVec 32 := 1#32
  let v122 : BitVec 32 := Scalar.subi v107 c1_i32_83
  let v123 : BitVec 32 := Scalar.select v121 v122 v107
  let v124 : Index := Scalar.indexCast v123
  ![v124.toNat]

def k0_chk3 (arg13 : BitVec 32) (arg14 : BitVec 32) : Prop :=
  (∀ a, (k0_off3 arg13 arg14) a + S16.size a ≤ S50016.size a)
theorem k0_off3_inb : ∀ (arg13 : BitVec 32) (arg14 : BitVec 32) (k0_hw3 : k0_chk3 arg13 arg14), ∀ a, (k0_off3 arg13 arg14) a + S16.size a ≤ S50016.size a := fun arg13 arg14 k0_hw3 => k0_hw3

@[reducible] def k0_t4_loop : Scf.Loop 32 :=
  let c0_i32_22 : BitVec 32 := 0#32
  let c16_i32_23 : BitVec 32 := 16#32
  let v23 : BitVec 32 := Scalar.addi c0_i32_22 c16_i32_23
  let c1_i32_24 : BitVec 32 := 1#32
  ⟨c0_i32_22, v23, c1_i32_24⟩
def k0_off4 (arg13 : BitVec 32) (arg14 : BitVec 32) : Fin 1 → Nat :=
  let v106 : BitVec 32 := Scalar.addi arg13 arg14
  let c0_i32_78 : BitVec 32 := 0#32
  let v108 : BitVec 1 := Scalar.cmpi .sgt v106 c0_i32_78
  let v109 : BitVec 32 := Scalar.extui v108
  let c0_i32_79 : BitVec 32 := 0#32
  let v110 : BitVec 1 := Scalar.cmpi .slt v106 c0_i32_79
  let v111 : BitVec 32 := Scalar.extui v110
  let v112 : BitVec 32 := Scalar.subi v109 v111
  let c2_i32_77 : BitVec 32 := 2#32
  let c0_i32_80 : BitVec 32 := 0#32
  let v113 : BitVec 1 := Scalar.cmpi .sgt c2_i32_77 c0_i32_80
  let v114 : BitVec 32 := Scalar.extui v113
  let c0_i32_81 : BitVec 32 := 0#32
  let v115 : BitVec 1 := Scalar.cmpi .slt c2_i32_77 c0_i32_81
  let v116 : BitVec 32 := Scalar.extui v115
  let v117 : BitVec 32 := Scalar.subi v114 v116
  let v118 : BitVec 1 := Scalar.cmpi .ne v112 v117
  let v119 : BitVec 32 := Scalar.remsi v106 c2_i32_77
  let c0_i32_82 : BitVec 32 := 0#32
  let v120 : BitVec 1 := Scalar.cmpi .ne v119 c0_i32_82
  let v121 : BitVec 1 := Scalar.andi v118 v120
  let v107 : BitVec 32 := Scalar.divsi v106 c2_i32_77
  let c1_i32_83 : BitVec 32 := 1#32
  let v122 : BitVec 32 := Scalar.subi v107 c1_i32_83
  let v123 : BitVec 32 := Scalar.select v121 v122 v107
  let v124 : Index := Scalar.indexCast v123
  ![v124.toNat]

def k0_chk4 (arg13 : BitVec 32) (arg14 : BitVec 32) : Prop :=
  (∀ a, (k0_off4 arg13 arg14) a + S16.size a ≤ S50016.size a)
theorem k0_off4_inb : ∀ (arg13 : BitVec 32) (arg14 : BitVec 32) (k0_hw4 : k0_chk4 arg13 arg14), ∀ a, (k0_off4 arg13 arg14) a + S16.size a ≤ S50016.size a := fun arg13 arg14 k0_hw4 => k0_hw4

@[reducible] def k0_t5_loop : Scf.Loop 32 :=
  let c0_i32_30 : BitVec 32 := 0#32
  let c16_i32_31 : BitVec 32 := 16#32
  let v28 : BitVec 32 := Scalar.addi c0_i32_30 c16_i32_31
  let c1_i32_32 : BitVec 32 := 1#32
  ⟨c0_i32_30, v28, c1_i32_32⟩
def k0_off5 (arg13 : BitVec 32) (arg14 : BitVec 32) : Fin 1 → Nat :=
  let v106 : BitVec 32 := Scalar.addi arg13 arg14
  let c0_i32_78 : BitVec 32 := 0#32
  let v108 : BitVec 1 := Scalar.cmpi .sgt v106 c0_i32_78
  let v109 : BitVec 32 := Scalar.extui v108
  let c0_i32_79 : BitVec 32 := 0#32
  let v110 : BitVec 1 := Scalar.cmpi .slt v106 c0_i32_79
  let v111 : BitVec 32 := Scalar.extui v110
  let v112 : BitVec 32 := Scalar.subi v109 v111
  let c2_i32_77 : BitVec 32 := 2#32
  let c0_i32_80 : BitVec 32 := 0#32
  let v113 : BitVec 1 := Scalar.cmpi .sgt c2_i32_77 c0_i32_80
  let v114 : BitVec 32 := Scalar.extui v113
  let c0_i32_81 : BitVec 32 := 0#32
  let v115 : BitVec 1 := Scalar.cmpi .slt c2_i32_77 c0_i32_81
  let v116 : BitVec 32 := Scalar.extui v115
  let v117 : BitVec 32 := Scalar.subi v114 v116
  let v118 : BitVec 1 := Scalar.cmpi .ne v112 v117
  let v119 : BitVec 32 := Scalar.remsi v106 c2_i32_77
  let c0_i32_82 : BitVec 32 := 0#32
  let v120 : BitVec 1 := Scalar.cmpi .ne v119 c0_i32_82
  let v121 : BitVec 1 := Scalar.andi v118 v120
  let v107 : BitVec 32 := Scalar.divsi v106 c2_i32_77
  let c1_i32_83 : BitVec 32 := 1#32
  let v122 : BitVec 32 := Scalar.subi v107 c1_i32_83
  let v123 : BitVec 32 := Scalar.select v121 v122 v107
  let v124 : Index := Scalar.indexCast v123
  ![v124.toNat]

def k0_chk5 (arg13 : BitVec 32) (arg14 : BitVec 32) : Prop :=
  (∀ a, (k0_off5 arg13 arg14) a + S16.size a ≤ S50016.size a)
theorem k0_off5_inb : ∀ (arg13 : BitVec 32) (arg14 : BitVec 32) (k0_hw5 : k0_chk5 arg13 arg14), ∀ a, (k0_off5 arg13 arg14) a + S16.size a ≤ S50016.size a := fun arg13 arg14 k0_hw5 => k0_hw5

@[reducible] def k0_t6_loop : Scf.Loop 32 :=
  let c0_i32_36 : BitVec 32 := 0#32
  let c4_i32_37 : BitVec 32 := 4#32
  let v32 : BitVec 32 := Scalar.addi c0_i32_36 c4_i32_37
  let c1_i32_38 : BitVec 32 := 1#32
  ⟨c0_i32_36, v32, c1_i32_38⟩
def k0_off6 (k0_t6 : Fin k0_t6_loop.trips) (c0_i32_78 : BitVec 32) : Fin 1 → Nat :=
  let c0_i32_36 : BitVec 32 := 0#32
  let c1_i32_38 : BitVec 32 := 1#32
  let arg12 : BitVec 32 := Scf.iv c0_i32_36 c1_i32_38 k0_t6
  let c3_i32_77 : BitVec 32 := 3#32
  let v106 : BitVec 32 := Scalar.muli arg12 c3_i32_77
  let c256_i32 : BitVec 32 := 256#32
  let v107 : BitVec 32 := Scalar.muli v106 c256_i32
  let v109 : BitVec 32 := Scalar.addi v107 c0_i32_78
  let v110 : Index := Scalar.indexCast v109
  ![v110.toNat]
def k0_off7 (k0_t6 : Fin k0_t6_loop.trips) (c256_i32_80 : BitVec 32) (c0_i32_81 : BitVec 32) : Fin 1 → Nat :=
  let c0_i32_36 : BitVec 32 := 0#32
  let c1_i32_38 : BitVec 32 := 1#32
  let arg12 : BitVec 32 := Scf.iv c0_i32_36 c1_i32_38 k0_t6
  let c3_i32_77 : BitVec 32 := 3#32
  let v106 : BitVec 32 := Scalar.muli arg12 c3_i32_77
  let c256_i32 : BitVec 32 := 256#32
  let v107 : BitVec 32 := Scalar.muli v106 c256_i32
  let v115 : BitVec 32 := Scalar.addi v107 c256_i32_80
  let v116 : BitVec 32 := Scalar.addi v115 c0_i32_81
  let v117 : Index := Scalar.indexCast v116
  ![v117.toNat]
def k0_mult1 (v35 : BitVec 32) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c0_i32_77 : BitVec 32 := 0#32
  let v106 : BitVec 32 := Scalar.addi v55 c0_i32_77
  let c49856_i32 : BitVec 32 := 49856#32
  let v107 : BitVec 32 := Scalar.minsi v106 c49856_i32
  v107
def k0_cond1 (v35 : BitVec 32) (v37 : BitVec 32) : BitVec 1 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c0_i32_57 : BitVec 32 := 0#32
  let v76 : BitVec 1 := Scalar.cmpi .sgt v75 c0_i32_57
  let v77 : BitVec 32 := Scalar.extui v76
  let c0_i32_58 : BitVec 32 := 0#32
  let v78 : BitVec 1 := Scalar.cmpi .ne v77 c0_i32_58
  v78

def k0_off8 (v35 : BitVec 32) : Fin 2 → Nat :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c0_i32_77 : BitVec 32 := 0#32
  let v106 : BitVec 32 := Scalar.addi v55 c0_i32_77
  let c49856_i32 : BitVec 32 := 49856#32
  let v107 : BitVec 32 := Scalar.minsi v106 c49856_i32
  let v108 : BitVec 32 := v107
  let c0_i32_78 : BitVec 32 := 0#32
  ![v108.toNat, 0]
@[reducible] def k0_t7_loop (v35 : BitVec 32) (v37 : BitVec 32) : Scf.Loop 32 :=
  let c0_i32_67 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_70 : BitVec 32 := 1#32
  ⟨c0_i32_67, v101, c1_i32_70⟩
def k0_mult2 (v35 : BitVec 32) (v37 : BitVec 32) (k0_t7 : Fin (k0_t7_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c144_i32_95 : BitVec 32 := 144#32
  let v132 : BitVec 32 := Scalar.muli v107 c144_i32_95
  let v133 : BitVec 32 := Scalar.addi v55 v132
  let c49856_i32_96 : BitVec 32 := 49856#32
  let v134 : BitVec 32 := Scalar.minsi v133 c49856_i32_96
  v134
def k0_cond2 (v35 : BitVec 32) (v37 : BitVec 32) (k0_t7 : Fin (k0_t7_loop v35 v37).trips) : BitVec 1 :=
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let v108 : BitVec 1 := Scalar.cmpi .slt v107 v75
  let v109 : BitVec 32 := Scalar.extui v108
  let c0_i32_79 : BitVec 32 := 0#32
  let v110 : BitVec 1 := Scalar.cmpi .ne v109 c0_i32_79
  v110

def k0_off9 (v35 : BitVec 32) (v37 : BitVec 32) (k0_t7 : Fin (k0_t7_loop v35 v37).trips) : Fin 2 → Nat :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c144_i32_95 : BitVec 32 := 144#32
  let v132 : BitVec 32 := Scalar.muli v107 c144_i32_95
  let v133 : BitVec 32 := Scalar.addi v55 v132
  let c49856_i32_96 : BitVec 32 := 49856#32
  let v134 : BitVec 32 := Scalar.minsi v133 c49856_i32_96
  let v135 : BitVec 32 := v134
  let c0_i32_97 : BitVec 32 := 0#32
  ![v135.toNat, 0]
def k0_mult3 (v35 : BitVec 32) (v37 : BitVec 32) (k0_t7 : Fin (k0_t7_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c144_i32_80 : BitVec 32 := 144#32
  let v111 : BitVec 32 := Scalar.muli v106 c144_i32_80
  let v112 : BitVec 32 := Scalar.addi v55 v111
  let c49856_i32 : BitVec 32 := 49856#32
  let v113 : BitVec 32 := Scalar.minsi v112 c49856_i32
  v113
def k0_off10 (v35 : BitVec 32) (v37 : BitVec 32) (k0_t7 : Fin (k0_t7_loop v35 v37).trips) : Fin 2 → Nat :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c144_i32_80 : BitVec 32 := 144#32
  let v111 : BitVec 32 := Scalar.muli v106 c144_i32_80
  let v112 : BitVec 32 := Scalar.addi v55 v111
  let c49856_i32 : BitVec 32 := 49856#32
  let v113 : BitVec 32 := Scalar.minsi v112 c49856_i32
  let v114 : BitVec 32 := v113
  let c0_i32_81 : BitVec 32 := 0#32
  ![v114.toNat, 0]
def k0_mult4 (v35 : BitVec 32) (v37 : BitVec 32) (k0_t7 : Fin (k0_t7_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c144_i32_84 : BitVec 32 := 144#32
  let v119 : BitVec 32 := Scalar.muli v106 c144_i32_84
  let v120 : BitVec 32 := Scalar.addi v55 v119
  let c49856_i32_85 : BitVec 32 := 49856#32
  let v121 : BitVec 32 := Scalar.minsi v120 c49856_i32_85
  v121
@[reducible] def k0_t8_loop : Scf.Loop 32 :=
  let c0_i32_87 : BitVec 32 := 0#32
  let c4_i32_88 : BitVec 32 := 4#32
  let v123 : BitVec 32 := Scalar.addi c0_i32_87 c4_i32_88
  let c1_i32_89 : BitVec 32 := 1#32
  ⟨c0_i32_87, v123, c1_i32_89⟩
def k0_off11 (k0_t8 : Fin k0_t8_loop.trips) : Fin 1 → Nat :=
  let c0_i32_87 : BitVec 32 := 0#32
  let c1_i32_89 : BitVec 32 := 1#32
  let arg14 : BitVec 32 := Scf.iv c0_i32_87 c1_i32_89 k0_t8
  let v132 : Index := Scalar.indexCast arg14
  ![v132.toNat]
def k0_off12 (k0_t8 : Fin k0_t8_loop.trips) : Fin 1 → Nat :=
  let c0_i32_87 : BitVec 32 := 0#32
  let c1_i32_89 : BitVec 32 := 1#32
  let arg14 : BitVec 32 := Scf.iv c0_i32_87 c1_i32_89 k0_t8
  let c1_i32_95 : BitVec 32 := 1#32
  let v135 : BitVec 32 := Scalar.addi arg14 c1_i32_95
  let v136 : Index := Scalar.indexCast v135
  ![v136.toNat]
def k0_off13 (k0_t8 : Fin k0_t8_loop.trips) (c0_i32_101 : BitVec 32) : Fin 1 → Nat :=
  let c0_i32_87 : BitVec 32 := 0#32
  let c1_i32_89 : BitVec 32 := 1#32
  let arg14 : BitVec 32 := Scf.iv c0_i32_87 c1_i32_89 k0_t8
  let c3_i32_99 : BitVec 32 := 3#32
  let v143 : BitVec 32 := Scalar.muli arg14 c3_i32_99
  let c256_i32 : BitVec 32 := 256#32
  let v144 : BitVec 32 := Scalar.muli v143 c256_i32
  let v148 : BitVec 32 := Scalar.addi v144 c0_i32_101
  let v149 : Index := Scalar.indexCast v148
  ![v149.toNat]
def k0_off14 (k0_t8 : Fin k0_t8_loop.trips) (c256_i32_103 : BitVec 32) (c0_i32_104 : BitVec 32) : Fin 1 → Nat :=
  let c0_i32_87 : BitVec 32 := 0#32
  let c1_i32_89 : BitVec 32 := 1#32
  let arg14 : BitVec 32 := Scf.iv c0_i32_87 c1_i32_89 k0_t8
  let c3_i32_99 : BitVec 32 := 3#32
  let v143 : BitVec 32 := Scalar.muli arg14 c3_i32_99
  let c256_i32 : BitVec 32 := 256#32
  let v144 : BitVec 32 := Scalar.muli v143 c256_i32
  let v180 : BitVec 32 := Scalar.addi v144 c256_i32_103
  let v181 : BitVec 32 := Scalar.addi v180 c0_i32_104
  let v182 : Index := Scalar.indexCast v181
  ![v182.toNat]
@[reducible] def k0_t9_loop (v35 : BitVec 32) (v37 : BitVec 32) (k0_t7 : Fin (k0_t7_loop v35 v37).trips) (v133 : BitVec 32) (v137 : BitVec 32) : Scf.Loop 32 :=
  let c0_i32_134 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c144_i32_83 : BitVec 32 := 144#32
  let v117 : BitVec 32 := Scalar.muli v106 c144_i32_83
  let v118 : BitVec 32 := Scalar.addi v55 v117
  let c144_i32_96 : BitVec 32 := 144#32
  let v138 : BitVec 32 := Scalar.addi v118 c144_i32_96
  let v139 : BitVec 32 := Scalar.minsi v137 v138
  let v134 : BitVec 32 := Scalar.maxsi v133 v118
  let v146 : BitVec 32 := Scalar.subi v139 v134
  let c0_i32_100 : BitVec 32 := 0#32
  let v147 : BitVec 32 := Scalar.maxsi v146 c0_i32_100
  let v260 : BitVec 32 := Scalar.subi v147 c0_i32_134
  let c1_i32_135 : BitVec 32 := 1#32
  let v262 : BitVec 32 := Scalar.divsi v260 c1_i32_135
  let v263 : BitVec 32 := Scalar.muli v262 c1_i32_135
  let v264 : BitVec 32 := Scalar.addi c0_i32_134 v263
  let c1_i32_136 : BitVec 32 := 1#32
  ⟨c0_i32_134, v264, c1_i32_136⟩
def k0_cond3 (v35 : BitVec 32) (v37 : BitVec 32) (k0_t7 : Fin (k0_t7_loop v35 v37).trips) (v133 : BitVec 32) (v137 : BitVec 32) : BitVec 1 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c144_i32_83 : BitVec 32 := 144#32
  let v117 : BitVec 32 := Scalar.muli v106 c144_i32_83
  let v118 : BitVec 32 := Scalar.addi v55 v117
  let c144_i32_96 : BitVec 32 := 144#32
  let v138 : BitVec 32 := Scalar.addi v118 c144_i32_96
  let v139 : BitVec 32 := Scalar.minsi v137 v138
  let v134 : BitVec 32 := Scalar.maxsi v133 v118
  let v140 : BitVec 1 := Scalar.cmpi .sgt v139 v134
  let v141 : BitVec 32 := Scalar.extui v140
  let c0_i32_97 : BitVec 32 := 0#32
  let v142 : BitVec 1 := Scalar.cmpi .ne v141 c0_i32_97
  v142

def k0_off15 (arg17 : BitVec 32) : Fin 2 → Nat :=
  let v658 : Index := Scalar.indexCast arg17
  let c0 : Index := 0#32
  ![v658.toNat, 0]

def k0_off16 (arg17 : BitVec 32) : Fin 2 → Nat :=
  let v661 : Index := Scalar.indexCast arg17
  let c16 : Index := 16#32
  ![v661.toNat, 16]
def k0_off17 (arg17 : BitVec 32) : Fin 2 → Nat :=
  let v664 : Index := Scalar.indexCast arg17
  let c32 : Index := 32#32
  ![v664.toNat, 32]
def k0_off18 (arg17 : BitVec 32) : Fin 2 → Nat :=
  let v667 : Index := Scalar.indexCast arg17
  let c48 : Index := 48#32
  ![v667.toNat, 48]
def k0_off19 (arg17 : BitVec 32) : Fin 2 → Nat :=
  let v670 : Index := Scalar.indexCast arg17
  let c64 : Index := 64#32
  ![v670.toNat, 64]
def k0_off20 (arg17 : BitVec 32) : Fin 2 → Nat :=
  let v673 : Index := Scalar.indexCast arg17
  let c80 : Index := 80#32
  ![v673.toNat, 80]
def k0_off21 (arg17 : BitVec 32) : Fin 2 → Nat :=
  let v676 : Index := Scalar.indexCast arg17
  let c96 : Index := 96#32
  ![v676.toNat, 96]
def k0_off22 (arg17 : BitVec 32) : Fin 2 → Nat :=
  let v679 : Index := Scalar.indexCast arg17
  let c112 : Index := 112#32
  ![v679.toNat, 112]

def k0_chk8 (v35 : BitVec 32) (v37 : BitVec 32) (k0_t7 : Fin (k0_t7_loop v35 v37).trips) (v133 : BitVec 32) (v137 : BitVec 32) (arg17 : BitVec 32) : Prop :=
  (∀ (k0_h3 : k0_cond3 v35 v37 k0_t7 v133 v137 = 1#1), ∀ a, (k0_off15 arg17) a + S1x16.size a ≤ S144x256.size a) ∧
  (∀ (k0_h3 : k0_cond3 v35 v37 k0_t7 v133 v137 = 1#1), ∀ a, (k0_off16 arg17) a + S1x16.size a ≤ S144x256.size a) ∧
  (∀ (k0_h3 : k0_cond3 v35 v37 k0_t7 v133 v137 = 1#1), ∀ a, (k0_off17 arg17) a + S1x16.size a ≤ S144x256.size a) ∧
  (∀ (k0_h3 : k0_cond3 v35 v37 k0_t7 v133 v137 = 1#1), ∀ a, (k0_off18 arg17) a + S1x16.size a ≤ S144x256.size a) ∧
  (∀ (k0_h3 : k0_cond3 v35 v37 k0_t7 v133 v137 = 1#1), ∀ a, (k0_off19 arg17) a + S1x16.size a ≤ S144x256.size a) ∧
  (∀ (k0_h3 : k0_cond3 v35 v37 k0_t7 v133 v137 = 1#1), ∀ a, (k0_off20 arg17) a + S1x16.size a ≤ S144x256.size a) ∧
  (∀ (k0_h3 : k0_cond3 v35 v37 k0_t7 v133 v137 = 1#1), ∀ a, (k0_off21 arg17) a + S1x16.size a ≤ S144x256.size a) ∧
  (∀ (k0_h3 : k0_cond3 v35 v37 k0_t7 v133 v137 = 1#1), ∀ a, (k0_off22 arg17) a + S1x16.size a ≤ S144x256.size a)
theorem k0_off15_inb : ∀ (v35 : BitVec 32) (v37 : BitVec 32) (k0_t7 : Fin (k0_t7_loop v35 v37).trips) (v133 : BitVec 32) (v137 : BitVec 32) (arg17 : BitVec 32) (k0_hw8 : k0_chk8 v35 v37 k0_t7 v133 v137 arg17), ∀ (k0_h3 : k0_cond3 v35 v37 k0_t7 v133 v137 = 1#1), ∀ a, (k0_off15 arg17) a + S1x16.size a ≤ S144x256.size a := fun v35 v37 k0_t7 v133 v137 arg17 k0_hw8 k0_h3 => k0_hw8.1 k0_h3
theorem k0_off16_inb : ∀ (v35 : BitVec 32) (v37 : BitVec 32) (k0_t7 : Fin (k0_t7_loop v35 v37).trips) (v133 : BitVec 32) (v137 : BitVec 32) (arg17 : BitVec 32) (k0_hw8 : k0_chk8 v35 v37 k0_t7 v133 v137 arg17), ∀ (k0_h3 : k0_cond3 v35 v37 k0_t7 v133 v137 = 1#1), ∀ a, (k0_off16 arg17) a + S1x16.size a ≤ S144x256.size a := fun v35 v37 k0_t7 v133 v137 arg17 k0_hw8 k0_h3 => k0_hw8.2.1 k0_h3
theorem k0_off17_inb : ∀ (v35 : BitVec 32) (v37 : BitVec 32) (k0_t7 : Fin (k0_t7_loop v35 v37).trips) (v133 : BitVec 32) (v137 : BitVec 32) (arg17 : BitVec 32) (k0_hw8 : k0_chk8 v35 v37 k0_t7 v133 v137 arg17), ∀ (k0_h3 : k0_cond3 v35 v37 k0_t7 v133 v137 = 1#1), ∀ a, (k0_off17 arg17) a + S1x16.size a ≤ S144x256.size a := fun v35 v37 k0_t7 v133 v137 arg17 k0_hw8 k0_h3 => k0_hw8.2.2.1 k0_h3
theorem k0_off18_inb : ∀ (v35 : BitVec 32) (v37 : BitVec 32) (k0_t7 : Fin (k0_t7_loop v35 v37).trips) (v133 : BitVec 32) (v137 : BitVec 32) (arg17 : BitVec 32) (k0_hw8 : k0_chk8 v35 v37 k0_t7 v133 v137 arg17), ∀ (k0_h3 : k0_cond3 v35 v37 k0_t7 v133 v137 = 1#1), ∀ a, (k0_off18 arg17) a + S1x16.size a ≤ S144x256.size a := fun v35 v37 k0_t7 v133 v137 arg17 k0_hw8 k0_h3 => k0_hw8.2.2.2.1 k0_h3
theorem k0_off19_inb : ∀ (v35 : BitVec 32) (v37 : BitVec 32) (k0_t7 : Fin (k0_t7_loop v35 v37).trips) (v133 : BitVec 32) (v137 : BitVec 32) (arg17 : BitVec 32) (k0_hw8 : k0_chk8 v35 v37 k0_t7 v133 v137 arg17), ∀ (k0_h3 : k0_cond3 v35 v37 k0_t7 v133 v137 = 1#1), ∀ a, (k0_off19 arg17) a + S1x16.size a ≤ S144x256.size a := fun v35 v37 k0_t7 v133 v137 arg17 k0_hw8 k0_h3 => k0_hw8.2.2.2.2.1 k0_h3
theorem k0_off20_inb : ∀ (v35 : BitVec 32) (v37 : BitVec 32) (k0_t7 : Fin (k0_t7_loop v35 v37).trips) (v133 : BitVec 32) (v137 : BitVec 32) (arg17 : BitVec 32) (k0_hw8 : k0_chk8 v35 v37 k0_t7 v133 v137 arg17), ∀ (k0_h3 : k0_cond3 v35 v37 k0_t7 v133 v137 = 1#1), ∀ a, (k0_off20 arg17) a + S1x16.size a ≤ S144x256.size a := fun v35 v37 k0_t7 v133 v137 arg17 k0_hw8 k0_h3 => k0_hw8.2.2.2.2.2.1 k0_h3
theorem k0_off21_inb : ∀ (v35 : BitVec 32) (v37 : BitVec 32) (k0_t7 : Fin (k0_t7_loop v35 v37).trips) (v133 : BitVec 32) (v137 : BitVec 32) (arg17 : BitVec 32) (k0_hw8 : k0_chk8 v35 v37 k0_t7 v133 v137 arg17), ∀ (k0_h3 : k0_cond3 v35 v37 k0_t7 v133 v137 = 1#1), ∀ a, (k0_off21 arg17) a + S1x16.size a ≤ S144x256.size a := fun v35 v37 k0_t7 v133 v137 arg17 k0_hw8 k0_h3 => k0_hw8.2.2.2.2.2.2.1 k0_h3
theorem k0_off22_inb : ∀ (v35 : BitVec 32) (v37 : BitVec 32) (k0_t7 : Fin (k0_t7_loop v35 v37).trips) (v133 : BitVec 32) (v137 : BitVec 32) (arg17 : BitVec 32) (k0_hw8 : k0_chk8 v35 v37 k0_t7 v133 v137 arg17), ∀ (k0_h3 : k0_cond3 v35 v37 k0_t7 v133 v137 = 1#1), ∀ a, (k0_off22 arg17) a + S1x16.size a ≤ S144x256.size a := fun v35 v37 k0_t7 v133 v137 arg17 k0_hw8 k0_h3 => k0_hw8.2.2.2.2.2.2.2 k0_h3

@[reducible] def k0_t10_loop (v35 : BitVec 32) (v37 : BitVec 32) (k0_t7 : Fin (k0_t7_loop v35 v37).trips) (v133 : BitVec 32) (v137 : BitVec 32) : Scf.Loop 32 :=
  let c0_i32_134 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c144_i32_83 : BitVec 32 := 144#32
  let v117 : BitVec 32 := Scalar.muli v106 c144_i32_83
  let v118 : BitVec 32 := Scalar.addi v55 v117
  let c144_i32_96 : BitVec 32 := 144#32
  let v138 : BitVec 32 := Scalar.addi v118 c144_i32_96
  let v139 : BitVec 32 := Scalar.minsi v137 v138
  let v134 : BitVec 32 := Scalar.maxsi v133 v118
  let v146 : BitVec 32 := Scalar.subi v139 v134
  let c0_i32_100 : BitVec 32 := 0#32
  let v147 : BitVec 32 := Scalar.maxsi v146 c0_i32_100
  let v260 : BitVec 32 := Scalar.subi v147 c0_i32_134
  let c1_i32_135 : BitVec 32 := 1#32
  let v262 : BitVec 32 := Scalar.divsi v260 c1_i32_135
  let v263 : BitVec 32 := Scalar.muli v262 c1_i32_135
  let v264 : BitVec 32 := Scalar.addi c0_i32_134 v263
  let v261 : BitVec 32 := Scalar.addi c0_i32_134 v260
  let c1_i32_137 : BitVec 32 := 1#32
  ⟨v264, v261, c1_i32_137⟩
def k0_off23 (arg17 : BitVec 32) : Fin 2 → Nat :=
  let v658 : Index := Scalar.indexCast arg17
  let c0 : Index := 0#32
  ![v658.toNat, 0]

def k0_off24 (arg17 : BitVec 32) : Fin 2 → Nat :=
  let v661 : Index := Scalar.indexCast arg17
  let c16 : Index := 16#32
  ![v661.toNat, 16]
def k0_off25 (arg17 : BitVec 32) : Fin 2 → Nat :=
  let v664 : Index := Scalar.indexCast arg17
  let c32 : Index := 32#32
  ![v664.toNat, 32]
def k0_off26 (arg17 : BitVec 32) : Fin 2 → Nat :=
  let v667 : Index := Scalar.indexCast arg17
  let c48 : Index := 48#32
  ![v667.toNat, 48]
def k0_off27 (arg17 : BitVec 32) : Fin 2 → Nat :=
  let v670 : Index := Scalar.indexCast arg17
  let c64 : Index := 64#32
  ![v670.toNat, 64]
def k0_off28 (arg17 : BitVec 32) : Fin 2 → Nat :=
  let v673 : Index := Scalar.indexCast arg17
  let c80 : Index := 80#32
  ![v673.toNat, 80]
def k0_off29 (arg17 : BitVec 32) : Fin 2 → Nat :=
  let v676 : Index := Scalar.indexCast arg17
  let c96 : Index := 96#32
  ![v676.toNat, 96]
def k0_off30 (arg17 : BitVec 32) : Fin 2 → Nat :=
  let v679 : Index := Scalar.indexCast arg17
  let c112 : Index := 112#32
  ![v679.toNat, 112]

def k0_chk9 (v35 : BitVec 32) (v37 : BitVec 32) (k0_t7 : Fin (k0_t7_loop v35 v37).trips) (v133 : BitVec 32) (v137 : BitVec 32) (arg17 : BitVec 32) : Prop :=
  (∀ (k0_h3 : k0_cond3 v35 v37 k0_t7 v133 v137 = 1#1), ∀ a, (k0_off23 arg17) a + S1x16.size a ≤ S144x256.size a) ∧
  (∀ (k0_h3 : k0_cond3 v35 v37 k0_t7 v133 v137 = 1#1), ∀ a, (k0_off24 arg17) a + S1x16.size a ≤ S144x256.size a) ∧
  (∀ (k0_h3 : k0_cond3 v35 v37 k0_t7 v133 v137 = 1#1), ∀ a, (k0_off25 arg17) a + S1x16.size a ≤ S144x256.size a) ∧
  (∀ (k0_h3 : k0_cond3 v35 v37 k0_t7 v133 v137 = 1#1), ∀ a, (k0_off26 arg17) a + S1x16.size a ≤ S144x256.size a) ∧
  (∀ (k0_h3 : k0_cond3 v35 v37 k0_t7 v133 v137 = 1#1), ∀ a, (k0_off27 arg17) a + S1x16.size a ≤ S144x256.size a) ∧
  (∀ (k0_h3 : k0_cond3 v35 v37 k0_t7 v133 v137 = 1#1), ∀ a, (k0_off28 arg17) a + S1x16.size a ≤ S144x256.size a) ∧
  (∀ (k0_h3 : k0_cond3 v35 v37 k0_t7 v133 v137 = 1#1), ∀ a, (k0_off29 arg17) a + S1x16.size a ≤ S144x256.size a) ∧
  (∀ (k0_h3 : k0_cond3 v35 v37 k0_t7 v133 v137 = 1#1), ∀ a, (k0_off30 arg17) a + S1x16.size a ≤ S144x256.size a)
theorem k0_off23_inb : ∀ (v35 : BitVec 32) (v37 : BitVec 32) (k0_t7 : Fin (k0_t7_loop v35 v37).trips) (v133 : BitVec 32) (v137 : BitVec 32) (arg17 : BitVec 32) (k0_hw9 : k0_chk9 v35 v37 k0_t7 v133 v137 arg17), ∀ (k0_h3 : k0_cond3 v35 v37 k0_t7 v133 v137 = 1#1), ∀ a, (k0_off23 arg17) a + S1x16.size a ≤ S144x256.size a := fun v35 v37 k0_t7 v133 v137 arg17 k0_hw9 k0_h3 => k0_hw9.1 k0_h3
theorem k0_off24_inb : ∀ (v35 : BitVec 32) (v37 : BitVec 32) (k0_t7 : Fin (k0_t7_loop v35 v37).trips) (v133 : BitVec 32) (v137 : BitVec 32) (arg17 : BitVec 32) (k0_hw9 : k0_chk9 v35 v37 k0_t7 v133 v137 arg17), ∀ (k0_h3 : k0_cond3 v35 v37 k0_t7 v133 v137 = 1#1), ∀ a, (k0_off24 arg17) a + S1x16.size a ≤ S144x256.size a := fun v35 v37 k0_t7 v133 v137 arg17 k0_hw9 k0_h3 => k0_hw9.2.1 k0_h3
theorem k0_off25_inb : ∀ (v35 : BitVec 32) (v37 : BitVec 32) (k0_t7 : Fin (k0_t7_loop v35 v37).trips) (v133 : BitVec 32) (v137 : BitVec 32) (arg17 : BitVec 32) (k0_hw9 : k0_chk9 v35 v37 k0_t7 v133 v137 arg17), ∀ (k0_h3 : k0_cond3 v35 v37 k0_t7 v133 v137 = 1#1), ∀ a, (k0_off25 arg17) a + S1x16.size a ≤ S144x256.size a := fun v35 v37 k0_t7 v133 v137 arg17 k0_hw9 k0_h3 => k0_hw9.2.2.1 k0_h3
theorem k0_off26_inb : ∀ (v35 : BitVec 32) (v37 : BitVec 32) (k0_t7 : Fin (k0_t7_loop v35 v37).trips) (v133 : BitVec 32) (v137 : BitVec 32) (arg17 : BitVec 32) (k0_hw9 : k0_chk9 v35 v37 k0_t7 v133 v137 arg17), ∀ (k0_h3 : k0_cond3 v35 v37 k0_t7 v133 v137 = 1#1), ∀ a, (k0_off26 arg17) a + S1x16.size a ≤ S144x256.size a := fun v35 v37 k0_t7 v133 v137 arg17 k0_hw9 k0_h3 => k0_hw9.2.2.2.1 k0_h3
theorem k0_off27_inb : ∀ (v35 : BitVec 32) (v37 : BitVec 32) (k0_t7 : Fin (k0_t7_loop v35 v37).trips) (v133 : BitVec 32) (v137 : BitVec 32) (arg17 : BitVec 32) (k0_hw9 : k0_chk9 v35 v37 k0_t7 v133 v137 arg17), ∀ (k0_h3 : k0_cond3 v35 v37 k0_t7 v133 v137 = 1#1), ∀ a, (k0_off27 arg17) a + S1x16.size a ≤ S144x256.size a := fun v35 v37 k0_t7 v133 v137 arg17 k0_hw9 k0_h3 => k0_hw9.2.2.2.2.1 k0_h3
theorem k0_off28_inb : ∀ (v35 : BitVec 32) (v37 : BitVec 32) (k0_t7 : Fin (k0_t7_loop v35 v37).trips) (v133 : BitVec 32) (v137 : BitVec 32) (arg17 : BitVec 32) (k0_hw9 : k0_chk9 v35 v37 k0_t7 v133 v137 arg17), ∀ (k0_h3 : k0_cond3 v35 v37 k0_t7 v133 v137 = 1#1), ∀ a, (k0_off28 arg17) a + S1x16.size a ≤ S144x256.size a := fun v35 v37 k0_t7 v133 v137 arg17 k0_hw9 k0_h3 => k0_hw9.2.2.2.2.2.1 k0_h3
theorem k0_off29_inb : ∀ (v35 : BitVec 32) (v37 : BitVec 32) (k0_t7 : Fin (k0_t7_loop v35 v37).trips) (v133 : BitVec 32) (v137 : BitVec 32) (arg17 : BitVec 32) (k0_hw9 : k0_chk9 v35 v37 k0_t7 v133 v137 arg17), ∀ (k0_h3 : k0_cond3 v35 v37 k0_t7 v133 v137 = 1#1), ∀ a, (k0_off29 arg17) a + S1x16.size a ≤ S144x256.size a := fun v35 v37 k0_t7 v133 v137 arg17 k0_hw9 k0_h3 => k0_hw9.2.2.2.2.2.2.1 k0_h3
theorem k0_off30_inb : ∀ (v35 : BitVec 32) (v37 : BitVec 32) (k0_t7 : Fin (k0_t7_loop v35 v37).trips) (v133 : BitVec 32) (v137 : BitVec 32) (arg17 : BitVec 32) (k0_hw9 : k0_chk9 v35 v37 k0_t7 v133 v137 arg17), ∀ (k0_h3 : k0_cond3 v35 v37 k0_t7 v133 v137 = 1#1), ∀ a, (k0_off30 arg17) a + S1x16.size a ≤ S144x256.size a := fun v35 v37 k0_t7 v133 v137 arg17 k0_hw9 k0_h3 => k0_hw9.2.2.2.2.2.2.2 k0_h3

@[reducible] def k0_t11_loop (v35 : BitVec 32) (v37 : BitVec 32) (k0_t7 : Fin (k0_t7_loop v35 v37).trips) (v133 : BitVec 32) (v137 : BitVec 32) : Scf.Loop 32 :=
  let c0_i32_212 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c144_i32_83 : BitVec 32 := 144#32
  let v117 : BitVec 32 := Scalar.muli v106 c144_i32_83
  let v118 : BitVec 32 := Scalar.addi v55 v117
  let c144_i32_96 : BitVec 32 := 144#32
  let v138 : BitVec 32 := Scalar.addi v118 c144_i32_96
  let v139 : BitVec 32 := Scalar.minsi v137 v138
  let v134 : BitVec 32 := Scalar.maxsi v133 v118
  let v146 : BitVec 32 := Scalar.subi v139 v134
  let c0_i32_100 : BitVec 32 := 0#32
  let v147 : BitVec 32 := Scalar.maxsi v146 c0_i32_100
  let v515 : BitVec 32 := Scalar.subi v147 c0_i32_212
  let c1_i32_213 : BitVec 32 := 1#32
  let v517 : BitVec 32 := Scalar.divsi v515 c1_i32_213
  let v518 : BitVec 32 := Scalar.muli v517 c1_i32_213
  let v519 : BitVec 32 := Scalar.addi c0_i32_212 v518
  let c1_i32_214 : BitVec 32 := 1#32
  ⟨c0_i32_212, v519, c1_i32_214⟩
def k0_off31 (arg17 : BitVec 32) : Fin 2 → Nat :=
  let v658 : Index := Scalar.indexCast arg17
  let c128 : Index := 128#32
  ![v658.toNat, 128]

def k0_off32 (arg17 : BitVec 32) : Fin 2 → Nat :=
  let v661 : Index := Scalar.indexCast arg17
  let c144 : Index := 144#32
  ![v661.toNat, 144]
def k0_off33 (arg17 : BitVec 32) : Fin 2 → Nat :=
  let v664 : Index := Scalar.indexCast arg17
  let c160 : Index := 160#32
  ![v664.toNat, 160]
def k0_off34 (arg17 : BitVec 32) : Fin 2 → Nat :=
  let v667 : Index := Scalar.indexCast arg17
  let c176 : Index := 176#32
  ![v667.toNat, 176]
def k0_off35 (arg17 : BitVec 32) : Fin 2 → Nat :=
  let v670 : Index := Scalar.indexCast arg17
  let c192 : Index := 192#32
  ![v670.toNat, 192]
def k0_off36 (arg17 : BitVec 32) : Fin 2 → Nat :=
  let v673 : Index := Scalar.indexCast arg17
  let c208 : Index := 208#32
  ![v673.toNat, 208]
def k0_off37 (arg17 : BitVec 32) : Fin 2 → Nat :=
  let v676 : Index := Scalar.indexCast arg17
  let c224 : Index := 224#32
  ![v676.toNat, 224]
def k0_off38 (arg17 : BitVec 32) : Fin 2 → Nat :=
  let v679 : Index := Scalar.indexCast arg17
  let c240 : Index := 240#32
  ![v679.toNat, 240]

def k0_chk10 (v35 : BitVec 32) (v37 : BitVec 32) (k0_t7 : Fin (k0_t7_loop v35 v37).trips) (v133 : BitVec 32) (v137 : BitVec 32) (arg17 : BitVec 32) : Prop :=
  (∀ (k0_h3 : k0_cond3 v35 v37 k0_t7 v133 v137 = 1#1), ∀ a, (k0_off31 arg17) a + S1x16.size a ≤ S144x256.size a) ∧
  (∀ (k0_h3 : k0_cond3 v35 v37 k0_t7 v133 v137 = 1#1), ∀ a, (k0_off32 arg17) a + S1x16.size a ≤ S144x256.size a) ∧
  (∀ (k0_h3 : k0_cond3 v35 v37 k0_t7 v133 v137 = 1#1), ∀ a, (k0_off33 arg17) a + S1x16.size a ≤ S144x256.size a) ∧
  (∀ (k0_h3 : k0_cond3 v35 v37 k0_t7 v133 v137 = 1#1), ∀ a, (k0_off34 arg17) a + S1x16.size a ≤ S144x256.size a) ∧
  (∀ (k0_h3 : k0_cond3 v35 v37 k0_t7 v133 v137 = 1#1), ∀ a, (k0_off35 arg17) a + S1x16.size a ≤ S144x256.size a) ∧
  (∀ (k0_h3 : k0_cond3 v35 v37 k0_t7 v133 v137 = 1#1), ∀ a, (k0_off36 arg17) a + S1x16.size a ≤ S144x256.size a) ∧
  (∀ (k0_h3 : k0_cond3 v35 v37 k0_t7 v133 v137 = 1#1), ∀ a, (k0_off37 arg17) a + S1x16.size a ≤ S144x256.size a) ∧
  (∀ (k0_h3 : k0_cond3 v35 v37 k0_t7 v133 v137 = 1#1), ∀ a, (k0_off38 arg17) a + S1x16.size a ≤ S144x256.size a)
theorem k0_off31_inb : ∀ (v35 : BitVec 32) (v37 : BitVec 32) (k0_t7 : Fin (k0_t7_loop v35 v37).trips) (v133 : BitVec 32) (v137 : BitVec 32) (arg17 : BitVec 32) (k0_hw10 : k0_chk10 v35 v37 k0_t7 v133 v137 arg17), ∀ (k0_h3 : k0_cond3 v35 v37 k0_t7 v133 v137 = 1#1), ∀ a, (k0_off31 arg17) a + S1x16.size a ≤ S144x256.size a := fun v35 v37 k0_t7 v133 v137 arg17 k0_hw10 k0_h3 => k0_hw10.1 k0_h3
theorem k0_off32_inb : ∀ (v35 : BitVec 32) (v37 : BitVec 32) (k0_t7 : Fin (k0_t7_loop v35 v37).trips) (v133 : BitVec 32) (v137 : BitVec 32) (arg17 : BitVec 32) (k0_hw10 : k0_chk10 v35 v37 k0_t7 v133 v137 arg17), ∀ (k0_h3 : k0_cond3 v35 v37 k0_t7 v133 v137 = 1#1), ∀ a, (k0_off32 arg17) a + S1x16.size a ≤ S144x256.size a := fun v35 v37 k0_t7 v133 v137 arg17 k0_hw10 k0_h3 => k0_hw10.2.1 k0_h3
theorem k0_off33_inb : ∀ (v35 : BitVec 32) (v37 : BitVec 32) (k0_t7 : Fin (k0_t7_loop v35 v37).trips) (v133 : BitVec 32) (v137 : BitVec 32) (arg17 : BitVec 32) (k0_hw10 : k0_chk10 v35 v37 k0_t7 v133 v137 arg17), ∀ (k0_h3 : k0_cond3 v35 v37 k0_t7 v133 v137 = 1#1), ∀ a, (k0_off33 arg17) a + S1x16.size a ≤ S144x256.size a := fun v35 v37 k0_t7 v133 v137 arg17 k0_hw10 k0_h3 => k0_hw10.2.2.1 k0_h3
theorem k0_off34_inb : ∀ (v35 : BitVec 32) (v37 : BitVec 32) (k0_t7 : Fin (k0_t7_loop v35 v37).trips) (v133 : BitVec 32) (v137 : BitVec 32) (arg17 : BitVec 32) (k0_hw10 : k0_chk10 v35 v37 k0_t7 v133 v137 arg17), ∀ (k0_h3 : k0_cond3 v35 v37 k0_t7 v133 v137 = 1#1), ∀ a, (k0_off34 arg17) a + S1x16.size a ≤ S144x256.size a := fun v35 v37 k0_t7 v133 v137 arg17 k0_hw10 k0_h3 => k0_hw10.2.2.2.1 k0_h3
theorem k0_off35_inb : ∀ (v35 : BitVec 32) (v37 : BitVec 32) (k0_t7 : Fin (k0_t7_loop v35 v37).trips) (v133 : BitVec 32) (v137 : BitVec 32) (arg17 : BitVec 32) (k0_hw10 : k0_chk10 v35 v37 k0_t7 v133 v137 arg17), ∀ (k0_h3 : k0_cond3 v35 v37 k0_t7 v133 v137 = 1#1), ∀ a, (k0_off35 arg17) a + S1x16.size a ≤ S144x256.size a := fun v35 v37 k0_t7 v133 v137 arg17 k0_hw10 k0_h3 => k0_hw10.2.2.2.2.1 k0_h3
theorem k0_off36_inb : ∀ (v35 : BitVec 32) (v37 : BitVec 32) (k0_t7 : Fin (k0_t7_loop v35 v37).trips) (v133 : BitVec 32) (v137 : BitVec 32) (arg17 : BitVec 32) (k0_hw10 : k0_chk10 v35 v37 k0_t7 v133 v137 arg17), ∀ (k0_h3 : k0_cond3 v35 v37 k0_t7 v133 v137 = 1#1), ∀ a, (k0_off36 arg17) a + S1x16.size a ≤ S144x256.size a := fun v35 v37 k0_t7 v133 v137 arg17 k0_hw10 k0_h3 => k0_hw10.2.2.2.2.2.1 k0_h3
theorem k0_off37_inb : ∀ (v35 : BitVec 32) (v37 : BitVec 32) (k0_t7 : Fin (k0_t7_loop v35 v37).trips) (v133 : BitVec 32) (v137 : BitVec 32) (arg17 : BitVec 32) (k0_hw10 : k0_chk10 v35 v37 k0_t7 v133 v137 arg17), ∀ (k0_h3 : k0_cond3 v35 v37 k0_t7 v133 v137 = 1#1), ∀ a, (k0_off37 arg17) a + S1x16.size a ≤ S144x256.size a := fun v35 v37 k0_t7 v133 v137 arg17 k0_hw10 k0_h3 => k0_hw10.2.2.2.2.2.2.1 k0_h3
theorem k0_off38_inb : ∀ (v35 : BitVec 32) (v37 : BitVec 32) (k0_t7 : Fin (k0_t7_loop v35 v37).trips) (v133 : BitVec 32) (v137 : BitVec 32) (arg17 : BitVec 32) (k0_hw10 : k0_chk10 v35 v37 k0_t7 v133 v137 arg17), ∀ (k0_h3 : k0_cond3 v35 v37 k0_t7 v133 v137 = 1#1), ∀ a, (k0_off38 arg17) a + S1x16.size a ≤ S144x256.size a := fun v35 v37 k0_t7 v133 v137 arg17 k0_hw10 k0_h3 => k0_hw10.2.2.2.2.2.2.2 k0_h3

@[reducible] def k0_t12_loop (v35 : BitVec 32) (v37 : BitVec 32) (k0_t7 : Fin (k0_t7_loop v35 v37).trips) (v133 : BitVec 32) (v137 : BitVec 32) : Scf.Loop 32 :=
  let c0_i32_212 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c144_i32_83 : BitVec 32 := 144#32
  let v117 : BitVec 32 := Scalar.muli v106 c144_i32_83
  let v118 : BitVec 32 := Scalar.addi v55 v117
  let c144_i32_96 : BitVec 32 := 144#32
  let v138 : BitVec 32 := Scalar.addi v118 c144_i32_96
  let v139 : BitVec 32 := Scalar.minsi v137 v138
  let v134 : BitVec 32 := Scalar.maxsi v133 v118
  let v146 : BitVec 32 := Scalar.subi v139 v134
  let c0_i32_100 : BitVec 32 := 0#32
  let v147 : BitVec 32 := Scalar.maxsi v146 c0_i32_100
  let v515 : BitVec 32 := Scalar.subi v147 c0_i32_212
  let c1_i32_213 : BitVec 32 := 1#32
  let v517 : BitVec 32 := Scalar.divsi v515 c1_i32_213
  let v518 : BitVec 32 := Scalar.muli v517 c1_i32_213
  let v519 : BitVec 32 := Scalar.addi c0_i32_212 v518
  let v516 : BitVec 32 := Scalar.addi c0_i32_212 v515
  let c1_i32_215 : BitVec 32 := 1#32
  ⟨v519, v516, c1_i32_215⟩

def k0_chk7 (v35 : BitVec 32) (v37 : BitVec 32) (k0_t7 : Fin (k0_t7_loop v35 v37).trips) (v133 : BitVec 32) (v137 : BitVec 32) : Prop :=
  (∀ (k0_h3 : k0_cond3 v35 v37 k0_t7 v133 v137 = 1#1), (k0_t9_loop v35 v37 k0_t7 v133 v137).OK) ∧
  (∀ (k0_h3 : k0_cond3 v35 v37 k0_t7 v133 v137 = 1#1), (k0_t10_loop v35 v37 k0_t7 v133 v137).OK) ∧
  (∀ (k0_h3 : k0_cond3 v35 v37 k0_t7 v133 v137 = 1#1), (k0_t11_loop v35 v37 k0_t7 v133 v137).OK) ∧
  (∀ (k0_h3 : k0_cond3 v35 v37 k0_t7 v133 v137 = 1#1), (k0_t12_loop v35 v37 k0_t7 v133 v137).OK)
theorem k0_t9_ok : ∀ (v35 : BitVec 32) (v37 : BitVec 32) (k0_t7 : Fin (k0_t7_loop v35 v37).trips) (v133 : BitVec 32) (v137 : BitVec 32) (k0_hw7 : k0_chk7 v35 v37 k0_t7 v133 v137), ∀ (k0_h3 : k0_cond3 v35 v37 k0_t7 v133 v137 = 1#1), (k0_t9_loop v35 v37 k0_t7 v133 v137).OK := fun v35 v37 k0_t7 v133 v137 k0_hw7 k0_h3 => k0_hw7.1 k0_h3
theorem k0_t10_ok : ∀ (v35 : BitVec 32) (v37 : BitVec 32) (k0_t7 : Fin (k0_t7_loop v35 v37).trips) (v133 : BitVec 32) (v137 : BitVec 32) (k0_hw7 : k0_chk7 v35 v37 k0_t7 v133 v137), ∀ (k0_h3 : k0_cond3 v35 v37 k0_t7 v133 v137 = 1#1), (k0_t10_loop v35 v37 k0_t7 v133 v137).OK := fun v35 v37 k0_t7 v133 v137 k0_hw7 k0_h3 => k0_hw7.2.1 k0_h3
theorem k0_t11_ok : ∀ (v35 : BitVec 32) (v37 : BitVec 32) (k0_t7 : Fin (k0_t7_loop v35 v37).trips) (v133 : BitVec 32) (v137 : BitVec 32) (k0_hw7 : k0_chk7 v35 v37 k0_t7 v133 v137), ∀ (k0_h3 : k0_cond3 v35 v37 k0_t7 v133 v137 = 1#1), (k0_t11_loop v35 v37 k0_t7 v133 v137).OK := fun v35 v37 k0_t7 v133 v137 k0_hw7 k0_h3 => k0_hw7.2.2.1 k0_h3
theorem k0_t12_ok : ∀ (v35 : BitVec 32) (v37 : BitVec 32) (k0_t7 : Fin (k0_t7_loop v35 v37).trips) (v133 : BitVec 32) (v137 : BitVec 32) (k0_hw7 : k0_chk7 v35 v37 k0_t7 v133 v137), ∀ (k0_h3 : k0_cond3 v35 v37 k0_t7 v133 v137 = 1#1), (k0_t12_loop v35 v37 k0_t7 v133 v137).OK := fun v35 v37 k0_t7 v133 v137 k0_hw7 k0_h3 => k0_hw7.2.2.2 k0_h3

def k0_off39 (arg17 : BitVec 32) : Fin 2 → Nat :=
  let v658 : Index := Scalar.indexCast arg17
  let c128 : Index := 128#32
  ![v658.toNat, 128]

def k0_off40 (arg17 : BitVec 32) : Fin 2 → Nat :=
  let v661 : Index := Scalar.indexCast arg17
  let c144 : Index := 144#32
  ![v661.toNat, 144]
def k0_off41 (arg17 : BitVec 32) : Fin 2 → Nat :=
  let v664 : Index := Scalar.indexCast arg17
  let c160 : Index := 160#32
  ![v664.toNat, 160]
def k0_off42 (arg17 : BitVec 32) : Fin 2 → Nat :=
  let v667 : Index := Scalar.indexCast arg17
  let c176 : Index := 176#32
  ![v667.toNat, 176]
def k0_off43 (arg17 : BitVec 32) : Fin 2 → Nat :=
  let v670 : Index := Scalar.indexCast arg17
  let c192 : Index := 192#32
  ![v670.toNat, 192]
def k0_off44 (arg17 : BitVec 32) : Fin 2 → Nat :=
  let v673 : Index := Scalar.indexCast arg17
  let c208 : Index := 208#32
  ![v673.toNat, 208]
def k0_off45 (arg17 : BitVec 32) : Fin 2 → Nat :=
  let v676 : Index := Scalar.indexCast arg17
  let c224 : Index := 224#32
  ![v676.toNat, 224]
def k0_off46 (arg17 : BitVec 32) : Fin 2 → Nat :=
  let v679 : Index := Scalar.indexCast arg17
  let c240 : Index := 240#32
  ![v679.toNat, 240]

def k0_chk11 (v35 : BitVec 32) (v37 : BitVec 32) (k0_t7 : Fin (k0_t7_loop v35 v37).trips) (v133 : BitVec 32) (v137 : BitVec 32) (arg17 : BitVec 32) : Prop :=
  (∀ (k0_h3 : k0_cond3 v35 v37 k0_t7 v133 v137 = 1#1), ∀ a, (k0_off39 arg17) a + S1x16.size a ≤ S144x256.size a) ∧
  (∀ (k0_h3 : k0_cond3 v35 v37 k0_t7 v133 v137 = 1#1), ∀ a, (k0_off40 arg17) a + S1x16.size a ≤ S144x256.size a) ∧
  (∀ (k0_h3 : k0_cond3 v35 v37 k0_t7 v133 v137 = 1#1), ∀ a, (k0_off41 arg17) a + S1x16.size a ≤ S144x256.size a) ∧
  (∀ (k0_h3 : k0_cond3 v35 v37 k0_t7 v133 v137 = 1#1), ∀ a, (k0_off42 arg17) a + S1x16.size a ≤ S144x256.size a) ∧
  (∀ (k0_h3 : k0_cond3 v35 v37 k0_t7 v133 v137 = 1#1), ∀ a, (k0_off43 arg17) a + S1x16.size a ≤ S144x256.size a) ∧
  (∀ (k0_h3 : k0_cond3 v35 v37 k0_t7 v133 v137 = 1#1), ∀ a, (k0_off44 arg17) a + S1x16.size a ≤ S144x256.size a) ∧
  (∀ (k0_h3 : k0_cond3 v35 v37 k0_t7 v133 v137 = 1#1), ∀ a, (k0_off45 arg17) a + S1x16.size a ≤ S144x256.size a) ∧
  (∀ (k0_h3 : k0_cond3 v35 v37 k0_t7 v133 v137 = 1#1), ∀ a, (k0_off46 arg17) a + S1x16.size a ≤ S144x256.size a)
theorem k0_off39_inb : ∀ (v35 : BitVec 32) (v37 : BitVec 32) (k0_t7 : Fin (k0_t7_loop v35 v37).trips) (v133 : BitVec 32) (v137 : BitVec 32) (arg17 : BitVec 32) (k0_hw11 : k0_chk11 v35 v37 k0_t7 v133 v137 arg17), ∀ (k0_h3 : k0_cond3 v35 v37 k0_t7 v133 v137 = 1#1), ∀ a, (k0_off39 arg17) a + S1x16.size a ≤ S144x256.size a := fun v35 v37 k0_t7 v133 v137 arg17 k0_hw11 k0_h3 => k0_hw11.1 k0_h3
theorem k0_off40_inb : ∀ (v35 : BitVec 32) (v37 : BitVec 32) (k0_t7 : Fin (k0_t7_loop v35 v37).trips) (v133 : BitVec 32) (v137 : BitVec 32) (arg17 : BitVec 32) (k0_hw11 : k0_chk11 v35 v37 k0_t7 v133 v137 arg17), ∀ (k0_h3 : k0_cond3 v35 v37 k0_t7 v133 v137 = 1#1), ∀ a, (k0_off40 arg17) a + S1x16.size a ≤ S144x256.size a := fun v35 v37 k0_t7 v133 v137 arg17 k0_hw11 k0_h3 => k0_hw11.2.1 k0_h3
theorem k0_off41_inb : ∀ (v35 : BitVec 32) (v37 : BitVec 32) (k0_t7 : Fin (k0_t7_loop v35 v37).trips) (v133 : BitVec 32) (v137 : BitVec 32) (arg17 : BitVec 32) (k0_hw11 : k0_chk11 v35 v37 k0_t7 v133 v137 arg17), ∀ (k0_h3 : k0_cond3 v35 v37 k0_t7 v133 v137 = 1#1), ∀ a, (k0_off41 arg17) a + S1x16.size a ≤ S144x256.size a := fun v35 v37 k0_t7 v133 v137 arg17 k0_hw11 k0_h3 => k0_hw11.2.2.1 k0_h3
theorem k0_off42_inb : ∀ (v35 : BitVec 32) (v37 : BitVec 32) (k0_t7 : Fin (k0_t7_loop v35 v37).trips) (v133 : BitVec 32) (v137 : BitVec 32) (arg17 : BitVec 32) (k0_hw11 : k0_chk11 v35 v37 k0_t7 v133 v137 arg17), ∀ (k0_h3 : k0_cond3 v35 v37 k0_t7 v133 v137 = 1#1), ∀ a, (k0_off42 arg17) a + S1x16.size a ≤ S144x256.size a := fun v35 v37 k0_t7 v133 v137 arg17 k0_hw11 k0_h3 => k0_hw11.2.2.2.1 k0_h3
theorem k0_off43_inb : ∀ (v35 : BitVec 32) (v37 : BitVec 32) (k0_t7 : Fin (k0_t7_loop v35 v37).trips) (v133 : BitVec 32) (v137 : BitVec 32) (arg17 : BitVec 32) (k0_hw11 : k0_chk11 v35 v37 k0_t7 v133 v137 arg17), ∀ (k0_h3 : k0_cond3 v35 v37 k0_t7 v133 v137 = 1#1), ∀ a, (k0_off43 arg17) a + S1x16.size a ≤ S144x256.size a := fun v35 v37 k0_t7 v133 v137 arg17 k0_hw11 k0_h3 => k0_hw11.2.2.2.2.1 k0_h3
theorem k0_off44_inb : ∀ (v35 : BitVec 32) (v37 : BitVec 32) (k0_t7 : Fin (k0_t7_loop v35 v37).trips) (v133 : BitVec 32) (v137 : BitVec 32) (arg17 : BitVec 32) (k0_hw11 : k0_chk11 v35 v37 k0_t7 v133 v137 arg17), ∀ (k0_h3 : k0_cond3 v35 v37 k0_t7 v133 v137 = 1#1), ∀ a, (k0_off44 arg17) a + S1x16.size a ≤ S144x256.size a := fun v35 v37 k0_t7 v133 v137 arg17 k0_hw11 k0_h3 => k0_hw11.2.2.2.2.2.1 k0_h3
theorem k0_off45_inb : ∀ (v35 : BitVec 32) (v37 : BitVec 32) (k0_t7 : Fin (k0_t7_loop v35 v37).trips) (v133 : BitVec 32) (v137 : BitVec 32) (arg17 : BitVec 32) (k0_hw11 : k0_chk11 v35 v37 k0_t7 v133 v137 arg17), ∀ (k0_h3 : k0_cond3 v35 v37 k0_t7 v133 v137 = 1#1), ∀ a, (k0_off45 arg17) a + S1x16.size a ≤ S144x256.size a := fun v35 v37 k0_t7 v133 v137 arg17 k0_hw11 k0_h3 => k0_hw11.2.2.2.2.2.2.1 k0_h3
theorem k0_off46_inb : ∀ (v35 : BitVec 32) (v37 : BitVec 32) (k0_t7 : Fin (k0_t7_loop v35 v37).trips) (v133 : BitVec 32) (v137 : BitVec 32) (arg17 : BitVec 32) (k0_hw11 : k0_chk11 v35 v37 k0_t7 v133 v137 arg17), ∀ (k0_h3 : k0_cond3 v35 v37 k0_t7 v133 v137 = 1#1), ∀ a, (k0_off46 arg17) a + S1x16.size a ≤ S144x256.size a := fun v35 v37 k0_t7 v133 v137 arg17 k0_hw11 k0_h3 => k0_hw11.2.2.2.2.2.2.2 k0_h3

def k0_mult5 (v35 : BitVec 32) (v37 : BitVec 32) (k0_t7 : Fin (k0_t7_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c2_i32_95 : BitVec 32 := 2#32
  let v132 : BitVec 32 := Scalar.addi v106 c2_i32_95
  let c144_i32_96 : BitVec 32 := 144#32
  let v133 : BitVec 32 := Scalar.muli v132 c144_i32_96
  let v134 : BitVec 32 := Scalar.addi v55 v133
  let c49856_i32_97 : BitVec 32 := 49856#32
  let v135 : BitVec 32 := Scalar.minsi v134 c49856_i32_97
  v135
def k0_cond4 (v35 : BitVec 32) (v37 : BitVec 32) (k0_t7 : Fin (k0_t7_loop v35 v37).trips) : BitVec 1 :=
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c2_i32_91 : BitVec 32 := 2#32
  let v125 : BitVec 32 := Scalar.addi v106 c2_i32_91
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let v126 : BitVec 1 := Scalar.cmpi .slt v125 v75
  let v127 : BitVec 32 := Scalar.extui v126
  let c0_i32_92 : BitVec 32 := 0#32
  let v128 : BitVec 1 := Scalar.cmpi .ne v127 c0_i32_92
  v128

def k0_off47 (v35 : BitVec 32) (v37 : BitVec 32) (k0_t7 : Fin (k0_t7_loop v35 v37).trips) : Fin 2 → Nat :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c2_i32_95 : BitVec 32 := 2#32
  let v132 : BitVec 32 := Scalar.addi v106 c2_i32_95
  let c144_i32_96 : BitVec 32 := 144#32
  let v133 : BitVec 32 := Scalar.muli v132 c144_i32_96
  let v134 : BitVec 32 := Scalar.addi v55 v133
  let c49856_i32_97 : BitVec 32 := 49856#32
  let v135 : BitVec 32 := Scalar.minsi v134 c49856_i32_97
  let v136 : BitVec 32 := v135
  let c0_i32_98 : BitVec 32 := 0#32
  ![v136.toNat, 0]
def k0_mult6 (v35 : BitVec 32) (v37 : BitVec 32) (k0_t7 : Fin (k0_t7_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c144_i32_95 : BitVec 32 := 144#32
  let v132 : BitVec 32 := Scalar.muli v107 c144_i32_95
  let v133 : BitVec 32 := Scalar.addi v55 v132
  let c49856_i32_96 : BitVec 32 := 49856#32
  let v134 : BitVec 32 := Scalar.minsi v133 c49856_i32_96
  v134
def k0_cond5 (v35 : BitVec 32) (v37 : BitVec 32) (k0_t7 : Fin (k0_t7_loop v35 v37).trips) : BitVec 1 :=
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let v129 : BitVec 1 := Scalar.cmpi .slt v107 v75
  let v130 : BitVec 32 := Scalar.extui v129
  let c0_i32_93 : BitVec 32 := 0#32
  let v131 : BitVec 1 := Scalar.cmpi .ne v130 c0_i32_93
  v131

def k0_off48 (v35 : BitVec 32) (v37 : BitVec 32) (k0_t7 : Fin (k0_t7_loop v35 v37).trips) : Fin 2 → Nat :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c144_i32_95 : BitVec 32 := 144#32
  let v132 : BitVec 32 := Scalar.muli v107 c144_i32_95
  let v133 : BitVec 32 := Scalar.addi v55 v132
  let c49856_i32_96 : BitVec 32 := 49856#32
  let v134 : BitVec 32 := Scalar.minsi v133 c49856_i32_96
  let v135 : BitVec 32 := v134
  let c0_i32_97 : BitVec 32 := 0#32
  ![v135.toNat, 0]
def k0_mult7 (v35 : BitVec 32) (v37 : BitVec 32) (k0_t7 : Fin (k0_t7_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c144_i32_100 : BitVec 32 := 144#32
  let v140 : BitVec 32 := Scalar.muli v107 c144_i32_100
  let v141 : BitVec 32 := Scalar.addi v55 v140
  let c49856_i32_101 : BitVec 32 := 49856#32
  let v142 : BitVec 32 := Scalar.minsi v141 c49856_i32_101
  v142
@[reducible] def k0_t13_loop : Scf.Loop 32 :=
  let c0_i32_103 : BitVec 32 := 0#32
  let c4_i32_104 : BitVec 32 := 4#32
  let v144 : BitVec 32 := Scalar.addi c0_i32_103 c4_i32_104
  let c1_i32_105 : BitVec 32 := 1#32
  ⟨c0_i32_103, v144, c1_i32_105⟩
def k0_off49 (k0_t13 : Fin k0_t13_loop.trips) : Fin 1 → Nat :=
  let c0_i32_103 : BitVec 32 := 0#32
  let c1_i32_105 : BitVec 32 := 1#32
  let arg14 : BitVec 32 := Scf.iv c0_i32_103 c1_i32_105 k0_t13
  let v146 : Index := Scalar.indexCast arg14
  ![v146.toNat]
def k0_off50 (k0_t13 : Fin k0_t13_loop.trips) : Fin 1 → Nat :=
  let c0_i32_103 : BitVec 32 := 0#32
  let c1_i32_105 : BitVec 32 := 1#32
  let arg14 : BitVec 32 := Scf.iv c0_i32_103 c1_i32_105 k0_t13
  let c1_i32_107 : BitVec 32 := 1#32
  let v149 : BitVec 32 := Scalar.addi arg14 c1_i32_107
  let v150 : Index := Scalar.indexCast v149
  ![v150.toNat]
def k0_off51 (k0_t13 : Fin k0_t13_loop.trips) (c0_i32_113 : BitVec 32) : Fin 1 → Nat :=
  let c0_i32_103 : BitVec 32 := 0#32
  let c1_i32_105 : BitVec 32 := 1#32
  let arg14 : BitVec 32 := Scf.iv c0_i32_103 c1_i32_105 k0_t13
  let c3_i32_111 : BitVec 32 := 3#32
  let v157 : BitVec 32 := Scalar.muli arg14 c3_i32_111
  let c256_i32 : BitVec 32 := 256#32
  let v158 : BitVec 32 := Scalar.muli v157 c256_i32
  let v162 : BitVec 32 := Scalar.addi v158 c0_i32_113
  let v163 : Index := Scalar.indexCast v162
  ![v163.toNat]
def k0_off52 (k0_t13 : Fin k0_t13_loop.trips) (c256_i32_115 : BitVec 32) (c0_i32_116 : BitVec 32) : Fin 1 → Nat :=
  let c0_i32_103 : BitVec 32 := 0#32
  let c1_i32_105 : BitVec 32 := 1#32
  let arg14 : BitVec 32 := Scf.iv c0_i32_103 c1_i32_105 k0_t13
  let c3_i32_111 : BitVec 32 := 3#32
  let v157 : BitVec 32 := Scalar.muli arg14 c3_i32_111
  let c256_i32 : BitVec 32 := 256#32
  let v158 : BitVec 32 := Scalar.muli v157 c256_i32
  let v194 : BitVec 32 := Scalar.addi v158 c256_i32_115
  let v195 : BitVec 32 := Scalar.addi v194 c0_i32_116
  let v196 : Index := Scalar.indexCast v195
  ![v196.toNat]
@[reducible] def k0_t14_loop (v35 : BitVec 32) (v37 : BitVec 32) (k0_t7 : Fin (k0_t7_loop v35 v37).trips) (v147 : BitVec 32) (v151 : BitVec 32) : Scf.Loop 32 :=
  let c0_i32_146 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c144_i32_99 : BitVec 32 := 144#32
  let v138 : BitVec 32 := Scalar.muli v107 c144_i32_99
  let v139 : BitVec 32 := Scalar.addi v55 v138
  let c144_i32_108 : BitVec 32 := 144#32
  let v152 : BitVec 32 := Scalar.addi v139 c144_i32_108
  let v153 : BitVec 32 := Scalar.minsi v151 v152
  let v148 : BitVec 32 := Scalar.maxsi v147 v139
  let v160 : BitVec 32 := Scalar.subi v153 v148
  let c0_i32_112 : BitVec 32 := 0#32
  let v161 : BitVec 32 := Scalar.maxsi v160 c0_i32_112
  let v274 : BitVec 32 := Scalar.subi v161 c0_i32_146
  let c1_i32_147 : BitVec 32 := 1#32
  let v276 : BitVec 32 := Scalar.divsi v274 c1_i32_147
  let v277 : BitVec 32 := Scalar.muli v276 c1_i32_147
  let v278 : BitVec 32 := Scalar.addi c0_i32_146 v277
  let c1_i32_148 : BitVec 32 := 1#32
  ⟨c0_i32_146, v278, c1_i32_148⟩
def k0_cond6 (v35 : BitVec 32) (v37 : BitVec 32) (k0_t7 : Fin (k0_t7_loop v35 v37).trips) (v147 : BitVec 32) (v151 : BitVec 32) : BitVec 1 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c144_i32_99 : BitVec 32 := 144#32
  let v138 : BitVec 32 := Scalar.muli v107 c144_i32_99
  let v139 : BitVec 32 := Scalar.addi v55 v138
  let c144_i32_108 : BitVec 32 := 144#32
  let v152 : BitVec 32 := Scalar.addi v139 c144_i32_108
  let v153 : BitVec 32 := Scalar.minsi v151 v152
  let v148 : BitVec 32 := Scalar.maxsi v147 v139
  let v154 : BitVec 1 := Scalar.cmpi .sgt v153 v148
  let v155 : BitVec 32 := Scalar.extui v154
  let c0_i32_109 : BitVec 32 := 0#32
  let v156 : BitVec 1 := Scalar.cmpi .ne v155 c0_i32_109
  v156

def k0_off53 (arg17 : BitVec 32) : Fin 2 → Nat :=
  let v672 : Index := Scalar.indexCast arg17
  let c0 : Index := 0#32
  ![v672.toNat, 0]

def k0_off54 (arg17 : BitVec 32) : Fin 2 → Nat :=
  let v675 : Index := Scalar.indexCast arg17
  let c16 : Index := 16#32
  ![v675.toNat, 16]
def k0_off55 (arg17 : BitVec 32) : Fin 2 → Nat :=
  let v678 : Index := Scalar.indexCast arg17
  let c32 : Index := 32#32
  ![v678.toNat, 32]
def k0_off56 (arg17 : BitVec 32) : Fin 2 → Nat :=
  let v681 : Index := Scalar.indexCast arg17
  let c48 : Index := 48#32
  ![v681.toNat, 48]
def k0_off57 (arg17 : BitVec 32) : Fin 2 → Nat :=
  let v684 : Index := Scalar.indexCast arg17
  let c64 : Index := 64#32
  ![v684.toNat, 64]
def k0_off58 (arg17 : BitVec 32) : Fin 2 → Nat :=
  let v687 : Index := Scalar.indexCast arg17
  let c80 : Index := 80#32
  ![v687.toNat, 80]
def k0_off59 (arg17 : BitVec 32) : Fin 2 → Nat :=
  let v690 : Index := Scalar.indexCast arg17
  let c96 : Index := 96#32
  ![v690.toNat, 96]
def k0_off60 (arg17 : BitVec 32) : Fin 2 → Nat :=
  let v693 : Index := Scalar.indexCast arg17
  let c112 : Index := 112#32
  ![v693.toNat, 112]

def k0_chk13 (v35 : BitVec 32) (v37 : BitVec 32) (k0_t7 : Fin (k0_t7_loop v35 v37).trips) (v147 : BitVec 32) (v151 : BitVec 32) (arg17 : BitVec 32) : Prop :=
  (∀ (k0_h5 : k0_cond5 v35 v37 k0_t7 = 1#1), ∀ (k0_h6 : k0_cond6 v35 v37 k0_t7 v147 v151 = 1#1), ∀ a, (k0_off53 arg17) a + S1x16.size a ≤ S144x256.size a) ∧
  (∀ (k0_h5 : k0_cond5 v35 v37 k0_t7 = 1#1), ∀ (k0_h6 : k0_cond6 v35 v37 k0_t7 v147 v151 = 1#1), ∀ a, (k0_off54 arg17) a + S1x16.size a ≤ S144x256.size a) ∧
  (∀ (k0_h5 : k0_cond5 v35 v37 k0_t7 = 1#1), ∀ (k0_h6 : k0_cond6 v35 v37 k0_t7 v147 v151 = 1#1), ∀ a, (k0_off55 arg17) a + S1x16.size a ≤ S144x256.size a) ∧
  (∀ (k0_h5 : k0_cond5 v35 v37 k0_t7 = 1#1), ∀ (k0_h6 : k0_cond6 v35 v37 k0_t7 v147 v151 = 1#1), ∀ a, (k0_off56 arg17) a + S1x16.size a ≤ S144x256.size a) ∧
  (∀ (k0_h5 : k0_cond5 v35 v37 k0_t7 = 1#1), ∀ (k0_h6 : k0_cond6 v35 v37 k0_t7 v147 v151 = 1#1), ∀ a, (k0_off57 arg17) a + S1x16.size a ≤ S144x256.size a) ∧
  (∀ (k0_h5 : k0_cond5 v35 v37 k0_t7 = 1#1), ∀ (k0_h6 : k0_cond6 v35 v37 k0_t7 v147 v151 = 1#1), ∀ a, (k0_off58 arg17) a + S1x16.size a ≤ S144x256.size a) ∧
  (∀ (k0_h5 : k0_cond5 v35 v37 k0_t7 = 1#1), ∀ (k0_h6 : k0_cond6 v35 v37 k0_t7 v147 v151 = 1#1), ∀ a, (k0_off59 arg17) a + S1x16.size a ≤ S144x256.size a) ∧
  (∀ (k0_h5 : k0_cond5 v35 v37 k0_t7 = 1#1), ∀ (k0_h6 : k0_cond6 v35 v37 k0_t7 v147 v151 = 1#1), ∀ a, (k0_off60 arg17) a + S1x16.size a ≤ S144x256.size a)
theorem k0_off53_inb : ∀ (v35 : BitVec 32) (v37 : BitVec 32) (k0_t7 : Fin (k0_t7_loop v35 v37).trips) (v147 : BitVec 32) (v151 : BitVec 32) (arg17 : BitVec 32) (k0_hw13 : k0_chk13 v35 v37 k0_t7 v147 v151 arg17), ∀ (k0_h5 : k0_cond5 v35 v37 k0_t7 = 1#1), ∀ (k0_h6 : k0_cond6 v35 v37 k0_t7 v147 v151 = 1#1), ∀ a, (k0_off53 arg17) a + S1x16.size a ≤ S144x256.size a := fun v35 v37 k0_t7 v147 v151 arg17 k0_hw13 k0_h5 k0_h6 => k0_hw13.1 k0_h5 k0_h6
theorem k0_off54_inb : ∀ (v35 : BitVec 32) (v37 : BitVec 32) (k0_t7 : Fin (k0_t7_loop v35 v37).trips) (v147 : BitVec 32) (v151 : BitVec 32) (arg17 : BitVec 32) (k0_hw13 : k0_chk13 v35 v37 k0_t7 v147 v151 arg17), ∀ (k0_h5 : k0_cond5 v35 v37 k0_t7 = 1#1), ∀ (k0_h6 : k0_cond6 v35 v37 k0_t7 v147 v151 = 1#1), ∀ a, (k0_off54 arg17) a + S1x16.size a ≤ S144x256.size a := fun v35 v37 k0_t7 v147 v151 arg17 k0_hw13 k0_h5 k0_h6 => k0_hw13.2.1 k0_h5 k0_h6
theorem k0_off55_inb : ∀ (v35 : BitVec 32) (v37 : BitVec 32) (k0_t7 : Fin (k0_t7_loop v35 v37).trips) (v147 : BitVec 32) (v151 : BitVec 32) (arg17 : BitVec 32) (k0_hw13 : k0_chk13 v35 v37 k0_t7 v147 v151 arg17), ∀ (k0_h5 : k0_cond5 v35 v37 k0_t7 = 1#1), ∀ (k0_h6 : k0_cond6 v35 v37 k0_t7 v147 v151 = 1#1), ∀ a, (k0_off55 arg17) a + S1x16.size a ≤ S144x256.size a := fun v35 v37 k0_t7 v147 v151 arg17 k0_hw13 k0_h5 k0_h6 => k0_hw13.2.2.1 k0_h5 k0_h6
theorem k0_off56_inb : ∀ (v35 : BitVec 32) (v37 : BitVec 32) (k0_t7 : Fin (k0_t7_loop v35 v37).trips) (v147 : BitVec 32) (v151 : BitVec 32) (arg17 : BitVec 32) (k0_hw13 : k0_chk13 v35 v37 k0_t7 v147 v151 arg17), ∀ (k0_h5 : k0_cond5 v35 v37 k0_t7 = 1#1), ∀ (k0_h6 : k0_cond6 v35 v37 k0_t7 v147 v151 = 1#1), ∀ a, (k0_off56 arg17) a + S1x16.size a ≤ S144x256.size a := fun v35 v37 k0_t7 v147 v151 arg17 k0_hw13 k0_h5 k0_h6 => k0_hw13.2.2.2.1 k0_h5 k0_h6
theorem k0_off57_inb : ∀ (v35 : BitVec 32) (v37 : BitVec 32) (k0_t7 : Fin (k0_t7_loop v35 v37).trips) (v147 : BitVec 32) (v151 : BitVec 32) (arg17 : BitVec 32) (k0_hw13 : k0_chk13 v35 v37 k0_t7 v147 v151 arg17), ∀ (k0_h5 : k0_cond5 v35 v37 k0_t7 = 1#1), ∀ (k0_h6 : k0_cond6 v35 v37 k0_t7 v147 v151 = 1#1), ∀ a, (k0_off57 arg17) a + S1x16.size a ≤ S144x256.size a := fun v35 v37 k0_t7 v147 v151 arg17 k0_hw13 k0_h5 k0_h6 => k0_hw13.2.2.2.2.1 k0_h5 k0_h6
theorem k0_off58_inb : ∀ (v35 : BitVec 32) (v37 : BitVec 32) (k0_t7 : Fin (k0_t7_loop v35 v37).trips) (v147 : BitVec 32) (v151 : BitVec 32) (arg17 : BitVec 32) (k0_hw13 : k0_chk13 v35 v37 k0_t7 v147 v151 arg17), ∀ (k0_h5 : k0_cond5 v35 v37 k0_t7 = 1#1), ∀ (k0_h6 : k0_cond6 v35 v37 k0_t7 v147 v151 = 1#1), ∀ a, (k0_off58 arg17) a + S1x16.size a ≤ S144x256.size a := fun v35 v37 k0_t7 v147 v151 arg17 k0_hw13 k0_h5 k0_h6 => k0_hw13.2.2.2.2.2.1 k0_h5 k0_h6
theorem k0_off59_inb : ∀ (v35 : BitVec 32) (v37 : BitVec 32) (k0_t7 : Fin (k0_t7_loop v35 v37).trips) (v147 : BitVec 32) (v151 : BitVec 32) (arg17 : BitVec 32) (k0_hw13 : k0_chk13 v35 v37 k0_t7 v147 v151 arg17), ∀ (k0_h5 : k0_cond5 v35 v37 k0_t7 = 1#1), ∀ (k0_h6 : k0_cond6 v35 v37 k0_t7 v147 v151 = 1#1), ∀ a, (k0_off59 arg17) a + S1x16.size a ≤ S144x256.size a := fun v35 v37 k0_t7 v147 v151 arg17 k0_hw13 k0_h5 k0_h6 => k0_hw13.2.2.2.2.2.2.1 k0_h5 k0_h6
theorem k0_off60_inb : ∀ (v35 : BitVec 32) (v37 : BitVec 32) (k0_t7 : Fin (k0_t7_loop v35 v37).trips) (v147 : BitVec 32) (v151 : BitVec 32) (arg17 : BitVec 32) (k0_hw13 : k0_chk13 v35 v37 k0_t7 v147 v151 arg17), ∀ (k0_h5 : k0_cond5 v35 v37 k0_t7 = 1#1), ∀ (k0_h6 : k0_cond6 v35 v37 k0_t7 v147 v151 = 1#1), ∀ a, (k0_off60 arg17) a + S1x16.size a ≤ S144x256.size a := fun v35 v37 k0_t7 v147 v151 arg17 k0_hw13 k0_h5 k0_h6 => k0_hw13.2.2.2.2.2.2.2 k0_h5 k0_h6

@[reducible] def k0_t15_loop (v35 : BitVec 32) (v37 : BitVec 32) (k0_t7 : Fin (k0_t7_loop v35 v37).trips) (v147 : BitVec 32) (v151 : BitVec 32) : Scf.Loop 32 :=
  let c0_i32_146 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c144_i32_99 : BitVec 32 := 144#32
  let v138 : BitVec 32 := Scalar.muli v107 c144_i32_99
  let v139 : BitVec 32 := Scalar.addi v55 v138
  let c144_i32_108 : BitVec 32 := 144#32
  let v152 : BitVec 32 := Scalar.addi v139 c144_i32_108
  let v153 : BitVec 32 := Scalar.minsi v151 v152
  let v148 : BitVec 32 := Scalar.maxsi v147 v139
  let v160 : BitVec 32 := Scalar.subi v153 v148
  let c0_i32_112 : BitVec 32 := 0#32
  let v161 : BitVec 32 := Scalar.maxsi v160 c0_i32_112
  let v274 : BitVec 32 := Scalar.subi v161 c0_i32_146
  let c1_i32_147 : BitVec 32 := 1#32
  let v276 : BitVec 32 := Scalar.divsi v274 c1_i32_147
  let v277 : BitVec 32 := Scalar.muli v276 c1_i32_147
  let v278 : BitVec 32 := Scalar.addi c0_i32_146 v277
  let v275 : BitVec 32 := Scalar.addi c0_i32_146 v274
  let c1_i32_149 : BitVec 32 := 1#32
  ⟨v278, v275, c1_i32_149⟩
def k0_off61 (arg17 : BitVec 32) : Fin 2 → Nat :=
  let v672 : Index := Scalar.indexCast arg17
  let c0 : Index := 0#32
  ![v672.toNat, 0]

def k0_off62 (arg17 : BitVec 32) : Fin 2 → Nat :=
  let v675 : Index := Scalar.indexCast arg17
  let c16 : Index := 16#32
  ![v675.toNat, 16]
def k0_off63 (arg17 : BitVec 32) : Fin 2 → Nat :=
  let v678 : Index := Scalar.indexCast arg17
  let c32 : Index := 32#32
  ![v678.toNat, 32]
def k0_off64 (arg17 : BitVec 32) : Fin 2 → Nat :=
  let v681 : Index := Scalar.indexCast arg17
  let c48 : Index := 48#32
  ![v681.toNat, 48]
def k0_off65 (arg17 : BitVec 32) : Fin 2 → Nat :=
  let v684 : Index := Scalar.indexCast arg17
  let c64 : Index := 64#32
  ![v684.toNat, 64]
def k0_off66 (arg17 : BitVec 32) : Fin 2 → Nat :=
  let v687 : Index := Scalar.indexCast arg17
  let c80 : Index := 80#32
  ![v687.toNat, 80]
def k0_off67 (arg17 : BitVec 32) : Fin 2 → Nat :=
  let v690 : Index := Scalar.indexCast arg17
  let c96 : Index := 96#32
  ![v690.toNat, 96]
def k0_off68 (arg17 : BitVec 32) : Fin 2 → Nat :=
  let v693 : Index := Scalar.indexCast arg17
  let c112 : Index := 112#32
  ![v693.toNat, 112]

def k0_chk14 (v35 : BitVec 32) (v37 : BitVec 32) (k0_t7 : Fin (k0_t7_loop v35 v37).trips) (v147 : BitVec 32) (v151 : BitVec 32) (arg17 : BitVec 32) : Prop :=
  (∀ (k0_h5 : k0_cond5 v35 v37 k0_t7 = 1#1), ∀ (k0_h6 : k0_cond6 v35 v37 k0_t7 v147 v151 = 1#1), ∀ a, (k0_off61 arg17) a + S1x16.size a ≤ S144x256.size a) ∧
  (∀ (k0_h5 : k0_cond5 v35 v37 k0_t7 = 1#1), ∀ (k0_h6 : k0_cond6 v35 v37 k0_t7 v147 v151 = 1#1), ∀ a, (k0_off62 arg17) a + S1x16.size a ≤ S144x256.size a) ∧
  (∀ (k0_h5 : k0_cond5 v35 v37 k0_t7 = 1#1), ∀ (k0_h6 : k0_cond6 v35 v37 k0_t7 v147 v151 = 1#1), ∀ a, (k0_off63 arg17) a + S1x16.size a ≤ S144x256.size a) ∧
  (∀ (k0_h5 : k0_cond5 v35 v37 k0_t7 = 1#1), ∀ (k0_h6 : k0_cond6 v35 v37 k0_t7 v147 v151 = 1#1), ∀ a, (k0_off64 arg17) a + S1x16.size a ≤ S144x256.size a) ∧
  (∀ (k0_h5 : k0_cond5 v35 v37 k0_t7 = 1#1), ∀ (k0_h6 : k0_cond6 v35 v37 k0_t7 v147 v151 = 1#1), ∀ a, (k0_off65 arg17) a + S1x16.size a ≤ S144x256.size a) ∧
  (∀ (k0_h5 : k0_cond5 v35 v37 k0_t7 = 1#1), ∀ (k0_h6 : k0_cond6 v35 v37 k0_t7 v147 v151 = 1#1), ∀ a, (k0_off66 arg17) a + S1x16.size a ≤ S144x256.size a) ∧
  (∀ (k0_h5 : k0_cond5 v35 v37 k0_t7 = 1#1), ∀ (k0_h6 : k0_cond6 v35 v37 k0_t7 v147 v151 = 1#1), ∀ a, (k0_off67 arg17) a + S1x16.size a ≤ S144x256.size a) ∧
  (∀ (k0_h5 : k0_cond5 v35 v37 k0_t7 = 1#1), ∀ (k0_h6 : k0_cond6 v35 v37 k0_t7 v147 v151 = 1#1), ∀ a, (k0_off68 arg17) a + S1x16.size a ≤ S144x256.size a)
theorem k0_off61_inb : ∀ (v35 : BitVec 32) (v37 : BitVec 32) (k0_t7 : Fin (k0_t7_loop v35 v37).trips) (v147 : BitVec 32) (v151 : BitVec 32) (arg17 : BitVec 32) (k0_hw14 : k0_chk14 v35 v37 k0_t7 v147 v151 arg17), ∀ (k0_h5 : k0_cond5 v35 v37 k0_t7 = 1#1), ∀ (k0_h6 : k0_cond6 v35 v37 k0_t7 v147 v151 = 1#1), ∀ a, (k0_off61 arg17) a + S1x16.size a ≤ S144x256.size a := fun v35 v37 k0_t7 v147 v151 arg17 k0_hw14 k0_h5 k0_h6 => k0_hw14.1 k0_h5 k0_h6
theorem k0_off62_inb : ∀ (v35 : BitVec 32) (v37 : BitVec 32) (k0_t7 : Fin (k0_t7_loop v35 v37).trips) (v147 : BitVec 32) (v151 : BitVec 32) (arg17 : BitVec 32) (k0_hw14 : k0_chk14 v35 v37 k0_t7 v147 v151 arg17), ∀ (k0_h5 : k0_cond5 v35 v37 k0_t7 = 1#1), ∀ (k0_h6 : k0_cond6 v35 v37 k0_t7 v147 v151 = 1#1), ∀ a, (k0_off62 arg17) a + S1x16.size a ≤ S144x256.size a := fun v35 v37 k0_t7 v147 v151 arg17 k0_hw14 k0_h5 k0_h6 => k0_hw14.2.1 k0_h5 k0_h6
theorem k0_off63_inb : ∀ (v35 : BitVec 32) (v37 : BitVec 32) (k0_t7 : Fin (k0_t7_loop v35 v37).trips) (v147 : BitVec 32) (v151 : BitVec 32) (arg17 : BitVec 32) (k0_hw14 : k0_chk14 v35 v37 k0_t7 v147 v151 arg17), ∀ (k0_h5 : k0_cond5 v35 v37 k0_t7 = 1#1), ∀ (k0_h6 : k0_cond6 v35 v37 k0_t7 v147 v151 = 1#1), ∀ a, (k0_off63 arg17) a + S1x16.size a ≤ S144x256.size a := fun v35 v37 k0_t7 v147 v151 arg17 k0_hw14 k0_h5 k0_h6 => k0_hw14.2.2.1 k0_h5 k0_h6
theorem k0_off64_inb : ∀ (v35 : BitVec 32) (v37 : BitVec 32) (k0_t7 : Fin (k0_t7_loop v35 v37).trips) (v147 : BitVec 32) (v151 : BitVec 32) (arg17 : BitVec 32) (k0_hw14 : k0_chk14 v35 v37 k0_t7 v147 v151 arg17), ∀ (k0_h5 : k0_cond5 v35 v37 k0_t7 = 1#1), ∀ (k0_h6 : k0_cond6 v35 v37 k0_t7 v147 v151 = 1#1), ∀ a, (k0_off64 arg17) a + S1x16.size a ≤ S144x256.size a := fun v35 v37 k0_t7 v147 v151 arg17 k0_hw14 k0_h5 k0_h6 => k0_hw14.2.2.2.1 k0_h5 k0_h6
theorem k0_off65_inb : ∀ (v35 : BitVec 32) (v37 : BitVec 32) (k0_t7 : Fin (k0_t7_loop v35 v37).trips) (v147 : BitVec 32) (v151 : BitVec 32) (arg17 : BitVec 32) (k0_hw14 : k0_chk14 v35 v37 k0_t7 v147 v151 arg17), ∀ (k0_h5 : k0_cond5 v35 v37 k0_t7 = 1#1), ∀ (k0_h6 : k0_cond6 v35 v37 k0_t7 v147 v151 = 1#1), ∀ a, (k0_off65 arg17) a + S1x16.size a ≤ S144x256.size a := fun v35 v37 k0_t7 v147 v151 arg17 k0_hw14 k0_h5 k0_h6 => k0_hw14.2.2.2.2.1 k0_h5 k0_h6
theorem k0_off66_inb : ∀ (v35 : BitVec 32) (v37 : BitVec 32) (k0_t7 : Fin (k0_t7_loop v35 v37).trips) (v147 : BitVec 32) (v151 : BitVec 32) (arg17 : BitVec 32) (k0_hw14 : k0_chk14 v35 v37 k0_t7 v147 v151 arg17), ∀ (k0_h5 : k0_cond5 v35 v37 k0_t7 = 1#1), ∀ (k0_h6 : k0_cond6 v35 v37 k0_t7 v147 v151 = 1#1), ∀ a, (k0_off66 arg17) a + S1x16.size a ≤ S144x256.size a := fun v35 v37 k0_t7 v147 v151 arg17 k0_hw14 k0_h5 k0_h6 => k0_hw14.2.2.2.2.2.1 k0_h5 k0_h6
theorem k0_off67_inb : ∀ (v35 : BitVec 32) (v37 : BitVec 32) (k0_t7 : Fin (k0_t7_loop v35 v37).trips) (v147 : BitVec 32) (v151 : BitVec 32) (arg17 : BitVec 32) (k0_hw14 : k0_chk14 v35 v37 k0_t7 v147 v151 arg17), ∀ (k0_h5 : k0_cond5 v35 v37 k0_t7 = 1#1), ∀ (k0_h6 : k0_cond6 v35 v37 k0_t7 v147 v151 = 1#1), ∀ a, (k0_off67 arg17) a + S1x16.size a ≤ S144x256.size a := fun v35 v37 k0_t7 v147 v151 arg17 k0_hw14 k0_h5 k0_h6 => k0_hw14.2.2.2.2.2.2.1 k0_h5 k0_h6
theorem k0_off68_inb : ∀ (v35 : BitVec 32) (v37 : BitVec 32) (k0_t7 : Fin (k0_t7_loop v35 v37).trips) (v147 : BitVec 32) (v151 : BitVec 32) (arg17 : BitVec 32) (k0_hw14 : k0_chk14 v35 v37 k0_t7 v147 v151 arg17), ∀ (k0_h5 : k0_cond5 v35 v37 k0_t7 = 1#1), ∀ (k0_h6 : k0_cond6 v35 v37 k0_t7 v147 v151 = 1#1), ∀ a, (k0_off68 arg17) a + S1x16.size a ≤ S144x256.size a := fun v35 v37 k0_t7 v147 v151 arg17 k0_hw14 k0_h5 k0_h6 => k0_hw14.2.2.2.2.2.2.2 k0_h5 k0_h6

@[reducible] def k0_t16_loop (v35 : BitVec 32) (v37 : BitVec 32) (k0_t7 : Fin (k0_t7_loop v35 v37).trips) (v147 : BitVec 32) (v151 : BitVec 32) : Scf.Loop 32 :=
  let c0_i32_224 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c144_i32_99 : BitVec 32 := 144#32
  let v138 : BitVec 32 := Scalar.muli v107 c144_i32_99
  let v139 : BitVec 32 := Scalar.addi v55 v138
  let c144_i32_108 : BitVec 32 := 144#32
  let v152 : BitVec 32 := Scalar.addi v139 c144_i32_108
  let v153 : BitVec 32 := Scalar.minsi v151 v152
  let v148 : BitVec 32 := Scalar.maxsi v147 v139
  let v160 : BitVec 32 := Scalar.subi v153 v148
  let c0_i32_112 : BitVec 32 := 0#32
  let v161 : BitVec 32 := Scalar.maxsi v160 c0_i32_112
  let v529 : BitVec 32 := Scalar.subi v161 c0_i32_224
  let c1_i32_225 : BitVec 32 := 1#32
  let v531 : BitVec 32 := Scalar.divsi v529 c1_i32_225
  let v532 : BitVec 32 := Scalar.muli v531 c1_i32_225
  let v533 : BitVec 32 := Scalar.addi c0_i32_224 v532
  let c1_i32_226 : BitVec 32 := 1#32
  ⟨c0_i32_224, v533, c1_i32_226⟩
def k0_off69 (arg17 : BitVec 32) : Fin 2 → Nat :=
  let v672 : Index := Scalar.indexCast arg17
  let c128 : Index := 128#32
  ![v672.toNat, 128]

def k0_off70 (arg17 : BitVec 32) : Fin 2 → Nat :=
  let v675 : Index := Scalar.indexCast arg17
  let c144 : Index := 144#32
  ![v675.toNat, 144]
def k0_off71 (arg17 : BitVec 32) : Fin 2 → Nat :=
  let v678 : Index := Scalar.indexCast arg17
  let c160 : Index := 160#32
  ![v678.toNat, 160]
def k0_off72 (arg17 : BitVec 32) : Fin 2 → Nat :=
  let v681 : Index := Scalar.indexCast arg17
  let c176 : Index := 176#32
  ![v681.toNat, 176]
def k0_off73 (arg17 : BitVec 32) : Fin 2 → Nat :=
  let v684 : Index := Scalar.indexCast arg17
  let c192 : Index := 192#32
  ![v684.toNat, 192]
def k0_off74 (arg17 : BitVec 32) : Fin 2 → Nat :=
  let v687 : Index := Scalar.indexCast arg17
  let c208 : Index := 208#32
  ![v687.toNat, 208]
def k0_off75 (arg17 : BitVec 32) : Fin 2 → Nat :=
  let v690 : Index := Scalar.indexCast arg17
  let c224 : Index := 224#32
  ![v690.toNat, 224]
def k0_off76 (arg17 : BitVec 32) : Fin 2 → Nat :=
  let v693 : Index := Scalar.indexCast arg17
  let c240 : Index := 240#32
  ![v693.toNat, 240]

def k0_chk15 (v35 : BitVec 32) (v37 : BitVec 32) (k0_t7 : Fin (k0_t7_loop v35 v37).trips) (v147 : BitVec 32) (v151 : BitVec 32) (arg17 : BitVec 32) : Prop :=
  (∀ (k0_h5 : k0_cond5 v35 v37 k0_t7 = 1#1), ∀ (k0_h6 : k0_cond6 v35 v37 k0_t7 v147 v151 = 1#1), ∀ a, (k0_off69 arg17) a + S1x16.size a ≤ S144x256.size a) ∧
  (∀ (k0_h5 : k0_cond5 v35 v37 k0_t7 = 1#1), ∀ (k0_h6 : k0_cond6 v35 v37 k0_t7 v147 v151 = 1#1), ∀ a, (k0_off70 arg17) a + S1x16.size a ≤ S144x256.size a) ∧
  (∀ (k0_h5 : k0_cond5 v35 v37 k0_t7 = 1#1), ∀ (k0_h6 : k0_cond6 v35 v37 k0_t7 v147 v151 = 1#1), ∀ a, (k0_off71 arg17) a + S1x16.size a ≤ S144x256.size a) ∧
  (∀ (k0_h5 : k0_cond5 v35 v37 k0_t7 = 1#1), ∀ (k0_h6 : k0_cond6 v35 v37 k0_t7 v147 v151 = 1#1), ∀ a, (k0_off72 arg17) a + S1x16.size a ≤ S144x256.size a) ∧
  (∀ (k0_h5 : k0_cond5 v35 v37 k0_t7 = 1#1), ∀ (k0_h6 : k0_cond6 v35 v37 k0_t7 v147 v151 = 1#1), ∀ a, (k0_off73 arg17) a + S1x16.size a ≤ S144x256.size a) ∧
  (∀ (k0_h5 : k0_cond5 v35 v37 k0_t7 = 1#1), ∀ (k0_h6 : k0_cond6 v35 v37 k0_t7 v147 v151 = 1#1), ∀ a, (k0_off74 arg17) a + S1x16.size a ≤ S144x256.size a) ∧
  (∀ (k0_h5 : k0_cond5 v35 v37 k0_t7 = 1#1), ∀ (k0_h6 : k0_cond6 v35 v37 k0_t7 v147 v151 = 1#1), ∀ a, (k0_off75 arg17) a + S1x16.size a ≤ S144x256.size a) ∧
  (∀ (k0_h5 : k0_cond5 v35 v37 k0_t7 = 1#1), ∀ (k0_h6 : k0_cond6 v35 v37 k0_t7 v147 v151 = 1#1), ∀ a, (k0_off76 arg17) a + S1x16.size a ≤ S144x256.size a)
theorem k0_off69_inb : ∀ (v35 : BitVec 32) (v37 : BitVec 32) (k0_t7 : Fin (k0_t7_loop v35 v37).trips) (v147 : BitVec 32) (v151 : BitVec 32) (arg17 : BitVec 32) (k0_hw15 : k0_chk15 v35 v37 k0_t7 v147 v151 arg17), ∀ (k0_h5 : k0_cond5 v35 v37 k0_t7 = 1#1), ∀ (k0_h6 : k0_cond6 v35 v37 k0_t7 v147 v151 = 1#1), ∀ a, (k0_off69 arg17) a + S1x16.size a ≤ S144x256.size a := fun v35 v37 k0_t7 v147 v151 arg17 k0_hw15 k0_h5 k0_h6 => k0_hw15.1 k0_h5 k0_h6
theorem k0_off70_inb : ∀ (v35 : BitVec 32) (v37 : BitVec 32) (k0_t7 : Fin (k0_t7_loop v35 v37).trips) (v147 : BitVec 32) (v151 : BitVec 32) (arg17 : BitVec 32) (k0_hw15 : k0_chk15 v35 v37 k0_t7 v147 v151 arg17), ∀ (k0_h5 : k0_cond5 v35 v37 k0_t7 = 1#1), ∀ (k0_h6 : k0_cond6 v35 v37 k0_t7 v147 v151 = 1#1), ∀ a, (k0_off70 arg17) a + S1x16.size a ≤ S144x256.size a := fun v35 v37 k0_t7 v147 v151 arg17 k0_hw15 k0_h5 k0_h6 => k0_hw15.2.1 k0_h5 k0_h6
theorem k0_off71_inb : ∀ (v35 : BitVec 32) (v37 : BitVec 32) (k0_t7 : Fin (k0_t7_loop v35 v37).trips) (v147 : BitVec 32) (v151 : BitVec 32) (arg17 : BitVec 32) (k0_hw15 : k0_chk15 v35 v37 k0_t7 v147 v151 arg17), ∀ (k0_h5 : k0_cond5 v35 v37 k0_t7 = 1#1), ∀ (k0_h6 : k0_cond6 v35 v37 k0_t7 v147 v151 = 1#1), ∀ a, (k0_off71 arg17) a + S1x16.size a ≤ S144x256.size a := fun v35 v37 k0_t7 v147 v151 arg17 k0_hw15 k0_h5 k0_h6 => k0_hw15.2.2.1 k0_h5 k0_h6
theorem k0_off72_inb : ∀ (v35 : BitVec 32) (v37 : BitVec 32) (k0_t7 : Fin (k0_t7_loop v35 v37).trips) (v147 : BitVec 32) (v151 : BitVec 32) (arg17 : BitVec 32) (k0_hw15 : k0_chk15 v35 v37 k0_t7 v147 v151 arg17), ∀ (k0_h5 : k0_cond5 v35 v37 k0_t7 = 1#1), ∀ (k0_h6 : k0_cond6 v35 v37 k0_t7 v147 v151 = 1#1), ∀ a, (k0_off72 arg17) a + S1x16.size a ≤ S144x256.size a := fun v35 v37 k0_t7 v147 v151 arg17 k0_hw15 k0_h5 k0_h6 => k0_hw15.2.2.2.1 k0_h5 k0_h6
theorem k0_off73_inb : ∀ (v35 : BitVec 32) (v37 : BitVec 32) (k0_t7 : Fin (k0_t7_loop v35 v37).trips) (v147 : BitVec 32) (v151 : BitVec 32) (arg17 : BitVec 32) (k0_hw15 : k0_chk15 v35 v37 k0_t7 v147 v151 arg17), ∀ (k0_h5 : k0_cond5 v35 v37 k0_t7 = 1#1), ∀ (k0_h6 : k0_cond6 v35 v37 k0_t7 v147 v151 = 1#1), ∀ a, (k0_off73 arg17) a + S1x16.size a ≤ S144x256.size a := fun v35 v37 k0_t7 v147 v151 arg17 k0_hw15 k0_h5 k0_h6 => k0_hw15.2.2.2.2.1 k0_h5 k0_h6
theorem k0_off74_inb : ∀ (v35 : BitVec 32) (v37 : BitVec 32) (k0_t7 : Fin (k0_t7_loop v35 v37).trips) (v147 : BitVec 32) (v151 : BitVec 32) (arg17 : BitVec 32) (k0_hw15 : k0_chk15 v35 v37 k0_t7 v147 v151 arg17), ∀ (k0_h5 : k0_cond5 v35 v37 k0_t7 = 1#1), ∀ (k0_h6 : k0_cond6 v35 v37 k0_t7 v147 v151 = 1#1), ∀ a, (k0_off74 arg17) a + S1x16.size a ≤ S144x256.size a := fun v35 v37 k0_t7 v147 v151 arg17 k0_hw15 k0_h5 k0_h6 => k0_hw15.2.2.2.2.2.1 k0_h5 k0_h6
theorem k0_off75_inb : ∀ (v35 : BitVec 32) (v37 : BitVec 32) (k0_t7 : Fin (k0_t7_loop v35 v37).trips) (v147 : BitVec 32) (v151 : BitVec 32) (arg17 : BitVec 32) (k0_hw15 : k0_chk15 v35 v37 k0_t7 v147 v151 arg17), ∀ (k0_h5 : k0_cond5 v35 v37 k0_t7 = 1#1), ∀ (k0_h6 : k0_cond6 v35 v37 k0_t7 v147 v151 = 1#1), ∀ a, (k0_off75 arg17) a + S1x16.size a ≤ S144x256.size a := fun v35 v37 k0_t7 v147 v151 arg17 k0_hw15 k0_h5 k0_h6 => k0_hw15.2.2.2.2.2.2.1 k0_h5 k0_h6
theorem k0_off76_inb : ∀ (v35 : BitVec 32) (v37 : BitVec 32) (k0_t7 : Fin (k0_t7_loop v35 v37).trips) (v147 : BitVec 32) (v151 : BitVec 32) (arg17 : BitVec 32) (k0_hw15 : k0_chk15 v35 v37 k0_t7 v147 v151 arg17), ∀ (k0_h5 : k0_cond5 v35 v37 k0_t7 = 1#1), ∀ (k0_h6 : k0_cond6 v35 v37 k0_t7 v147 v151 = 1#1), ∀ a, (k0_off76 arg17) a + S1x16.size a ≤ S144x256.size a := fun v35 v37 k0_t7 v147 v151 arg17 k0_hw15 k0_h5 k0_h6 => k0_hw15.2.2.2.2.2.2.2 k0_h5 k0_h6

@[reducible] def k0_t17_loop (v35 : BitVec 32) (v37 : BitVec 32) (k0_t7 : Fin (k0_t7_loop v35 v37).trips) (v147 : BitVec 32) (v151 : BitVec 32) : Scf.Loop 32 :=
  let c0_i32_224 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let c1_i32_70 : BitVec 32 := 1#32
  let arg12 : BitVec 32 := Scf.iv c0_i32_67 c1_i32_70 k0_t7
  let v106 : BitVec 32 := Scalar.muli c2_i32_77 arg12
  let c1_i32_78 : BitVec 32 := 1#32
  let v107 : BitVec 32 := Scalar.addi v106 c1_i32_78
  let c144_i32_99 : BitVec 32 := 144#32
  let v138 : BitVec 32 := Scalar.muli v107 c144_i32_99
  let v139 : BitVec 32 := Scalar.addi v55 v138
  let c144_i32_108 : BitVec 32 := 144#32
  let v152 : BitVec 32 := Scalar.addi v139 c144_i32_108
  let v153 : BitVec 32 := Scalar.minsi v151 v152
  let v148 : BitVec 32 := Scalar.maxsi v147 v139
  let v160 : BitVec 32 := Scalar.subi v153 v148
  let c0_i32_112 : BitVec 32 := 0#32
  let v161 : BitVec 32 := Scalar.maxsi v160 c0_i32_112
  let v529 : BitVec 32 := Scalar.subi v161 c0_i32_224
  let c1_i32_225 : BitVec 32 := 1#32
  let v531 : BitVec 32 := Scalar.divsi v529 c1_i32_225
  let v532 : BitVec 32 := Scalar.muli v531 c1_i32_225
  let v533 : BitVec 32 := Scalar.addi c0_i32_224 v532
  let v530 : BitVec 32 := Scalar.addi c0_i32_224 v529
  let c1_i32_227 : BitVec 32 := 1#32
  ⟨v533, v530, c1_i32_227⟩

def k0_chk12 (v35 : BitVec 32) (v37 : BitVec 32) (k0_t7 : Fin (k0_t7_loop v35 v37).trips) (v147 : BitVec 32) (v151 : BitVec 32) : Prop :=
  (∀ (k0_h5 : k0_cond5 v35 v37 k0_t7 = 1#1), ∀ (k0_h6 : k0_cond6 v35 v37 k0_t7 v147 v151 = 1#1), (k0_t14_loop v35 v37 k0_t7 v147 v151).OK) ∧
  (∀ (k0_h5 : k0_cond5 v35 v37 k0_t7 = 1#1), ∀ (k0_h6 : k0_cond6 v35 v37 k0_t7 v147 v151 = 1#1), (k0_t15_loop v35 v37 k0_t7 v147 v151).OK) ∧
  (∀ (k0_h5 : k0_cond5 v35 v37 k0_t7 = 1#1), ∀ (k0_h6 : k0_cond6 v35 v37 k0_t7 v147 v151 = 1#1), (k0_t16_loop v35 v37 k0_t7 v147 v151).OK) ∧
  (∀ (k0_h5 : k0_cond5 v35 v37 k0_t7 = 1#1), ∀ (k0_h6 : k0_cond6 v35 v37 k0_t7 v147 v151 = 1#1), (k0_t17_loop v35 v37 k0_t7 v147 v151).OK)
theorem k0_t14_ok : ∀ (v35 : BitVec 32) (v37 : BitVec 32) (k0_t7 : Fin (k0_t7_loop v35 v37).trips) (v147 : BitVec 32) (v151 : BitVec 32) (k0_hw12 : k0_chk12 v35 v37 k0_t7 v147 v151), ∀ (k0_h5 : k0_cond5 v35 v37 k0_t7 = 1#1), ∀ (k0_h6 : k0_cond6 v35 v37 k0_t7 v147 v151 = 1#1), (k0_t14_loop v35 v37 k0_t7 v147 v151).OK := fun v35 v37 k0_t7 v147 v151 k0_hw12 k0_h5 k0_h6 => k0_hw12.1 k0_h5 k0_h6
theorem k0_t15_ok : ∀ (v35 : BitVec 32) (v37 : BitVec 32) (k0_t7 : Fin (k0_t7_loop v35 v37).trips) (v147 : BitVec 32) (v151 : BitVec 32) (k0_hw12 : k0_chk12 v35 v37 k0_t7 v147 v151), ∀ (k0_h5 : k0_cond5 v35 v37 k0_t7 = 1#1), ∀ (k0_h6 : k0_cond6 v35 v37 k0_t7 v147 v151 = 1#1), (k0_t15_loop v35 v37 k0_t7 v147 v151).OK := fun v35 v37 k0_t7 v147 v151 k0_hw12 k0_h5 k0_h6 => k0_hw12.2.1 k0_h5 k0_h6
theorem k0_t16_ok : ∀ (v35 : BitVec 32) (v37 : BitVec 32) (k0_t7 : Fin (k0_t7_loop v35 v37).trips) (v147 : BitVec 32) (v151 : BitVec 32) (k0_hw12 : k0_chk12 v35 v37 k0_t7 v147 v151), ∀ (k0_h5 : k0_cond5 v35 v37 k0_t7 = 1#1), ∀ (k0_h6 : k0_cond6 v35 v37 k0_t7 v147 v151 = 1#1), (k0_t16_loop v35 v37 k0_t7 v147 v151).OK := fun v35 v37 k0_t7 v147 v151 k0_hw12 k0_h5 k0_h6 => k0_hw12.2.2.1 k0_h5 k0_h6
theorem k0_t17_ok : ∀ (v35 : BitVec 32) (v37 : BitVec 32) (k0_t7 : Fin (k0_t7_loop v35 v37).trips) (v147 : BitVec 32) (v151 : BitVec 32) (k0_hw12 : k0_chk12 v35 v37 k0_t7 v147 v151), ∀ (k0_h5 : k0_cond5 v35 v37 k0_t7 = 1#1), ∀ (k0_h6 : k0_cond6 v35 v37 k0_t7 v147 v151 = 1#1), (k0_t17_loop v35 v37 k0_t7 v147 v151).OK := fun v35 v37 k0_t7 v147 v151 k0_hw12 k0_h5 k0_h6 => k0_hw12.2.2.2 k0_h5 k0_h6

def k0_off77 (arg17 : BitVec 32) : Fin 2 → Nat :=
  let v672 : Index := Scalar.indexCast arg17
  let c128 : Index := 128#32
  ![v672.toNat, 128]

def k0_off78 (arg17 : BitVec 32) : Fin 2 → Nat :=
  let v675 : Index := Scalar.indexCast arg17
  let c144 : Index := 144#32
  ![v675.toNat, 144]
def k0_off79 (arg17 : BitVec 32) : Fin 2 → Nat :=
  let v678 : Index := Scalar.indexCast arg17
  let c160 : Index := 160#32
  ![v678.toNat, 160]
def k0_off80 (arg17 : BitVec 32) : Fin 2 → Nat :=
  let v681 : Index := Scalar.indexCast arg17
  let c176 : Index := 176#32
  ![v681.toNat, 176]
def k0_off81 (arg17 : BitVec 32) : Fin 2 → Nat :=
  let v684 : Index := Scalar.indexCast arg17
  let c192 : Index := 192#32
  ![v684.toNat, 192]
def k0_off82 (arg17 : BitVec 32) : Fin 2 → Nat :=
  let v687 : Index := Scalar.indexCast arg17
  let c208 : Index := 208#32
  ![v687.toNat, 208]
def k0_off83 (arg17 : BitVec 32) : Fin 2 → Nat :=
  let v690 : Index := Scalar.indexCast arg17
  let c224 : Index := 224#32
  ![v690.toNat, 224]
def k0_off84 (arg17 : BitVec 32) : Fin 2 → Nat :=
  let v693 : Index := Scalar.indexCast arg17
  let c240 : Index := 240#32
  ![v693.toNat, 240]

def k0_chk16 (v35 : BitVec 32) (v37 : BitVec 32) (k0_t7 : Fin (k0_t7_loop v35 v37).trips) (v147 : BitVec 32) (v151 : BitVec 32) (arg17 : BitVec 32) : Prop :=
  (∀ (k0_h5 : k0_cond5 v35 v37 k0_t7 = 1#1), ∀ (k0_h6 : k0_cond6 v35 v37 k0_t7 v147 v151 = 1#1), ∀ a, (k0_off77 arg17) a + S1x16.size a ≤ S144x256.size a) ∧
  (∀ (k0_h5 : k0_cond5 v35 v37 k0_t7 = 1#1), ∀ (k0_h6 : k0_cond6 v35 v37 k0_t7 v147 v151 = 1#1), ∀ a, (k0_off78 arg17) a + S1x16.size a ≤ S144x256.size a) ∧
  (∀ (k0_h5 : k0_cond5 v35 v37 k0_t7 = 1#1), ∀ (k0_h6 : k0_cond6 v35 v37 k0_t7 v147 v151 = 1#1), ∀ a, (k0_off79 arg17) a + S1x16.size a ≤ S144x256.size a) ∧
  (∀ (k0_h5 : k0_cond5 v35 v37 k0_t7 = 1#1), ∀ (k0_h6 : k0_cond6 v35 v37 k0_t7 v147 v151 = 1#1), ∀ a, (k0_off80 arg17) a + S1x16.size a ≤ S144x256.size a) ∧
  (∀ (k0_h5 : k0_cond5 v35 v37 k0_t7 = 1#1), ∀ (k0_h6 : k0_cond6 v35 v37 k0_t7 v147 v151 = 1#1), ∀ a, (k0_off81 arg17) a + S1x16.size a ≤ S144x256.size a) ∧
  (∀ (k0_h5 : k0_cond5 v35 v37 k0_t7 = 1#1), ∀ (k0_h6 : k0_cond6 v35 v37 k0_t7 v147 v151 = 1#1), ∀ a, (k0_off82 arg17) a + S1x16.size a ≤ S144x256.size a) ∧
  (∀ (k0_h5 : k0_cond5 v35 v37 k0_t7 = 1#1), ∀ (k0_h6 : k0_cond6 v35 v37 k0_t7 v147 v151 = 1#1), ∀ a, (k0_off83 arg17) a + S1x16.size a ≤ S144x256.size a) ∧
  (∀ (k0_h5 : k0_cond5 v35 v37 k0_t7 = 1#1), ∀ (k0_h6 : k0_cond6 v35 v37 k0_t7 v147 v151 = 1#1), ∀ a, (k0_off84 arg17) a + S1x16.size a ≤ S144x256.size a)
theorem k0_off77_inb : ∀ (v35 : BitVec 32) (v37 : BitVec 32) (k0_t7 : Fin (k0_t7_loop v35 v37).trips) (v147 : BitVec 32) (v151 : BitVec 32) (arg17 : BitVec 32) (k0_hw16 : k0_chk16 v35 v37 k0_t7 v147 v151 arg17), ∀ (k0_h5 : k0_cond5 v35 v37 k0_t7 = 1#1), ∀ (k0_h6 : k0_cond6 v35 v37 k0_t7 v147 v151 = 1#1), ∀ a, (k0_off77 arg17) a + S1x16.size a ≤ S144x256.size a := fun v35 v37 k0_t7 v147 v151 arg17 k0_hw16 k0_h5 k0_h6 => k0_hw16.1 k0_h5 k0_h6
theorem k0_off78_inb : ∀ (v35 : BitVec 32) (v37 : BitVec 32) (k0_t7 : Fin (k0_t7_loop v35 v37).trips) (v147 : BitVec 32) (v151 : BitVec 32) (arg17 : BitVec 32) (k0_hw16 : k0_chk16 v35 v37 k0_t7 v147 v151 arg17), ∀ (k0_h5 : k0_cond5 v35 v37 k0_t7 = 1#1), ∀ (k0_h6 : k0_cond6 v35 v37 k0_t7 v147 v151 = 1#1), ∀ a, (k0_off78 arg17) a + S1x16.size a ≤ S144x256.size a := fun v35 v37 k0_t7 v147 v151 arg17 k0_hw16 k0_h5 k0_h6 => k0_hw16.2.1 k0_h5 k0_h6
theorem k0_off79_inb : ∀ (v35 : BitVec 32) (v37 : BitVec 32) (k0_t7 : Fin (k0_t7_loop v35 v37).trips) (v147 : BitVec 32) (v151 : BitVec 32) (arg17 : BitVec 32) (k0_hw16 : k0_chk16 v35 v37 k0_t7 v147 v151 arg17), ∀ (k0_h5 : k0_cond5 v35 v37 k0_t7 = 1#1), ∀ (k0_h6 : k0_cond6 v35 v37 k0_t7 v147 v151 = 1#1), ∀ a, (k0_off79 arg17) a + S1x16.size a ≤ S144x256.size a := fun v35 v37 k0_t7 v147 v151 arg17 k0_hw16 k0_h5 k0_h6 => k0_hw16.2.2.1 k0_h5 k0_h6
theorem k0_off80_inb : ∀ (v35 : BitVec 32) (v37 : BitVec 32) (k0_t7 : Fin (k0_t7_loop v35 v37).trips) (v147 : BitVec 32) (v151 : BitVec 32) (arg17 : BitVec 32) (k0_hw16 : k0_chk16 v35 v37 k0_t7 v147 v151 arg17), ∀ (k0_h5 : k0_cond5 v35 v37 k0_t7 = 1#1), ∀ (k0_h6 : k0_cond6 v35 v37 k0_t7 v147 v151 = 1#1), ∀ a, (k0_off80 arg17) a + S1x16.size a ≤ S144x256.size a := fun v35 v37 k0_t7 v147 v151 arg17 k0_hw16 k0_h5 k0_h6 => k0_hw16.2.2.2.1 k0_h5 k0_h6
theorem k0_off81_inb : ∀ (v35 : BitVec 32) (v37 : BitVec 32) (k0_t7 : Fin (k0_t7_loop v35 v37).trips) (v147 : BitVec 32) (v151 : BitVec 32) (arg17 : BitVec 32) (k0_hw16 : k0_chk16 v35 v37 k0_t7 v147 v151 arg17), ∀ (k0_h5 : k0_cond5 v35 v37 k0_t7 = 1#1), ∀ (k0_h6 : k0_cond6 v35 v37 k0_t7 v147 v151 = 1#1), ∀ a, (k0_off81 arg17) a + S1x16.size a ≤ S144x256.size a := fun v35 v37 k0_t7 v147 v151 arg17 k0_hw16 k0_h5 k0_h6 => k0_hw16.2.2.2.2.1 k0_h5 k0_h6
theorem k0_off82_inb : ∀ (v35 : BitVec 32) (v37 : BitVec 32) (k0_t7 : Fin (k0_t7_loop v35 v37).trips) (v147 : BitVec 32) (v151 : BitVec 32) (arg17 : BitVec 32) (k0_hw16 : k0_chk16 v35 v37 k0_t7 v147 v151 arg17), ∀ (k0_h5 : k0_cond5 v35 v37 k0_t7 = 1#1), ∀ (k0_h6 : k0_cond6 v35 v37 k0_t7 v147 v151 = 1#1), ∀ a, (k0_off82 arg17) a + S1x16.size a ≤ S144x256.size a := fun v35 v37 k0_t7 v147 v151 arg17 k0_hw16 k0_h5 k0_h6 => k0_hw16.2.2.2.2.2.1 k0_h5 k0_h6
theorem k0_off83_inb : ∀ (v35 : BitVec 32) (v37 : BitVec 32) (k0_t7 : Fin (k0_t7_loop v35 v37).trips) (v147 : BitVec 32) (v151 : BitVec 32) (arg17 : BitVec 32) (k0_hw16 : k0_chk16 v35 v37 k0_t7 v147 v151 arg17), ∀ (k0_h5 : k0_cond5 v35 v37 k0_t7 = 1#1), ∀ (k0_h6 : k0_cond6 v35 v37 k0_t7 v147 v151 = 1#1), ∀ a, (k0_off83 arg17) a + S1x16.size a ≤ S144x256.size a := fun v35 v37 k0_t7 v147 v151 arg17 k0_hw16 k0_h5 k0_h6 => k0_hw16.2.2.2.2.2.2.1 k0_h5 k0_h6
theorem k0_off84_inb : ∀ (v35 : BitVec 32) (v37 : BitVec 32) (k0_t7 : Fin (k0_t7_loop v35 v37).trips) (v147 : BitVec 32) (v151 : BitVec 32) (arg17 : BitVec 32) (k0_hw16 : k0_chk16 v35 v37 k0_t7 v147 v151 arg17), ∀ (k0_h5 : k0_cond5 v35 v37 k0_t7 = 1#1), ∀ (k0_h6 : k0_cond6 v35 v37 k0_t7 v147 v151 = 1#1), ∀ a, (k0_off84 arg17) a + S1x16.size a ≤ S144x256.size a := fun v35 v37 k0_t7 v147 v151 arg17 k0_hw16 k0_h5 k0_h6 => k0_hw16.2.2.2.2.2.2.2 k0_h5 k0_h6

@[reducible] def k0_t18_loop (v35 : BitVec 32) (v37 : BitVec 32) : Scf.Loop 32 :=
  let c0_i32_67 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let v98 : BitVec 32 := Scalar.addi c0_i32_67 v97
  let c1_i32_71 : BitVec 32 := 1#32
  ⟨v101, v98, c1_i32_71⟩
def k0_mult8 (v35 : BitVec 32) (v37 : BitVec 32) (k0_t18 : Fin (k0_t18_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let c144_i32_95 : BitVec 32 := 144#32
  let v132 : BitVec 32 := Scalar.muli v107 c144_i32_95
  let v133 : BitVec 32 := Scalar.addi v55 v132
  let c49856_i32_96 : BitVec 32 := 49856#32
  let v134 : BitVec 32 := Scalar.minsi v133 c49856_i32_96
  v134
def k0_cond7 (v35 : BitVec 32) (v37 : BitVec 32) (k0_t18 : Fin (k0_t18_loop v35 v37).trips) : BitVec 1 :=
  let c2_i32_77 : BitVec 32 := 2#32
  let c0_i32_67 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let v108 : BitVec 1 := Scalar.cmpi .slt v107 v75
  let v109 : BitVec 32 := Scalar.extui v108
  let c0_i32_79 : BitVec 32 := 0#32
  let v110 : BitVec 1 := Scalar.cmpi .ne v109 c0_i32_79
  v110

def k0_off85 (v35 : BitVec 32) (v37 : BitVec 32) (k0_t18 : Fin (k0_t18_loop v35 v37).trips) : Fin 2 → Nat :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let c144_i32_95 : BitVec 32 := 144#32
  let v132 : BitVec 32 := Scalar.muli v107 c144_i32_95
  let v133 : BitVec 32 := Scalar.addi v55 v132
  let c49856_i32_96 : BitVec 32 := 49856#32
  let v134 : BitVec 32 := Scalar.minsi v133 c49856_i32_96
  let v135 : BitVec 32 := v134
  let c0_i32_97 : BitVec 32 := 0#32
  ![v135.toNat, 0]
def k0_mult9 (v35 : BitVec 32) (v37 : BitVec 32) (k0_t18 : Fin (k0_t18_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c144_i32_80 : BitVec 32 := 144#32
  let v111 : BitVec 32 := Scalar.muli v106 c144_i32_80
  let v112 : BitVec 32 := Scalar.addi v55 v111
  let c49856_i32 : BitVec 32 := 49856#32
  let v113 : BitVec 32 := Scalar.minsi v112 c49856_i32
  v113
def k0_off86 (v35 : BitVec 32) (v37 : BitVec 32) (k0_t18 : Fin (k0_t18_loop v35 v37).trips) : Fin 2 → Nat :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c144_i32_80 : BitVec 32 := 144#32
  let v111 : BitVec 32 := Scalar.muli v106 c144_i32_80
  let v112 : BitVec 32 := Scalar.addi v55 v111
  let c49856_i32 : BitVec 32 := 49856#32
  let v113 : BitVec 32 := Scalar.minsi v112 c49856_i32
  let v114 : BitVec 32 := v113
  let c0_i32_81 : BitVec 32 := 0#32
  ![v114.toNat, 0]
def k0_mult10 (v35 : BitVec 32) (v37 : BitVec 32) (k0_t18 : Fin (k0_t18_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c144_i32_84 : BitVec 32 := 144#32
  let v119 : BitVec 32 := Scalar.muli v106 c144_i32_84
  let v120 : BitVec 32 := Scalar.addi v55 v119
  let c49856_i32_85 : BitVec 32 := 49856#32
  let v121 : BitVec 32 := Scalar.minsi v120 c49856_i32_85
  v121
@[reducible] def k0_t19_loop : Scf.Loop 32 :=
  let c0_i32_87 : BitVec 32 := 0#32
  let c4_i32_88 : BitVec 32 := 4#32
  let v123 : BitVec 32 := Scalar.addi c0_i32_87 c4_i32_88
  let c1_i32_89 : BitVec 32 := 1#32
  ⟨c0_i32_87, v123, c1_i32_89⟩
def k0_off87 (k0_t19 : Fin k0_t19_loop.trips) : Fin 1 → Nat :=
  let c0_i32_87 : BitVec 32 := 0#32
  let c1_i32_89 : BitVec 32 := 1#32
  let arg14 : BitVec 32 := Scf.iv c0_i32_87 c1_i32_89 k0_t19
  let v132 : Index := Scalar.indexCast arg14
  ![v132.toNat]
def k0_off88 (k0_t19 : Fin k0_t19_loop.trips) : Fin 1 → Nat :=
  let c0_i32_87 : BitVec 32 := 0#32
  let c1_i32_89 : BitVec 32 := 1#32
  let arg14 : BitVec 32 := Scf.iv c0_i32_87 c1_i32_89 k0_t19
  let c1_i32_95 : BitVec 32 := 1#32
  let v135 : BitVec 32 := Scalar.addi arg14 c1_i32_95
  let v136 : Index := Scalar.indexCast v135
  ![v136.toNat]
def k0_off89 (k0_t19 : Fin k0_t19_loop.trips) (c0_i32_101 : BitVec 32) : Fin 1 → Nat :=
  let c0_i32_87 : BitVec 32 := 0#32
  let c1_i32_89 : BitVec 32 := 1#32
  let arg14 : BitVec 32 := Scf.iv c0_i32_87 c1_i32_89 k0_t19
  let c3_i32_99 : BitVec 32 := 3#32
  let v143 : BitVec 32 := Scalar.muli arg14 c3_i32_99
  let c256_i32 : BitVec 32 := 256#32
  let v144 : BitVec 32 := Scalar.muli v143 c256_i32
  let v148 : BitVec 32 := Scalar.addi v144 c0_i32_101
  let v149 : Index := Scalar.indexCast v148
  ![v149.toNat]
def k0_off90 (k0_t19 : Fin k0_t19_loop.trips) (c256_i32_103 : BitVec 32) (c0_i32_104 : BitVec 32) : Fin 1 → Nat :=
  let c0_i32_87 : BitVec 32 := 0#32
  let c1_i32_89 : BitVec 32 := 1#32
  let arg14 : BitVec 32 := Scf.iv c0_i32_87 c1_i32_89 k0_t19
  let c3_i32_99 : BitVec 32 := 3#32
  let v143 : BitVec 32 := Scalar.muli arg14 c3_i32_99
  let c256_i32 : BitVec 32 := 256#32
  let v144 : BitVec 32 := Scalar.muli v143 c256_i32
  let v180 : BitVec 32 := Scalar.addi v144 c256_i32_103
  let v181 : BitVec 32 := Scalar.addi v180 c0_i32_104
  let v182 : Index := Scalar.indexCast v181
  ![v182.toNat]
@[reducible] def k0_t20_loop (v35 : BitVec 32) (v37 : BitVec 32) (k0_t18 : Fin (k0_t18_loop v35 v37).trips) (v133 : BitVec 32) (v137 : BitVec 32) : Scf.Loop 32 :=
  let c0_i32_134 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c144_i32_83 : BitVec 32 := 144#32
  let v117 : BitVec 32 := Scalar.muli v106 c144_i32_83
  let v118 : BitVec 32 := Scalar.addi v55 v117
  let c144_i32_96 : BitVec 32 := 144#32
  let v138 : BitVec 32 := Scalar.addi v118 c144_i32_96
  let v139 : BitVec 32 := Scalar.minsi v137 v138
  let v134 : BitVec 32 := Scalar.maxsi v133 v118
  let v146 : BitVec 32 := Scalar.subi v139 v134
  let c0_i32_100 : BitVec 32 := 0#32
  let v147 : BitVec 32 := Scalar.maxsi v146 c0_i32_100
  let v260 : BitVec 32 := Scalar.subi v147 c0_i32_134
  let c1_i32_135 : BitVec 32 := 1#32
  let v262 : BitVec 32 := Scalar.divsi v260 c1_i32_135
  let v263 : BitVec 32 := Scalar.muli v262 c1_i32_135
  let v264 : BitVec 32 := Scalar.addi c0_i32_134 v263
  let c1_i32_136 : BitVec 32 := 1#32
  ⟨c0_i32_134, v264, c1_i32_136⟩
def k0_cond8 (v35 : BitVec 32) (v37 : BitVec 32) (k0_t18 : Fin (k0_t18_loop v35 v37).trips) (v133 : BitVec 32) (v137 : BitVec 32) : BitVec 1 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c144_i32_83 : BitVec 32 := 144#32
  let v117 : BitVec 32 := Scalar.muli v106 c144_i32_83
  let v118 : BitVec 32 := Scalar.addi v55 v117
  let c144_i32_96 : BitVec 32 := 144#32
  let v138 : BitVec 32 := Scalar.addi v118 c144_i32_96
  let v139 : BitVec 32 := Scalar.minsi v137 v138
  let v134 : BitVec 32 := Scalar.maxsi v133 v118
  let v140 : BitVec 1 := Scalar.cmpi .sgt v139 v134
  let v141 : BitVec 32 := Scalar.extui v140
  let c0_i32_97 : BitVec 32 := 0#32
  let v142 : BitVec 1 := Scalar.cmpi .ne v141 c0_i32_97
  v142

def k0_off91 (arg17 : BitVec 32) : Fin 2 → Nat :=
  let v658 : Index := Scalar.indexCast arg17
  let c0 : Index := 0#32
  ![v658.toNat, 0]

def k0_off92 (arg17 : BitVec 32) : Fin 2 → Nat :=
  let v661 : Index := Scalar.indexCast arg17
  let c16 : Index := 16#32
  ![v661.toNat, 16]
def k0_off93 (arg17 : BitVec 32) : Fin 2 → Nat :=
  let v664 : Index := Scalar.indexCast arg17
  let c32 : Index := 32#32
  ![v664.toNat, 32]
def k0_off94 (arg17 : BitVec 32) : Fin 2 → Nat :=
  let v667 : Index := Scalar.indexCast arg17
  let c48 : Index := 48#32
  ![v667.toNat, 48]
def k0_off95 (arg17 : BitVec 32) : Fin 2 → Nat :=
  let v670 : Index := Scalar.indexCast arg17
  let c64 : Index := 64#32
  ![v670.toNat, 64]
def k0_off96 (arg17 : BitVec 32) : Fin 2 → Nat :=
  let v673 : Index := Scalar.indexCast arg17
  let c80 : Index := 80#32
  ![v673.toNat, 80]
def k0_off97 (arg17 : BitVec 32) : Fin 2 → Nat :=
  let v676 : Index := Scalar.indexCast arg17
  let c96 : Index := 96#32
  ![v676.toNat, 96]
def k0_off98 (arg17 : BitVec 32) : Fin 2 → Nat :=
  let v679 : Index := Scalar.indexCast arg17
  let c112 : Index := 112#32
  ![v679.toNat, 112]

def k0_chk18 (v35 : BitVec 32) (v37 : BitVec 32) (k0_t18 : Fin (k0_t18_loop v35 v37).trips) (v133 : BitVec 32) (v137 : BitVec 32) (arg17 : BitVec 32) : Prop :=
  (∀ (k0_h8 : k0_cond8 v35 v37 k0_t18 v133 v137 = 1#1), ∀ a, (k0_off91 arg17) a + S1x16.size a ≤ S144x256.size a) ∧
  (∀ (k0_h8 : k0_cond8 v35 v37 k0_t18 v133 v137 = 1#1), ∀ a, (k0_off92 arg17) a + S1x16.size a ≤ S144x256.size a) ∧
  (∀ (k0_h8 : k0_cond8 v35 v37 k0_t18 v133 v137 = 1#1), ∀ a, (k0_off93 arg17) a + S1x16.size a ≤ S144x256.size a) ∧
  (∀ (k0_h8 : k0_cond8 v35 v37 k0_t18 v133 v137 = 1#1), ∀ a, (k0_off94 arg17) a + S1x16.size a ≤ S144x256.size a) ∧
  (∀ (k0_h8 : k0_cond8 v35 v37 k0_t18 v133 v137 = 1#1), ∀ a, (k0_off95 arg17) a + S1x16.size a ≤ S144x256.size a) ∧
  (∀ (k0_h8 : k0_cond8 v35 v37 k0_t18 v133 v137 = 1#1), ∀ a, (k0_off96 arg17) a + S1x16.size a ≤ S144x256.size a) ∧
  (∀ (k0_h8 : k0_cond8 v35 v37 k0_t18 v133 v137 = 1#1), ∀ a, (k0_off97 arg17) a + S1x16.size a ≤ S144x256.size a) ∧
  (∀ (k0_h8 : k0_cond8 v35 v37 k0_t18 v133 v137 = 1#1), ∀ a, (k0_off98 arg17) a + S1x16.size a ≤ S144x256.size a)
theorem k0_off91_inb : ∀ (v35 : BitVec 32) (v37 : BitVec 32) (k0_t18 : Fin (k0_t18_loop v35 v37).trips) (v133 : BitVec 32) (v137 : BitVec 32) (arg17 : BitVec 32) (k0_hw18 : k0_chk18 v35 v37 k0_t18 v133 v137 arg17), ∀ (k0_h8 : k0_cond8 v35 v37 k0_t18 v133 v137 = 1#1), ∀ a, (k0_off91 arg17) a + S1x16.size a ≤ S144x256.size a := fun v35 v37 k0_t18 v133 v137 arg17 k0_hw18 k0_h8 => k0_hw18.1 k0_h8
theorem k0_off92_inb : ∀ (v35 : BitVec 32) (v37 : BitVec 32) (k0_t18 : Fin (k0_t18_loop v35 v37).trips) (v133 : BitVec 32) (v137 : BitVec 32) (arg17 : BitVec 32) (k0_hw18 : k0_chk18 v35 v37 k0_t18 v133 v137 arg17), ∀ (k0_h8 : k0_cond8 v35 v37 k0_t18 v133 v137 = 1#1), ∀ a, (k0_off92 arg17) a + S1x16.size a ≤ S144x256.size a := fun v35 v37 k0_t18 v133 v137 arg17 k0_hw18 k0_h8 => k0_hw18.2.1 k0_h8
theorem k0_off93_inb : ∀ (v35 : BitVec 32) (v37 : BitVec 32) (k0_t18 : Fin (k0_t18_loop v35 v37).trips) (v133 : BitVec 32) (v137 : BitVec 32) (arg17 : BitVec 32) (k0_hw18 : k0_chk18 v35 v37 k0_t18 v133 v137 arg17), ∀ (k0_h8 : k0_cond8 v35 v37 k0_t18 v133 v137 = 1#1), ∀ a, (k0_off93 arg17) a + S1x16.size a ≤ S144x256.size a := fun v35 v37 k0_t18 v133 v137 arg17 k0_hw18 k0_h8 => k0_hw18.2.2.1 k0_h8
theorem k0_off94_inb : ∀ (v35 : BitVec 32) (v37 : BitVec 32) (k0_t18 : Fin (k0_t18_loop v35 v37).trips) (v133 : BitVec 32) (v137 : BitVec 32) (arg17 : BitVec 32) (k0_hw18 : k0_chk18 v35 v37 k0_t18 v133 v137 arg17), ∀ (k0_h8 : k0_cond8 v35 v37 k0_t18 v133 v137 = 1#1), ∀ a, (k0_off94 arg17) a + S1x16.size a ≤ S144x256.size a := fun v35 v37 k0_t18 v133 v137 arg17 k0_hw18 k0_h8 => k0_hw18.2.2.2.1 k0_h8
theorem k0_off95_inb : ∀ (v35 : BitVec 32) (v37 : BitVec 32) (k0_t18 : Fin (k0_t18_loop v35 v37).trips) (v133 : BitVec 32) (v137 : BitVec 32) (arg17 : BitVec 32) (k0_hw18 : k0_chk18 v35 v37 k0_t18 v133 v137 arg17), ∀ (k0_h8 : k0_cond8 v35 v37 k0_t18 v133 v137 = 1#1), ∀ a, (k0_off95 arg17) a + S1x16.size a ≤ S144x256.size a := fun v35 v37 k0_t18 v133 v137 arg17 k0_hw18 k0_h8 => k0_hw18.2.2.2.2.1 k0_h8
theorem k0_off96_inb : ∀ (v35 : BitVec 32) (v37 : BitVec 32) (k0_t18 : Fin (k0_t18_loop v35 v37).trips) (v133 : BitVec 32) (v137 : BitVec 32) (arg17 : BitVec 32) (k0_hw18 : k0_chk18 v35 v37 k0_t18 v133 v137 arg17), ∀ (k0_h8 : k0_cond8 v35 v37 k0_t18 v133 v137 = 1#1), ∀ a, (k0_off96 arg17) a + S1x16.size a ≤ S144x256.size a := fun v35 v37 k0_t18 v133 v137 arg17 k0_hw18 k0_h8 => k0_hw18.2.2.2.2.2.1 k0_h8
theorem k0_off97_inb : ∀ (v35 : BitVec 32) (v37 : BitVec 32) (k0_t18 : Fin (k0_t18_loop v35 v37).trips) (v133 : BitVec 32) (v137 : BitVec 32) (arg17 : BitVec 32) (k0_hw18 : k0_chk18 v35 v37 k0_t18 v133 v137 arg17), ∀ (k0_h8 : k0_cond8 v35 v37 k0_t18 v133 v137 = 1#1), ∀ a, (k0_off97 arg17) a + S1x16.size a ≤ S144x256.size a := fun v35 v37 k0_t18 v133 v137 arg17 k0_hw18 k0_h8 => k0_hw18.2.2.2.2.2.2.1 k0_h8
theorem k0_off98_inb : ∀ (v35 : BitVec 32) (v37 : BitVec 32) (k0_t18 : Fin (k0_t18_loop v35 v37).trips) (v133 : BitVec 32) (v137 : BitVec 32) (arg17 : BitVec 32) (k0_hw18 : k0_chk18 v35 v37 k0_t18 v133 v137 arg17), ∀ (k0_h8 : k0_cond8 v35 v37 k0_t18 v133 v137 = 1#1), ∀ a, (k0_off98 arg17) a + S1x16.size a ≤ S144x256.size a := fun v35 v37 k0_t18 v133 v137 arg17 k0_hw18 k0_h8 => k0_hw18.2.2.2.2.2.2.2 k0_h8

@[reducible] def k0_t21_loop (v35 : BitVec 32) (v37 : BitVec 32) (k0_t18 : Fin (k0_t18_loop v35 v37).trips) (v133 : BitVec 32) (v137 : BitVec 32) : Scf.Loop 32 :=
  let c0_i32_134 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c144_i32_83 : BitVec 32 := 144#32
  let v117 : BitVec 32 := Scalar.muli v106 c144_i32_83
  let v118 : BitVec 32 := Scalar.addi v55 v117
  let c144_i32_96 : BitVec 32 := 144#32
  let v138 : BitVec 32 := Scalar.addi v118 c144_i32_96
  let v139 : BitVec 32 := Scalar.minsi v137 v138
  let v134 : BitVec 32 := Scalar.maxsi v133 v118
  let v146 : BitVec 32 := Scalar.subi v139 v134
  let c0_i32_100 : BitVec 32 := 0#32
  let v147 : BitVec 32 := Scalar.maxsi v146 c0_i32_100
  let v260 : BitVec 32 := Scalar.subi v147 c0_i32_134
  let c1_i32_135 : BitVec 32 := 1#32
  let v262 : BitVec 32 := Scalar.divsi v260 c1_i32_135
  let v263 : BitVec 32 := Scalar.muli v262 c1_i32_135
  let v264 : BitVec 32 := Scalar.addi c0_i32_134 v263
  let v261 : BitVec 32 := Scalar.addi c0_i32_134 v260
  let c1_i32_137 : BitVec 32 := 1#32
  ⟨v264, v261, c1_i32_137⟩
def k0_off99 (arg17 : BitVec 32) : Fin 2 → Nat :=
  let v658 : Index := Scalar.indexCast arg17
  let c0 : Index := 0#32
  ![v658.toNat, 0]

def k0_off100 (arg17 : BitVec 32) : Fin 2 → Nat :=
  let v661 : Index := Scalar.indexCast arg17
  let c16 : Index := 16#32
  ![v661.toNat, 16]
def k0_off101 (arg17 : BitVec 32) : Fin 2 → Nat :=
  let v664 : Index := Scalar.indexCast arg17
  let c32 : Index := 32#32
  ![v664.toNat, 32]
def k0_off102 (arg17 : BitVec 32) : Fin 2 → Nat :=
  let v667 : Index := Scalar.indexCast arg17
  let c48 : Index := 48#32
  ![v667.toNat, 48]
def k0_off103 (arg17 : BitVec 32) : Fin 2 → Nat :=
  let v670 : Index := Scalar.indexCast arg17
  let c64 : Index := 64#32
  ![v670.toNat, 64]
def k0_off104 (arg17 : BitVec 32) : Fin 2 → Nat :=
  let v673 : Index := Scalar.indexCast arg17
  let c80 : Index := 80#32
  ![v673.toNat, 80]
def k0_off105 (arg17 : BitVec 32) : Fin 2 → Nat :=
  let v676 : Index := Scalar.indexCast arg17
  let c96 : Index := 96#32
  ![v676.toNat, 96]
def k0_off106 (arg17 : BitVec 32) : Fin 2 → Nat :=
  let v679 : Index := Scalar.indexCast arg17
  let c112 : Index := 112#32
  ![v679.toNat, 112]

def k0_chk19 (v35 : BitVec 32) (v37 : BitVec 32) (k0_t18 : Fin (k0_t18_loop v35 v37).trips) (v133 : BitVec 32) (v137 : BitVec 32) (arg17 : BitVec 32) : Prop :=
  (∀ (k0_h8 : k0_cond8 v35 v37 k0_t18 v133 v137 = 1#1), ∀ a, (k0_off99 arg17) a + S1x16.size a ≤ S144x256.size a) ∧
  (∀ (k0_h8 : k0_cond8 v35 v37 k0_t18 v133 v137 = 1#1), ∀ a, (k0_off100 arg17) a + S1x16.size a ≤ S144x256.size a) ∧
  (∀ (k0_h8 : k0_cond8 v35 v37 k0_t18 v133 v137 = 1#1), ∀ a, (k0_off101 arg17) a + S1x16.size a ≤ S144x256.size a) ∧
  (∀ (k0_h8 : k0_cond8 v35 v37 k0_t18 v133 v137 = 1#1), ∀ a, (k0_off102 arg17) a + S1x16.size a ≤ S144x256.size a) ∧
  (∀ (k0_h8 : k0_cond8 v35 v37 k0_t18 v133 v137 = 1#1), ∀ a, (k0_off103 arg17) a + S1x16.size a ≤ S144x256.size a) ∧
  (∀ (k0_h8 : k0_cond8 v35 v37 k0_t18 v133 v137 = 1#1), ∀ a, (k0_off104 arg17) a + S1x16.size a ≤ S144x256.size a) ∧
  (∀ (k0_h8 : k0_cond8 v35 v37 k0_t18 v133 v137 = 1#1), ∀ a, (k0_off105 arg17) a + S1x16.size a ≤ S144x256.size a) ∧
  (∀ (k0_h8 : k0_cond8 v35 v37 k0_t18 v133 v137 = 1#1), ∀ a, (k0_off106 arg17) a + S1x16.size a ≤ S144x256.size a)
theorem k0_off99_inb : ∀ (v35 : BitVec 32) (v37 : BitVec 32) (k0_t18 : Fin (k0_t18_loop v35 v37).trips) (v133 : BitVec 32) (v137 : BitVec 32) (arg17 : BitVec 32) (k0_hw19 : k0_chk19 v35 v37 k0_t18 v133 v137 arg17), ∀ (k0_h8 : k0_cond8 v35 v37 k0_t18 v133 v137 = 1#1), ∀ a, (k0_off99 arg17) a + S1x16.size a ≤ S144x256.size a := fun v35 v37 k0_t18 v133 v137 arg17 k0_hw19 k0_h8 => k0_hw19.1 k0_h8
theorem k0_off100_inb : ∀ (v35 : BitVec 32) (v37 : BitVec 32) (k0_t18 : Fin (k0_t18_loop v35 v37).trips) (v133 : BitVec 32) (v137 : BitVec 32) (arg17 : BitVec 32) (k0_hw19 : k0_chk19 v35 v37 k0_t18 v133 v137 arg17), ∀ (k0_h8 : k0_cond8 v35 v37 k0_t18 v133 v137 = 1#1), ∀ a, (k0_off100 arg17) a + S1x16.size a ≤ S144x256.size a := fun v35 v37 k0_t18 v133 v137 arg17 k0_hw19 k0_h8 => k0_hw19.2.1 k0_h8
theorem k0_off101_inb : ∀ (v35 : BitVec 32) (v37 : BitVec 32) (k0_t18 : Fin (k0_t18_loop v35 v37).trips) (v133 : BitVec 32) (v137 : BitVec 32) (arg17 : BitVec 32) (k0_hw19 : k0_chk19 v35 v37 k0_t18 v133 v137 arg17), ∀ (k0_h8 : k0_cond8 v35 v37 k0_t18 v133 v137 = 1#1), ∀ a, (k0_off101 arg17) a + S1x16.size a ≤ S144x256.size a := fun v35 v37 k0_t18 v133 v137 arg17 k0_hw19 k0_h8 => k0_hw19.2.2.1 k0_h8
theorem k0_off102_inb : ∀ (v35 : BitVec 32) (v37 : BitVec 32) (k0_t18 : Fin (k0_t18_loop v35 v37).trips) (v133 : BitVec 32) (v137 : BitVec 32) (arg17 : BitVec 32) (k0_hw19 : k0_chk19 v35 v37 k0_t18 v133 v137 arg17), ∀ (k0_h8 : k0_cond8 v35 v37 k0_t18 v133 v137 = 1#1), ∀ a, (k0_off102 arg17) a + S1x16.size a ≤ S144x256.size a := fun v35 v37 k0_t18 v133 v137 arg17 k0_hw19 k0_h8 => k0_hw19.2.2.2.1 k0_h8
theorem k0_off103_inb : ∀ (v35 : BitVec 32) (v37 : BitVec 32) (k0_t18 : Fin (k0_t18_loop v35 v37).trips) (v133 : BitVec 32) (v137 : BitVec 32) (arg17 : BitVec 32) (k0_hw19 : k0_chk19 v35 v37 k0_t18 v133 v137 arg17), ∀ (k0_h8 : k0_cond8 v35 v37 k0_t18 v133 v137 = 1#1), ∀ a, (k0_off103 arg17) a + S1x16.size a ≤ S144x256.size a := fun v35 v37 k0_t18 v133 v137 arg17 k0_hw19 k0_h8 => k0_hw19.2.2.2.2.1 k0_h8
theorem k0_off104_inb : ∀ (v35 : BitVec 32) (v37 : BitVec 32) (k0_t18 : Fin (k0_t18_loop v35 v37).trips) (v133 : BitVec 32) (v137 : BitVec 32) (arg17 : BitVec 32) (k0_hw19 : k0_chk19 v35 v37 k0_t18 v133 v137 arg17), ∀ (k0_h8 : k0_cond8 v35 v37 k0_t18 v133 v137 = 1#1), ∀ a, (k0_off104 arg17) a + S1x16.size a ≤ S144x256.size a := fun v35 v37 k0_t18 v133 v137 arg17 k0_hw19 k0_h8 => k0_hw19.2.2.2.2.2.1 k0_h8
theorem k0_off105_inb : ∀ (v35 : BitVec 32) (v37 : BitVec 32) (k0_t18 : Fin (k0_t18_loop v35 v37).trips) (v133 : BitVec 32) (v137 : BitVec 32) (arg17 : BitVec 32) (k0_hw19 : k0_chk19 v35 v37 k0_t18 v133 v137 arg17), ∀ (k0_h8 : k0_cond8 v35 v37 k0_t18 v133 v137 = 1#1), ∀ a, (k0_off105 arg17) a + S1x16.size a ≤ S144x256.size a := fun v35 v37 k0_t18 v133 v137 arg17 k0_hw19 k0_h8 => k0_hw19.2.2.2.2.2.2.1 k0_h8
theorem k0_off106_inb : ∀ (v35 : BitVec 32) (v37 : BitVec 32) (k0_t18 : Fin (k0_t18_loop v35 v37).trips) (v133 : BitVec 32) (v137 : BitVec 32) (arg17 : BitVec 32) (k0_hw19 : k0_chk19 v35 v37 k0_t18 v133 v137 arg17), ∀ (k0_h8 : k0_cond8 v35 v37 k0_t18 v133 v137 = 1#1), ∀ a, (k0_off106 arg17) a + S1x16.size a ≤ S144x256.size a := fun v35 v37 k0_t18 v133 v137 arg17 k0_hw19 k0_h8 => k0_hw19.2.2.2.2.2.2.2 k0_h8

@[reducible] def k0_t22_loop (v35 : BitVec 32) (v37 : BitVec 32) (k0_t18 : Fin (k0_t18_loop v35 v37).trips) (v133 : BitVec 32) (v137 : BitVec 32) : Scf.Loop 32 :=
  let c0_i32_212 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c144_i32_83 : BitVec 32 := 144#32
  let v117 : BitVec 32 := Scalar.muli v106 c144_i32_83
  let v118 : BitVec 32 := Scalar.addi v55 v117
  let c144_i32_96 : BitVec 32 := 144#32
  let v138 : BitVec 32 := Scalar.addi v118 c144_i32_96
  let v139 : BitVec 32 := Scalar.minsi v137 v138
  let v134 : BitVec 32 := Scalar.maxsi v133 v118
  let v146 : BitVec 32 := Scalar.subi v139 v134
  let c0_i32_100 : BitVec 32 := 0#32
  let v147 : BitVec 32 := Scalar.maxsi v146 c0_i32_100
  let v515 : BitVec 32 := Scalar.subi v147 c0_i32_212
  let c1_i32_213 : BitVec 32 := 1#32
  let v517 : BitVec 32 := Scalar.divsi v515 c1_i32_213
  let v518 : BitVec 32 := Scalar.muli v517 c1_i32_213
  let v519 : BitVec 32 := Scalar.addi c0_i32_212 v518
  let c1_i32_214 : BitVec 32 := 1#32
  ⟨c0_i32_212, v519, c1_i32_214⟩
def k0_off107 (arg17 : BitVec 32) : Fin 2 → Nat :=
  let v658 : Index := Scalar.indexCast arg17
  let c128 : Index := 128#32
  ![v658.toNat, 128]

def k0_off108 (arg17 : BitVec 32) : Fin 2 → Nat :=
  let v661 : Index := Scalar.indexCast arg17
  let c144 : Index := 144#32
  ![v661.toNat, 144]
def k0_off109 (arg17 : BitVec 32) : Fin 2 → Nat :=
  let v664 : Index := Scalar.indexCast arg17
  let c160 : Index := 160#32
  ![v664.toNat, 160]
def k0_off110 (arg17 : BitVec 32) : Fin 2 → Nat :=
  let v667 : Index := Scalar.indexCast arg17
  let c176 : Index := 176#32
  ![v667.toNat, 176]
def k0_off111 (arg17 : BitVec 32) : Fin 2 → Nat :=
  let v670 : Index := Scalar.indexCast arg17
  let c192 : Index := 192#32
  ![v670.toNat, 192]
def k0_off112 (arg17 : BitVec 32) : Fin 2 → Nat :=
  let v673 : Index := Scalar.indexCast arg17
  let c208 : Index := 208#32
  ![v673.toNat, 208]
def k0_off113 (arg17 : BitVec 32) : Fin 2 → Nat :=
  let v676 : Index := Scalar.indexCast arg17
  let c224 : Index := 224#32
  ![v676.toNat, 224]
def k0_off114 (arg17 : BitVec 32) : Fin 2 → Nat :=
  let v679 : Index := Scalar.indexCast arg17
  let c240 : Index := 240#32
  ![v679.toNat, 240]

def k0_chk20 (v35 : BitVec 32) (v37 : BitVec 32) (k0_t18 : Fin (k0_t18_loop v35 v37).trips) (v133 : BitVec 32) (v137 : BitVec 32) (arg17 : BitVec 32) : Prop :=
  (∀ (k0_h8 : k0_cond8 v35 v37 k0_t18 v133 v137 = 1#1), ∀ a, (k0_off107 arg17) a + S1x16.size a ≤ S144x256.size a) ∧
  (∀ (k0_h8 : k0_cond8 v35 v37 k0_t18 v133 v137 = 1#1), ∀ a, (k0_off108 arg17) a + S1x16.size a ≤ S144x256.size a) ∧
  (∀ (k0_h8 : k0_cond8 v35 v37 k0_t18 v133 v137 = 1#1), ∀ a, (k0_off109 arg17) a + S1x16.size a ≤ S144x256.size a) ∧
  (∀ (k0_h8 : k0_cond8 v35 v37 k0_t18 v133 v137 = 1#1), ∀ a, (k0_off110 arg17) a + S1x16.size a ≤ S144x256.size a) ∧
  (∀ (k0_h8 : k0_cond8 v35 v37 k0_t18 v133 v137 = 1#1), ∀ a, (k0_off111 arg17) a + S1x16.size a ≤ S144x256.size a) ∧
  (∀ (k0_h8 : k0_cond8 v35 v37 k0_t18 v133 v137 = 1#1), ∀ a, (k0_off112 arg17) a + S1x16.size a ≤ S144x256.size a) ∧
  (∀ (k0_h8 : k0_cond8 v35 v37 k0_t18 v133 v137 = 1#1), ∀ a, (k0_off113 arg17) a + S1x16.size a ≤ S144x256.size a) ∧
  (∀ (k0_h8 : k0_cond8 v35 v37 k0_t18 v133 v137 = 1#1), ∀ a, (k0_off114 arg17) a + S1x16.size a ≤ S144x256.size a)
theorem k0_off107_inb : ∀ (v35 : BitVec 32) (v37 : BitVec 32) (k0_t18 : Fin (k0_t18_loop v35 v37).trips) (v133 : BitVec 32) (v137 : BitVec 32) (arg17 : BitVec 32) (k0_hw20 : k0_chk20 v35 v37 k0_t18 v133 v137 arg17), ∀ (k0_h8 : k0_cond8 v35 v37 k0_t18 v133 v137 = 1#1), ∀ a, (k0_off107 arg17) a + S1x16.size a ≤ S144x256.size a := fun v35 v37 k0_t18 v133 v137 arg17 k0_hw20 k0_h8 => k0_hw20.1 k0_h8
theorem k0_off108_inb : ∀ (v35 : BitVec 32) (v37 : BitVec 32) (k0_t18 : Fin (k0_t18_loop v35 v37).trips) (v133 : BitVec 32) (v137 : BitVec 32) (arg17 : BitVec 32) (k0_hw20 : k0_chk20 v35 v37 k0_t18 v133 v137 arg17), ∀ (k0_h8 : k0_cond8 v35 v37 k0_t18 v133 v137 = 1#1), ∀ a, (k0_off108 arg17) a + S1x16.size a ≤ S144x256.size a := fun v35 v37 k0_t18 v133 v137 arg17 k0_hw20 k0_h8 => k0_hw20.2.1 k0_h8
theorem k0_off109_inb : ∀ (v35 : BitVec 32) (v37 : BitVec 32) (k0_t18 : Fin (k0_t18_loop v35 v37).trips) (v133 : BitVec 32) (v137 : BitVec 32) (arg17 : BitVec 32) (k0_hw20 : k0_chk20 v35 v37 k0_t18 v133 v137 arg17), ∀ (k0_h8 : k0_cond8 v35 v37 k0_t18 v133 v137 = 1#1), ∀ a, (k0_off109 arg17) a + S1x16.size a ≤ S144x256.size a := fun v35 v37 k0_t18 v133 v137 arg17 k0_hw20 k0_h8 => k0_hw20.2.2.1 k0_h8
theorem k0_off110_inb : ∀ (v35 : BitVec 32) (v37 : BitVec 32) (k0_t18 : Fin (k0_t18_loop v35 v37).trips) (v133 : BitVec 32) (v137 : BitVec 32) (arg17 : BitVec 32) (k0_hw20 : k0_chk20 v35 v37 k0_t18 v133 v137 arg17), ∀ (k0_h8 : k0_cond8 v35 v37 k0_t18 v133 v137 = 1#1), ∀ a, (k0_off110 arg17) a + S1x16.size a ≤ S144x256.size a := fun v35 v37 k0_t18 v133 v137 arg17 k0_hw20 k0_h8 => k0_hw20.2.2.2.1 k0_h8
theorem k0_off111_inb : ∀ (v35 : BitVec 32) (v37 : BitVec 32) (k0_t18 : Fin (k0_t18_loop v35 v37).trips) (v133 : BitVec 32) (v137 : BitVec 32) (arg17 : BitVec 32) (k0_hw20 : k0_chk20 v35 v37 k0_t18 v133 v137 arg17), ∀ (k0_h8 : k0_cond8 v35 v37 k0_t18 v133 v137 = 1#1), ∀ a, (k0_off111 arg17) a + S1x16.size a ≤ S144x256.size a := fun v35 v37 k0_t18 v133 v137 arg17 k0_hw20 k0_h8 => k0_hw20.2.2.2.2.1 k0_h8
theorem k0_off112_inb : ∀ (v35 : BitVec 32) (v37 : BitVec 32) (k0_t18 : Fin (k0_t18_loop v35 v37).trips) (v133 : BitVec 32) (v137 : BitVec 32) (arg17 : BitVec 32) (k0_hw20 : k0_chk20 v35 v37 k0_t18 v133 v137 arg17), ∀ (k0_h8 : k0_cond8 v35 v37 k0_t18 v133 v137 = 1#1), ∀ a, (k0_off112 arg17) a + S1x16.size a ≤ S144x256.size a := fun v35 v37 k0_t18 v133 v137 arg17 k0_hw20 k0_h8 => k0_hw20.2.2.2.2.2.1 k0_h8
theorem k0_off113_inb : ∀ (v35 : BitVec 32) (v37 : BitVec 32) (k0_t18 : Fin (k0_t18_loop v35 v37).trips) (v133 : BitVec 32) (v137 : BitVec 32) (arg17 : BitVec 32) (k0_hw20 : k0_chk20 v35 v37 k0_t18 v133 v137 arg17), ∀ (k0_h8 : k0_cond8 v35 v37 k0_t18 v133 v137 = 1#1), ∀ a, (k0_off113 arg17) a + S1x16.size a ≤ S144x256.size a := fun v35 v37 k0_t18 v133 v137 arg17 k0_hw20 k0_h8 => k0_hw20.2.2.2.2.2.2.1 k0_h8
theorem k0_off114_inb : ∀ (v35 : BitVec 32) (v37 : BitVec 32) (k0_t18 : Fin (k0_t18_loop v35 v37).trips) (v133 : BitVec 32) (v137 : BitVec 32) (arg17 : BitVec 32) (k0_hw20 : k0_chk20 v35 v37 k0_t18 v133 v137 arg17), ∀ (k0_h8 : k0_cond8 v35 v37 k0_t18 v133 v137 = 1#1), ∀ a, (k0_off114 arg17) a + S1x16.size a ≤ S144x256.size a := fun v35 v37 k0_t18 v133 v137 arg17 k0_hw20 k0_h8 => k0_hw20.2.2.2.2.2.2.2 k0_h8

@[reducible] def k0_t23_loop (v35 : BitVec 32) (v37 : BitVec 32) (k0_t18 : Fin (k0_t18_loop v35 v37).trips) (v133 : BitVec 32) (v137 : BitVec 32) : Scf.Loop 32 :=
  let c0_i32_212 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c144_i32_83 : BitVec 32 := 144#32
  let v117 : BitVec 32 := Scalar.muli v106 c144_i32_83
  let v118 : BitVec 32 := Scalar.addi v55 v117
  let c144_i32_96 : BitVec 32 := 144#32
  let v138 : BitVec 32 := Scalar.addi v118 c144_i32_96
  let v139 : BitVec 32 := Scalar.minsi v137 v138
  let v134 : BitVec 32 := Scalar.maxsi v133 v118
  let v146 : BitVec 32 := Scalar.subi v139 v134
  let c0_i32_100 : BitVec 32 := 0#32
  let v147 : BitVec 32 := Scalar.maxsi v146 c0_i32_100
  let v515 : BitVec 32 := Scalar.subi v147 c0_i32_212
  let c1_i32_213 : BitVec 32 := 1#32
  let v517 : BitVec 32 := Scalar.divsi v515 c1_i32_213
  let v518 : BitVec 32 := Scalar.muli v517 c1_i32_213
  let v519 : BitVec 32 := Scalar.addi c0_i32_212 v518
  let v516 : BitVec 32 := Scalar.addi c0_i32_212 v515
  let c1_i32_215 : BitVec 32 := 1#32
  ⟨v519, v516, c1_i32_215⟩

def k0_chk17 (v35 : BitVec 32) (v37 : BitVec 32) (k0_t18 : Fin (k0_t18_loop v35 v37).trips) (v133 : BitVec 32) (v137 : BitVec 32) : Prop :=
  (∀ (k0_h8 : k0_cond8 v35 v37 k0_t18 v133 v137 = 1#1), (k0_t20_loop v35 v37 k0_t18 v133 v137).OK) ∧
  (∀ (k0_h8 : k0_cond8 v35 v37 k0_t18 v133 v137 = 1#1), (k0_t21_loop v35 v37 k0_t18 v133 v137).OK) ∧
  (∀ (k0_h8 : k0_cond8 v35 v37 k0_t18 v133 v137 = 1#1), (k0_t22_loop v35 v37 k0_t18 v133 v137).OK) ∧
  (∀ (k0_h8 : k0_cond8 v35 v37 k0_t18 v133 v137 = 1#1), (k0_t23_loop v35 v37 k0_t18 v133 v137).OK)
theorem k0_t20_ok : ∀ (v35 : BitVec 32) (v37 : BitVec 32) (k0_t18 : Fin (k0_t18_loop v35 v37).trips) (v133 : BitVec 32) (v137 : BitVec 32) (k0_hw17 : k0_chk17 v35 v37 k0_t18 v133 v137), ∀ (k0_h8 : k0_cond8 v35 v37 k0_t18 v133 v137 = 1#1), (k0_t20_loop v35 v37 k0_t18 v133 v137).OK := fun v35 v37 k0_t18 v133 v137 k0_hw17 k0_h8 => k0_hw17.1 k0_h8
theorem k0_t21_ok : ∀ (v35 : BitVec 32) (v37 : BitVec 32) (k0_t18 : Fin (k0_t18_loop v35 v37).trips) (v133 : BitVec 32) (v137 : BitVec 32) (k0_hw17 : k0_chk17 v35 v37 k0_t18 v133 v137), ∀ (k0_h8 : k0_cond8 v35 v37 k0_t18 v133 v137 = 1#1), (k0_t21_loop v35 v37 k0_t18 v133 v137).OK := fun v35 v37 k0_t18 v133 v137 k0_hw17 k0_h8 => k0_hw17.2.1 k0_h8
theorem k0_t22_ok : ∀ (v35 : BitVec 32) (v37 : BitVec 32) (k0_t18 : Fin (k0_t18_loop v35 v37).trips) (v133 : BitVec 32) (v137 : BitVec 32) (k0_hw17 : k0_chk17 v35 v37 k0_t18 v133 v137), ∀ (k0_h8 : k0_cond8 v35 v37 k0_t18 v133 v137 = 1#1), (k0_t22_loop v35 v37 k0_t18 v133 v137).OK := fun v35 v37 k0_t18 v133 v137 k0_hw17 k0_h8 => k0_hw17.2.2.1 k0_h8
theorem k0_t23_ok : ∀ (v35 : BitVec 32) (v37 : BitVec 32) (k0_t18 : Fin (k0_t18_loop v35 v37).trips) (v133 : BitVec 32) (v137 : BitVec 32) (k0_hw17 : k0_chk17 v35 v37 k0_t18 v133 v137), ∀ (k0_h8 : k0_cond8 v35 v37 k0_t18 v133 v137 = 1#1), (k0_t23_loop v35 v37 k0_t18 v133 v137).OK := fun v35 v37 k0_t18 v133 v137 k0_hw17 k0_h8 => k0_hw17.2.2.2 k0_h8

def k0_off115 (arg17 : BitVec 32) : Fin 2 → Nat :=
  let v658 : Index := Scalar.indexCast arg17
  let c128 : Index := 128#32
  ![v658.toNat, 128]

def k0_off116 (arg17 : BitVec 32) : Fin 2 → Nat :=
  let v661 : Index := Scalar.indexCast arg17
  let c144 : Index := 144#32
  ![v661.toNat, 144]
def k0_off117 (arg17 : BitVec 32) : Fin 2 → Nat :=
  let v664 : Index := Scalar.indexCast arg17
  let c160 : Index := 160#32
  ![v664.toNat, 160]
def k0_off118 (arg17 : BitVec 32) : Fin 2 → Nat :=
  let v667 : Index := Scalar.indexCast arg17
  let c176 : Index := 176#32
  ![v667.toNat, 176]
def k0_off119 (arg17 : BitVec 32) : Fin 2 → Nat :=
  let v670 : Index := Scalar.indexCast arg17
  let c192 : Index := 192#32
  ![v670.toNat, 192]
def k0_off120 (arg17 : BitVec 32) : Fin 2 → Nat :=
  let v673 : Index := Scalar.indexCast arg17
  let c208 : Index := 208#32
  ![v673.toNat, 208]
def k0_off121 (arg17 : BitVec 32) : Fin 2 → Nat :=
  let v676 : Index := Scalar.indexCast arg17
  let c224 : Index := 224#32
  ![v676.toNat, 224]
def k0_off122 (arg17 : BitVec 32) : Fin 2 → Nat :=
  let v679 : Index := Scalar.indexCast arg17
  let c240 : Index := 240#32
  ![v679.toNat, 240]

def k0_chk21 (v35 : BitVec 32) (v37 : BitVec 32) (k0_t18 : Fin (k0_t18_loop v35 v37).trips) (v133 : BitVec 32) (v137 : BitVec 32) (arg17 : BitVec 32) : Prop :=
  (∀ (k0_h8 : k0_cond8 v35 v37 k0_t18 v133 v137 = 1#1), ∀ a, (k0_off115 arg17) a + S1x16.size a ≤ S144x256.size a) ∧
  (∀ (k0_h8 : k0_cond8 v35 v37 k0_t18 v133 v137 = 1#1), ∀ a, (k0_off116 arg17) a + S1x16.size a ≤ S144x256.size a) ∧
  (∀ (k0_h8 : k0_cond8 v35 v37 k0_t18 v133 v137 = 1#1), ∀ a, (k0_off117 arg17) a + S1x16.size a ≤ S144x256.size a) ∧
  (∀ (k0_h8 : k0_cond8 v35 v37 k0_t18 v133 v137 = 1#1), ∀ a, (k0_off118 arg17) a + S1x16.size a ≤ S144x256.size a) ∧
  (∀ (k0_h8 : k0_cond8 v35 v37 k0_t18 v133 v137 = 1#1), ∀ a, (k0_off119 arg17) a + S1x16.size a ≤ S144x256.size a) ∧
  (∀ (k0_h8 : k0_cond8 v35 v37 k0_t18 v133 v137 = 1#1), ∀ a, (k0_off120 arg17) a + S1x16.size a ≤ S144x256.size a) ∧
  (∀ (k0_h8 : k0_cond8 v35 v37 k0_t18 v133 v137 = 1#1), ∀ a, (k0_off121 arg17) a + S1x16.size a ≤ S144x256.size a) ∧
  (∀ (k0_h8 : k0_cond8 v35 v37 k0_t18 v133 v137 = 1#1), ∀ a, (k0_off122 arg17) a + S1x16.size a ≤ S144x256.size a)
theorem k0_off115_inb : ∀ (v35 : BitVec 32) (v37 : BitVec 32) (k0_t18 : Fin (k0_t18_loop v35 v37).trips) (v133 : BitVec 32) (v137 : BitVec 32) (arg17 : BitVec 32) (k0_hw21 : k0_chk21 v35 v37 k0_t18 v133 v137 arg17), ∀ (k0_h8 : k0_cond8 v35 v37 k0_t18 v133 v137 = 1#1), ∀ a, (k0_off115 arg17) a + S1x16.size a ≤ S144x256.size a := fun v35 v37 k0_t18 v133 v137 arg17 k0_hw21 k0_h8 => k0_hw21.1 k0_h8
theorem k0_off116_inb : ∀ (v35 : BitVec 32) (v37 : BitVec 32) (k0_t18 : Fin (k0_t18_loop v35 v37).trips) (v133 : BitVec 32) (v137 : BitVec 32) (arg17 : BitVec 32) (k0_hw21 : k0_chk21 v35 v37 k0_t18 v133 v137 arg17), ∀ (k0_h8 : k0_cond8 v35 v37 k0_t18 v133 v137 = 1#1), ∀ a, (k0_off116 arg17) a + S1x16.size a ≤ S144x256.size a := fun v35 v37 k0_t18 v133 v137 arg17 k0_hw21 k0_h8 => k0_hw21.2.1 k0_h8
theorem k0_off117_inb : ∀ (v35 : BitVec 32) (v37 : BitVec 32) (k0_t18 : Fin (k0_t18_loop v35 v37).trips) (v133 : BitVec 32) (v137 : BitVec 32) (arg17 : BitVec 32) (k0_hw21 : k0_chk21 v35 v37 k0_t18 v133 v137 arg17), ∀ (k0_h8 : k0_cond8 v35 v37 k0_t18 v133 v137 = 1#1), ∀ a, (k0_off117 arg17) a + S1x16.size a ≤ S144x256.size a := fun v35 v37 k0_t18 v133 v137 arg17 k0_hw21 k0_h8 => k0_hw21.2.2.1 k0_h8
theorem k0_off118_inb : ∀ (v35 : BitVec 32) (v37 : BitVec 32) (k0_t18 : Fin (k0_t18_loop v35 v37).trips) (v133 : BitVec 32) (v137 : BitVec 32) (arg17 : BitVec 32) (k0_hw21 : k0_chk21 v35 v37 k0_t18 v133 v137 arg17), ∀ (k0_h8 : k0_cond8 v35 v37 k0_t18 v133 v137 = 1#1), ∀ a, (k0_off118 arg17) a + S1x16.size a ≤ S144x256.size a := fun v35 v37 k0_t18 v133 v137 arg17 k0_hw21 k0_h8 => k0_hw21.2.2.2.1 k0_h8
theorem k0_off119_inb : ∀ (v35 : BitVec 32) (v37 : BitVec 32) (k0_t18 : Fin (k0_t18_loop v35 v37).trips) (v133 : BitVec 32) (v137 : BitVec 32) (arg17 : BitVec 32) (k0_hw21 : k0_chk21 v35 v37 k0_t18 v133 v137 arg17), ∀ (k0_h8 : k0_cond8 v35 v37 k0_t18 v133 v137 = 1#1), ∀ a, (k0_off119 arg17) a + S1x16.size a ≤ S144x256.size a := fun v35 v37 k0_t18 v133 v137 arg17 k0_hw21 k0_h8 => k0_hw21.2.2.2.2.1 k0_h8
theorem k0_off120_inb : ∀ (v35 : BitVec 32) (v37 : BitVec 32) (k0_t18 : Fin (k0_t18_loop v35 v37).trips) (v133 : BitVec 32) (v137 : BitVec 32) (arg17 : BitVec 32) (k0_hw21 : k0_chk21 v35 v37 k0_t18 v133 v137 arg17), ∀ (k0_h8 : k0_cond8 v35 v37 k0_t18 v133 v137 = 1#1), ∀ a, (k0_off120 arg17) a + S1x16.size a ≤ S144x256.size a := fun v35 v37 k0_t18 v133 v137 arg17 k0_hw21 k0_h8 => k0_hw21.2.2.2.2.2.1 k0_h8
theorem k0_off121_inb : ∀ (v35 : BitVec 32) (v37 : BitVec 32) (k0_t18 : Fin (k0_t18_loop v35 v37).trips) (v133 : BitVec 32) (v137 : BitVec 32) (arg17 : BitVec 32) (k0_hw21 : k0_chk21 v35 v37 k0_t18 v133 v137 arg17), ∀ (k0_h8 : k0_cond8 v35 v37 k0_t18 v133 v137 = 1#1), ∀ a, (k0_off121 arg17) a + S1x16.size a ≤ S144x256.size a := fun v35 v37 k0_t18 v133 v137 arg17 k0_hw21 k0_h8 => k0_hw21.2.2.2.2.2.2.1 k0_h8
theorem k0_off122_inb : ∀ (v35 : BitVec 32) (v37 : BitVec 32) (k0_t18 : Fin (k0_t18_loop v35 v37).trips) (v133 : BitVec 32) (v137 : BitVec 32) (arg17 : BitVec 32) (k0_hw21 : k0_chk21 v35 v37 k0_t18 v133 v137 arg17), ∀ (k0_h8 : k0_cond8 v35 v37 k0_t18 v133 v137 = 1#1), ∀ a, (k0_off122 arg17) a + S1x16.size a ≤ S144x256.size a := fun v35 v37 k0_t18 v133 v137 arg17 k0_hw21 k0_h8 => k0_hw21.2.2.2.2.2.2.2 k0_h8

def k0_mult11 (v35 : BitVec 32) (v37 : BitVec 32) (k0_t18 : Fin (k0_t18_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c2_i32_95 : BitVec 32 := 2#32
  let v132 : BitVec 32 := Scalar.addi v106 c2_i32_95
  let c144_i32_96 : BitVec 32 := 144#32
  let v133 : BitVec 32 := Scalar.muli v132 c144_i32_96
  let v134 : BitVec 32 := Scalar.addi v55 v133
  let c49856_i32_97 : BitVec 32 := 49856#32
  let v135 : BitVec 32 := Scalar.minsi v134 c49856_i32_97
  v135
def k0_cond9 (v35 : BitVec 32) (v37 : BitVec 32) (k0_t18 : Fin (k0_t18_loop v35 v37).trips) : BitVec 1 :=
  let c2_i32_77 : BitVec 32 := 2#32
  let c0_i32_67 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c2_i32_91 : BitVec 32 := 2#32
  let v125 : BitVec 32 := Scalar.addi v106 c2_i32_91
  let v126 : BitVec 1 := Scalar.cmpi .slt v125 v75
  let v127 : BitVec 32 := Scalar.extui v126
  let c0_i32_92 : BitVec 32 := 0#32
  let v128 : BitVec 1 := Scalar.cmpi .ne v127 c0_i32_92
  v128

def k0_off123 (v35 : BitVec 32) (v37 : BitVec 32) (k0_t18 : Fin (k0_t18_loop v35 v37).trips) : Fin 2 → Nat :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c2_i32_95 : BitVec 32 := 2#32
  let v132 : BitVec 32 := Scalar.addi v106 c2_i32_95
  let c144_i32_96 : BitVec 32 := 144#32
  let v133 : BitVec 32 := Scalar.muli v132 c144_i32_96
  let v134 : BitVec 32 := Scalar.addi v55 v133
  let c49856_i32_97 : BitVec 32 := 49856#32
  let v135 : BitVec 32 := Scalar.minsi v134 c49856_i32_97
  let v136 : BitVec 32 := v135
  let c0_i32_98 : BitVec 32 := 0#32
  ![v136.toNat, 0]
def k0_mult12 (v35 : BitVec 32) (v37 : BitVec 32) (k0_t18 : Fin (k0_t18_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let c144_i32_95 : BitVec 32 := 144#32
  let v132 : BitVec 32 := Scalar.muli v107 c144_i32_95
  let v133 : BitVec 32 := Scalar.addi v55 v132
  let c49856_i32_96 : BitVec 32 := 49856#32
  let v134 : BitVec 32 := Scalar.minsi v133 c49856_i32_96
  v134
def k0_cond10 (v35 : BitVec 32) (v37 : BitVec 32) (k0_t18 : Fin (k0_t18_loop v35 v37).trips) : BitVec 1 :=
  let c2_i32_77 : BitVec 32 := 2#32
  let c0_i32_67 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let v129 : BitVec 1 := Scalar.cmpi .slt v107 v75
  let v130 : BitVec 32 := Scalar.extui v129
  let c0_i32_93 : BitVec 32 := 0#32
  let v131 : BitVec 1 := Scalar.cmpi .ne v130 c0_i32_93
  v131

def k0_off124 (v35 : BitVec 32) (v37 : BitVec 32) (k0_t18 : Fin (k0_t18_loop v35 v37).trips) : Fin 2 → Nat :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let c144_i32_95 : BitVec 32 := 144#32
  let v132 : BitVec 32 := Scalar.muli v107 c144_i32_95
  let v133 : BitVec 32 := Scalar.addi v55 v132
  let c49856_i32_96 : BitVec 32 := 49856#32
  let v134 : BitVec 32 := Scalar.minsi v133 c49856_i32_96
  let v135 : BitVec 32 := v134
  let c0_i32_97 : BitVec 32 := 0#32
  ![v135.toNat, 0]
def k0_mult13 (v35 : BitVec 32) (v37 : BitVec 32) (k0_t18 : Fin (k0_t18_loop v35 v37).trips) : BitVec 32 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let c144_i32_100 : BitVec 32 := 144#32
  let v140 : BitVec 32 := Scalar.muli v107 c144_i32_100
  let v141 : BitVec 32 := Scalar.addi v55 v140
  let c49856_i32_101 : BitVec 32 := 49856#32
  let v142 : BitVec 32 := Scalar.minsi v141 c49856_i32_101
  v142

def k0_chk6 (v35 : BitVec 32) (v37 : BitVec 32) : Prop :=
  (∀ (k0_h1 : k0_cond1 v35 v37 = 1#1), 8 ∣ (k0_mult1 v35).toNat) ∧
  (∀ (k0_h1 : k0_cond1 v35 v37 = 1#1), ∀ a, (k0_off8 v35) a + S144x256.size a ≤ S50000x256.size a) ∧
  ((k0_t7_loop v35 v37).OK) ∧
  (∀ k0_t7 : Fin (k0_t7_loop v35 v37).trips, ∀ (k0_h2 : k0_cond2 v35 v37 k0_t7 = 1#1), 8 ∣ (k0_mult2 v35 v37 k0_t7).toNat) ∧
  (∀ k0_t7 : Fin (k0_t7_loop v35 v37).trips, ∀ (k0_h2 : k0_cond2 v35 v37 k0_t7 = 1#1), ∀ a, (k0_off9 v35 v37 k0_t7) a + S144x256.size a ≤ S50000x256.size a) ∧
  (∀ k0_t7 : Fin (k0_t7_loop v35 v37).trips, 8 ∣ (k0_mult3 v35 v37 k0_t7).toNat) ∧
  (∀ k0_t7 : Fin (k0_t7_loop v35 v37).trips, ∀ a, (k0_off10 v35 v37 k0_t7) a + S144x256.size a ≤ S50000x256.size a) ∧
  (∀ k0_t7 : Fin (k0_t7_loop v35 v37).trips, 8 ∣ (k0_mult4 v35 v37 k0_t7).toNat) ∧
  (∀ k0_t7 : Fin (k0_t7_loop v35 v37).trips, ∀ (k0_h4 : k0_cond4 v35 v37 k0_t7 = 1#1), 8 ∣ (k0_mult5 v35 v37 k0_t7).toNat) ∧
  (∀ k0_t7 : Fin (k0_t7_loop v35 v37).trips, ∀ (k0_h4 : k0_cond4 v35 v37 k0_t7 = 1#1), ∀ a, (k0_off47 v35 v37 k0_t7) a + S144x256.size a ≤ S50000x256.size a) ∧
  (∀ k0_t7 : Fin (k0_t7_loop v35 v37).trips, ∀ (k0_h5 : k0_cond5 v35 v37 k0_t7 = 1#1), 8 ∣ (k0_mult6 v35 v37 k0_t7).toNat) ∧
  (∀ k0_t7 : Fin (k0_t7_loop v35 v37).trips, ∀ (k0_h5 : k0_cond5 v35 v37 k0_t7 = 1#1), ∀ a, (k0_off48 v35 v37 k0_t7) a + S144x256.size a ≤ S50000x256.size a) ∧
  (∀ k0_t7 : Fin (k0_t7_loop v35 v37).trips, ∀ (k0_h5 : k0_cond5 v35 v37 k0_t7 = 1#1), 8 ∣ (k0_mult7 v35 v37 k0_t7).toNat) ∧
  ((k0_t18_loop v35 v37).OK) ∧
  (∀ k0_t18 : Fin (k0_t18_loop v35 v37).trips, ∀ (k0_h7 : k0_cond7 v35 v37 k0_t18 = 1#1), 8 ∣ (k0_mult8 v35 v37 k0_t18).toNat) ∧
  (∀ k0_t18 : Fin (k0_t18_loop v35 v37).trips, ∀ (k0_h7 : k0_cond7 v35 v37 k0_t18 = 1#1), ∀ a, (k0_off85 v35 v37 k0_t18) a + S144x256.size a ≤ S50000x256.size a) ∧
  (∀ k0_t18 : Fin (k0_t18_loop v35 v37).trips, 8 ∣ (k0_mult9 v35 v37 k0_t18).toNat) ∧
  (∀ k0_t18 : Fin (k0_t18_loop v35 v37).trips, ∀ a, (k0_off86 v35 v37 k0_t18) a + S144x256.size a ≤ S50000x256.size a) ∧
  (∀ k0_t18 : Fin (k0_t18_loop v35 v37).trips, 8 ∣ (k0_mult10 v35 v37 k0_t18).toNat) ∧
  (∀ k0_t18 : Fin (k0_t18_loop v35 v37).trips, ∀ (k0_h9 : k0_cond9 v35 v37 k0_t18 = 1#1), 8 ∣ (k0_mult11 v35 v37 k0_t18).toNat) ∧
  (∀ k0_t18 : Fin (k0_t18_loop v35 v37).trips, ∀ (k0_h9 : k0_cond9 v35 v37 k0_t18 = 1#1), ∀ a, (k0_off123 v35 v37 k0_t18) a + S144x256.size a ≤ S50000x256.size a) ∧
  (∀ k0_t18 : Fin (k0_t18_loop v35 v37).trips, ∀ (k0_h10 : k0_cond10 v35 v37 k0_t18 = 1#1), 8 ∣ (k0_mult12 v35 v37 k0_t18).toNat) ∧
  (∀ k0_t18 : Fin (k0_t18_loop v35 v37).trips, ∀ (k0_h10 : k0_cond10 v35 v37 k0_t18 = 1#1), ∀ a, (k0_off124 v35 v37 k0_t18) a + S144x256.size a ≤ S50000x256.size a) ∧
  (∀ k0_t18 : Fin (k0_t18_loop v35 v37).trips, ∀ (k0_h10 : k0_cond10 v35 v37 k0_t18 = 1#1), 8 ∣ (k0_mult13 v35 v37 k0_t18).toNat)
theorem k0_mult1_dvd : ∀ (v35 : BitVec 32) (v37 : BitVec 32) (k0_hw6 : k0_chk6 v35 v37), ∀ (k0_h1 : k0_cond1 v35 v37 = 1#1), 8 ∣ (k0_mult1 v35).toNat := fun v35 v37 k0_hw6 k0_h1 => k0_hw6.1 k0_h1
theorem k0_off8_inb : ∀ (v35 : BitVec 32) (v37 : BitVec 32) (k0_hw6 : k0_chk6 v35 v37), ∀ (k0_h1 : k0_cond1 v35 v37 = 1#1), ∀ a, (k0_off8 v35) a + S144x256.size a ≤ S50000x256.size a := fun v35 v37 k0_hw6 k0_h1 => k0_hw6.2.1 k0_h1
theorem k0_t7_ok : ∀ (v35 : BitVec 32) (v37 : BitVec 32) (k0_hw6 : k0_chk6 v35 v37), (k0_t7_loop v35 v37).OK := fun v35 v37 k0_hw6 => k0_hw6.2.2.1
theorem k0_mult2_dvd : ∀ (v35 : BitVec 32) (v37 : BitVec 32) (k0_hw6 : k0_chk6 v35 v37) (k0_t7 : Fin (k0_t7_loop v35 v37).trips), ∀ (k0_h2 : k0_cond2 v35 v37 k0_t7 = 1#1), 8 ∣ (k0_mult2 v35 v37 k0_t7).toNat := fun v35 v37 k0_hw6 k0_t7 k0_h2 => k0_hw6.2.2.2.1 k0_t7 k0_h2
theorem k0_off9_inb : ∀ (v35 : BitVec 32) (v37 : BitVec 32) (k0_hw6 : k0_chk6 v35 v37) (k0_t7 : Fin (k0_t7_loop v35 v37).trips), ∀ (k0_h2 : k0_cond2 v35 v37 k0_t7 = 1#1), ∀ a, (k0_off9 v35 v37 k0_t7) a + S144x256.size a ≤ S50000x256.size a := fun v35 v37 k0_hw6 k0_t7 k0_h2 => k0_hw6.2.2.2.2.1 k0_t7 k0_h2
theorem k0_mult3_dvd : ∀ (v35 : BitVec 32) (v37 : BitVec 32) (k0_hw6 : k0_chk6 v35 v37) (k0_t7 : Fin (k0_t7_loop v35 v37).trips), 8 ∣ (k0_mult3 v35 v37 k0_t7).toNat := fun v35 v37 k0_hw6 k0_t7 => k0_hw6.2.2.2.2.2.1 k0_t7
theorem k0_off10_inb : ∀ (v35 : BitVec 32) (v37 : BitVec 32) (k0_hw6 : k0_chk6 v35 v37) (k0_t7 : Fin (k0_t7_loop v35 v37).trips), ∀ a, (k0_off10 v35 v37 k0_t7) a + S144x256.size a ≤ S50000x256.size a := fun v35 v37 k0_hw6 k0_t7 => k0_hw6.2.2.2.2.2.2.1 k0_t7
theorem k0_mult4_dvd : ∀ (v35 : BitVec 32) (v37 : BitVec 32) (k0_hw6 : k0_chk6 v35 v37) (k0_t7 : Fin (k0_t7_loop v35 v37).trips), 8 ∣ (k0_mult4 v35 v37 k0_t7).toNat := fun v35 v37 k0_hw6 k0_t7 => k0_hw6.2.2.2.2.2.2.2.1 k0_t7
theorem k0_mult5_dvd : ∀ (v35 : BitVec 32) (v37 : BitVec 32) (k0_hw6 : k0_chk6 v35 v37) (k0_t7 : Fin (k0_t7_loop v35 v37).trips), ∀ (k0_h4 : k0_cond4 v35 v37 k0_t7 = 1#1), 8 ∣ (k0_mult5 v35 v37 k0_t7).toNat := fun v35 v37 k0_hw6 k0_t7 k0_h4 => k0_hw6.2.2.2.2.2.2.2.2.1 k0_t7 k0_h4
theorem k0_off47_inb : ∀ (v35 : BitVec 32) (v37 : BitVec 32) (k0_hw6 : k0_chk6 v35 v37) (k0_t7 : Fin (k0_t7_loop v35 v37).trips), ∀ (k0_h4 : k0_cond4 v35 v37 k0_t7 = 1#1), ∀ a, (k0_off47 v35 v37 k0_t7) a + S144x256.size a ≤ S50000x256.size a := fun v35 v37 k0_hw6 k0_t7 k0_h4 => k0_hw6.2.2.2.2.2.2.2.2.2.1 k0_t7 k0_h4
theorem k0_mult6_dvd : ∀ (v35 : BitVec 32) (v37 : BitVec 32) (k0_hw6 : k0_chk6 v35 v37) (k0_t7 : Fin (k0_t7_loop v35 v37).trips), ∀ (k0_h5 : k0_cond5 v35 v37 k0_t7 = 1#1), 8 ∣ (k0_mult6 v35 v37 k0_t7).toNat := fun v35 v37 k0_hw6 k0_t7 k0_h5 => k0_hw6.2.2.2.2.2.2.2.2.2.2.1 k0_t7 k0_h5
theorem k0_off48_inb : ∀ (v35 : BitVec 32) (v37 : BitVec 32) (k0_hw6 : k0_chk6 v35 v37) (k0_t7 : Fin (k0_t7_loop v35 v37).trips), ∀ (k0_h5 : k0_cond5 v35 v37 k0_t7 = 1#1), ∀ a, (k0_off48 v35 v37 k0_t7) a + S144x256.size a ≤ S50000x256.size a := fun v35 v37 k0_hw6 k0_t7 k0_h5 => k0_hw6.2.2.2.2.2.2.2.2.2.2.2.1 k0_t7 k0_h5
theorem k0_mult7_dvd : ∀ (v35 : BitVec 32) (v37 : BitVec 32) (k0_hw6 : k0_chk6 v35 v37) (k0_t7 : Fin (k0_t7_loop v35 v37).trips), ∀ (k0_h5 : k0_cond5 v35 v37 k0_t7 = 1#1), 8 ∣ (k0_mult7 v35 v37 k0_t7).toNat := fun v35 v37 k0_hw6 k0_t7 k0_h5 => k0_hw6.2.2.2.2.2.2.2.2.2.2.2.2.1 k0_t7 k0_h5
theorem k0_t18_ok : ∀ (v35 : BitVec 32) (v37 : BitVec 32) (k0_hw6 : k0_chk6 v35 v37), (k0_t18_loop v35 v37).OK := fun v35 v37 k0_hw6 => k0_hw6.2.2.2.2.2.2.2.2.2.2.2.2.2.1
theorem k0_mult8_dvd : ∀ (v35 : BitVec 32) (v37 : BitVec 32) (k0_hw6 : k0_chk6 v35 v37) (k0_t18 : Fin (k0_t18_loop v35 v37).trips), ∀ (k0_h7 : k0_cond7 v35 v37 k0_t18 = 1#1), 8 ∣ (k0_mult8 v35 v37 k0_t18).toNat := fun v35 v37 k0_hw6 k0_t18 k0_h7 => k0_hw6.2.2.2.2.2.2.2.2.2.2.2.2.2.2.1 k0_t18 k0_h7
theorem k0_off85_inb : ∀ (v35 : BitVec 32) (v37 : BitVec 32) (k0_hw6 : k0_chk6 v35 v37) (k0_t18 : Fin (k0_t18_loop v35 v37).trips), ∀ (k0_h7 : k0_cond7 v35 v37 k0_t18 = 1#1), ∀ a, (k0_off85 v35 v37 k0_t18) a + S144x256.size a ≤ S50000x256.size a := fun v35 v37 k0_hw6 k0_t18 k0_h7 => k0_hw6.2.2.2.2.2.2.2.2.2.2.2.2.2.2.2.1 k0_t18 k0_h7
theorem k0_mult9_dvd : ∀ (v35 : BitVec 32) (v37 : BitVec 32) (k0_hw6 : k0_chk6 v35 v37) (k0_t18 : Fin (k0_t18_loop v35 v37).trips), 8 ∣ (k0_mult9 v35 v37 k0_t18).toNat := fun v35 v37 k0_hw6 k0_t18 => k0_hw6.2.2.2.2.2.2.2.2.2.2.2.2.2.2.2.2.1 k0_t18
theorem k0_off86_inb : ∀ (v35 : BitVec 32) (v37 : BitVec 32) (k0_hw6 : k0_chk6 v35 v37) (k0_t18 : Fin (k0_t18_loop v35 v37).trips), ∀ a, (k0_off86 v35 v37 k0_t18) a + S144x256.size a ≤ S50000x256.size a := fun v35 v37 k0_hw6 k0_t18 => k0_hw6.2.2.2.2.2.2.2.2.2.2.2.2.2.2.2.2.2.1 k0_t18
theorem k0_mult10_dvd : ∀ (v35 : BitVec 32) (v37 : BitVec 32) (k0_hw6 : k0_chk6 v35 v37) (k0_t18 : Fin (k0_t18_loop v35 v37).trips), 8 ∣ (k0_mult10 v35 v37 k0_t18).toNat := fun v35 v37 k0_hw6 k0_t18 => k0_hw6.2.2.2.2.2.2.2.2.2.2.2.2.2.2.2.2.2.2.1 k0_t18
theorem k0_mult11_dvd : ∀ (v35 : BitVec 32) (v37 : BitVec 32) (k0_hw6 : k0_chk6 v35 v37) (k0_t18 : Fin (k0_t18_loop v35 v37).trips), ∀ (k0_h9 : k0_cond9 v35 v37 k0_t18 = 1#1), 8 ∣ (k0_mult11 v35 v37 k0_t18).toNat := fun v35 v37 k0_hw6 k0_t18 k0_h9 => k0_hw6.2.2.2.2.2.2.2.2.2.2.2.2.2.2.2.2.2.2.2.1 k0_t18 k0_h9
theorem k0_off123_inb : ∀ (v35 : BitVec 32) (v37 : BitVec 32) (k0_hw6 : k0_chk6 v35 v37) (k0_t18 : Fin (k0_t18_loop v35 v37).trips), ∀ (k0_h9 : k0_cond9 v35 v37 k0_t18 = 1#1), ∀ a, (k0_off123 v35 v37 k0_t18) a + S144x256.size a ≤ S50000x256.size a := fun v35 v37 k0_hw6 k0_t18 k0_h9 => k0_hw6.2.2.2.2.2.2.2.2.2.2.2.2.2.2.2.2.2.2.2.2.1 k0_t18 k0_h9
theorem k0_mult12_dvd : ∀ (v35 : BitVec 32) (v37 : BitVec 32) (k0_hw6 : k0_chk6 v35 v37) (k0_t18 : Fin (k0_t18_loop v35 v37).trips), ∀ (k0_h10 : k0_cond10 v35 v37 k0_t18 = 1#1), 8 ∣ (k0_mult12 v35 v37 k0_t18).toNat := fun v35 v37 k0_hw6 k0_t18 k0_h10 => k0_hw6.2.2.2.2.2.2.2.2.2.2.2.2.2.2.2.2.2.2.2.2.2.1 k0_t18 k0_h10
theorem k0_off124_inb : ∀ (v35 : BitVec 32) (v37 : BitVec 32) (k0_hw6 : k0_chk6 v35 v37) (k0_t18 : Fin (k0_t18_loop v35 v37).trips), ∀ (k0_h10 : k0_cond10 v35 v37 k0_t18 = 1#1), ∀ a, (k0_off124 v35 v37 k0_t18) a + S144x256.size a ≤ S50000x256.size a := fun v35 v37 k0_hw6 k0_t18 k0_h10 => k0_hw6.2.2.2.2.2.2.2.2.2.2.2.2.2.2.2.2.2.2.2.2.2.2.1 k0_t18 k0_h10
theorem k0_mult13_dvd : ∀ (v35 : BitVec 32) (v37 : BitVec 32) (k0_hw6 : k0_chk6 v35 v37) (k0_t18 : Fin (k0_t18_loop v35 v37).trips), ∀ (k0_h10 : k0_cond10 v35 v37 k0_t18 = 1#1), 8 ∣ (k0_mult13 v35 v37 k0_t18).toNat := fun v35 v37 k0_hw6 k0_t18 k0_h10 => k0_hw6.2.2.2.2.2.2.2.2.2.2.2.2.2.2.2.2.2.2.2.2.2.2.2 k0_t18 k0_h10

@[reducible] def k0_t24_loop : Scf.Loop 32 :=
  let c0_i32_103 : BitVec 32 := 0#32
  let c4_i32_104 : BitVec 32 := 4#32
  let v144 : BitVec 32 := Scalar.addi c0_i32_103 c4_i32_104
  let c1_i32_105 : BitVec 32 := 1#32
  ⟨c0_i32_103, v144, c1_i32_105⟩
def k0_off125 (k0_t24 : Fin k0_t24_loop.trips) : Fin 1 → Nat :=
  let c0_i32_103 : BitVec 32 := 0#32
  let c1_i32_105 : BitVec 32 := 1#32
  let arg14 : BitVec 32 := Scf.iv c0_i32_103 c1_i32_105 k0_t24
  let v146 : Index := Scalar.indexCast arg14
  ![v146.toNat]
def k0_off126 (k0_t24 : Fin k0_t24_loop.trips) : Fin 1 → Nat :=
  let c0_i32_103 : BitVec 32 := 0#32
  let c1_i32_105 : BitVec 32 := 1#32
  let arg14 : BitVec 32 := Scf.iv c0_i32_103 c1_i32_105 k0_t24
  let c1_i32_107 : BitVec 32 := 1#32
  let v149 : BitVec 32 := Scalar.addi arg14 c1_i32_107
  let v150 : Index := Scalar.indexCast v149
  ![v150.toNat]
def k0_off127 (k0_t24 : Fin k0_t24_loop.trips) (c0_i32_113 : BitVec 32) : Fin 1 → Nat :=
  let c0_i32_103 : BitVec 32 := 0#32
  let c1_i32_105 : BitVec 32 := 1#32
  let arg14 : BitVec 32 := Scf.iv c0_i32_103 c1_i32_105 k0_t24
  let c3_i32_111 : BitVec 32 := 3#32
  let v157 : BitVec 32 := Scalar.muli arg14 c3_i32_111
  let c256_i32 : BitVec 32 := 256#32
  let v158 : BitVec 32 := Scalar.muli v157 c256_i32
  let v162 : BitVec 32 := Scalar.addi v158 c0_i32_113
  let v163 : Index := Scalar.indexCast v162
  ![v163.toNat]
def k0_off128 (k0_t24 : Fin k0_t24_loop.trips) (c256_i32_115 : BitVec 32) (c0_i32_116 : BitVec 32) : Fin 1 → Nat :=
  let c0_i32_103 : BitVec 32 := 0#32
  let c1_i32_105 : BitVec 32 := 1#32
  let arg14 : BitVec 32 := Scf.iv c0_i32_103 c1_i32_105 k0_t24
  let c3_i32_111 : BitVec 32 := 3#32
  let v157 : BitVec 32 := Scalar.muli arg14 c3_i32_111
  let c256_i32 : BitVec 32 := 256#32
  let v158 : BitVec 32 := Scalar.muli v157 c256_i32
  let v194 : BitVec 32 := Scalar.addi v158 c256_i32_115
  let v195 : BitVec 32 := Scalar.addi v194 c0_i32_116
  let v196 : Index := Scalar.indexCast v195
  ![v196.toNat]
@[reducible] def k0_t25_loop (v35 : BitVec 32) (v37 : BitVec 32) (k0_t18 : Fin (k0_t18_loop v35 v37).trips) (v147 : BitVec 32) (v151 : BitVec 32) : Scf.Loop 32 :=
  let c0_i32_146 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let c144_i32_99 : BitVec 32 := 144#32
  let v138 : BitVec 32 := Scalar.muli v107 c144_i32_99
  let v139 : BitVec 32 := Scalar.addi v55 v138
  let c144_i32_108 : BitVec 32 := 144#32
  let v152 : BitVec 32 := Scalar.addi v139 c144_i32_108
  let v153 : BitVec 32 := Scalar.minsi v151 v152
  let v148 : BitVec 32 := Scalar.maxsi v147 v139
  let v160 : BitVec 32 := Scalar.subi v153 v148
  let c0_i32_112 : BitVec 32 := 0#32
  let v161 : BitVec 32 := Scalar.maxsi v160 c0_i32_112
  let v274 : BitVec 32 := Scalar.subi v161 c0_i32_146
  let c1_i32_147 : BitVec 32 := 1#32
  let v276 : BitVec 32 := Scalar.divsi v274 c1_i32_147
  let v277 : BitVec 32 := Scalar.muli v276 c1_i32_147
  let v278 : BitVec 32 := Scalar.addi c0_i32_146 v277
  let c1_i32_148 : BitVec 32 := 1#32
  ⟨c0_i32_146, v278, c1_i32_148⟩
def k0_cond11 (v35 : BitVec 32) (v37 : BitVec 32) (k0_t18 : Fin (k0_t18_loop v35 v37).trips) (v147 : BitVec 32) (v151 : BitVec 32) : BitVec 1 :=
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let c144_i32_99 : BitVec 32 := 144#32
  let v138 : BitVec 32 := Scalar.muli v107 c144_i32_99
  let v139 : BitVec 32 := Scalar.addi v55 v138
  let c144_i32_108 : BitVec 32 := 144#32
  let v152 : BitVec 32 := Scalar.addi v139 c144_i32_108
  let v153 : BitVec 32 := Scalar.minsi v151 v152
  let v148 : BitVec 32 := Scalar.maxsi v147 v139
  let v154 : BitVec 1 := Scalar.cmpi .sgt v153 v148
  let v155 : BitVec 32 := Scalar.extui v154
  let c0_i32_109 : BitVec 32 := 0#32
  let v156 : BitVec 1 := Scalar.cmpi .ne v155 c0_i32_109
  v156

def k0_off129 (arg17 : BitVec 32) : Fin 2 → Nat :=
  let v672 : Index := Scalar.indexCast arg17
  let c0 : Index := 0#32
  ![v672.toNat, 0]

def k0_off130 (arg17 : BitVec 32) : Fin 2 → Nat :=
  let v675 : Index := Scalar.indexCast arg17
  let c16 : Index := 16#32
  ![v675.toNat, 16]
def k0_off131 (arg17 : BitVec 32) : Fin 2 → Nat :=
  let v678 : Index := Scalar.indexCast arg17
  let c32 : Index := 32#32
  ![v678.toNat, 32]
def k0_off132 (arg17 : BitVec 32) : Fin 2 → Nat :=
  let v681 : Index := Scalar.indexCast arg17
  let c48 : Index := 48#32
  ![v681.toNat, 48]
def k0_off133 (arg17 : BitVec 32) : Fin 2 → Nat :=
  let v684 : Index := Scalar.indexCast arg17
  let c64 : Index := 64#32
  ![v684.toNat, 64]
def k0_off134 (arg17 : BitVec 32) : Fin 2 → Nat :=
  let v687 : Index := Scalar.indexCast arg17
  let c80 : Index := 80#32
  ![v687.toNat, 80]
def k0_off135 (arg17 : BitVec 32) : Fin 2 → Nat :=
  let v690 : Index := Scalar.indexCast arg17
  let c96 : Index := 96#32
  ![v690.toNat, 96]
def k0_off136 (arg17 : BitVec 32) : Fin 2 → Nat :=
  let v693 : Index := Scalar.indexCast arg17
  let c112 : Index := 112#32
  ![v693.toNat, 112]

def k0_chk23 (v35 : BitVec 32) (v37 : BitVec 32) (k0_t18 : Fin (k0_t18_loop v35 v37).trips) (v147 : BitVec 32) (v151 : BitVec 32) (arg17 : BitVec 32) : Prop :=
  (∀ (k0_h10 : k0_cond10 v35 v37 k0_t18 = 1#1), ∀ (k0_h11 : k0_cond11 v35 v37 k0_t18 v147 v151 = 1#1), ∀ a, (k0_off129 arg17) a + S1x16.size a ≤ S144x256.size a) ∧
  (∀ (k0_h10 : k0_cond10 v35 v37 k0_t18 = 1#1), ∀ (k0_h11 : k0_cond11 v35 v37 k0_t18 v147 v151 = 1#1), ∀ a, (k0_off130 arg17) a + S1x16.size a ≤ S144x256.size a) ∧
  (∀ (k0_h10 : k0_cond10 v35 v37 k0_t18 = 1#1), ∀ (k0_h11 : k0_cond11 v35 v37 k0_t18 v147 v151 = 1#1), ∀ a, (k0_off131 arg17) a + S1x16.size a ≤ S144x256.size a) ∧
  (∀ (k0_h10 : k0_cond10 v35 v37 k0_t18 = 1#1), ∀ (k0_h11 : k0_cond11 v35 v37 k0_t18 v147 v151 = 1#1), ∀ a, (k0_off132 arg17) a + S1x16.size a ≤ S144x256.size a) ∧
  (∀ (k0_h10 : k0_cond10 v35 v37 k0_t18 = 1#1), ∀ (k0_h11 : k0_cond11 v35 v37 k0_t18 v147 v151 = 1#1), ∀ a, (k0_off133 arg17) a + S1x16.size a ≤ S144x256.size a) ∧
  (∀ (k0_h10 : k0_cond10 v35 v37 k0_t18 = 1#1), ∀ (k0_h11 : k0_cond11 v35 v37 k0_t18 v147 v151 = 1#1), ∀ a, (k0_off134 arg17) a + S1x16.size a ≤ S144x256.size a) ∧
  (∀ (k0_h10 : k0_cond10 v35 v37 k0_t18 = 1#1), ∀ (k0_h11 : k0_cond11 v35 v37 k0_t18 v147 v151 = 1#1), ∀ a, (k0_off135 arg17) a + S1x16.size a ≤ S144x256.size a) ∧
  (∀ (k0_h10 : k0_cond10 v35 v37 k0_t18 = 1#1), ∀ (k0_h11 : k0_cond11 v35 v37 k0_t18 v147 v151 = 1#1), ∀ a, (k0_off136 arg17) a + S1x16.size a ≤ S144x256.size a)
theorem k0_off129_inb : ∀ (v35 : BitVec 32) (v37 : BitVec 32) (k0_t18 : Fin (k0_t18_loop v35 v37).trips) (v147 : BitVec 32) (v151 : BitVec 32) (arg17 : BitVec 32) (k0_hw23 : k0_chk23 v35 v37 k0_t18 v147 v151 arg17), ∀ (k0_h10 : k0_cond10 v35 v37 k0_t18 = 1#1), ∀ (k0_h11 : k0_cond11 v35 v37 k0_t18 v147 v151 = 1#1), ∀ a, (k0_off129 arg17) a + S1x16.size a ≤ S144x256.size a := fun v35 v37 k0_t18 v147 v151 arg17 k0_hw23 k0_h10 k0_h11 => k0_hw23.1 k0_h10 k0_h11
theorem k0_off130_inb : ∀ (v35 : BitVec 32) (v37 : BitVec 32) (k0_t18 : Fin (k0_t18_loop v35 v37).trips) (v147 : BitVec 32) (v151 : BitVec 32) (arg17 : BitVec 32) (k0_hw23 : k0_chk23 v35 v37 k0_t18 v147 v151 arg17), ∀ (k0_h10 : k0_cond10 v35 v37 k0_t18 = 1#1), ∀ (k0_h11 : k0_cond11 v35 v37 k0_t18 v147 v151 = 1#1), ∀ a, (k0_off130 arg17) a + S1x16.size a ≤ S144x256.size a := fun v35 v37 k0_t18 v147 v151 arg17 k0_hw23 k0_h10 k0_h11 => k0_hw23.2.1 k0_h10 k0_h11
theorem k0_off131_inb : ∀ (v35 : BitVec 32) (v37 : BitVec 32) (k0_t18 : Fin (k0_t18_loop v35 v37).trips) (v147 : BitVec 32) (v151 : BitVec 32) (arg17 : BitVec 32) (k0_hw23 : k0_chk23 v35 v37 k0_t18 v147 v151 arg17), ∀ (k0_h10 : k0_cond10 v35 v37 k0_t18 = 1#1), ∀ (k0_h11 : k0_cond11 v35 v37 k0_t18 v147 v151 = 1#1), ∀ a, (k0_off131 arg17) a + S1x16.size a ≤ S144x256.size a := fun v35 v37 k0_t18 v147 v151 arg17 k0_hw23 k0_h10 k0_h11 => k0_hw23.2.2.1 k0_h10 k0_h11
theorem k0_off132_inb : ∀ (v35 : BitVec 32) (v37 : BitVec 32) (k0_t18 : Fin (k0_t18_loop v35 v37).trips) (v147 : BitVec 32) (v151 : BitVec 32) (arg17 : BitVec 32) (k0_hw23 : k0_chk23 v35 v37 k0_t18 v147 v151 arg17), ∀ (k0_h10 : k0_cond10 v35 v37 k0_t18 = 1#1), ∀ (k0_h11 : k0_cond11 v35 v37 k0_t18 v147 v151 = 1#1), ∀ a, (k0_off132 arg17) a + S1x16.size a ≤ S144x256.size a := fun v35 v37 k0_t18 v147 v151 arg17 k0_hw23 k0_h10 k0_h11 => k0_hw23.2.2.2.1 k0_h10 k0_h11
theorem k0_off133_inb : ∀ (v35 : BitVec 32) (v37 : BitVec 32) (k0_t18 : Fin (k0_t18_loop v35 v37).trips) (v147 : BitVec 32) (v151 : BitVec 32) (arg17 : BitVec 32) (k0_hw23 : k0_chk23 v35 v37 k0_t18 v147 v151 arg17), ∀ (k0_h10 : k0_cond10 v35 v37 k0_t18 = 1#1), ∀ (k0_h11 : k0_cond11 v35 v37 k0_t18 v147 v151 = 1#1), ∀ a, (k0_off133 arg17) a + S1x16.size a ≤ S144x256.size a := fun v35 v37 k0_t18 v147 v151 arg17 k0_hw23 k0_h10 k0_h11 => k0_hw23.2.2.2.2.1 k0_h10 k0_h11
theorem k0_off134_inb : ∀ (v35 : BitVec 32) (v37 : BitVec 32) (k0_t18 : Fin (k0_t18_loop v35 v37).trips) (v147 : BitVec 32) (v151 : BitVec 32) (arg17 : BitVec 32) (k0_hw23 : k0_chk23 v35 v37 k0_t18 v147 v151 arg17), ∀ (k0_h10 : k0_cond10 v35 v37 k0_t18 = 1#1), ∀ (k0_h11 : k0_cond11 v35 v37 k0_t18 v147 v151 = 1#1), ∀ a, (k0_off134 arg17) a + S1x16.size a ≤ S144x256.size a := fun v35 v37 k0_t18 v147 v151 arg17 k0_hw23 k0_h10 k0_h11 => k0_hw23.2.2.2.2.2.1 k0_h10 k0_h11
theorem k0_off135_inb : ∀ (v35 : BitVec 32) (v37 : BitVec 32) (k0_t18 : Fin (k0_t18_loop v35 v37).trips) (v147 : BitVec 32) (v151 : BitVec 32) (arg17 : BitVec 32) (k0_hw23 : k0_chk23 v35 v37 k0_t18 v147 v151 arg17), ∀ (k0_h10 : k0_cond10 v35 v37 k0_t18 = 1#1), ∀ (k0_h11 : k0_cond11 v35 v37 k0_t18 v147 v151 = 1#1), ∀ a, (k0_off135 arg17) a + S1x16.size a ≤ S144x256.size a := fun v35 v37 k0_t18 v147 v151 arg17 k0_hw23 k0_h10 k0_h11 => k0_hw23.2.2.2.2.2.2.1 k0_h10 k0_h11
theorem k0_off136_inb : ∀ (v35 : BitVec 32) (v37 : BitVec 32) (k0_t18 : Fin (k0_t18_loop v35 v37).trips) (v147 : BitVec 32) (v151 : BitVec 32) (arg17 : BitVec 32) (k0_hw23 : k0_chk23 v35 v37 k0_t18 v147 v151 arg17), ∀ (k0_h10 : k0_cond10 v35 v37 k0_t18 = 1#1), ∀ (k0_h11 : k0_cond11 v35 v37 k0_t18 v147 v151 = 1#1), ∀ a, (k0_off136 arg17) a + S1x16.size a ≤ S144x256.size a := fun v35 v37 k0_t18 v147 v151 arg17 k0_hw23 k0_h10 k0_h11 => k0_hw23.2.2.2.2.2.2.2 k0_h10 k0_h11

@[reducible] def k0_t26_loop (v35 : BitVec 32) (v37 : BitVec 32) (k0_t18 : Fin (k0_t18_loop v35 v37).trips) (v147 : BitVec 32) (v151 : BitVec 32) : Scf.Loop 32 :=
  let c0_i32_146 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let c144_i32_99 : BitVec 32 := 144#32
  let v138 : BitVec 32 := Scalar.muli v107 c144_i32_99
  let v139 : BitVec 32 := Scalar.addi v55 v138
  let c144_i32_108 : BitVec 32 := 144#32
  let v152 : BitVec 32 := Scalar.addi v139 c144_i32_108
  let v153 : BitVec 32 := Scalar.minsi v151 v152
  let v148 : BitVec 32 := Scalar.maxsi v147 v139
  let v160 : BitVec 32 := Scalar.subi v153 v148
  let c0_i32_112 : BitVec 32 := 0#32
  let v161 : BitVec 32 := Scalar.maxsi v160 c0_i32_112
  let v274 : BitVec 32 := Scalar.subi v161 c0_i32_146
  let c1_i32_147 : BitVec 32 := 1#32
  let v276 : BitVec 32 := Scalar.divsi v274 c1_i32_147
  let v277 : BitVec 32 := Scalar.muli v276 c1_i32_147
  let v278 : BitVec 32 := Scalar.addi c0_i32_146 v277
  let v275 : BitVec 32 := Scalar.addi c0_i32_146 v274
  let c1_i32_149 : BitVec 32 := 1#32
  ⟨v278, v275, c1_i32_149⟩
def k0_off137 (arg17 : BitVec 32) : Fin 2 → Nat :=
  let v672 : Index := Scalar.indexCast arg17
  let c0 : Index := 0#32
  ![v672.toNat, 0]

def k0_off138 (arg17 : BitVec 32) : Fin 2 → Nat :=
  let v675 : Index := Scalar.indexCast arg17
  let c16 : Index := 16#32
  ![v675.toNat, 16]
def k0_off139 (arg17 : BitVec 32) : Fin 2 → Nat :=
  let v678 : Index := Scalar.indexCast arg17
  let c32 : Index := 32#32
  ![v678.toNat, 32]
def k0_off140 (arg17 : BitVec 32) : Fin 2 → Nat :=
  let v681 : Index := Scalar.indexCast arg17
  let c48 : Index := 48#32
  ![v681.toNat, 48]
def k0_off141 (arg17 : BitVec 32) : Fin 2 → Nat :=
  let v684 : Index := Scalar.indexCast arg17
  let c64 : Index := 64#32
  ![v684.toNat, 64]
def k0_off142 (arg17 : BitVec 32) : Fin 2 → Nat :=
  let v687 : Index := Scalar.indexCast arg17
  let c80 : Index := 80#32
  ![v687.toNat, 80]
def k0_off143 (arg17 : BitVec 32) : Fin 2 → Nat :=
  let v690 : Index := Scalar.indexCast arg17
  let c96 : Index := 96#32
  ![v690.toNat, 96]
def k0_off144 (arg17 : BitVec 32) : Fin 2 → Nat :=
  let v693 : Index := Scalar.indexCast arg17
  let c112 : Index := 112#32
  ![v693.toNat, 112]

def k0_chk24 (v35 : BitVec 32) (v37 : BitVec 32) (k0_t18 : Fin (k0_t18_loop v35 v37).trips) (v147 : BitVec 32) (v151 : BitVec 32) (arg17 : BitVec 32) : Prop :=
  (∀ (k0_h10 : k0_cond10 v35 v37 k0_t18 = 1#1), ∀ (k0_h11 : k0_cond11 v35 v37 k0_t18 v147 v151 = 1#1), ∀ a, (k0_off137 arg17) a + S1x16.size a ≤ S144x256.size a) ∧
  (∀ (k0_h10 : k0_cond10 v35 v37 k0_t18 = 1#1), ∀ (k0_h11 : k0_cond11 v35 v37 k0_t18 v147 v151 = 1#1), ∀ a, (k0_off138 arg17) a + S1x16.size a ≤ S144x256.size a) ∧
  (∀ (k0_h10 : k0_cond10 v35 v37 k0_t18 = 1#1), ∀ (k0_h11 : k0_cond11 v35 v37 k0_t18 v147 v151 = 1#1), ∀ a, (k0_off139 arg17) a + S1x16.size a ≤ S144x256.size a) ∧
  (∀ (k0_h10 : k0_cond10 v35 v37 k0_t18 = 1#1), ∀ (k0_h11 : k0_cond11 v35 v37 k0_t18 v147 v151 = 1#1), ∀ a, (k0_off140 arg17) a + S1x16.size a ≤ S144x256.size a) ∧
  (∀ (k0_h10 : k0_cond10 v35 v37 k0_t18 = 1#1), ∀ (k0_h11 : k0_cond11 v35 v37 k0_t18 v147 v151 = 1#1), ∀ a, (k0_off141 arg17) a + S1x16.size a ≤ S144x256.size a) ∧
  (∀ (k0_h10 : k0_cond10 v35 v37 k0_t18 = 1#1), ∀ (k0_h11 : k0_cond11 v35 v37 k0_t18 v147 v151 = 1#1), ∀ a, (k0_off142 arg17) a + S1x16.size a ≤ S144x256.size a) ∧
  (∀ (k0_h10 : k0_cond10 v35 v37 k0_t18 = 1#1), ∀ (k0_h11 : k0_cond11 v35 v37 k0_t18 v147 v151 = 1#1), ∀ a, (k0_off143 arg17) a + S1x16.size a ≤ S144x256.size a) ∧
  (∀ (k0_h10 : k0_cond10 v35 v37 k0_t18 = 1#1), ∀ (k0_h11 : k0_cond11 v35 v37 k0_t18 v147 v151 = 1#1), ∀ a, (k0_off144 arg17) a + S1x16.size a ≤ S144x256.size a)
theorem k0_off137_inb : ∀ (v35 : BitVec 32) (v37 : BitVec 32) (k0_t18 : Fin (k0_t18_loop v35 v37).trips) (v147 : BitVec 32) (v151 : BitVec 32) (arg17 : BitVec 32) (k0_hw24 : k0_chk24 v35 v37 k0_t18 v147 v151 arg17), ∀ (k0_h10 : k0_cond10 v35 v37 k0_t18 = 1#1), ∀ (k0_h11 : k0_cond11 v35 v37 k0_t18 v147 v151 = 1#1), ∀ a, (k0_off137 arg17) a + S1x16.size a ≤ S144x256.size a := fun v35 v37 k0_t18 v147 v151 arg17 k0_hw24 k0_h10 k0_h11 => k0_hw24.1 k0_h10 k0_h11
theorem k0_off138_inb : ∀ (v35 : BitVec 32) (v37 : BitVec 32) (k0_t18 : Fin (k0_t18_loop v35 v37).trips) (v147 : BitVec 32) (v151 : BitVec 32) (arg17 : BitVec 32) (k0_hw24 : k0_chk24 v35 v37 k0_t18 v147 v151 arg17), ∀ (k0_h10 : k0_cond10 v35 v37 k0_t18 = 1#1), ∀ (k0_h11 : k0_cond11 v35 v37 k0_t18 v147 v151 = 1#1), ∀ a, (k0_off138 arg17) a + S1x16.size a ≤ S144x256.size a := fun v35 v37 k0_t18 v147 v151 arg17 k0_hw24 k0_h10 k0_h11 => k0_hw24.2.1 k0_h10 k0_h11
theorem k0_off139_inb : ∀ (v35 : BitVec 32) (v37 : BitVec 32) (k0_t18 : Fin (k0_t18_loop v35 v37).trips) (v147 : BitVec 32) (v151 : BitVec 32) (arg17 : BitVec 32) (k0_hw24 : k0_chk24 v35 v37 k0_t18 v147 v151 arg17), ∀ (k0_h10 : k0_cond10 v35 v37 k0_t18 = 1#1), ∀ (k0_h11 : k0_cond11 v35 v37 k0_t18 v147 v151 = 1#1), ∀ a, (k0_off139 arg17) a + S1x16.size a ≤ S144x256.size a := fun v35 v37 k0_t18 v147 v151 arg17 k0_hw24 k0_h10 k0_h11 => k0_hw24.2.2.1 k0_h10 k0_h11
theorem k0_off140_inb : ∀ (v35 : BitVec 32) (v37 : BitVec 32) (k0_t18 : Fin (k0_t18_loop v35 v37).trips) (v147 : BitVec 32) (v151 : BitVec 32) (arg17 : BitVec 32) (k0_hw24 : k0_chk24 v35 v37 k0_t18 v147 v151 arg17), ∀ (k0_h10 : k0_cond10 v35 v37 k0_t18 = 1#1), ∀ (k0_h11 : k0_cond11 v35 v37 k0_t18 v147 v151 = 1#1), ∀ a, (k0_off140 arg17) a + S1x16.size a ≤ S144x256.size a := fun v35 v37 k0_t18 v147 v151 arg17 k0_hw24 k0_h10 k0_h11 => k0_hw24.2.2.2.1 k0_h10 k0_h11
theorem k0_off141_inb : ∀ (v35 : BitVec 32) (v37 : BitVec 32) (k0_t18 : Fin (k0_t18_loop v35 v37).trips) (v147 : BitVec 32) (v151 : BitVec 32) (arg17 : BitVec 32) (k0_hw24 : k0_chk24 v35 v37 k0_t18 v147 v151 arg17), ∀ (k0_h10 : k0_cond10 v35 v37 k0_t18 = 1#1), ∀ (k0_h11 : k0_cond11 v35 v37 k0_t18 v147 v151 = 1#1), ∀ a, (k0_off141 arg17) a + S1x16.size a ≤ S144x256.size a := fun v35 v37 k0_t18 v147 v151 arg17 k0_hw24 k0_h10 k0_h11 => k0_hw24.2.2.2.2.1 k0_h10 k0_h11
theorem k0_off142_inb : ∀ (v35 : BitVec 32) (v37 : BitVec 32) (k0_t18 : Fin (k0_t18_loop v35 v37).trips) (v147 : BitVec 32) (v151 : BitVec 32) (arg17 : BitVec 32) (k0_hw24 : k0_chk24 v35 v37 k0_t18 v147 v151 arg17), ∀ (k0_h10 : k0_cond10 v35 v37 k0_t18 = 1#1), ∀ (k0_h11 : k0_cond11 v35 v37 k0_t18 v147 v151 = 1#1), ∀ a, (k0_off142 arg17) a + S1x16.size a ≤ S144x256.size a := fun v35 v37 k0_t18 v147 v151 arg17 k0_hw24 k0_h10 k0_h11 => k0_hw24.2.2.2.2.2.1 k0_h10 k0_h11
theorem k0_off143_inb : ∀ (v35 : BitVec 32) (v37 : BitVec 32) (k0_t18 : Fin (k0_t18_loop v35 v37).trips) (v147 : BitVec 32) (v151 : BitVec 32) (arg17 : BitVec 32) (k0_hw24 : k0_chk24 v35 v37 k0_t18 v147 v151 arg17), ∀ (k0_h10 : k0_cond10 v35 v37 k0_t18 = 1#1), ∀ (k0_h11 : k0_cond11 v35 v37 k0_t18 v147 v151 = 1#1), ∀ a, (k0_off143 arg17) a + S1x16.size a ≤ S144x256.size a := fun v35 v37 k0_t18 v147 v151 arg17 k0_hw24 k0_h10 k0_h11 => k0_hw24.2.2.2.2.2.2.1 k0_h10 k0_h11
theorem k0_off144_inb : ∀ (v35 : BitVec 32) (v37 : BitVec 32) (k0_t18 : Fin (k0_t18_loop v35 v37).trips) (v147 : BitVec 32) (v151 : BitVec 32) (arg17 : BitVec 32) (k0_hw24 : k0_chk24 v35 v37 k0_t18 v147 v151 arg17), ∀ (k0_h10 : k0_cond10 v35 v37 k0_t18 = 1#1), ∀ (k0_h11 : k0_cond11 v35 v37 k0_t18 v147 v151 = 1#1), ∀ a, (k0_off144 arg17) a + S1x16.size a ≤ S144x256.size a := fun v35 v37 k0_t18 v147 v151 arg17 k0_hw24 k0_h10 k0_h11 => k0_hw24.2.2.2.2.2.2.2 k0_h10 k0_h11

@[reducible] def k0_t27_loop (v35 : BitVec 32) (v37 : BitVec 32) (k0_t18 : Fin (k0_t18_loop v35 v37).trips) (v147 : BitVec 32) (v151 : BitVec 32) : Scf.Loop 32 :=
  let c0_i32_224 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let c144_i32_99 : BitVec 32 := 144#32
  let v138 : BitVec 32 := Scalar.muli v107 c144_i32_99
  let v139 : BitVec 32 := Scalar.addi v55 v138
  let c144_i32_108 : BitVec 32 := 144#32
  let v152 : BitVec 32 := Scalar.addi v139 c144_i32_108
  let v153 : BitVec 32 := Scalar.minsi v151 v152
  let v148 : BitVec 32 := Scalar.maxsi v147 v139
  let v160 : BitVec 32 := Scalar.subi v153 v148
  let c0_i32_112 : BitVec 32 := 0#32
  let v161 : BitVec 32 := Scalar.maxsi v160 c0_i32_112
  let v529 : BitVec 32 := Scalar.subi v161 c0_i32_224
  let c1_i32_225 : BitVec 32 := 1#32
  let v531 : BitVec 32 := Scalar.divsi v529 c1_i32_225
  let v532 : BitVec 32 := Scalar.muli v531 c1_i32_225
  let v533 : BitVec 32 := Scalar.addi c0_i32_224 v532
  let c1_i32_226 : BitVec 32 := 1#32
  ⟨c0_i32_224, v533, c1_i32_226⟩
def k0_off145 (arg17 : BitVec 32) : Fin 2 → Nat :=
  let v672 : Index := Scalar.indexCast arg17
  let c128 : Index := 128#32
  ![v672.toNat, 128]

def k0_off146 (arg17 : BitVec 32) : Fin 2 → Nat :=
  let v675 : Index := Scalar.indexCast arg17
  let c144 : Index := 144#32
  ![v675.toNat, 144]
def k0_off147 (arg17 : BitVec 32) : Fin 2 → Nat :=
  let v678 : Index := Scalar.indexCast arg17
  let c160 : Index := 160#32
  ![v678.toNat, 160]
def k0_off148 (arg17 : BitVec 32) : Fin 2 → Nat :=
  let v681 : Index := Scalar.indexCast arg17
  let c176 : Index := 176#32
  ![v681.toNat, 176]
def k0_off149 (arg17 : BitVec 32) : Fin 2 → Nat :=
  let v684 : Index := Scalar.indexCast arg17
  let c192 : Index := 192#32
  ![v684.toNat, 192]
def k0_off150 (arg17 : BitVec 32) : Fin 2 → Nat :=
  let v687 : Index := Scalar.indexCast arg17
  let c208 : Index := 208#32
  ![v687.toNat, 208]
def k0_off151 (arg17 : BitVec 32) : Fin 2 → Nat :=
  let v690 : Index := Scalar.indexCast arg17
  let c224 : Index := 224#32
  ![v690.toNat, 224]
def k0_off152 (arg17 : BitVec 32) : Fin 2 → Nat :=
  let v693 : Index := Scalar.indexCast arg17
  let c240 : Index := 240#32
  ![v693.toNat, 240]

def k0_chk25 (v35 : BitVec 32) (v37 : BitVec 32) (k0_t18 : Fin (k0_t18_loop v35 v37).trips) (v147 : BitVec 32) (v151 : BitVec 32) (arg17 : BitVec 32) : Prop :=
  (∀ (k0_h10 : k0_cond10 v35 v37 k0_t18 = 1#1), ∀ (k0_h11 : k0_cond11 v35 v37 k0_t18 v147 v151 = 1#1), ∀ a, (k0_off145 arg17) a + S1x16.size a ≤ S144x256.size a) ∧
  (∀ (k0_h10 : k0_cond10 v35 v37 k0_t18 = 1#1), ∀ (k0_h11 : k0_cond11 v35 v37 k0_t18 v147 v151 = 1#1), ∀ a, (k0_off146 arg17) a + S1x16.size a ≤ S144x256.size a) ∧
  (∀ (k0_h10 : k0_cond10 v35 v37 k0_t18 = 1#1), ∀ (k0_h11 : k0_cond11 v35 v37 k0_t18 v147 v151 = 1#1), ∀ a, (k0_off147 arg17) a + S1x16.size a ≤ S144x256.size a) ∧
  (∀ (k0_h10 : k0_cond10 v35 v37 k0_t18 = 1#1), ∀ (k0_h11 : k0_cond11 v35 v37 k0_t18 v147 v151 = 1#1), ∀ a, (k0_off148 arg17) a + S1x16.size a ≤ S144x256.size a) ∧
  (∀ (k0_h10 : k0_cond10 v35 v37 k0_t18 = 1#1), ∀ (k0_h11 : k0_cond11 v35 v37 k0_t18 v147 v151 = 1#1), ∀ a, (k0_off149 arg17) a + S1x16.size a ≤ S144x256.size a) ∧
  (∀ (k0_h10 : k0_cond10 v35 v37 k0_t18 = 1#1), ∀ (k0_h11 : k0_cond11 v35 v37 k0_t18 v147 v151 = 1#1), ∀ a, (k0_off150 arg17) a + S1x16.size a ≤ S144x256.size a) ∧
  (∀ (k0_h10 : k0_cond10 v35 v37 k0_t18 = 1#1), ∀ (k0_h11 : k0_cond11 v35 v37 k0_t18 v147 v151 = 1#1), ∀ a, (k0_off151 arg17) a + S1x16.size a ≤ S144x256.size a) ∧
  (∀ (k0_h10 : k0_cond10 v35 v37 k0_t18 = 1#1), ∀ (k0_h11 : k0_cond11 v35 v37 k0_t18 v147 v151 = 1#1), ∀ a, (k0_off152 arg17) a + S1x16.size a ≤ S144x256.size a)
theorem k0_off145_inb : ∀ (v35 : BitVec 32) (v37 : BitVec 32) (k0_t18 : Fin (k0_t18_loop v35 v37).trips) (v147 : BitVec 32) (v151 : BitVec 32) (arg17 : BitVec 32) (k0_hw25 : k0_chk25 v35 v37 k0_t18 v147 v151 arg17), ∀ (k0_h10 : k0_cond10 v35 v37 k0_t18 = 1#1), ∀ (k0_h11 : k0_cond11 v35 v37 k0_t18 v147 v151 = 1#1), ∀ a, (k0_off145 arg17) a + S1x16.size a ≤ S144x256.size a := fun v35 v37 k0_t18 v147 v151 arg17 k0_hw25 k0_h10 k0_h11 => k0_hw25.1 k0_h10 k0_h11
theorem k0_off146_inb : ∀ (v35 : BitVec 32) (v37 : BitVec 32) (k0_t18 : Fin (k0_t18_loop v35 v37).trips) (v147 : BitVec 32) (v151 : BitVec 32) (arg17 : BitVec 32) (k0_hw25 : k0_chk25 v35 v37 k0_t18 v147 v151 arg17), ∀ (k0_h10 : k0_cond10 v35 v37 k0_t18 = 1#1), ∀ (k0_h11 : k0_cond11 v35 v37 k0_t18 v147 v151 = 1#1), ∀ a, (k0_off146 arg17) a + S1x16.size a ≤ S144x256.size a := fun v35 v37 k0_t18 v147 v151 arg17 k0_hw25 k0_h10 k0_h11 => k0_hw25.2.1 k0_h10 k0_h11
theorem k0_off147_inb : ∀ (v35 : BitVec 32) (v37 : BitVec 32) (k0_t18 : Fin (k0_t18_loop v35 v37).trips) (v147 : BitVec 32) (v151 : BitVec 32) (arg17 : BitVec 32) (k0_hw25 : k0_chk25 v35 v37 k0_t18 v147 v151 arg17), ∀ (k0_h10 : k0_cond10 v35 v37 k0_t18 = 1#1), ∀ (k0_h11 : k0_cond11 v35 v37 k0_t18 v147 v151 = 1#1), ∀ a, (k0_off147 arg17) a + S1x16.size a ≤ S144x256.size a := fun v35 v37 k0_t18 v147 v151 arg17 k0_hw25 k0_h10 k0_h11 => k0_hw25.2.2.1 k0_h10 k0_h11
theorem k0_off148_inb : ∀ (v35 : BitVec 32) (v37 : BitVec 32) (k0_t18 : Fin (k0_t18_loop v35 v37).trips) (v147 : BitVec 32) (v151 : BitVec 32) (arg17 : BitVec 32) (k0_hw25 : k0_chk25 v35 v37 k0_t18 v147 v151 arg17), ∀ (k0_h10 : k0_cond10 v35 v37 k0_t18 = 1#1), ∀ (k0_h11 : k0_cond11 v35 v37 k0_t18 v147 v151 = 1#1), ∀ a, (k0_off148 arg17) a + S1x16.size a ≤ S144x256.size a := fun v35 v37 k0_t18 v147 v151 arg17 k0_hw25 k0_h10 k0_h11 => k0_hw25.2.2.2.1 k0_h10 k0_h11
theorem k0_off149_inb : ∀ (v35 : BitVec 32) (v37 : BitVec 32) (k0_t18 : Fin (k0_t18_loop v35 v37).trips) (v147 : BitVec 32) (v151 : BitVec 32) (arg17 : BitVec 32) (k0_hw25 : k0_chk25 v35 v37 k0_t18 v147 v151 arg17), ∀ (k0_h10 : k0_cond10 v35 v37 k0_t18 = 1#1), ∀ (k0_h11 : k0_cond11 v35 v37 k0_t18 v147 v151 = 1#1), ∀ a, (k0_off149 arg17) a + S1x16.size a ≤ S144x256.size a := fun v35 v37 k0_t18 v147 v151 arg17 k0_hw25 k0_h10 k0_h11 => k0_hw25.2.2.2.2.1 k0_h10 k0_h11
theorem k0_off150_inb : ∀ (v35 : BitVec 32) (v37 : BitVec 32) (k0_t18 : Fin (k0_t18_loop v35 v37).trips) (v147 : BitVec 32) (v151 : BitVec 32) (arg17 : BitVec 32) (k0_hw25 : k0_chk25 v35 v37 k0_t18 v147 v151 arg17), ∀ (k0_h10 : k0_cond10 v35 v37 k0_t18 = 1#1), ∀ (k0_h11 : k0_cond11 v35 v37 k0_t18 v147 v151 = 1#1), ∀ a, (k0_off150 arg17) a + S1x16.size a ≤ S144x256.size a := fun v35 v37 k0_t18 v147 v151 arg17 k0_hw25 k0_h10 k0_h11 => k0_hw25.2.2.2.2.2.1 k0_h10 k0_h11
theorem k0_off151_inb : ∀ (v35 : BitVec 32) (v37 : BitVec 32) (k0_t18 : Fin (k0_t18_loop v35 v37).trips) (v147 : BitVec 32) (v151 : BitVec 32) (arg17 : BitVec 32) (k0_hw25 : k0_chk25 v35 v37 k0_t18 v147 v151 arg17), ∀ (k0_h10 : k0_cond10 v35 v37 k0_t18 = 1#1), ∀ (k0_h11 : k0_cond11 v35 v37 k0_t18 v147 v151 = 1#1), ∀ a, (k0_off151 arg17) a + S1x16.size a ≤ S144x256.size a := fun v35 v37 k0_t18 v147 v151 arg17 k0_hw25 k0_h10 k0_h11 => k0_hw25.2.2.2.2.2.2.1 k0_h10 k0_h11
theorem k0_off152_inb : ∀ (v35 : BitVec 32) (v37 : BitVec 32) (k0_t18 : Fin (k0_t18_loop v35 v37).trips) (v147 : BitVec 32) (v151 : BitVec 32) (arg17 : BitVec 32) (k0_hw25 : k0_chk25 v35 v37 k0_t18 v147 v151 arg17), ∀ (k0_h10 : k0_cond10 v35 v37 k0_t18 = 1#1), ∀ (k0_h11 : k0_cond11 v35 v37 k0_t18 v147 v151 = 1#1), ∀ a, (k0_off152 arg17) a + S1x16.size a ≤ S144x256.size a := fun v35 v37 k0_t18 v147 v151 arg17 k0_hw25 k0_h10 k0_h11 => k0_hw25.2.2.2.2.2.2.2 k0_h10 k0_h11

@[reducible] def k0_t28_loop (v35 : BitVec 32) (v37 : BitVec 32) (k0_t18 : Fin (k0_t18_loop v35 v37).trips) (v147 : BitVec 32) (v151 : BitVec 32) : Scf.Loop 32 :=
  let c0_i32_224 : BitVec 32 := 0#32
  let c0_i32_42 : BitVec 32 := 0#32
  let v39 : BitVec 1 := Scalar.cmpi .sgt v35 c0_i32_42
  let v40 : BitVec 32 := Scalar.extui v39
  let c0_i32_43 : BitVec 32 := 0#32
  let v41 : BitVec 1 := Scalar.cmpi .slt v35 c0_i32_43
  let v42 : BitVec 32 := Scalar.extui v41
  let v43 : BitVec 32 := Scalar.subi v40 v42
  let c8_i32 : BitVec 32 := 8#32
  let c0_i32_44 : BitVec 32 := 0#32
  let v44 : BitVec 1 := Scalar.cmpi .sgt c8_i32 c0_i32_44
  let v45 : BitVec 32 := Scalar.extui v44
  let c0_i32_45 : BitVec 32 := 0#32
  let v46 : BitVec 1 := Scalar.cmpi .slt c8_i32 c0_i32_45
  let v47 : BitVec 32 := Scalar.extui v46
  let v48 : BitVec 32 := Scalar.subi v45 v47
  let v49 : BitVec 1 := Scalar.cmpi .ne v43 v48
  let v50 : BitVec 32 := Scalar.remsi v35 c8_i32
  let c0_i32_46 : BitVec 32 := 0#32
  let v51 : BitVec 1 := Scalar.cmpi .ne v50 c0_i32_46
  let v52 : BitVec 1 := Scalar.andi v49 v51
  let v38 : BitVec 32 := Scalar.divsi v35 c8_i32
  let c1_i32_47 : BitVec 32 := 1#32
  let v53 : BitVec 32 := Scalar.subi v38 c1_i32_47
  let v54 : BitVec 32 := Scalar.select v52 v53 v38
  let c8_i32_48 : BitVec 32 := 8#32
  let v55 : BitVec 32 := Scalar.muli v54 c8_i32_48
  let c2_i32_77 : BitVec 32 := 2#32
  let c0_i32_67 : BitVec 32 := 0#32
  let v56 : BitVec 32 := Scalar.subi v37 v55
  let c144_i32 : BitVec 32 := 144#32
  let v57 : BitVec 32 := Scalar.addi v56 c144_i32
  let c1_i32_49 : BitVec 32 := 1#32
  let v58 : BitVec 32 := Scalar.subi v57 c1_i32_49
  let c0_i32_51 : BitVec 32 := 0#32
  let v60 : BitVec 1 := Scalar.cmpi .sgt v58 c0_i32_51
  let v61 : BitVec 32 := Scalar.extui v60
  let c0_i32_52 : BitVec 32 := 0#32
  let v62 : BitVec 1 := Scalar.cmpi .slt v58 c0_i32_52
  let v63 : BitVec 32 := Scalar.extui v62
  let v64 : BitVec 32 := Scalar.subi v61 v63
  let c144_i32_50 : BitVec 32 := 144#32
  let c0_i32_53 : BitVec 32 := 0#32
  let v65 : BitVec 1 := Scalar.cmpi .sgt c144_i32_50 c0_i32_53
  let v66 : BitVec 32 := Scalar.extui v65
  let c0_i32_54 : BitVec 32 := 0#32
  let v67 : BitVec 1 := Scalar.cmpi .slt c144_i32_50 c0_i32_54
  let v68 : BitVec 32 := Scalar.extui v67
  let v69 : BitVec 32 := Scalar.subi v66 v68
  let v70 : BitVec 1 := Scalar.cmpi .ne v64 v69
  let v71 : BitVec 32 := Scalar.remsi v58 c144_i32_50
  let c0_i32_55 : BitVec 32 := 0#32
  let v72 : BitVec 1 := Scalar.cmpi .ne v71 c0_i32_55
  let v73 : BitVec 1 := Scalar.andi v70 v72
  let v59 : BitVec 32 := Scalar.divsi v58 c144_i32_50
  let c1_i32_56 : BitVec 32 := 1#32
  let v74 : BitVec 32 := Scalar.subi v59 c1_i32_56
  let v75 : BitVec 32 := Scalar.select v73 v74 v59
  let c1_i32_59 : BitVec 32 := 1#32
  let v79 : BitVec 32 := Scalar.addi v75 c1_i32_59
  let c0_i32_61 : BitVec 32 := 0#32
  let v81 : BitVec 1 := Scalar.cmpi .sgt v79 c0_i32_61
  let v82 : BitVec 32 := Scalar.extui v81
  let c0_i32_62 : BitVec 32 := 0#32
  let v83 : BitVec 1 := Scalar.cmpi .slt v79 c0_i32_62
  let v84 : BitVec 32 := Scalar.extui v83
  let v85 : BitVec 32 := Scalar.subi v82 v84
  let c2_i32_60 : BitVec 32 := 2#32
  let c0_i32_63 : BitVec 32 := 0#32
  let v86 : BitVec 1 := Scalar.cmpi .sgt c2_i32_60 c0_i32_63
  let v87 : BitVec 32 := Scalar.extui v86
  let c0_i32_64 : BitVec 32 := 0#32
  let v88 : BitVec 1 := Scalar.cmpi .slt c2_i32_60 c0_i32_64
  let v89 : BitVec 32 := Scalar.extui v88
  let v90 : BitVec 32 := Scalar.subi v87 v89
  let v91 : BitVec 1 := Scalar.cmpi .ne v85 v90
  let v92 : BitVec 32 := Scalar.remsi v79 c2_i32_60
  let c0_i32_65 : BitVec 32 := 0#32
  let v93 : BitVec 1 := Scalar.cmpi .ne v92 c0_i32_65
  let v94 : BitVec 1 := Scalar.andi v91 v93
  let v80 : BitVec 32 := Scalar.divsi v79 c2_i32_60
  let c1_i32_66 : BitVec 32 := 1#32
  let v95 : BitVec 32 := Scalar.subi v80 c1_i32_66
  let v96 : BitVec 32 := Scalar.select v94 v95 v80
  let v97 : BitVec 32 := Scalar.subi v96 c0_i32_67
  let c1_i32_69 : BitVec 32 := 1#32
  let v99 : BitVec 32 := Scalar.divsi v97 c1_i32_69
  let v100 : BitVec 32 := Scalar.muli v99 c1_i32_69
  let v101 : BitVec 32 := Scalar.addi c0_i32_67 v100
  let c1_i32_71 : BitVec 32 := 1#32
  let arg12 : BitVec 32 := Scf.iv v101 c1_i32_71 k0_t18
  let v106 : BitVec 32 := Scalar.muli c2_i32_77 arg12
  let c1_i32_78 : BitVec 32 := 1#32
  let v107 : BitVec 32 := Scalar.addi v106 c1_i32_78
  let c144_i32_99 : BitVec 32 := 144#32
  let v138 : BitVec 32 := Scalar.muli v107 c144_i32_99
  let v139 : BitVec 32 := Scalar.addi v55 v138
  let c144_i32_108 : BitVec 32 := 144#32
  let v152 : BitVec 32 := Scalar.addi v139 c144_i32_108
  let v153 : BitVec 32 := Scalar.minsi v151 v152
  let v148 : BitVec 32 := Scalar.maxsi v147 v139
  let v160 : BitVec 32 := Scalar.subi v153 v148
  let c0_i32_112 : BitVec 32 := 0#32
  let v161 : BitVec 32 := Scalar.maxsi v160 c0_i32_112
  let v529 : BitVec 32 := Scalar.subi v161 c0_i32_224
  let c1_i32_225 : BitVec 32 := 1#32
  let v531 : BitVec 32 := Scalar.divsi v529 c1_i32_225
  let v532 : BitVec 32 := Scalar.muli v531 c1_i32_225
  let v533 : BitVec 32 := Scalar.addi c0_i32_224 v532
  let v530 : BitVec 32 := Scalar.addi c0_i32_224 v529
  let c1_i32_227 : BitVec 32 := 1#32
  ⟨v533, v530, c1_i32_227⟩

def k0_chk22 (v35 : BitVec 32) (v37 : BitVec 32) (k0_t18 : Fin (k0_t18_loop v35 v37).trips) (v147 : BitVec 32) (v151 : BitVec 32) : Prop :=
  (∀ (k0_h10 : k0_cond10 v35 v37 k0_t18 = 1#1), ∀ (k0_h11 : k0_cond11 v35 v37 k0_t18 v147 v151 = 1#1), (k0_t25_loop v35 v37 k0_t18 v147 v151).OK) ∧
  (∀ (k0_h10 : k0_cond10 v35 v37 k0_t18 = 1#1), ∀ (k0_h11 : k0_cond11 v35 v37 k0_t18 v147 v151 = 1#1), (k0_t26_loop v35 v37 k0_t18 v147 v151).OK) ∧
  (∀ (k0_h10 : k0_cond10 v35 v37 k0_t18 = 1#1), ∀ (k0_h11 : k0_cond11 v35 v37 k0_t18 v147 v151 = 1#1), (k0_t27_loop v35 v37 k0_t18 v147 v151).OK) ∧
  (∀ (k0_h10 : k0_cond10 v35 v37 k0_t18 = 1#1), ∀ (k0_h11 : k0_cond11 v35 v37 k0_t18 v147 v151 = 1#1), (k0_t28_loop v35 v37 k0_t18 v147 v151).OK)
theorem k0_t25_ok : ∀ (v35 : BitVec 32) (v37 : BitVec 32) (k0_t18 : Fin (k0_t18_loop v35 v37).trips) (v147 : BitVec 32) (v151 : BitVec 32) (k0_hw22 : k0_chk22 v35 v37 k0_t18 v147 v151), ∀ (k0_h10 : k0_cond10 v35 v37 k0_t18 = 1#1), ∀ (k0_h11 : k0_cond11 v35 v37 k0_t18 v147 v151 = 1#1), (k0_t25_loop v35 v37 k0_t18 v147 v151).OK := fun v35 v37 k0_t18 v147 v151 k0_hw22 k0_h10 k0_h11 => k0_hw22.1 k0_h10 k0_h11
theorem k0_t26_ok : ∀ (v35 : BitVec 32) (v37 : BitVec 32) (k0_t18 : Fin (k0_t18_loop v35 v37).trips) (v147 : BitVec 32) (v151 : BitVec 32) (k0_hw22 : k0_chk22 v35 v37 k0_t18 v147 v151), ∀ (k0_h10 : k0_cond10 v35 v37 k0_t18 = 1#1), ∀ (k0_h11 : k0_cond11 v35 v37 k0_t18 v147 v151 = 1#1), (k0_t26_loop v35 v37 k0_t18 v147 v151).OK := fun v35 v37 k0_t18 v147 v151 k0_hw22 k0_h10 k0_h11 => k0_hw22.2.1 k0_h10 k0_h11
theorem k0_t27_ok : ∀ (v35 : BitVec 32) (v37 : BitVec 32) (k0_t18 : Fin (k0_t18_loop v35 v37).trips) (v147 : BitVec 32) (v151 : BitVec 32) (k0_hw22 : k0_chk22 v35 v37 k0_t18 v147 v151), ∀ (k0_h10 : k0_cond10 v35 v37 k0_t18 = 1#1), ∀ (k0_h11 : k0_cond11 v35 v37 k0_t18 v147 v151 = 1#1), (k0_t27_loop v35 v37 k0_t18 v147 v151).OK := fun v35 v37 k0_t18 v147 v151 k0_hw22 k0_h10 k0_h11 => k0_hw22.2.2.1 k0_h10 k0_h11
theorem k0_t28_ok : ∀ (v35 : BitVec 32) (v37 : BitVec 32) (k0_t18 : Fin (k0_t18_loop v35 v37).trips) (v147 : BitVec 32) (v151 : BitVec 32) (k0_hw22 : k0_chk22 v35 v37 k0_t18 v147 v151), ∀ (k0_h10 : k0_cond10 v35 v37 k0_t18 = 1#1), ∀ (k0_h11 : k0_cond11 v35 v37 k0_t18 v147 v151 = 1#1), (k0_t28_loop v35 v37 k0_t18 v147 v151).OK := fun v35 v37 k0_t18 v147 v151 k0_hw22 k0_h10 k0_h11 => k0_hw22.2.2.2 k0_h10 k0_h11

def k0_off153 (arg17 : BitVec 32) : Fin 2 → Nat :=
  let v672 : Index := Scalar.indexCast arg17
  let c128 : Index := 128#32
  ![v672.toNat, 128]

def k0_off154 (arg17 : BitVec 32) : Fin 2 → Nat :=
  let v675 : Index := Scalar.indexCast arg17
  let c144 : Index := 144#32
  ![v675.toNat, 144]
def k0_off155 (arg17 : BitVec 32) : Fin 2 → Nat :=
  let v678 : Index := Scalar.indexCast arg17
  let c160 : Index := 160#32
  ![v678.toNat, 160]
def k0_off156 (arg17 : BitVec 32) : Fin 2 → Nat :=
  let v681 : Index := Scalar.indexCast arg17
  let c176 : Index := 176#32
  ![v681.toNat, 176]
def k0_off157 (arg17 : BitVec 32) : Fin 2 → Nat :=
  let v684 : Index := Scalar.indexCast arg17
  let c192 : Index := 192#32
  ![v684.toNat, 192]
def k0_off158 (arg17 : BitVec 32) : Fin 2 → Nat :=
  let v687 : Index := Scalar.indexCast arg17
  let c208 : Index := 208#32
  ![v687.toNat, 208]
def k0_off159 (arg17 : BitVec 32) : Fin 2 → Nat :=
  let v690 : Index := Scalar.indexCast arg17
  let c224 : Index := 224#32
  ![v690.toNat, 224]
def k0_off160 (arg17 : BitVec 32) : Fin 2 → Nat :=
  let v693 : Index := Scalar.indexCast arg17
  let c240 : Index := 240#32
  ![v693.toNat, 240]

def k0_chk26 (v35 : BitVec 32) (v37 : BitVec 32) (k0_t18 : Fin (k0_t18_loop v35 v37).trips) (v147 : BitVec 32) (v151 : BitVec 32) (arg17 : BitVec 32) : Prop :=
  (∀ (k0_h10 : k0_cond10 v35 v37 k0_t18 = 1#1), ∀ (k0_h11 : k0_cond11 v35 v37 k0_t18 v147 v151 = 1#1), ∀ a, (k0_off153 arg17) a + S1x16.size a ≤ S144x256.size a) ∧
  (∀ (k0_h10 : k0_cond10 v35 v37 k0_t18 = 1#1), ∀ (k0_h11 : k0_cond11 v35 v37 k0_t18 v147 v151 = 1#1), ∀ a, (k0_off154 arg17) a + S1x16.size a ≤ S144x256.size a) ∧
  (∀ (k0_h10 : k0_cond10 v35 v37 k0_t18 = 1#1), ∀ (k0_h11 : k0_cond11 v35 v37 k0_t18 v147 v151 = 1#1), ∀ a, (k0_off155 arg17) a + S1x16.size a ≤ S144x256.size a) ∧
  (∀ (k0_h10 : k0_cond10 v35 v37 k0_t18 = 1#1), ∀ (k0_h11 : k0_cond11 v35 v37 k0_t18 v147 v151 = 1#1), ∀ a, (k0_off156 arg17) a + S1x16.size a ≤ S144x256.size a) ∧
  (∀ (k0_h10 : k0_cond10 v35 v37 k0_t18 = 1#1), ∀ (k0_h11 : k0_cond11 v35 v37 k0_t18 v147 v151 = 1#1), ∀ a, (k0_off157 arg17) a + S1x16.size a ≤ S144x256.size a) ∧
  (∀ (k0_h10 : k0_cond10 v35 v37 k0_t18 = 1#1), ∀ (k0_h11 : k0_cond11 v35 v37 k0_t18 v147 v151 = 1#1), ∀ a, (k0_off158 arg17) a + S1x16.size a ≤ S144x256.size a) ∧
  (∀ (k0_h10 : k0_cond10 v35 v37 k0_t18 = 1#1), ∀ (k0_h11 : k0_cond11 v35 v37 k0_t18 v147 v151 = 1#1), ∀ a, (k0_off159 arg17) a + S1x16.size a ≤ S144x256.size a) ∧
  (∀ (k0_h10 : k0_cond10 v35 v37 k0_t18 = 1#1), ∀ (k0_h11 : k0_cond11 v35 v37 k0_t18 v147 v151 = 1#1), ∀ a, (k0_off160 arg17) a + S1x16.size a ≤ S144x256.size a)
theorem k0_off153_inb : ∀ (v35 : BitVec 32) (v37 : BitVec 32) (k0_t18 : Fin (k0_t18_loop v35 v37).trips) (v147 : BitVec 32) (v151 : BitVec 32) (arg17 : BitVec 32) (k0_hw26 : k0_chk26 v35 v37 k0_t18 v147 v151 arg17), ∀ (k0_h10 : k0_cond10 v35 v37 k0_t18 = 1#1), ∀ (k0_h11 : k0_cond11 v35 v37 k0_t18 v147 v151 = 1#1), ∀ a, (k0_off153 arg17) a + S1x16.size a ≤ S144x256.size a := fun v35 v37 k0_t18 v147 v151 arg17 k0_hw26 k0_h10 k0_h11 => k0_hw26.1 k0_h10 k0_h11
theorem k0_off154_inb : ∀ (v35 : BitVec 32) (v37 : BitVec 32) (k0_t18 : Fin (k0_t18_loop v35 v37).trips) (v147 : BitVec 32) (v151 : BitVec 32) (arg17 : BitVec 32) (k0_hw26 : k0_chk26 v35 v37 k0_t18 v147 v151 arg17), ∀ (k0_h10 : k0_cond10 v35 v37 k0_t18 = 1#1), ∀ (k0_h11 : k0_cond11 v35 v37 k0_t18 v147 v151 = 1#1), ∀ a, (k0_off154 arg17) a + S1x16.size a ≤ S144x256.size a := fun v35 v37 k0_t18 v147 v151 arg17 k0_hw26 k0_h10 k0_h11 => k0_hw26.2.1 k0_h10 k0_h11
theorem k0_off155_inb : ∀ (v35 : BitVec 32) (v37 : BitVec 32) (k0_t18 : Fin (k0_t18_loop v35 v37).trips) (v147 : BitVec 32) (v151 : BitVec 32) (arg17 : BitVec 32) (k0_hw26 : k0_chk26 v35 v37 k0_t18 v147 v151 arg17), ∀ (k0_h10 : k0_cond10 v35 v37 k0_t18 = 1#1), ∀ (k0_h11 : k0_cond11 v35 v37 k0_t18 v147 v151 = 1#1), ∀ a, (k0_off155 arg17) a + S1x16.size a ≤ S144x256.size a := fun v35 v37 k0_t18 v147 v151 arg17 k0_hw26 k0_h10 k0_h11 => k0_hw26.2.2.1 k0_h10 k0_h11
theorem k0_off156_inb : ∀ (v35 : BitVec 32) (v37 : BitVec 32) (k0_t18 : Fin (k0_t18_loop v35 v37).trips) (v147 : BitVec 32) (v151 : BitVec 32) (arg17 : BitVec 32) (k0_hw26 : k0_chk26 v35 v37 k0_t18 v147 v151 arg17), ∀ (k0_h10 : k0_cond10 v35 v37 k0_t18 = 1#1), ∀ (k0_h11 : k0_cond11 v35 v37 k0_t18 v147 v151 = 1#1), ∀ a, (k0_off156 arg17) a + S1x16.size a ≤ S144x256.size a := fun v35 v37 k0_t18 v147 v151 arg17 k0_hw26 k0_h10 k0_h11 => k0_hw26.2.2.2.1 k0_h10 k0_h11
theorem k0_off157_inb : ∀ (v35 : BitVec 32) (v37 : BitVec 32) (k0_t18 : Fin (k0_t18_loop v35 v37).trips) (v147 : BitVec 32) (v151 : BitVec 32) (arg17 : BitVec 32) (k0_hw26 : k0_chk26 v35 v37 k0_t18 v147 v151 arg17), ∀ (k0_h10 : k0_cond10 v35 v37 k0_t18 = 1#1), ∀ (k0_h11 : k0_cond11 v35 v37 k0_t18 v147 v151 = 1#1), ∀ a, (k0_off157 arg17) a + S1x16.size a ≤ S144x256.size a := fun v35 v37 k0_t18 v147 v151 arg17 k0_hw26 k0_h10 k0_h11 => k0_hw26.2.2.2.2.1 k0_h10 k0_h11
theorem k0_off158_inb : ∀ (v35 : BitVec 32) (v37 : BitVec 32) (k0_t18 : Fin (k0_t18_loop v35 v37).trips) (v147 : BitVec 32) (v151 : BitVec 32) (arg17 : BitVec 32) (k0_hw26 : k0_chk26 v35 v37 k0_t18 v147 v151 arg17), ∀ (k0_h10 : k0_cond10 v35 v37 k0_t18 = 1#1), ∀ (k0_h11 : k0_cond11 v35 v37 k0_t18 v147 v151 = 1#1), ∀ a, (k0_off158 arg17) a + S1x16.size a ≤ S144x256.size a := fun v35 v37 k0_t18 v147 v151 arg17 k0_hw26 k0_h10 k0_h11 => k0_hw26.2.2.2.2.2.1 k0_h10 k0_h11
theorem k0_off159_inb : ∀ (v35 : BitVec 32) (v37 : BitVec 32) (k0_t18 : Fin (k0_t18_loop v35 v37).trips) (v147 : BitVec 32) (v151 : BitVec 32) (arg17 : BitVec 32) (k0_hw26 : k0_chk26 v35 v37 k0_t18 v147 v151 arg17), ∀ (k0_h10 : k0_cond10 v35 v37 k0_t18 = 1#1), ∀ (k0_h11 : k0_cond11 v35 v37 k0_t18 v147 v151 = 1#1), ∀ a, (k0_off159 arg17) a + S1x16.size a ≤ S144x256.size a := fun v35 v37 k0_t18 v147 v151 arg17 k0_hw26 k0_h10 k0_h11 => k0_hw26.2.2.2.2.2.2.1 k0_h10 k0_h11
theorem k0_off160_inb : ∀ (v35 : BitVec 32) (v37 : BitVec 32) (k0_t18 : Fin (k0_t18_loop v35 v37).trips) (v147 : BitVec 32) (v151 : BitVec 32) (arg17 : BitVec 32) (k0_hw26 : k0_chk26 v35 v37 k0_t18 v147 v151 arg17), ∀ (k0_h10 : k0_cond10 v35 v37 k0_t18 = 1#1), ∀ (k0_h11 : k0_cond11 v35 v37 k0_t18 v147 v151 = 1#1), ∀ a, (k0_off160 arg17) a + S1x16.size a ≤ S144x256.size a := fun v35 v37 k0_t18 v147 v151 arg17 k0_hw26 k0_h10 k0_h11 => k0_hw26.2.2.2.2.2.2.2 k0_h10 k0_h11

@[reducible] def k0_t29_loop : Scf.Loop 32 :=
  let c0_i32_73 : BitVec 32 := 0#32
  let c4_i32_74 : BitVec 32 := 4#32
  let v104 : BitVec 32 := Scalar.addi c0_i32_73 c4_i32_74
  let c1_i32_75 : BitVec 32 := 1#32
  ⟨c0_i32_73, v104, c1_i32_75⟩
def k0_off161 (k0_t29 : Fin k0_t29_loop.trips) : Fin 1 → Nat :=
  let c0_i32_73 : BitVec 32 := 0#32
  let c1_i32_75 : BitVec 32 := 1#32
  let arg12 : BitVec 32 := Scf.iv c0_i32_73 c1_i32_75 k0_t29
  let c1_i32_78 : BitVec 32 := 1#32
  let v108 : BitVec 32 := Scalar.addi arg12 c1_i32_78
  let v109 : Index := Scalar.indexCast v108
  ![v109.toNat]
def k0_off162 (k0_t29 : Fin k0_t29_loop.trips) : Fin 1 → Nat :=
  let c0_i32_73 : BitVec 32 := 0#32
  let c1_i32_75 : BitVec 32 := 1#32
  let arg12 : BitVec 32 := Scf.iv c0_i32_73 c1_i32_75 k0_t29
  let v111 : Index := Scalar.indexCast arg12
  ![v111.toNat]
def k0_off163 (k0_t29 : Fin k0_t29_loop.trips) (c0_i32_79 : BitVec 32) : Fin 1 → Nat :=
  let c0_i32_73 : BitVec 32 := 0#32
  let c1_i32_75 : BitVec 32 := 1#32
  let arg12 : BitVec 32 := Scf.iv c0_i32_73 c1_i32_75 k0_t29
  let c3_i32_77 : BitVec 32 := 3#32
  let v106 : BitVec 32 := Scalar.muli arg12 c3_i32_77
  let c256_i32 : BitVec 32 := 256#32
  let v107 : BitVec 32 := Scalar.muli v106 c256_i32
  let c512_i32 : BitVec 32 := 512#32
  let v116 : BitVec 32 := Scalar.addi v107 c512_i32
  let v117 : BitVec 32 := Scalar.addi v116 c0_i32_79
  let v118 : Index := Scalar.indexCast v117
  ![v118.toNat]
def k0_off164 (k0_t29 : Fin k0_t29_loop.trips) : Fin 1 → Nat :=
  let c0_i32_73 : BitVec 32 := 0#32
  let c1_i32_75 : BitVec 32 := 1#32
  let arg12 : BitVec 32 := Scf.iv c0_i32_73 c1_i32_75 k0_t29
  let c3_i32_77 : BitVec 32 := 3#32
  let v106 : BitVec 32 := Scalar.muli arg12 c3_i32_77
  let c256_i32 : BitVec 32 := 256#32
  let v107 : BitVec 32 := Scalar.muli v106 c256_i32
  ![v107.toNat]
def k0_off165 (i : grid0.Coords) (k0_t29 : Fin k0_t29_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_73 : BitVec 32 := 0#32
  let c1_i32_75 : BitVec 32 := 1#32
  let arg12 : BitVec 32 := Scf.iv c0_i32_73 c1_i32_75 k0_t29
  let v324 : BitVec 32 := Scalar.addi v2 arg12
  let c0_i32_131_r1 : BitVec 32 := 0#32
  ![v324.toNat, 0]
abbrev grid1 : Pipeline.Grid := .none

abbrev stage1_0 : Fin 1 → Memref sig .tc .vmem S128x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S768x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S768x256 : Shape := ⟨2, ![768, 256]⟩
abbrev S256 : Shape := ⟨1, ![256]⟩
abbrev S128x50000 : Shape := ⟨2, ![128, 50000]⟩
abbrev S1x50000 : Shape := ⟨2, ![1, 50000]⟩
abbrev S128x50000x1 : Shape := ⟨3, ![128, 50000, 1]⟩
abbrev S1x50000x256 : Shape := ⟨3, ![1, 50000, 256]⟩
abbrev S_ : Shape := ⟨0, ![]⟩
abbrev S128x50000x256 : Shape := ⟨3, ![128, 50000, 256]⟩
abbrev S128x256 : Shape := ⟨2, ![128, 256]⟩
abbrev S50000x1 : Shape := ⟨2, ![50000, 1]⟩
abbrev S128 : Shape := ⟨1, ![128]⟩
abbrev S128x1 : Shape := ⟨2, ![128, 1]⟩
abbrev S128x768 : Shape := ⟨2, ![128, 768]⟩
abbrev S1x256 : Shape := ⟨2, ![1, 256]⟩

abbrev nBuf : Space → Nat
  | .hbm => 50
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S768x256, .f32⟩
  | .hbm, ⟨3, _⟩ => ⟨S256, .f32⟩
  | .hbm, ⟨4, _⟩ => ⟨S128x50000, .i32⟩
  | .hbm, ⟨5, _⟩ => ⟨S1x50000, .i32⟩
  | .hbm, ⟨6, _⟩ => ⟨S128x50000, .i32⟩
  | .hbm, ⟨7, _⟩ => ⟨S128x50000, .i1⟩
  | .hbm, ⟨8, _⟩ => ⟨S128x50000x1, .i1⟩
  | .hbm, ⟨9, _⟩ => ⟨S1x50000x256, .f32⟩
  | .hbm, ⟨10, _⟩ => ⟨S_, .f32⟩
  | .hbm, ⟨11, _⟩ => ⟨S_, .f32⟩
  | .hbm, ⟨12, _⟩ => ⟨S128x50000x256, .i1⟩
  | .hbm, ⟨13, _⟩ => ⟨S128x50000x256, .f32⟩
  | .hbm, ⟨14, _⟩ => ⟨S128x50000x256, .f32⟩
  | .hbm, ⟨15, _⟩ => ⟨S128x50000x256, .f32⟩
  | .hbm, ⟨16, _⟩ => ⟨S_, .f32⟩
  | .hbm, ⟨17, _⟩ => ⟨S128x256, .f32⟩
  | .hbm, ⟨18, _⟩ => ⟨S1x50000x256, .f32⟩
  | .hbm, ⟨19, _⟩ => ⟨S1x50000x256, .f32⟩
  | .hbm, ⟨20, _⟩ => ⟨S_, .f32⟩
  | .hbm, ⟨21, _⟩ => ⟨S_, .f32⟩
  | .hbm, ⟨22, _⟩ => ⟨S128x50000x256, .i1⟩
  | .hbm, ⟨23, _⟩ => ⟨S128x50000x256, .f32⟩
  | .hbm, ⟨24, _⟩ => ⟨S128x50000x256, .f32⟩
  | .hbm, ⟨25, _⟩ => ⟨S128x50000x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S50000x1, .i32⟩
  | .hbm, ⟨32, _⟩ => ⟨S128x256, .f32⟩
  | .hbm, ⟨33, _⟩ => ⟨S_, .f32⟩
  | .hbm, ⟨34, _⟩ => ⟨S50000, .f32⟩
  | .hbm, ⟨35, _⟩ => ⟨S_, .f32⟩
  | .hbm, ⟨36, _⟩ => ⟨S128, .f32⟩
  | .hbm, ⟨37, _⟩ => ⟨S50000x1, .i32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128x1, .f32⟩
  | .hbm, ⟨43, _⟩ => ⟨S128x256, .f32⟩
  | .hbm, ⟨44, _⟩ => ⟨S128x256, .f32⟩
  | .hbm, ⟨45, _⟩ => ⟨S128x768, .f32⟩
  | .hbm, ⟨46, _⟩ => ⟨S128x256, .f32⟩
  | .hbm, ⟨47, _⟩ => ⟨S1x256, .f32⟩
  | .hbm, ⟨48, _⟩ => ⟨S128x256, .f32⟩
  | .hbm, ⟨49, _⟩ => ⟨S128x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Proof.Setup.lean ====
/-
  The names every later module uses: the program as the launch theorem sees it, the resource algebra, the buffers of a
  vector subcore spelt as the kernel's body table passes them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.LoopRemainder

@[expose] public section

noncomputable section

namespace Cert.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the whole program: the kernels' own and the pipeline's. -/
abbrev ΛP : Labels := Pipeline.Sig Λ₀ (Fin 1) fun p => (pcfgs (F := F) p).Adm
/-- The SparseCore calls of the program. -/
abbrev K : SparseCore.Cfg τ sig (ΛP (F := F)) 1 := sc (F := F)
/-- The whole program's body table. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl

/-- The layout facts of the handshakes' semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, the TensorCore pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshakes' rounds sit in the algebra. -/
abbrev EH : Emb UH (MT nD τ sig (HIx 1) (Elt F) ℕ UU ℕ) := embL
/-- Where the pipeline's rounds sit in the algebra. -/
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP; infer_instance

/-- The SparseCore of grid coordinates, and the vector subcore. -/
abbrev cV (L : grid0.Coords) : Fin τ.nSC := (L 0).castLE hcore0
abbrev jV (L : grid0.Coords) : Fin τ.nSub := (L 1).castLE hsub0
/-- The thread of grid coordinates `L` on device `d`. -/
abbrev thr (d : Dev nD) (L : grid0.Coords) : Thread nD τ := V d (cV L) (jV L)

end Cert.Pool
-- ==== Proof.Spec.lean ====
/-
  What the kernel computes, stated over plain naturals: folds over ranges of rows, the binary search, the accumulators
  after some chunks.
-/
module

public import proofs.«01_k».proof.Proof.Setup

@[expose] public section

noncomputable section

namespace Cert.Pool

open Idealize.ShloMosaic

/-! ## Folds over a range of rows -/

/-- The fold of `op` over the `n` values `X lo, …, X (lo + n - 1)`, first to last, onto `z`. -/
def foldN {α : Type} (op : α → α → α) (X : ℕ → α) (z : α) (lo : ℕ) : ℕ → α
  | 0 => z
  | n + 1 => op (foldN op X z lo n) (X (lo + n))

theorem foldN_zero {α : Type} (op : α → α → α) (X : ℕ → α) (z : α) (lo : ℕ) : foldN op X z lo 0 = z := rfl

theorem foldN_succ {α : Type} (op : α → α → α) (X : ℕ → α) (z : α) (lo n : ℕ) :
    foldN op X z lo (n + 1) = op (foldN op X z lo n) (X (lo + n)) := rfl

/-- A fold goes on from where another ends. -/
theorem foldN_add {α : Type} (op : α → α → α) (X : ℕ → α) (z : α) (lo m n : ℕ) :
    foldN op X (foldN op X z lo m) (lo + m) n = foldN op X z lo (m + n) := by
  induction n with
  | zero => rfl
  | succ n ih => rw [foldN_succ, ih, Nat.add_assoc, ← Nat.add_assoc m n 1, foldN_succ]

/-- One window of rows folded onto what the rows before it left: the window's part of a segment's rows `[o, p)`. -/
theorem foldN_window {α : Type} (op : α → α → α) (X : ℕ → α) (z : α) {a s n o p : ℕ} (ha : a ≤ s) :
    foldN op X (foldN op X z (max o a) (min p s - max o a)) (max o s) (min p (s + n) - max o s)
      = foldN op X z (max o a) (min p (s + n) - max o a) := by
  by_cases h : min p (s + n) ≤ max o s
  · rw [Nat.sub_eq_zero_of_le h, foldN_zero]
    rcases Nat.lt_or_ge (max o a) (min p s) with h' | h'
    · congr 1; omega
    · have : min p (s + n) - max o a = 0 := by omega
      rw [this, Nat.sub_eq_zero_of_le h']
  · by_cases h2 : o ≤ s
    · have e1 : max o s = max o a + (min p s - max o a) := by omega
      have e2 : min p (s + n) - max o a = (min p s - max o a) + (min p (s + n) - max o s) := by omega
      rw [e2, ← foldN_add, ← e1]
    · have e1 : min p s - max o a = 0 := by omega
      have e2 : max o a = max o s := by omega
      rw [e1, foldN_zero, e2]

/-! ## The binary search -/

/-- One step of the search over the words `B` for the first at least `t`. -/
def bsStep (B : ℕ → BitVec 32) (t : BitVec 32) (p : ℕ × ℕ) : ℕ × ℕ :=
  if (B ((p.1 + p.2) / 2)).toInt < t.toInt then ((p.1 + p.2) / 2 + 1, p.2) else (p.1, (p.1 + p.2) / 2)

/-- The search's bounds after `r` steps from `(0, 50000)`. -/
def bs (B : ℕ → BitVec 32) (t : BitVec 32) : ℕ → ℕ × ℕ
  | 0 => (0, 50000)
  | r + 1 => bsStep B t (bs B t r)

/-- The words the search runs over: the batch, then `128` past its end. -/
def padded (B : ℕ → BitVec 32) (r : ℕ) : BitVec 32 := if r < 50000 then B r else 128#32

/-- The first row of segment `s` (for any words). -/
def offs (B : ℕ → BitVec 32) (s : ℕ) : ℕ := (bs (padded B) (BitVec.ofNat 32 s) 16).1

/-! ## The accumulators -/

variable {F : FTy → Type} [FloatOps F]

/-- The three folds of a segment: largest, smallest, sum. -/
def opv (j : ℕ) : F .f32 → F .f32 → F .f32 :=
  if j = 0 then FloatOps.maximumf else if j = 1 then FloatOps.minimumf else FloatOps.addf

/-- What each fold starts from. -/
def ini (j : ℕ) : F .f32 :=
  if j = 0 then Scalar.ofBits .f32 0xFF800000#32 else if j = 1 then Scalar.ofBits .f32 0x7F800000#32 else Scalar.ofBits .f32 0x00000000#32

/-- Element `e` of the four segments' accumulators once the rows `[a, s)` have been seen: segment `e / 768`, fold
    `e % 768 / 256`, column `e % 256`; segment `k`'s rows are `[o k, o (k + 1))`. -/
def accS (X : ℕ → ℕ → F .f32) (o : ℕ → ℕ) (a s e : ℕ) : F .f32 :=
  foldN (opv (e % 768 / 256)) (fun r => X r (e % 256)) (ini (e % 768 / 256)) (max (o (e / 768)) a)
    (min (o (e / 768 + 1)) s - max (o (e / 768)) a)

/-- Element `e` after the window `[s, s + n)` of rows, from what it was before. -/
theorem accS_window (X : ℕ → ℕ → F .f32) (o : ℕ → ℕ) {a s n : ℕ} (ha : a ≤ s) (e : ℕ) :
    foldN (opv (e % 768 / 256)) (fun r => X r (e % 256)) (accS X o a s e) (max (o (e / 768)) s)
      (min (o (e / 768 + 1)) (s + n) - max (o (e / 768)) s) = accS X o a (s + n) e :=
  foldN_window _ _ _ ha

/-- Before any rows every accumulator is what its fold starts from. -/
theorem accS_start (X : ℕ → ℕ → F .f32) (o : ℕ → ℕ) (a e : ℕ) : accS X o a a e = ini (e % 768 / 256) := by
  unfold accS
  rw [show min (o (e / 768 + 1)) a - max (o (e / 768)) a = 0 by omega, foldN_zero]

end Cert.Pool
-- ==== Proof.Words.lean ====
/-
  The kernel's index words as integers: the rounded-down quotients the program spells out in signed operations, the
  number of chunks, where a chunk starts, the rows of a segment in a chunk, and from them the side conditions the
  program checks.
-/
module

public import proofs.«01_k».proof.Proof.Spec

@[expose] public section

noncomputable section

namespace Cert.Pool

open Cert.KernelIdeal Cert.KernelIdeal.Gen
open Idealize.ShloMosaic
open Idealize.ShloMosaic.Affine (IsInt)

/-! ## Division rounded down -/

/-- The quotient of two words rounded down, as the program computes it. -/
def fd (x d : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

theorem isInt_iff {x : BitVec 32} {e : ℤ} : IsInt x e ↔ x.toInt = e := by unfold IsInt; exact Iff.rfl

/-- A word below `2 ^ 31` as an integer. -/
theorem isInt_ofNat (n : ℕ) (h : n < 2 ^ 31) : IsInt (BitVec.ofNat 32 n) n := Affine.ofNat n ⟨rfl, h⟩

theorem isInt_ext {x y : BitVec 32} {e : ℤ} (hx : IsInt x e) (hy : IsInt y e) : x = y := by
  rw [isInt_iff] at hx hy
  exact BitVec.eq_of_toInt_eq (hx.trans hy.symm)

theorem eq_ofNat {x : BitVec 32} {n : ℕ} (h : n < 2 ^ 31) (hx : IsInt x n) : x = BitVec.ofNat 32 n :=
  isInt_ext hx (isInt_ofNat n h)

theorem fd_eq (x : BitVec 32) (d : ℕ) (hd : 0 < d) (hd' : d < 2 ^ 31) :
    fd x (BitVec.ofNat 32 d)
      = if x.toInt ≤ 0 ∧ x.srem (BitVec.ofNat 32 d) ≠ 0#32 then x.sdiv (BitVec.ofNat 32 d) - 1#32
        else x.sdiv (BitVec.ofNat 32 d) := by
  have hdI := isInt_ofNat d hd'
  have hc : ¬IntOp.SDivCorner x (BitVec.ofNat 32 d) := by
    rw [isInt_iff] at hdI
    rintro (h0 | ⟨-, h1⟩)
    · rw [h0] at hdI; have : (0 : BitVec 32).toInt = 0 := by decide
      omega
    · rw [h1] at hdI; have : (-1 : BitVec 32).toInt = -1 := by decide
      omega
  have e1 : Scalar.divsi x (BitVec.ofNat 32 d) = x.sdiv (BitVec.ofNat 32 d) := by
    rw [Scalar.divsi, IntOp.divsi, if_neg hc]
  have e2 : Scalar.remsi x (BitVec.ofNat 32 d) = x.srem (BitVec.ofNat 32 d) := by
    rw [Scalar.remsi, IntOp.remsi, if_neg hc]
  have hz : IsInt (0#32) 0 := isInt_ofNat 0 (by decide)
  have e3 : Scalar.subi (Scalar.extui (Scalar.cmpi .sgt (BitVec.ofNat 32 d) 0#32) : BitVec 32)
      (Scalar.extui (Scalar.cmpi .slt (BitVec.ofNat 32 d) 0#32)) = 1#32 := by
    have a : Scalar.cmpi .sgt (BitVec.ofNat 32 d) 0#32 = 1#1 := Affine.sgt_holds hdI hz (by omega)
    have b : Scalar.cmpi .slt (BitVec.ofNat 32 d) 0#32 = 0#1 := by
      have : ¬Scalar.cmpi .slt (BitVec.ofNat 32 d) 0#32 = 1#1 := Affine.slt_fails hdI hz (by omega)
      generalize Scalar.cmpi .slt (BitVec.ofNat 32 d) 0#32 = c at this ⊢
      revert c; decide
    rw [a, b]; decide
  unfold fd
  rw [e1, e2, e3]
  by_cases hx : 0 < x.toInt
  · have a : Scalar.cmpi .sgt x 0#32 = 1#1 := Affine.sgt_holds (Affine.word x) hz hx
    have b : Scalar.cmpi .slt x 0#32 = 0#1 := by
      have : ¬Scalar.cmpi .slt x 0#32 = 1#1 := Affine.slt_fails (Affine.word x) hz (by omega)
      generalize Scalar.cmpi .slt x 0#32 = c at this ⊢
      revert c; decide
    have e4 : Scalar.cmpi .ne (Scalar.subi (Scalar.extui (1#1 : BitVec 1) : BitVec 32) (Scalar.extui (0#1 : BitVec 1))) 1#32 = 0#1 := by decide
    rw [a, b, e4, if_neg (by omega)]
    have e5 : ∀ c : BitVec 1, Scalar.andi (0#1) c = 0#1 := by decide
    rw [e5]; rfl
  · have a : Scalar.cmpi .sgt x 0#32 = 0#1 := by
      have : ¬Scalar.cmpi .sgt x 0#32 = 1#1 := Affine.sgt_fails (Affine.word x) hz hx
      generalize Scalar.cmpi .sgt x 0#32 = c at this ⊢
      revert c; decide
    have e4 : ∀ c : BitVec 1, Scalar.cmpi .ne (Scalar.subi (Scalar.extui (0#1 : BitVec 1) : BitVec 32) (Scalar.extui c)) 1#32 = 1#1 := by decide
    have e5 : ∀ c : BitVec 1, Scalar.andi (1#1) c = c := by decide
    rw [a, e4, e5]
    by_cases hr : x.srem (BitVec.ofNat 32 d) = 0#32
    · have : Scalar.cmpi .ne (x.srem (BitVec.ofNat 32 d)) 0#32 = 0#1 := by rw [hr]; decide
      rw [this, if_neg (by simp [hr])]; rfl
    · have : Scalar.cmpi .ne (x.srem (BitVec.ofNat 32 d)) 0#32 = 1#1 := by
        refine Affine.ne_holds (Affine.word _) hz ?_
        intro h; exact hr (BitVec.eq_of_toInt_eq (h.trans (by decide)))
      rw [this, if_pos ⟨by omega, hr⟩]; rfl

/-- The rounded-down quotient by a positive divisor, as an integer. -/
theorem isInt_fd {x : BitVec 32} {e : ℤ} (hx : IsInt x e) (d : ℕ) (hd : 1 < d) (hd' : d < 2 ^ 31) :
    IsInt (fd x (BitVec.ofNat 32 d)) (e / d) := by
  have hr := Affine.word_range x
  have hdI := isInt_ofNat d hd'
  rw [isInt_iff] at *
  have hq : (x.sdiv (BitVec.ofNat 32 d)).toInt = e.tdiv d := by
    rw [BitVec.toInt_sdiv_of_ne_or_ne, hx, hdI]
    right
    intro h; rw [h] at hdI; have : (-1#32 : BitVec 32).toInt = -1 := by decide
    omega
  have hm : (x.srem (BitVec.ofNat 32 d)).toInt = e.tmod d := by rw [BitVec.toInt_srem, hx, hdI]
  have hmz : x.srem (BitVec.ofNat 32 d) ≠ 0#32 ↔ e.tmod d ≠ 0 := by
    rw [← hm, not_iff_not]
    constructor
    · intro h; rw [h]; decide
    · intro h; exact BitVec.eq_of_toInt_eq (h.trans (by decide))
  rw [hx] at hr
  rw [fd_eq x d (by omega) hd']
  have hd0 : (0 : ℤ) < d := by omega
  have b2 : e.tdiv d * d = e - e.tmod d := by have := Int.tdiv_mul_add_tmod e d; omega
  have hb := Int.tmod_lt_of_pos e hd0
  rcases (by omega : 0 < e ∨ e ≤ 0) with hpos | hneg
  · rw [if_neg (by rw [hx]; omega), hq, Int.tdiv_eq_ediv_of_nonneg (by omega)]
  · have hsg : e.tmod d ≤ 0 := by
      have h1 := Int.tmod_nonneg d (show 0 ≤ -e by omega)
      rw [Int.neg_tmod] at h1; omega
    have hgt : -(d : ℤ) < e.tmod d := by
      have h1 := Int.tmod_lt_of_pos (-e) hd0
      rw [Int.neg_tmod] at h1; omega
    by_cases h0 : e.tmod d = 0
    · rw [if_neg (fun h => hmz.1 h.2 h0), hq]
      rw [h0, sub_zero] at b2
      exact (Int.ediv_eq_of_eq_mul_left (by omega) b2.symm).symm
    · rw [if_pos ⟨hx ▸ hneg, hmz.2 h0⟩]
      have hq2 : e / (d : ℤ) = e.tdiv d - 1 := by
        refine ((Int.ediv_emod_unique (r := e.tmod d + d) hd0).2 ⟨?_, by omega, by omega⟩).1
        rw [Int.mul_sub, Int.mul_comm (d : ℤ) (e.tdiv d), b2]; omega
      rw [hq2]
      have hwr := Affine.word_range (x.sdiv (BitVec.ofNat 32 d))
      rw [hq] at hwr
      have hq3 : e.tdiv d ≠ -2 ^ 31 := by
        intro h; rw [h] at b2; omega
      have := Affine.subi (a := x.sdiv (BitVec.ofNat 32 d)) (b := 1#32) (ea := e.tdiv d) (eb := 1) (e := e.tdiv d - 1)
        (isInt_iff.2 hq) (isInt_ofNat 1 (by decide)) ⟨rfl, by omega, by omega⟩
      exact isInt_iff.1 this

/-! ## Chunks -/

/-- The row the chunks start at, the segment's first row rounded down to a multiple of 8. -/
def st0 (v35 : BitVec 32) : BitVec 32 := Scalar.muli (fd v35 8#32) 8#32
/-- The number of chunks. -/
def ncw (v35 v37 : BitVec 32) : BitVec 32 :=
  fd (Scalar.subi (Scalar.addi (Scalar.subi v37 (st0 v35)) 144#32) 1#32) 144#32
/-- The number of pairs of chunks. -/
def npw (v35 v37 : BitVec 32) : BitVec 32 := fd (Scalar.addi (ncw v35 v37) 1#32) 2#32
/-- Twice a trip of the loop over pairs. -/
def kw (k : ℕ) : BitVec 32 := Scalar.muli 2#32 (Scf.iv 0#32 1#32 k)

/-- The start row, the number of chunks, and their integer forms. -/
def stN (o : ℕ) : ℕ := o / 8 * 8
def nch (o p : ℕ) : ℕ := (p + 143 - stN o) / 144

section
variable {o p : ℕ} (ho : o ≤ 50000) (hp : p ≤ 50000)
include ho

theorem isInt_st0 : IsInt (st0 (BitVec.ofNat 32 o)) (stN o) := by
  have h1 := isInt_fd (isInt_ofNat o (by omega)) 8 (by decide) (by decide)
  exact Affine.muli h1 (isInt_ofNat 8 (by decide)) ⟨by unfold stN; push_cast; rfl, by unfold stN; omega, by unfold stN; omega⟩

include hp

theorem isInt_ncw : IsInt (ncw (BitVec.ofNat 32 o) (BitVec.ofNat 32 p)) (((p : ℤ) + 143 - stN o) / 144) := by
  have hs : stN o ≤ 50000 := by unfold stN; omega
  have h1 := Affine.subi (isInt_ofNat p (by omega)) (isInt_st0 ho) ⟨rfl, by omega, by omega⟩
  have h2 := Affine.addi h1 (isInt_ofNat 144 (by decide)) ⟨rfl, by omega, by omega⟩
  have h3 := Affine.subi h2 (isInt_ofNat 1 (by decide)) ⟨rfl, by omega, by omega⟩
  have h4 := isInt_fd h3 144 (by decide) (by decide)
  exact Affine.relit h4 (by push_cast; omega)

theorem isInt_npw : IsInt (npw (BitVec.ofNat 32 o) (BitVec.ofNat 32 p)) ((((p : ℤ) + 143 - stN o) / 144 + 1) / 2) := by
  have hs : stN o ≤ 50000 := by unfold stN; omega
  have h1 := Affine.addi (isInt_ncw ho hp) (isInt_ofNat 1 (by decide)) ⟨rfl, by omega, by omega⟩
  exact isInt_fd h1 2 (by decide) (by decide)

/-- The loop over pairs of chunks makes half as many trips as there are chunks, rounded up. -/
theorem trips7 : (k0_t7_loop (BitVec.ofNat 32 o) (BitVec.ofNat 32 p)).trips = (nch o p + 1) / 2 := by
  have hs : stN o ≤ 50000 := by unfold stN; omega
  have h := isInt_npw ho hp
  have h0 := Affine.subi h (isInt_ofNat 0 (by decide)) ⟨rfl, by omega, by omega⟩
  have e : k0_t7_loop (BitVec.ofNat 32 o) (BitVec.ofNat 32 p)
      = ⟨0#32, Scalar.addi 0#32 (Scalar.muli (Scalar.divsi (Scalar.subi (npw (BitVec.ofNat 32 o) (BitVec.ofNat 32 p)) 0#32) 1#32) 1#32), 1#32⟩ := rfl
  rw [e]
  rw [Scalar.muli_divsi_one]
  have h1 := Affine.addi (isInt_ofNat 0 (by decide)) h0 ⟨rfl, by omega, by omega⟩
  unfold Scf.Loop.trips Scf.trips
  rw [isInt_iff] at h1
  rw [show (0#32 : BitVec 32).toInt = 0 by decide, show (1#32 : BitVec 32).toInt = 1 by decide]
  dsimp only
  rw [h1]
  unfold nch
  omega

theorem ok7 : (k0_t7_loop (BitVec.ofNat 32 o) (BitVec.ofNat 32 p)).OK := by
  have hs : stN o ≤ 50000 := by unfold stN; omega
  have h := isInt_npw ho hp
  have h0 := Affine.subi h (isInt_ofNat 0 (by decide)) ⟨rfl, by omega, by omega⟩
  have h0' := Affine.divsi_one h0 (isInt_ofNat 1 (by decide)) ⟨rfl, rfl⟩
  have h0'' := Affine.muli h0' (isInt_ofNat 1 (by decide)) ⟨rfl, by omega, by omega⟩
  have h1 := Affine.addi (isInt_ofNat 0 (by decide)) h0'' ⟨rfl, by omega, by omega⟩
  exact Affine.ok (isInt_ofNat 0 (by decide)) h1 (isInt_ofNat 1 (by decide)) ⟨by decide, by omega⟩

end

theorem isInt_kw (k : ℕ) (hk : k < 1000) : IsInt (kw k) (2 * k : ℕ) := by
  have h := Affine.iv (isInt_ofNat 0 (by decide)) (isInt_ofNat 1 (by decide)) k ⟨rfl, by omega, by omega⟩
  exact Affine.muli (isInt_ofNat 2 (by decide)) h ⟨by push_cast; omega, by omega, by omega⟩

/-- The start of chunk `2 k + r`, not clamped. -/
def cw (v35 : BitVec 32) (k : ℕ) (r : ℕ) : BitVec 32 :=
  Scalar.addi (st0 v35) (Scalar.muli (if r = 0 then kw k else Scalar.addi (kw k) (BitVec.ofNat 32 r)) 144#32)

theorem isInt_cw {o : ℕ} (ho : o ≤ 50000) (k r : ℕ) (hk : k < 1000) (hr : r < 3) :
    IsInt (cw (BitVec.ofNat 32 o) k r) (stN o + 144 * (2 * k + r) : ℕ) := by
  have hs : stN o ≤ 50000 := by unfold stN; omega
  have hkI := isInt_kw k hk
  have h1 : IsInt (if r = 0 then kw k else Scalar.addi (kw k) (BitVec.ofNat 32 r)) (2 * k + r : ℕ) := by
    split
    · next h => subst h; exact hkI
    · exact Affine.addi hkI (isInt_ofNat r (by omega)) ⟨by push_cast; rfl, by omega, by omega⟩
  have h2 := Affine.muli h1 (isInt_ofNat 144 (by decide)) ⟨rfl, by omega, by omega⟩
  exact Affine.addi (isInt_st0 ho) h2 ⟨by push_cast; omega, by omega, by omega⟩

/-- The start of the chunk that is copied: clamped so that the chunk stays inside the array. -/
def clamp (s : ℕ) : ℕ := min s 49856

theorem toNat_clamp {x : BitVec 32} {s : ℕ} (hx : IsInt x s) : (Scalar.minsi x 49856#32).toNat = clamp s := by
  have h := Affine.minsi hx (isInt_ofNat 49856 (by decide)) rfl
  exact Affine.nat_eq h _ (by unfold clamp; omega)

theorem isInt_clamp {x : BitVec 32} {s : ℕ} (hx : IsInt x s) : IsInt (Scalar.minsi x 49856#32) (clamp s) :=
  Affine.minsi hx (isInt_ofNat 49856 (by decide)) (by unfold clamp; omega)

theorem clamp_dvd {o n : ℕ} : 8 ∣ clamp (stN o + 144 * n) := by unfold clamp stN; omega

theorem bit_iff {c : BitVec 1} : Scalar.cmpi .ne (Scalar.extui c : BitVec 32) 0#32 = 1#1 ↔ c = 1#1 := by
  revert c; decide

theorem slt_iff {x y : BitVec 32} {a b : ℤ} (hx : IsInt x a) (hy : IsInt y b) : Scalar.cmpi .slt x y = 1#1 ↔ a < b :=
  ⟨fun h => by by_contra h'; exact Affine.slt_fails hx hy h' h, fun h => Affine.slt_holds hx hy h⟩
theorem sgt_iff {x y : BitVec 32} {a b : ℤ} (hx : IsInt x a) (hy : IsInt y b) : Scalar.cmpi .sgt x y = 1#1 ↔ b < a :=
  ⟨fun h => by by_contra h'; exact Affine.sgt_fails hx hy h' h, fun h => Affine.sgt_holds hx hy h⟩

section
variable {o p : ℕ} (ho : o ≤ 50000) (hp : p ≤ 50000)
include ho hp

theorem lt_of_trip (k : Fin (k0_t7_loop (BitVec.ofNat 32 o) (BitVec.ofNat 32 p)).trips) : k.val < (nch o p + 1) / 2 :=
  trips7 ho hp ▸ k.isLt

theorem trip_lt (k : Fin (k0_t7_loop (BitVec.ofNat 32 o) (BitVec.ofNat 32 p)).trips) : k.val < 1000 := by
  have := lt_of_trip ho hp k
  have : nch o p ≤ 400 := by unfold nch; omega
  omega

theorem cond1_iff : k0_cond1 (BitVec.ofNat 32 o) (BitVec.ofNat 32 p) = 1#1 ↔ 0 < nch o p := by
  have e : k0_cond1 (BitVec.ofNat 32 o) (BitVec.ofNat 32 p)
      = Scalar.cmpi .ne (Scalar.extui (Scalar.cmpi .sgt (ncw (BitVec.ofNat 32 o) (BitVec.ofNat 32 p)) 0#32) : BitVec 32) 0#32 := rfl
  rw [e, bit_iff, sgt_iff (isInt_ncw ho hp) (isInt_ofNat 0 (by decide))]
  unfold nch; omega

theorem cond2_iff (k : Fin (k0_t7_loop (BitVec.ofNat 32 o) (BitVec.ofNat 32 p)).trips) :
    k0_cond2 (BitVec.ofNat 32 o) (BitVec.ofNat 32 p) k = 1#1 ↔ 2 * k.val + 1 < nch o p := by
  have e : k0_cond2 (BitVec.ofNat 32 o) (BitVec.ofNat 32 p) k
      = Scalar.cmpi .ne (Scalar.extui (Scalar.cmpi .slt (Scalar.addi (kw k) 1#32) (ncw (BitVec.ofNat 32 o) (BitVec.ofNat 32 p))) : BitVec 32) 0#32 := rfl
  have hk := trip_lt ho hp k
  have h := Affine.addi (isInt_kw k hk) (isInt_ofNat 1 (by decide)) ⟨rfl, by omega, by omega⟩
  rw [e, bit_iff, slt_iff h (isInt_ncw ho hp)]
  unfold nch; omega

theorem cond5_iff (k : Fin (k0_t7_loop (BitVec.ofNat 32 o) (BitVec.ofNat 32 p)).trips) :
    k0_cond5 (BitVec.ofNat 32 o) (BitVec.ofNat 32 p) k = 1#1 ↔ 2 * k.val + 1 < nch o p :=
  cond2_iff ho hp k

theorem cond4_iff (k : Fin (k0_t7_loop (BitVec.ofNat 32 o) (BitVec.ofNat 32 p)).trips) :
    k0_cond4 (BitVec.ofNat 32 o) (BitVec.ofNat 32 p) k = 1#1 ↔ 2 * k.val + 2 < nch o p := by
  have e : k0_cond4 (BitVec.ofNat 32 o) (BitVec.ofNat 32 p) k
      = Scalar.cmpi .ne (Scalar.extui (Scalar.cmpi .slt (Scalar.addi (kw k) 2#32) (ncw (BitVec.ofNat 32 o) (BitVec.ofNat 32 p))) : BitVec 32) 0#32 := rfl
  have hk := trip_lt ho hp k
  have h := Affine.addi (isInt_kw k hk) (isInt_ofNat 2 (by decide)) ⟨rfl, by omega, by omega⟩
  rw [e, bit_iff, slt_iff h (isInt_ncw ho hp)]
  unfold nch; omega

theorem off8_eq : k0_off8 (BitVec.ofNat 32 o) = ![clamp (stN o), 0] := by
  have e : k0_off8 (BitVec.ofNat 32 o) = ![(Scalar.minsi (Scalar.addi (st0 (BitVec.ofNat 32 o)) 0#32) 49856#32).toNat, 0] := rfl
  have hs : stN o ≤ 50000 := by unfold stN; omega
  have h := Affine.addi (isInt_st0 ho) (isInt_ofNat 0 (by decide)) (e := stN o) ⟨by push_cast; omega, by omega, by omega⟩
  rw [e, toNat_clamp h]

theorem off9_eq (k : Fin (k0_t7_loop (BitVec.ofNat 32 o) (BitVec.ofNat 32 p)).trips) :
    k0_off9 (BitVec.ofNat 32 o) (BitVec.ofNat 32 p) k = ![clamp (stN o + 144 * (2 * k + 1)), 0] := by
  have e : k0_off9 (BitVec.ofNat 32 o) (BitVec.ofNat 32 p) k = ![(Scalar.minsi (cw (BitVec.ofNat 32 o) k 1) 49856#32).toNat, 0] := rfl
  rw [e, toNat_clamp (isInt_cw ho k 1 (trip_lt ho hp k) (by omega))]

theorem off48_eq (k : Fin (k0_t7_loop (BitVec.ofNat 32 o) (BitVec.ofNat 32 p)).trips) :
    k0_off48 (BitVec.ofNat 32 o) (BitVec.ofNat 32 p) k = ![clamp (stN o + 144 * (2 * k + 1)), 0] := off9_eq ho hp k

theorem off10_eq (k : Fin (k0_t7_loop (BitVec.ofNat 32 o) (BitVec.ofNat 32 p)).trips) :
    k0_off10 (BitVec.ofNat 32 o) (BitVec.ofNat 32 p) k = ![clamp (stN o + 144 * (2 * k + 0)), 0] := by
  have e : k0_off10 (BitVec.ofNat 32 o) (BitVec.ofNat 32 p) k = ![(Scalar.minsi (cw (BitVec.ofNat 32 o) k 0) 49856#32).toNat, 0] := rfl
  rw [e, toNat_clamp (isInt_cw ho k 0 (trip_lt ho hp k) (by omega))]

theorem off47_eq (k : Fin (k0_t7_loop (BitVec.ofNat 32 o) (BitVec.ofNat 32 p)).trips) :
    k0_off47 (BitVec.ofNat 32 o) (BitVec.ofNat 32 p) k = ![clamp (stN o + 144 * (2 * k + 2)), 0] := by
  have e : k0_off47 (BitVec.ofNat 32 o) (BitVec.ofNat 32 p) k = ![(Scalar.minsi (cw (BitVec.ofNat 32 o) k 2) 49856#32).toNat, 0] := rfl
  rw [e, toNat_clamp (isInt_cw ho k 2 (trip_lt ho hp k) (by omega))]

theorem inb_clamp {n : ℕ} {off : Fin 2 → ℕ} (h : off = ![clamp n, 0]) : ∀ a, off a + S144x256.size a ≤ S50000x256.size a := by
  subst h
  intro a
  have : clamp n ≤ 49856 := Nat.min_le_right _ _
  match a with
  | 0 => show clamp n + 144 ≤ 50000; omega
  | 1 => show 0 + 256 ≤ 256; omega

/-- The side condition of the chunk loops: every copy is inside the array and starts at a multiple of 8. -/
theorem chk6 : k0_chk6 (BitVec.ofNat 32 o) (BitVec.ofNat 32 p) := by
  have d : ∀ (k : Fin (k0_t7_loop (BitVec.ofNat 32 o) (BitVec.ofNat 32 p)).trips) (r : ℕ), r < 3 →
      8 ∣ (Scalar.minsi (cw (BitVec.ofNat 32 o) k r) 49856#32).toNat := fun k r hr => by
    rw [toNat_clamp (isInt_cw ho k r (trip_lt ho hp k) hr)]; exact clamp_dvd
  have no : ∀ k : Fin (k0_t18_loop (BitVec.ofNat 32 o) (BitVec.ofNat 32 p)).trips, False := fun k => Scf.rem_no_trip _ _ k
  refine ⟨fun _ => ?_, fun _ => inb_clamp ho hp (off8_eq ho hp), ok7 ho hp, fun k _ => d k 1 (by decide), fun k _ => inb_clamp ho hp (off9_eq ho hp k),
    fun k => d k 0 (by decide), fun k => inb_clamp ho hp (off10_eq ho hp k), fun k => d k 0 (by decide), fun k _ => d k 2 (by decide),
    fun k _ => inb_clamp ho hp (off47_eq ho hp k), fun k _ => d k 1 (by decide), fun k _ => inb_clamp ho hp (off48_eq ho hp k), fun k _ => d k 1 (by decide),
    Scf.rem_ok _ _, fun k => (no k).elim, fun k => (no k).elim, fun k => (no k).elim, fun k => (no k).elim, fun k => (no k).elim,
    fun k => (no k).elim, fun k => (no k).elim, fun k => (no k).elim, fun k => (no k).elim, fun k => (no k).elim⟩
  have e : (k0_mult1 (BitVec.ofNat 32 o)).toNat = clamp (stN o) := congrFun (off8_eq ho hp) 0
  rw [e]; exact clamp_dvd (o := o) (n := 0)

end

/-! ## A segment's rows in a chunk -/

/-- The first row, the row past the last, the number of rows of `[a, b)` in the chunk at `s`, as words. -/
def low (a s : BitVec 32) : BitVec 32 := Scalar.maxsi a s
def hiw (b s : BitVec 32) : BitVec 32 := Scalar.minsi b (Scalar.addi s 144#32)
def cntw (a b s : BitVec 32) : BitVec 32 := Scalar.maxsi (Scalar.subi (hiw b s) (low a s)) 0#32
def condw (a b s : BitVec 32) : BitVec 1 :=
  Scalar.cmpi .ne (Scalar.extui (Scalar.cmpi .sgt (hiw b s) (low a s)) : BitVec 32) 0#32
/-- A loop over those rows as the program bounds it, and what is left of it (nothing). -/
def rowLoop (a b s : BitVec 32) : Scf.Loop 32 :=
  ⟨0#32, Scalar.addi 0#32 (Scalar.muli (Scalar.divsi (Scalar.subi (cntw a b s) 0#32) 1#32) 1#32), 1#32⟩

section
variable {a b s : ℕ} (ha : a ≤ 50000) (hb : b ≤ 50000) (hs : s < 500000)
include ha hb hs

theorem condw_iff {S : BitVec 32} (hS : IsInt S s) :
    condw (BitVec.ofNat 32 a) (BitVec.ofNat 32 b) S = 1#1 ↔ max a s < min b (s + 144) := by
  have h1 := Affine.maxsi (isInt_ofNat a (by omega)) hS rfl
  have h2 := Affine.addi hS (isInt_ofNat 144 (by decide)) ⟨rfl, by omega, by omega⟩
  have h3 := Affine.minsi (isInt_ofNat b (by omega)) h2 rfl
  unfold condw hiw low
  rw [bit_iff, sgt_iff h3 h1]
  omega

theorem isInt_cntw {S : BitVec 32} (hS : IsInt S s) :
    IsInt (cntw (BitVec.ofNat 32 a) (BitVec.ofNat 32 b) S) (min b (s + 144) - max a s : ℕ) := by
  have h1 := Affine.maxsi (isInt_ofNat a (by omega)) hS rfl
  have h2 := Affine.addi hS (isInt_ofNat 144 (by decide)) ⟨rfl, by omega, by omega⟩
  have h3 := Affine.minsi (isInt_ofNat b (by omega)) h2 rfl
  have h4 := Affine.subi h3 h1 ⟨rfl, by omega, by omega⟩
  exact Affine.maxsi h4 (isInt_ofNat 0 (by decide)) (by omega)

theorem rowLoop_trips {S : BitVec 32} (hS : IsInt S s) :
    (rowLoop (BitVec.ofNat 32 a) (BitVec.ofNat 32 b) S).trips = min b (s + 144) - max a s := by
  have h := isInt_cntw ha hb hs hS
  have h0 := Affine.subi h (isInt_ofNat 0 (by decide)) ⟨rfl, by omega, by omega⟩
  unfold rowLoop
  rw [Scalar.muli_divsi_one]
  have h1 := Affine.addi (isInt_ofNat 0 (by decide)) h0 ⟨rfl, by omega, by omega⟩
  exact Affine.trips_eq (isInt_ofNat 0 (by decide)) h1 (isInt_ofNat 1 (by decide)) _ ⟨by decide, by omega⟩

theorem rowLoop_ok {S : BitVec 32} (hS : IsInt S s) : (rowLoop (BitVec.ofNat 32 a) (BitVec.ofNat 32 b) S).OK := by
  have h := isInt_cntw ha hb hs hS
  have h0 := Affine.subi h (isInt_ofNat 0 (by decide)) ⟨rfl, by omega, by omega⟩
  unfold rowLoop
  rw [Scalar.muli_divsi_one]
  have h1 := Affine.addi (isInt_ofNat 0 (by decide)) h0 ⟨rfl, by omega, by omega⟩
  exact Affine.ok (isInt_ofNat 0 (by decide)) h1 (isInt_ofNat 1 (by decide)) ⟨by decide, by omega⟩

end

section
variable {o p : ℕ} (ho : o ≤ 50000) (hp : p ≤ 50000) {a b : ℕ} (ha : a ≤ 50000) (hb : b ≤ 50000)
  (k : Fin (k0_t7_loop (BitVec.ofNat 32 o) (BitVec.ofNat 32 p)).trips)
include ho hp ha hb

theorem cond3_iff : k0_cond3 (BitVec.ofNat 32 o) (BitVec.ofNat 32 p) k (BitVec.ofNat 32 a) (BitVec.ofNat 32 b) = 1#1
    ↔ max a (stN o + 144 * (2 * k + 0)) < min b (stN o + 144 * (2 * k + 0) + 144) := by
  have hk := trip_lt ho hp k
  have hs : stN o ≤ 50000 := by unfold stN; omega
  exact condw_iff ha hb (by omega) (isInt_cw ho k 0 hk (by decide))

theorem cond6_iff : k0_cond6 (BitVec.ofNat 32 o) (BitVec.ofNat 32 p) k (BitVec.ofNat 32 a) (BitVec.ofNat 32 b) = 1#1
    ↔ max a (stN o + 144 * (2 * k + 1)) < min b (stN o + 144 * (2 * k + 1) + 144) := by
  have hk := trip_lt ho hp k
  have hs : stN o ≤ 50000 := by unfold stN; omega
  exact condw_iff ha hb (by omega) (isInt_cw ho k 1 hk (by decide))

theorem trips9 : (k0_t9_loop (BitVec.ofNat 32 o) (BitVec.ofNat 32 p) k (BitVec.ofNat 32 a) (BitVec.ofNat 32 b)).trips
    = min b (stN o + 144 * (2 * k + 0) + 144) - max a (stN o + 144 * (2 * k + 0)) := by
  have hk := trip_lt ho hp k
  have hs : stN o ≤ 50000 := by unfold stN; omega
  exact rowLoop_trips ha hb (by omega) (isInt_cw ho k 0 hk (by decide))

theorem trips11 : (k0_t11_loop (BitVec.ofNat 32 o) (BitVec.ofNat 32 p) k (BitVec.ofNat 32 a) (BitVec.ofNat 32 b)).trips
    = min b (stN o + 144 * (2 * k + 0) + 144) - max a (stN o + 144 * (2 * k + 0)) := trips9 ho hp ha hb k

theorem trips14 : (k0_t14_loop (BitVec.ofNat 32 o) (BitVec.ofNat 32 p) k (BitVec.ofNat 32 a) (BitVec.ofNat 32 b)).trips
    = min b (stN o + 144 * (2 * k + 1) + 144) - max a (stN o + 144 * (2 * k + 1)) := by
  have hk := trip_lt ho hp k
  have hs : stN o ≤ 50000 := by unfold stN; omega
  exact rowLoop_trips ha hb (by omega) (isInt_cw ho k 1 hk (by decide))

theorem trips16 : (k0_t16_loop (BitVec.ofNat 32 o) (BitVec.ofNat 32 p) k (BitVec.ofNat 32 a) (BitVec.ofNat 32 b)).trips
    = min b (stN o + 144 * (2 * k + 1) + 144) - max a (stN o + 144 * (2 * k + 1)) := trips14 ho hp ha hb k

theorem chk7 : k0_chk7 (BitVec.ofNat 32 o) (BitVec.ofNat 32 p) k (BitVec.ofNat 32 a) (BitVec.ofNat 32 b) := by
  have hk := trip_lt ho hp k
  have hs : stN o ≤ 50000 := by unfold stN; omega
  have h := rowLoop_ok ha hb (by omega) (isInt_cw ho k 0 hk (by decide))
  exact ⟨fun _ => h, fun _ => Scf.rem_ok _ _, fun _ => h, fun _ => Scf.rem_ok _ _⟩

theorem chk12 : k0_chk12 (BitVec.ofNat 32 o) (BitVec.ofNat 32 p) k (BitVec.ofNat 32 a) (BitVec.ofNat 32 b) := by
  have hk := trip_lt ho hp k
  have hs : stN o ≤ 50000 := by unfold stN; omega
  have h := rowLoop_ok ha hb (by omega) (isInt_cw ho k 1 hk (by decide))
  exact ⟨fun _ _ => h, fun _ _ => Scf.rem_ok _ _, fun _ _ => h, fun _ _ => Scf.rem_ok _ _⟩

/-- The row of the chunk buffer the accumulation starts from. -/
theorem rowStart {r : ℕ} (hr : r < 3) : Scalar.subi (Scalar.maxsi (BitVec.ofNat 32 a) (cw (BitVec.ofNat 32 o) k r)) (Scalar.minsi (cw (BitVec.ofNat 32 o) k r) 49856#32)
    = BitVec.ofNat 32 (max a (stN o + 144 * (2 * k + r)) - clamp (stN o + 144 * (2 * k + r))) := by
  have hk := trip_lt ho hp k
  have hs : stN o ≤ 50000 := by unfold stN; omega
  have h1 := isInt_cw ho k r hk hr
  have h2 := Affine.maxsi (e := ((max a (stN o + 144 * (2 * k + r)) : ℕ) : Int)) (isInt_ofNat a (by omega)) h1 (by omega)
  have h3 := isInt_clamp h1
  have hc : clamp (stN o + 144 * (2 * k + r)) ≤ stN o + 144 * (2 * k + r) := by unfold clamp; omega
  have h4 := Affine.subi (e := ((max a (stN o + 144 * (2 * k + r)) - clamp (stN o + 144 * (2 * k + r)) : ℕ) : Int)) h2 h3 ⟨by omega, by omega, by omega⟩
  exact eq_ofNat (by omega) h4

end

/-- A row of the window lies in the chunk buffer. -/
theorem row_lt {a b s r : ℕ} (hb : b ≤ 50000) (hr : r < min b (s + 144) - max a s) : max a s - clamp s + r < 144 := by
  unfold clamp; omega

theorem row_succ (w r : ℕ) : Scalar.addi (BitVec.ofNat 32 (w + r)) 1#32 = BitVec.ofNat 32 (w + (r + 1)) := by
  show BitVec.ofNat 32 (w + r) + BitVec.ofNat 32 1 = _
  rw [← BitVec.ofNat_add, Nat.add_assoc]

theorem inb_row {w : BitVec 32} (hw : w.toNat < 144) {c : ℕ} (hc : c ≤ 240) :
    ∀ a, (![w.toNat, c] : Fin 2 → ℕ) a + S1x16.size a ≤ S144x256.size a := by
  intro a
  match a with
  | 0 => show w.toNat + 1 ≤ 144; omega
  | 1 => show c + 16 ≤ 256; omega

theorem chk8 {v w : BitVec 32} {k : Fin (k0_t7_loop v w).trips} {a b r : BitVec 32} (h : r.toNat < 144) : k0_chk8 v w k a b r :=
  ⟨fun _ => inb_row h (by decide), fun _ => inb_row h (by decide), fun _ => inb_row h (by decide), fun _ => inb_row h (by decide), fun _ => inb_row h (by decide), fun _ => inb_row h (by decide), fun _ => inb_row h (by decide), fun _ => inb_row h (by decide)⟩

theorem chk10 {v w : BitVec 32} {k : Fin (k0_t7_loop v w).trips} {a b r : BitVec 32} (h : r.toNat < 144) : k0_chk10 v w k a b r :=
  ⟨fun _ => inb_row h (by decide), fun _ => inb_row h (by decide), fun _ => inb_row h (by decide), fun _ => inb_row h (by decide), fun _ => inb_row h (by decide), fun _ => inb_row h (by decide), fun _ => inb_row h (by decide), fun _ => inb_row h (by decide)⟩

theorem chk13 {v w : BitVec 32} {k : Fin (k0_t7_loop v w).trips} {a b r : BitVec 32} (h : r.toNat < 144) : k0_chk13 v w k a b r :=
  ⟨fun _ _ => inb_row h (by decide), fun _ _ => inb_row h (by decide), fun _ _ => inb_row h (by decide), fun _ _ => inb_row h (by decide), fun _ _ => inb_row h (by decide), fun _ _ => inb_row h (by decide), fun _ _ => inb_row h (by decide), fun _ _ => inb_row h (by decide)⟩

theorem chk15 {v w : BitVec 32} {k : Fin (k0_t7_loop v w).trips} {a b r : BitVec 32} (h : r.toNat < 144) : k0_chk15 v w k a b r :=
  ⟨fun _ _ => inb_row h (by decide), fun _ _ => inb_row h (by decide), fun _ _ => inb_row h (by decide), fun _ _ => inb_row h (by decide), fun _ _ => inb_row h (by decide), fun _ _ => inb_row h (by decide), fun _ _ => inb_row h (by decide), fun _ _ => inb_row h (by decide)⟩

end Cert.Pool
-- ==== Proof.Lanes.lean ====
/-
  The sixteen-lane vectors of the accumulation as plain functions of the lane: what a load of an accumulator or of a
  row's columns reads, what one row adds, what the stores of one segment leave in the accumulator buffer.
-/
module

public import proofs.«01_k».proof.Proof.Words

@[expose] public section

noncomputable section

namespace Cert.Pool

open Cert.KernelIdeal Cert.KernelIdeal.Gen
open Idealize.ShloMosaic
open Idealize.ShloMosaic.SparseCore (S V T)

variable {F : FTy → Type} [FloatOps F]

/-! ## The kernel's arrays -/

abbrev aX : Memref sig .scVector .hbm S50000x256 .f32 := Memref.whole main_arg0_scv
abbrev aB : Memref sig .scVector .hbm S50000 .i32 := Memref.whole main_arg1_scv
abbrev aO : Memref sig .scVector .hbm S128x768 .f32 := Memref.whole main_v0_scv
abbrev sB : Memref sig .scVector .vmem S50016 .i32 := Memref.whole cc0_scratch0
abbrev sX0 : Memref sig .scVector .vmem S144x256 .f32 := Memref.whole cc0_scratch1
abbrev sX1 : Memref sig .scVector .vmem S144x256 .f32 := Memref.whole cc0_scratch2
abbrev sA : Memref sig .scVector .vmem S3072 .f32 := Memref.whole cc0_scratch3
abbrev sO : Memref sig .scVector .smem S5 .i32 := Memref.whole cc0_scratch4

/-- A chunk buffer holds the rows of `X` from `std` on. -/
def RowsFrom (X : ℕ → ℕ → F .f32) (std : ℕ) (f : S144x256.Idx → Elt F .f32) : Prop :=
  ∀ e, f e = X (std + (e 0).val) (e 1).val
/-- The accumulator buffer holds `G`, by element number. -/
def AccIs (G : ℕ → F .f32) (g : S3072.Idx → Elt F .f32) : Prop := ∀ e, g e = G (e 0).val
/-- The row-number memory holds the numbers `o 0, …, o 4`. -/
def OffsAre (o : ℕ → ℕ) (g : S5.Idx → Elt F .i32) : Prop := ∀ e, g e = BitVec.ofNat 32 (o (e 0).val)

/-! ## Sixteen lanes -/

/-- Lanes `e, …, e + 15` of `G` with the rows `lo, …, lo + r - 1` folded on, columns `c, …, c + 15`. -/
def lanes (op : F .f32 → F .f32 → F .f32) (X : ℕ → ℕ → F .f32) (G : ℕ → F .f32) (lo r c e : ℕ) : FVec F S16 .f32 :=
  fun l => foldN op (fun n => X n (c + (l 0).val)) (G (e + (l 0).val)) lo r

/-- Fold `j`'s lanes for column group `q` of segment `k`. -/
abbrev accV (X : ℕ → ℕ → F .f32) (G : ℕ → F .f32) (k lo r j q : ℕ) : FVec F S16 .f32 :=
  lanes (opv j) X G lo r (16 * q) (768 * k + 256 * j + 16 * q)

omit [FloatOps F] in
/-- A reshape between equal shapes changes nothing. -/
theorem shapeCast_self (x : FVec F S16 .f32) (h : S16.ShapeCasts S16) : shapeCast S16 x h = x := by
  funext l; unfold shapeCast; rw [Shape.reshapeEquiv_self]

omit [FloatOps F] in
/-- A load of sixteen columns of one row of a chunk buffer. -/
theorem row_load {v : View sig .scVector .vmem S144x256 .f32} {f : v.ty.Contents (Elt F)} {X : ℕ → ℕ → F .f32} {std : ℕ}
    (hf : RowsFrom X std (v.read (Elt F) f)) {off : Fin 2 → ℕ} {w c : ℕ} (hoff : off = ![w, c])
    (hin : ∀ a, off a + S1x16.size a ≤ S144x256.size a) (h : S1x16.ShapeCasts S16) :
    shapeCast S16 (v.readAt (Elt F) (Rect.unit (s := S144x256) off S1x16.size hin).toLoadRect f : Vec F S1x16 .f32) h
      = fun l => X (std + w) (c + (l 0).val) := by
  subst hoff
  funext l
  unfold shapeCast
  rw [show Shape.reshapeEquiv h l = (Fin.cons ⟨0, Nat.one_pos⟩ l : S1x16.Idx) from Shape.reshapeEquiv_cons_one (d := ![16]) h l]
  refine (hf _).trans ?_
  have e0 : ∀ z : S1x16.Idx, (((Rect.unit (s := S144x256) ![w, c] S1x16.size hin).toLoadRect.idx z) 0).val = w + 1 * (z 0).val := fun _ => rfl
  have e1 : ∀ z : S1x16.Idx, (((Rect.unit (s := S144x256) ![w, c] S1x16.size hin).toLoadRect.idx z) 1).val = c + 1 * (z 1).val := fun _ => rfl
  rw [e0, e1, Nat.one_mul, Nat.one_mul]
  rfl

omit [FloatOps F] in
/-- A load of sixteen accumulators. -/
theorem acc_load {v : View sig .scVector .vmem S3072 .f32} {g : v.ty.Contents (Elt F)} {G : ℕ → F .f32}
    (hg : AccIs G (v.read (Elt F) g)) {off : Fin 1 → ℕ} {e : ℕ} (hoff : off = ![e])
    (hin : ∀ a, off a + S16.size a ≤ S3072.size a) (h : S16.ShapeCasts S16) :
    shapeCast S16 (v.readAt (Elt F) (Rect.unit (s := S3072) off S16.size hin).toLoadRect g : Vec F S16 .f32) h
      = fun l => G (e + (l 0).val) := by
  subst hoff
  rw [shapeCast_self]
  funext l
  refine (hg _).trans ?_
  have e0 : (((Rect.unit (s := S3072) ![e] S16.size hin).toLoadRect.idx l) 0).val = e + 1 * (l 0).val := rfl
  rw [e0, Nat.one_mul]

/-- The lanes before any row. -/
theorem lanes_zero {op : F .f32 → F .f32 → F .f32} {X : ℕ → ℕ → F .f32} {G : ℕ → F .f32} {lo c e : ℕ} :
    lanes op X G lo 0 c e = fun l => G (e + (l 0).val) := rfl

/-- One row's columns folded onto the lanes. -/
theorem lanes_step {op : F .f32 → F .f32 → F .f32} {X : ℕ → ℕ → F .f32} {G : ℕ → F .f32} {lo r c e n : ℕ} {x : FVec F S16 .f32}
    (hx : x = fun l => X n (c + (l 0).val)) (hn : n = lo + r) :
    (fun l => op (lanes op X G lo r c e l) (x l)) = lanes op X G lo (r + 1) c e := by
  subst hx hn; rfl

/-! ## What the stores of one segment leave -/

/-- A store of sixteen elements, group `q` of segment `k`, of the values `G`. -/
def Seg (k : ℕ) (G : ℕ → F .f32) (q : ℕ) (p : View.Piece (Elt F) S3072 .f32) : Prop :=
  ∃ (off : Fin 1 → ℕ) (h : ∀ a, off a + S16.size a ≤ S3072.size a) (w : FVec F S16 .f32),
    p = ⟨Rect.unit (s := S3072) off S16.size h, w⟩ ∧ off = ![768 * k + 16 * q] ∧ q < 48 ∧ w = fun l => G (768 * k + 16 * q + (l 0).val)

theorem mem_unit16 {e : ℕ} {h : ∀ a, (![e] : Fin 1 → ℕ) a + S16.size a ≤ S3072.size a} {y : S3072.Idx} :
    y ∈ (Rect.unit (s := S3072) ![e] S16.size h).set ↔ e ≤ (y 0).val ∧ (y 0).val < e + 16 := by
  rw [Rect.mem_set_unit]
  constructor
  · intro H; exact H 0
  · intro H a
    match a with
    | 0 => exact H

omit [FloatOps F] in
theorem forall₂_left {α β : Type} {R : α → β → Prop} : ∀ {l : List α} {l' : List β}, List.Forall₂ R l l' → ∀ a ∈ l, ∃ b ∈ l', R a b
  | _, _, .nil, a, h => absurd h List.not_mem_nil
  | _, _, .cons hr h, a, ha => by
    rcases List.mem_cons.1 ha with rfl | ha
    · exact ⟨_, List.mem_cons_self, hr⟩
    · obtain ⟨b, hb, hab⟩ := forall₂_left h a ha
      exact ⟨b, List.mem_cons_of_mem _ hb, hab⟩

omit [FloatOps F] in
theorem forall₂_right {α β : Type} {R : α → β → Prop} : ∀ {l : List α} {l' : List β}, List.Forall₂ R l l' → ∀ b ∈ l', ∃ a ∈ l, R a b
  | _, _, .nil, b, h => absurd h List.not_mem_nil
  | _, _, .cons hr h, b, hb => by
    rcases List.mem_cons.1 hb with rfl | hb
    · exact ⟨_, List.mem_cons_self, hr⟩
    · obtain ⟨a, ha, hab⟩ := forall₂_right h b hb
      exact ⟨a, List.mem_cons_of_mem _ ha, hab⟩

omit [FloatOps F] in
/-- The stores of all 48 groups of segment `k`: its elements are the values stored, the others are what they were. -/
theorem writes_seg {v : View sig .scVector .vmem S3072 .f32} {g : v.ty.Contents (Elt F)} {G G' : ℕ → F .f32} {k : ℕ} {qs : List ℕ}
    {L : List (View.Piece (Elt F) S3072 .f32)} (hg : AccIs G (v.read (Elt F) g)) (hL : List.Forall₂ (Seg k G') qs L)
    (hq : ∀ q < 48, q ∈ qs) :
    AccIs (fun e => if e / 768 = k then G' e else G e) (v.read (Elt F) (v.writes (Elt F) g L)) := by
  intro y
  show _ = if (y 0).val / 768 = k then G' (y 0).val else G (y 0).val
  by_cases hy : (y 0).val / 768 = k
  · rw [if_pos hy]
    obtain ⟨p, hp, off, h, w, rfl, rfl, -, hw⟩ := forall₂_left hL ((y 0).val % 768 / 16) (hq _ (by omega))
    refine View.read_writes_apply_of_pieces v g (fun y => G' (y 0).val) L ?_ y ⟨_, hp, (mem_unit16 (h := h)).2 (by omega)⟩
    intro p' hp' x
    obtain ⟨q, -, off', h', w', rfl, rfl, -, hw'⟩ := forall₂_right hL p' hp'
    have e0 : (((Rect.unit (s := S3072) ![768 * k + 16 * q] S16.size h').emb x) 0).val = 768 * k + 16 * q + 1 * (x 0).val := rfl
    show w' x = G' _
    rw [e0, hw', Nat.one_mul]
  · rw [if_neg hy, ← hg y]
    refine View.read_writes_apply_of_forall_not_mem v g y L ?_
    intro p' hp'
    obtain ⟨q, -, off', h', w', rfl, rfl, hq', -⟩ := forall₂_right hL p' hp'
    intro hm
    have := (mem_unit16 (h := h')).1 hm
    omega

/-- The lanes of a finished segment are its new accumulators. -/
theorem lanes_done {X : ℕ → ℕ → F .f32} {o : ℕ → ℕ} {G : ℕ → F .f32} {a s k lo n j q : ℕ} (ha : a ≤ s) (hj : j < 3) (hq : q < 16)
    (hG : ∀ e, e / 768 = k → G e = accS X o a s e) (hlo : lo = max (o k) s) (hn : n = min (o (k + 1)) (s + 144) - max (o k) s) :
    accV X G k lo n j q = fun l => accS X o a (s + 144) (768 * k + 16 * (16 * j + q) + (l 0).val) := by
  funext l
  have hl : (l 0).val < 16 := (l 0).isLt
  have e := accS_window X o (n := 144) ha (768 * k + 16 * (16 * j + q) + (l 0).val)
  have e1 : (768 * k + 16 * (16 * j + q) + (l 0).val) / 768 = k := by omega
  have e2 : (768 * k + 16 * (16 * j + q) + (l 0).val) % 768 / 256 = j := by omega
  have e3 : (768 * k + 16 * (16 * j + q) + (l 0).val) % 256 = 16 * q + (l 0).val := by omega
  rw [e1, e2, e3] at e
  rw [← e, ← hG _ e1, ← hn, ← hlo]
  show foldN _ _ (G (768 * k + 256 * j + 16 * q + (l 0).val)) _ _ = _
  rw [show 768 * k + 256 * j + 16 * q + (l 0).val = 768 * k + 16 * (16 * j + q) + (l 0).val by omega]

/-! ## The row loop's carried values -/

variable (F) in
/-- A row word, then eight lane vectors for each of the three folds. -/
abbrev Acc25 : Type := BitVec 32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- The carried values once `r` rows have been folded, column groups `8 h, …, 8 h + 7`, the next row being row `w + r` of the buffer. -/
def rowTup (X : ℕ → ℕ → F .f32) (G : ℕ → F .f32) (k lo w h r : ℕ) : Acc25 F :=
  (BitVec.ofNat 32 (w + r), accV X G k lo r 0 (8 * h + 0), accV X G k lo r 0 (8 * h + 1), accV X G k lo r 0 (8 * h + 2), accV X G k lo r 0 (8 * h + 3), accV X G k lo r 0 (8 * h + 4), accV X G k lo r 0 (8 * h + 5), accV X G k lo r 0 (8 * h + 6), accV X G k lo r 0 (8 * h + 7), accV X G k lo r 1 (8 * h + 0), accV X G k lo r 1 (8 * h + 1), accV X G k lo r 1 (8 * h + 2), accV X G k lo r 1 (8 * h + 3), accV X G k lo r 1 (8 * h + 4), accV X G k lo r 1 (8 * h + 5), accV X G k lo r 1 (8 * h + 6), accV X G k lo r 1 (8 * h + 7), accV X G k lo r 2 (8 * h + 0), accV X G k lo r 2 (8 * h + 1), accV X G k lo r 2 (8 * h + 2), accV X G k lo r 2 (8 * h + 3), accV X G k lo r 2 (8 * h + 4), accV X G k lo r 2 (8 * h + 5), accV X G k lo r 2 (8 * h + 6), accV X G k lo r 2 (8 * h + 7))

omit [FloatOps F] in
theorem tup_eq {w w' : BitVec 32} {a0 b0 a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 a23 b23 : FVec F S16 .f32} (hw : w = w') (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) :
    ((w, a0, a1, a2, a3, a4, a5, a6, a7, a8, a9, a10, a11, a12, a13, a14, a15, a16, a17, a18, a19, a20, a21, a22, a23) : Acc25 F) = (w', b0, b1, b2, b3, b4, b5, b6, b7, b8, b9, b10, b11, b12, b13, b14, b15, b16, b17, b18, b19, b20, b21, b22, b23) := by
  subst hw h0 h1 h2 h3 h4 h5 h6 h7 h8 h9 h10 h11 h12 h13 h14 h15 h16 h17 h18 h19 h20 h21 h22 h23; rfl

/-- The lanes the row loop starts from, as the accumulators are loaded. -/
theorem acc_entry {v : View sig .scVector .vmem S3072 .f32} {g : v.ty.Contents (Elt F)} {G : ℕ → F .f32}
    (hg : AccIs G (v.read (Elt F) g)) (X : ℕ → ℕ → F .f32) (k lo j q : ℕ) {off : Fin 1 → ℕ} (hoff : off = ![768 * k + 256 * j + 16 * q])
    (hin : ∀ a, off a + S16.size a ≤ S3072.size a) (h : S16.ShapeCasts S16) :
    shapeCast S16 (v.readAt (Elt F) (Rect.unit (s := S3072) off S16.size hin).toLoadRect g : Vec F S16 .f32) h = accV X G k lo 0 j q :=
  acc_load hg hoff hin h

/-- One row folded onto the lanes, as the row is loaded. -/
theorem acc_row {v : View sig .scVector .vmem S144x256 .f32} {f : v.ty.Contents (Elt F)} {X : ℕ → ℕ → F .f32} {std : ℕ}
    (hf : RowsFrom X std (v.read (Elt F) f)) (G : ℕ → F .f32) (k lo r j q : ℕ) {off : Fin 2 → ℕ} {w : ℕ} (hoff : off = ![w, 16 * q])
    (hw : std + w = lo + r) (hin : ∀ a, off a + S1x16.size a ≤ S144x256.size a) (h : S1x16.ShapeCasts S16) :
    (fun l => opv j (accV X G k lo r j q l)
      (shapeCast S16 (v.readAt (Elt F) (Rect.unit (s := S144x256) off S1x16.size hin).toLoadRect f : Vec F S1x16 .f32) h l))
      = accV X G k lo (r + 1) j q :=
  lanes_step (row_load hf hoff hin h) hw

/-- A store of the lanes of group `q` of fold `j` of a finished segment `k`. -/
theorem seg_done {X : ℕ → ℕ → F .f32} {o : ℕ → ℕ} {G : ℕ → F .f32} {a s k lo n : ℕ} (j q : ℕ) (ha : a ≤ s) (hj : j < 3) (hq : q < 16)
    (hG : ∀ e, e / 768 = k → G e = accS X o a s e) (hlo : lo = max (o k) s) (hn : n = min (o (k + 1)) (s + 144) - max (o k) s)
    {off : Fin 1 → ℕ} (hoff : off = ![768 * k + 256 * j + 16 * q]) (h : ∀ a, off a + S16.size a ≤ S3072.size a) {w : FVec F S16 .f32}
    (hw : w = accV X G k lo n j q) :
    Seg k (accS X o a (s + 144)) (16 * j + q) ⟨Rect.unit (s := S3072) off S16.size h, w⟩ :=
  ⟨off, h, w, rfl, hoff.trans (by rw [show 768 * k + 256 * j + 16 * q = 768 * k + 16 * (16 * j + q) by omega]), by omega,
    hw.trans (lanes_done ha hj hq hG hlo hn)⟩

/-- The element of the row-number memory that a load at `n` reads. -/
theorem offs_idx {off : Fin 1 → ℕ} {n : ℕ} (hoff : off = ![n]) (hin : ∀ a, off a + S1.size a ≤ S5.size a) (h : 0 < S1.numel) :
    ((sO.view.emb ((Rect.unit (s := S5) off S1.size hin).toLoadRect.idx (Shape.Idx.first h))) 0).val = n := by
  subst hoff; rfl

end Cert.Pool
-- ==== Proof.Search.lean ====
/-
  The five binary searches for the rows where segments begin.
-/
module

public import proofs.«01_k».proof.Proof.Lanes

@[expose] public section

noncomputable section

namespace Cert.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Affine (IsInt)

variable {F : FTy → Type} [FloatOps F] [∀ e, Nonempty (Elt F e)]

local notation "𝕄" => MT nD τ sig (HIx 1) (Elt F) ℕ UU ℕ

/-- What keeps the search's bounds in order: the upper one is the end or holds a word not below the target. -/
def BsOk (B : ℕ → BitVec 32) (t : BitVec 32) (p : ℕ × ℕ) : Prop := p.1 ≤ p.2 ∧ p.2 ≤ 50000 ∧ t.toInt ≤ (B p.2).toInt

theorem bsOk_step {B : ℕ → BitVec 32} {t : BitVec 32} {p : ℕ × ℕ} (h : BsOk B t p) : BsOk B t (bsStep B t p) := by
  obtain ⟨h1, h2, h3⟩ := h
  unfold bsStep
  split
  · rename_i hlt
    refine ⟨?_, h2, h3⟩
    have hne : (p.1 + p.2) / 2 ≠ p.2 := fun e => by rw [e] at hlt; omega
    show (p.1 + p.2) / 2 + 1 ≤ p.2
    omega
  · rename_i hge
    refine ⟨?_, ?_, ?_⟩
    · show p.1 ≤ (p.1 + p.2) / 2; omega
    · show (p.1 + p.2) / 2 ≤ 50000; omega
    · show t.toInt ≤ (B ((p.1 + p.2) / 2)).toInt; omega

theorem bsOk {B : ℕ → BitVec 32} {t : BitVec 32} (ht : t.toInt ≤ 128) (r : ℕ) : BsOk (padded B) t (bs (padded B) t r) := by
  induction r with
  | zero => exact ⟨Nat.zero_le _, Nat.le_refl _, ht⟩
  | succ r ih => exact bsOk_step ih

/-- The middle of the bounds as the kernel computes it. -/
theorem isInt_mid {p : ℕ × ℕ} (h1 : p.1 ≤ p.2) (h2 : p.2 ≤ 50000) :
    IsInt (fd (Scalar.addi (BitVec.ofNat 32 p.1) (BitVec.ofNat 32 p.2)) 2#32) ((p.1 + p.2) / 2 : ℕ) := by
  have h := Affine.addi (isInt_ofNat p.1 (by omega)) (isInt_ofNat p.2 (by omega)) ⟨rfl, by omega, by omega⟩
  have := isInt_fd h 2 (by decide) (by decide)
  rw [show ((p.1 : ℤ) + p.2) / (2 : ℕ) = (((p.1 + p.2) / 2 : ℕ) : ℤ) by omega] at this
  exact this

/-- The words loaded are those of `B`. -/
def BatchIs (B : ℕ → BitVec 32) (f : S50016.Idx → Elt F .i32) : Prop := ∀ e, f e = B (e 0).val

omit [FloatOps F] [∀ e, Nonempty (Elt F e)] in
/-- The first of sixteen words loaded. -/
theorem word_load {v : View sig .scVector .vmem S50016 .i32} {f : v.ty.Contents (Elt F)} {B : ℕ → BitVec 32}
    (hf : BatchIs (F := F) B (v.read (Elt F) f)) {off : Fin 1 → ℕ} {n : ℕ} (hoff : off = ![n])
    (hin : ∀ a, off a + S16.size a ≤ S50016.size a) (h : S16.ShapeCasts S16) (hs : S16.Slices ![0] S1) (hp) :
    extractAt ![0] (extractStridedSlice S1 ![0] (shapeCast S16 (v.readAt (Elt F) (Rect.unit (s := S50016) off S16.size hin).toLoadRect f : Vec F S16 .i32) h : IVec S16 32) hs) hp
      = B n := by
  subst hoff
  unfold extractAt extractStridedSlice shapeCast
  refine (hf _).trans ?_
  congr 1
  rw [Shape.reshapeEquiv_self]
  rfl

/-- One step's choice, in the kernel's words. -/
theorem step_words {B : ℕ → BitVec 32} {t : BitVec 32} {p : ℕ × ℕ} (h : BsOk B t p) {m : BitVec 32} (hm : IsInt m ((p.1 + p.2) / 2 : ℕ))
    {w : BitVec 32} (hw : w = B ((p.1 + p.2) / 2)) :
    (Scalar.select (Scalar.cmpi .slt w t) (Scalar.addi m 1#32) (BitVec.ofNat 32 p.1),
      Scalar.select (Scalar.cmpi .slt w t) (BitVec.ofNat 32 p.2) m)
      = (BitVec.ofNat 32 (bsStep B t p).1, BitVec.ofNat 32 (bsStep B t p).2) := by
  subst hw
  have h1 := h.1
  have h2 := h.2.1
  have hm1 : Scalar.addi m 1#32 = BitVec.ofNat 32 ((p.1 + p.2) / 2 + 1) :=
    eq_ofNat (by omega) (Affine.addi hm (isInt_ofNat 1 (by decide)) ⟨by omega, by omega, by omega⟩)
  have hm0 : m = BitVec.ofNat 32 ((p.1 + p.2) / 2) := eq_ofNat (by omega) hm
  have hc := slt_iff (isInt_iff.mpr (rfl : (B ((p.1 + p.2) / 2)).toInt = _)) (isInt_iff.mpr (rfl : t.toInt = _))
  unfold bsStep
  by_cases hlt : (B ((p.1 + p.2) / 2)).toInt < t.toInt
  · rw [if_pos hlt, hc.mpr hlt, hm1]
    rfl
  · rw [if_neg hlt]
    have hc0 : Scalar.cmpi .slt (B ((p.1 + p.2) / 2)) t = 0#1 := by
      rcases (show ∀ b : BitVec 1, b = 0#1 ∨ b = 1#1 by decide) (Scalar.cmpi .slt (B ((p.1 + p.2) / 2)) t) with e | e
      · exact e
      · exact absurd (hc.mp e) hlt
    rw [hc0]
    exact Prod.ext rfl hm0

theorem off_mid {p : ℕ × ℕ} (h1 : p.1 ≤ p.2) (h2 : p.2 ≤ 50000) {m : BitVec 32} (hm : IsInt m ((p.1 + p.2) / 2 : ℕ)) :
    (![m.toNat] : Fin 1 → ℕ) = ![(p.1 + p.2) / 2] := by
  rw [eq_ofNat (by omega) hm, BitVec.toNat_ofNat, Nat.mod_eq_of_lt (by omega)]

/-- One step of search 1. -/
theorem step1 (d : Dev nD) (L : grid0.Coords) {B : ℕ → BitVec 32} {f : Buf (Elt F) ((thr d L).loc cc0_scratch0)} (hf : BatchIs (F := F) B f)
    {t : BitVec 32} {p : ℕ × ℕ} (hp : BsOk B t p) (k : Fin k0_t1_loop.trips) :
    (((sB).view.loc (thr d L) ↦{fullShare} f) : sProp 𝕄) ⊢
    wp frame (wpE (defs₀ (F := F)) 𝒱₀ (thr d L) none) Set.univ
      (k0_t1_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 t k (BitVec.ofNat 32 p.1, BitVec.ofNat 32 p.2))
      fun r => iprop(⌜r = (BitVec.ofNat 32 (bsStep B t p).1, BitVec.ofNat 32 (bsStep B t p).2)⌝ ∗ ((sB).view.loc (thr d L) ↦{fullShare} f)) := by
  have hm := isInt_mid hp.1 hp.2.1
  have hoff : k0_off1 (BitVec.ofNat 32 p.1) (BitVec.ofNat 32 p.2) = ![(p.1 + p.2) / 2] := off_mid hp.1 hp.2.1 hm
  have hp1 := hp.1
  have hp2 := hp.2.1
  have hF : BatchIs (F := F) B ((sB).view.read (Elt F) f) := hf
  have hw1 : k0_chk1 (BitVec.ofNat 32 p.1) (BitVec.ofNat 32 p.2) := by
    intro a
    rw [hoff]
    fin_cases a
    show (p.1 + p.2) / 2 + 16 ≤ 50016
    omega
  unfold k0_t1_body
  iintro HB
  sl_exec
  sl_step
  isplitr [HB]; swap; · iexact HB
  ipureintro
  exact step_words hp hm (word_load hF hoff _ shapeCasts_S16_S16 slices_S16_o0_S1 inpos_S1_p0)

/-- Search 1. -/
theorem search1 (d : Dev nD) (L : grid0.Coords) {B : ℕ → BitVec 32} {f : Buf (Elt F) ((thr d L).loc cc0_scratch0)} (hf : BatchIs (F := F) (padded B) f)
    {t : BitVec 32} (ht : t.toInt ≤ 128) :
    (((sB).view.loc (thr d L) ↦{fullShare} f) : sProp 𝕄) ⊢
    wp frame (wpE (defs₀ (F := F)) 𝒱₀ (thr d L) none) Set.univ
      (k0_t1_loop.for k0_t1_ok (0#32, 50000#32) (k0_t1_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 t))
      fun r => iprop(⌜r = (BitVec.ofNat 32 (bs (padded B) t 16).1, BitVec.ofNat 32 (bs (padded B) t 16).2)⌝ ∗ ((sB).view.loc (thr d L) ↦{fullShare} f)) := by
  iintro HB
  sl_for (fun (k : ℕ) (r : BitVec 32 × BitVec 32) =>
    (iprop(⌜r = (BitVec.ofNat 32 (bs (padded B) t k).1, BitVec.ofNat 32 (bs (padded B) t k).2)⌝ ∗ ((sB).view.loc (thr d L) ↦{fullShare} f)) : sProp 𝕄)) $$ [HB]
  case region =>
    intro k r
    iintro ⟨%hr, HB⟩
    subst hr
    have hstep := step1 d L hf (bsOk ht k.val) k
    unfold search1.sl.prog.body_1
    iapply hstep
    iexact HB
  · isplitl [HB]
    · isplitr [HB]; swap; · iexact HB
      ipureintro
      rfl
    iintro %r ⟨%hr, HB⟩
    isplitr [HB]; swap; · iexact HB
    ipureintro
    exact hr

/-- One step of search 2. -/
theorem step2 (d : Dev nD) (L : grid0.Coords) {B : ℕ → BitVec 32} {f : Buf (Elt F) ((thr d L).loc cc0_scratch0)} (hf : BatchIs (F := F) B f)
    {t : BitVec 32} {p : ℕ × ℕ} (hp : BsOk B t p) (k : Fin k0_t2_loop.trips) :
    (((sB).view.loc (thr d L) ↦{fullShare} f) : sProp 𝕄) ⊢
    wp frame (wpE (defs₀ (F := F)) 𝒱₀ (thr d L) none) Set.univ
      (k0_t2_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 t k (BitVec.ofNat 32 p.1, BitVec.ofNat 32 p.2))
      fun r => iprop(⌜r = (BitVec.ofNat 32 (bsStep B t p).1, BitVec.ofNat 32 (bsStep B t p).2)⌝ ∗ ((sB).view.loc (thr d L) ↦{fullShare} f)) := by
  have hm := isInt_mid hp.1 hp.2.1
  have hoff : k0_off2 (BitVec.ofNat 32 p.1) (BitVec.ofNat 32 p.2) = ![(p.1 + p.2) / 2] := off_mid hp.1 hp.2.1 hm
  have hp1 := hp.1
  have hp2 := hp.2.1
  have hF : BatchIs (F := F) B ((sB).view.read (Elt F) f) := hf
  have hw2 : k0_chk2 (BitVec.ofNat 32 p.1) (BitVec.ofNat 32 p.2) := by
    intro a
    rw [hoff]
    fin_cases a
    show (p.1 + p.2) / 2 + 16 ≤ 50016
    omega
  unfold k0_t2_body
  iintro HB
  sl_exec
  sl_step
  isplitr [HB]; swap; · iexact HB
  ipureintro
  exact step_words hp hm (word_load hF hoff _ shapeCasts_S16_S16 slices_S16_o0_S1 inpos_S1_p0)

/-- Search 2. -/
theorem search2 (d : Dev nD) (L : grid0.Coords) {B : ℕ → BitVec 32} {f : Buf (Elt F) ((thr d L).loc cc0_scratch0)} (hf : BatchIs (F := F) (padded B) f)
    {t : BitVec 32} (ht : t.toInt ≤ 128) :
    (((sB).view.loc (thr d L) ↦{fullShare} f) : sProp 𝕄) ⊢
    wp frame (wpE (defs₀ (F := F)) 𝒱₀ (thr d L) none) Set.univ
      (k0_t2_loop.for k0_t2_ok (0#32, 50000#32) (k0_t2_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 t))
      fun r => iprop(⌜r = (BitVec.ofNat 32 (bs (padded B) t 16).1, BitVec.ofNat 32 (bs (padded B) t 16).2)⌝ ∗ ((sB).view.loc (thr d L) ↦{fullShare} f)) := by
  iintro HB
  sl_for (fun (k : ℕ) (r : BitVec 32 × BitVec 32) =>
    (iprop(⌜r = (BitVec.ofNat 32 (bs (padded B) t k).1, BitVec.ofNat 32 (bs (padded B) t k).2)⌝ ∗ ((sB).view.loc (thr d L) ↦{fullShare} f)) : sProp 𝕄)) $$ [HB]
  case region =>
    intro k r
    iintro ⟨%hr, HB⟩
    subst hr
    have hstep := step2 d L hf (bsOk ht k.val) k
    unfold search2.sl.prog.body_1
    iapply hstep
    iexact HB
  · isplitl [HB]
    · isplitr [HB]; swap; · iexact HB
      ipureintro
      rfl
    iintro %r ⟨%hr, HB⟩
    isplitr [HB]; swap; · iexact HB
    ipureintro
    exact hr

/-- One step of search 3. -/
theorem step3 (d : Dev nD) (L : grid0.Coords) {B : ℕ → BitVec 32} {f : Buf (Elt F) ((thr d L).loc cc0_scratch0)} (hf : BatchIs (F := F) B f)
    {t : BitVec 32} (v2 c0 c1 c2 c3 : BitVec 32) {p : ℕ × ℕ} (hp : BsOk B t p) (k : Fin k0_t3_loop.trips) :
    (((sB).view.loc (thr d L) ↦{fullShare} f) : sProp 𝕄) ⊢
    wp frame (wpE (defs₀ (F := F)) 𝒱₀ (thr d L) none) Set.univ
      (k0_t3_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 v2 t c0 c1 c2 c3 k (BitVec.ofNat 32 p.1, BitVec.ofNat 32 p.2))
      fun r => iprop(⌜r = (BitVec.ofNat 32 (bsStep B t p).1, BitVec.ofNat 32 (bsStep B t p).2)⌝ ∗ ((sB).view.loc (thr d L) ↦{fullShare} f)) := by
  have hm := isInt_mid hp.1 hp.2.1
  have hoff : k0_off3 (BitVec.ofNat 32 p.1) (BitVec.ofNat 32 p.2) = ![(p.1 + p.2) / 2] := off_mid hp.1 hp.2.1 hm
  have hp1 := hp.1
  have hp2 := hp.2.1
  have hF : BatchIs (F := F) B ((sB).view.read (Elt F) f) := hf
  have hw3 : k0_chk3 (BitVec.ofNat 32 p.1) (BitVec.ofNat 32 p.2) := by
    intro a
    rw [hoff]
    fin_cases a
    show (p.1 + p.2) / 2 + 16 ≤ 50016
    omega
  unfold k0_t3_body
  iintro HB
  sl_exec
  sl_step
  isplitr [HB]; swap; · iexact HB
  ipureintro
  exact step_words hp hm (word_load hF hoff _ shapeCasts_S16_S16 slices_S16_o0_S1 inpos_S1_p0)

/-- Search 3. -/
theorem search3 (d : Dev nD) (L : grid0.Coords) {B : ℕ → BitVec 32} {f : Buf (Elt F) ((thr d L).loc cc0_scratch0)} (hf : BatchIs (F := F) (padded B) f)
    {t : BitVec 32} (v2 c0 c1 c2 c3 : BitVec 32) (ht : t.toInt ≤ 128) :
    (((sB).view.loc (thr d L) ↦{fullShare} f) : sProp 𝕄) ⊢
    wp frame (wpE (defs₀ (F := F)) 𝒱₀ (thr d L) none) Set.univ
      (k0_t3_loop.for k0_t3_ok (0#32, 50000#32) (k0_t3_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 v2 t c0 c1 c2 c3))
      fun r => iprop(⌜r = (BitVec.ofNat 32 (bs (padded B) t 16).1, BitVec.ofNat 32 (bs (padded B) t 16).2)⌝ ∗ ((sB).view.loc (thr d L) ↦{fullShare} f)) := by
  iintro HB
  sl_for (fun (k : ℕ) (r : BitVec 32 × BitVec 32) =>
    (iprop(⌜r = (BitVec.ofNat 32 (bs (padded B) t k).1, BitVec.ofNat 32 (bs (padded B) t k).2)⌝ ∗ ((sB).view.loc (thr d L) ↦{fullShare} f)) : sProp 𝕄)) $$ [HB]
  case region =>
    intro k r
    iintro ⟨%hr, HB⟩
    subst hr
    have hstep := step3 d L hf v2 c0 c1 c2 c3 (bsOk ht k.val) k
    unfold search3.sl.prog.body_1
    iapply hstep
    iexact HB
  · isplitl [HB]
    · isplitr [HB]; swap; · iexact HB
      ipureintro
      rfl
    iintro %r ⟨%hr, HB⟩
    isplitr [HB]; swap; · iexact HB
    ipureintro
    exact hr

/-- One step of search 4. -/
theorem step4 (d : Dev nD) (L : grid0.Coords) {B : ℕ → BitVec 32} {f : Buf (Elt F) ((thr d L).loc cc0_scratch0)} (hf : BatchIs (F := F) B f)
    {t : BitVec 32} (v2 v17 c0 c1 c2 c3 : BitVec 32) {p : ℕ × ℕ} (hp : BsOk B t p) (k : Fin k0_t4_loop.trips) :
    (((sB).view.loc (thr d L) ↦{fullShare} f) : sProp 𝕄) ⊢
    wp frame (wpE (defs₀ (F := F)) 𝒱₀ (thr d L) none) Set.univ
      (k0_t4_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 v2 v17 c0 c1 c2 c3 t k (BitVec.ofNat 32 p.1, BitVec.ofNat 32 p.2))
      fun r => iprop(⌜r = (BitVec.ofNat 32 (bsStep B t p).1, BitVec.ofNat 32 (bsStep B t p).2)⌝ ∗ ((sB).view.loc (thr d L) ↦{fullShare} f)) := by
  have hm := isInt_mid hp.1 hp.2.1
  have hoff : k0_off4 (BitVec.ofNat 32 p.1) (BitVec.ofNat 32 p.2) = ![(p.1 + p.2) / 2] := off_mid hp.1 hp.2.1 hm
  have hp1 := hp.1
  have hp2 := hp.2.1
  have hF : BatchIs (F := F) B ((sB).view.read (Elt F) f) := hf
  have hw4 : k0_chk4 (BitVec.ofNat 32 p.1) (BitVec.ofNat 32 p.2) := by
    intro a
    rw [hoff]
    fin_cases a
    show (p.1 + p.2) / 2 + 16 ≤ 50016
    omega
  unfold k0_t4_body
  iintro HB
  sl_exec
  sl_step
  isplitr [HB]; swap; · iexact HB
  ipureintro
  exact step_words hp hm (word_load hF hoff _ shapeCasts_S16_S16 slices_S16_o0_S1 inpos_S1_p0)

/-- Search 4. -/
theorem search4 (d : Dev nD) (L : grid0.Coords) {B : ℕ → BitVec 32} {f : Buf (Elt F) ((thr d L).loc cc0_scratch0)} (hf : BatchIs (F := F) (padded B) f)
    {t : BitVec 32} (v2 v17 c0 c1 c2 c3 : BitVec 32) (ht : t.toInt ≤ 128) :
    (((sB).view.loc (thr d L) ↦{fullShare} f) : sProp 𝕄) ⊢
    wp frame (wpE (defs₀ (F := F)) 𝒱₀ (thr d L) none) Set.univ
      (k0_t4_loop.for k0_t4_ok (0#32, 50000#32) (k0_t4_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 v2 v17 c0 c1 c2 c3 t))
      fun r => iprop(⌜r = (BitVec.ofNat 32 (bs (padded B) t 16).1, BitVec.ofNat 32 (bs (padded B) t 16).2)⌝ ∗ ((sB).view.loc (thr d L) ↦{fullShare} f)) := by
  iintro HB
  sl_for (fun (k : ℕ) (r : BitVec 32 × BitVec 32) =>
    (iprop(⌜r = (BitVec.ofNat 32 (bs (padded B) t k).1, BitVec.ofNat 32 (bs (padded B) t k).2)⌝ ∗ ((sB).view.loc (thr d L) ↦{fullShare} f)) : sProp 𝕄)) $$ [HB]
  case region =>
    intro k r
    iintro ⟨%hr, HB⟩
    subst hr
    have hstep := step4 d L hf v2 v17 c0 c1 c2 c3 (bsOk ht k.val) k
    unfold search4.sl.prog.body_1
    iapply hstep
    iexact HB
  · isplitl [HB]
    · isplitr [HB]; swap; · iexact HB
      ipureintro
      rfl
    iintro %r ⟨%hr, HB⟩
    isplitr [HB]; swap; · iexact HB
    ipureintro
    exact hr

/-- One step of search 5. -/
theorem step5 (d : Dev nD) (L : grid0.Coords) {B : ℕ → BitVec 32} {f : Buf (Elt F) ((thr d L).loc cc0_scratch0)} (hf : BatchIs (F := F) B f)
    {t : BitVec 32} (v2 v17 c0 c1 c2 c3 : BitVec 32) {p : ℕ × ℕ} (hp : BsOk B t p) (k : Fin k0_t5_loop.trips) :
    (((sB).view.loc (thr d L) ↦{fullShare} f) : sProp 𝕄) ⊢
    wp frame (wpE (defs₀ (F := F)) 𝒱₀ (thr d L) none) Set.univ
      (k0_t5_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 v2 v17 c0 c1 c2 c3 t k (BitVec.ofNat 32 p.1, BitVec.ofNat 32 p.2))
      fun r => iprop(⌜r = (BitVec.ofNat 32 (bsStep B t p).1, BitVec.ofNat 32 (bsStep B t p).2)⌝ ∗ ((sB).view.loc (thr d L) ↦{fullShare} f)) := by
  have hm := isInt_mid hp.1 hp.2.1
  have hoff : k0_off5 (BitVec.ofNat 32 p.1) (BitVec.ofNat 32 p.2) = ![(p.1 + p.2) / 2] := off_mid hp.1 hp.2.1 hm
  have hp1 := hp.1
  have hp2 := hp.2.1
  have hF : BatchIs (F := F) B ((sB).view.read (Elt F) f) := hf
  have hw5 : k0_chk5 (BitVec.ofNat 32 p.1) (BitVec.ofNat 32 p.2) := by
    intro a
    rw [hoff]
    fin_cases a
    show (p.1 + p.2) / 2 + 16 ≤ 50016
    omega
  unfold k0_t5_body
  iintro HB
  sl_exec
  sl_step
  isplitr [HB]; swap; · iexact HB
  ipureintro
  exact step_words hp hm (word_load hF hoff _ shapeCasts_S16_S16 slices_S16_o0_S1 inpos_S1_p0)

/-- Search 5. -/
theorem search5 (d : Dev nD) (L : grid0.Coords) {B : ℕ → BitVec 32} {f : Buf (Elt F) ((thr d L).loc cc0_scratch0)} (hf : BatchIs (F := F) (padded B) f)
    {t : BitVec 32} (v2 v17 c0 c1 c2 c3 : BitVec 32) (ht : t.toInt ≤ 128) :
    (((sB).view.loc (thr d L) ↦{fullShare} f) : sProp 𝕄) ⊢
    wp frame (wpE (defs₀ (F := F)) 𝒱₀ (thr d L) none) Set.univ
      (k0_t5_loop.for k0_t5_ok (0#32, 50000#32) (k0_t5_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 v2 v17 c0 c1 c2 c3 t))
      fun r => iprop(⌜r = (BitVec.ofNat 32 (bs (padded B) t 16).1, BitVec.ofNat 32 (bs (padded B) t 16).2)⌝ ∗ ((sB).view.loc (thr d L) ↦{fullShare} f)) := by
  iintro HB
  sl_for (fun (k : ℕ) (r : BitVec 32 × BitVec 32) =>
    (iprop(⌜r = (BitVec.ofNat 32 (bs (padded B) t k).1, BitVec.ofNat 32 (bs (padded B) t k).2)⌝ ∗ ((sB).view.loc (thr d L) ↦{fullShare} f)) : sProp 𝕄)) $$ [HB]
  case region =>
    intro k r
    iintro ⟨%hr, HB⟩
    subst hr
    have hstep := step5 d L hf v2 v17 c0 c1 c2 c3 (bsOk ht k.val) k
    unfold search5.sl.prog.body_1
    iapply hstep
    iexact HB
  · isplitl [HB]
    · isplitr [HB]; swap; · iexact HB
      ipureintro
      rfl
    iintro %r ⟨%hr, HB⟩
    isplitr [HB]; swap; · iexact HB
    ipureintro
    exact hr

end Cert.Pool
-- ==== Proof.Init.lean ====
/-
  The accumulators before the first row: four trips, and trip `k` stores segment `k`'s sixteen lane vectors of minus
  infinity, of plus infinity and of zeros.
-/
module

public import proofs.«01_k».proof.Proof.Lanes

@[expose] public section

noncomputable section

namespace Cert.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Affine (IsInt)

variable {F : FTy → Type} [FloatOps F] [∀ e, Nonempty (Elt F e)]

local notation "𝕄" => MT nD τ sig (HIx 1) (Elt F) ℕ UU ℕ

/-- The first `n` segments' accumulators hold the folds' starting values. -/
def Started (n : ℕ) (g : S3072.Idx → Elt F .f32) : Prop := ∀ y, (y 0).val / 768 < n → g y = ini ((y 0).val % 768 / 256)

theorem started_zero (g : S3072.Idx → Elt F .f32) : Started 0 g := fun _ h => absurd h (Nat.not_lt_zero _)

theorem started_all {g : S3072.Idx → Elt F .f32} (h : Started 4 g) (X : ℕ → ℕ → F .f32) (o : ℕ → ℕ) (a : ℕ) : AccIs (accS X o a a) g :=
  fun y => (h y (by have := (y 0).isLt; have : (y 0).val < 3072 := this; omega)).trans (accS_start X o a _).symm

/-- The forty-eight stores of one more segment. -/
theorem started_succ {v : View sig .scVector .vmem S3072 .f32} {g : v.ty.Contents (Elt F)} {k : ℕ} {qs : List ℕ}
    {L : List (View.Piece (Elt F) S3072 .f32)} (hg : Started k (v.read (Elt F) g)) (hq : ∀ q < 48, q ∈ qs)
    (hL : List.Forall₂ (Seg k fun e => ini (e % 768 / 256)) qs L) :
    Started (k + 1) (v.read (Elt F) (v.writes (Elt F) g L)) := by
  intro y hy
  have h := writes_seg (v := v) (g := g) (G := fun e => if h : e < 3072 then v.read (Elt F) g (fun a => ⟨e, by have : S3072.size a = 3072 := (by have : a = 0 := Subsingleton.elim _ _; subst this; rfl); omega⟩) else ini 0)
    (fun y => by
      have h0 : (y 0).val < 3072 := (y 0).isLt
      refine Eq.trans ?_ (dif_pos h0).symm
      congr 1
      funext a
      match a with
      | 0 => rfl) hL hq y
  rw [h]
  by_cases hk : (y 0).val / 768 = k
  · exact if_pos hk
  · have h0 : (y 0).val < 3072 := (y 0).isLt
    refine (if_neg hk).trans ((dif_pos h0).trans ?_)
    refine Eq.trans ?_ (hg y (by omega))
    congr 1
    funext a
    match a with
    | 0 => rfl

theorem seg_ini {k : ℕ} (j q : ℕ) (hj : j < 3) (hq : q < 16) {off : Fin 1 → ℕ} (hoff : off = ![768 * k + 16 * (16 * j + q)])
    (h : ∀ a, off a + S16.size a ≤ S3072.size a) {w : FVec F S16 .f32} (hw : w = shapeCast S16 (broadcast S16 (ini (F := F) j)) shapeCasts_S16_S16) :
    Seg k (fun e => ini (e % 768 / 256)) (16 * j + q) ⟨Rect.unit (s := S3072) off S16.size h, w⟩ := by
  refine ⟨off, h, w, rfl, hoff, by omega, ?_⟩
  rw [hw, shapeCast_self]
  funext l
  have hl : (l 0).val < 16 := (l 0).isLt
  show ini j = ini _
  congr 1
  omega

theorem seg_max {k : ℕ} (q : ℕ) (hq : q < 16) {off : Fin 1 → ℕ} (hoff : off = ![768 * k + 16 * q])
    (h : ∀ a, off a + S16.size a ≤ S3072.size a) {w : FVec F S16 .f32}
    (hw : w = shapeCast S16 (broadcast S16 (Scalar.ofBits (F := F) .f32 0xFF800000#32)) shapeCasts_S16_S16) :
    Seg k (fun e => ini (e % 768 / 256)) q ⟨Rect.unit (s := S3072) off S16.size h, w⟩ := by
  have e := seg_ini (F := F) (k := k) 0 q (by decide) hq (hoff.trans (by rw [show 768 * k + 16 * q = 768 * k + 16 * (16 * 0 + q) by omega])) h hw
  rwa [show 16 * 0 + q = q by omega] at e

theorem seg_min {k : ℕ} (q : ℕ) (hq : q < 16) {off : Fin 1 → ℕ} (hoff : off = ![768 * k + 256 * 0 + 16 * q + 256])
    (h : ∀ a, off a + S16.size a ≤ S3072.size a) {w : FVec F S16 .f32}
    (hw : w = shapeCast S16 (broadcast S16 (Scalar.ofBits (F := F) .f32 0x7F800000#32)) shapeCasts_S16_S16) :
    Seg k (fun e => ini (e % 768 / 256)) (16 * 1 + q) ⟨Rect.unit (s := S3072) off S16.size h, w⟩ :=
  seg_ini 1 q (by decide) hq (hoff.trans (by rw [show 768 * k + 256 * 0 + 16 * q + 256 = 768 * k + 16 * (16 * 1 + q) by omega])) h hw

theorem seg_sum {k : ℕ} (q : ℕ) (hq : q < 16) {off : Fin 1 → ℕ} (hoff : off = ![768 * k + 256 * 1 + 16 * q + 256])
    (h : ∀ a, off a + S16.size a ≤ S3072.size a) {w : FVec F S16 .f32}
    (hw : w = shapeCast S16 (broadcast S16 (Scalar.ofBits (F := F) .f32 0x00000000#32)) shapeCasts_S16_S16) :
    Seg k (fun e => ini (e % 768 / 256)) (16 * 2 + q) ⟨Rect.unit (s := S3072) off S16.size h, w⟩ :=
  seg_ini 2 q (by decide) hq (hoff.trans (by rw [show 768 * k + 256 * 1 + 16 * q + 256 = 768 * k + 16 * (16 * 2 + q) by omega])) h hw

set_option maxHeartbeats 4000000 in
theorem start_trip (d : Dev nD) (L : grid0.Coords) (v2 v17 c0 c1 c2 c3 : BitVec 32) (k : Fin k0_t6_loop.trips) (z : BitVec 32)
    (g : Buf (Elt F) ((thr d L).loc cc0_scratch3)) (hg : Started k.val g) :
    (iprop((sA).view.loc (thr d L) ↦{fullShare} g) : sProp 𝕄) ⊢
    wp frame (wpE (defs₀ (F := F)) 𝒱₀ (thr d L) none) Set.univ
      (k0_t6_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 v2 v17 c0 c1 c2 c3 k z)
      fun _ => iprop(∃ g', ⌜Started (k.val + 1) g'⌝ ∗ ((sA).view.loc (thr d L) ↦{fullShare} g')) := by
  have hG : Started k.val ((sA).view.read (Elt F) g) := hg
  unfold k0_t6_body
  iintro HA
  sl_exec
  sl_step
  iexists _
  isplitr [HA]; swap
  · iexact HA
  · ipureintro
    exact started_succ (v := sA.view) (qs := [47, 31, 15, 46, 30, 14, 45, 29, 13, 44, 28, 12, 43, 27, 11, 42, 26, 10, 41, 25, 9, 40, 24, 8, 39, 23, 7, 38, 22, 6, 37, 21, 5, 36, 20, 4, 35, 19, 3, 34, 18, 2, 33, 17, 1, 32, 16, 0])
      hG (by decide)
      (.cons (seg_sum 15 (by decide) (k0_off7_eq k ⟨1, by decide⟩ ⟨15, by decide⟩) _ rfl) <| .cons (seg_min 15 (by decide) (k0_off7_eq k ⟨0, by decide⟩ ⟨15, by decide⟩) _ rfl) <| .cons (seg_max 15 (by decide) (k0_off6_eq k ⟨15, by decide⟩) _ rfl) <| .cons (seg_sum 14 (by decide) (k0_off7_eq k ⟨1, by decide⟩ ⟨14, by decide⟩) _ rfl) <| .cons (seg_min 14 (by decide) (k0_off7_eq k ⟨0, by decide⟩ ⟨14, by decide⟩) _ rfl) <| .cons (seg_max 14 (by decide) (k0_off6_eq k ⟨14, by decide⟩) _ rfl) <| .cons (seg_sum 13 (by decide) (k0_off7_eq k ⟨1, by decide⟩ ⟨13, by decide⟩) _ rfl) <| .cons (seg_min 13 (by decide) (k0_off7_eq k ⟨0, by decide⟩ ⟨13, by decide⟩) _ rfl) <| .cons (seg_max 13 (by decide) (k0_off6_eq k ⟨13, by decide⟩) _ rfl) <| .cons (seg_sum 12 (by decide) (k0_off7_eq k ⟨1, by decide⟩ ⟨12, by decide⟩) _ rfl) <| .cons (seg_min 12 (by decide) (k0_off7_eq k ⟨0, by decide⟩ ⟨12, by decide⟩) _ rfl) <| .cons (seg_max 12 (by decide) (k0_off6_eq k ⟨12, by decide⟩) _ rfl) <| .cons (seg_sum 11 (by decide) (k0_off7_eq k ⟨1, by decide⟩ ⟨11, by decide⟩) _ rfl) <| .cons (seg_min 11 (by decide) (k0_off7_eq k ⟨0, by decide⟩ ⟨11, by decide⟩) _ rfl) <| .cons (seg_max 11 (by decide) (k0_off6_eq k ⟨11, by decide⟩) _ rfl) <| .cons (seg_sum 10 (by decide) (k0_off7_eq k ⟨1, by decide⟩ ⟨10, by decide⟩) _ rfl) <| .cons (seg_min 10 (by decide) (k0_off7_eq k ⟨0, by decide⟩ ⟨10, by decide⟩) _ rfl) <| .cons (seg_max 10 (by decide) (k0_off6_eq k ⟨10, by decide⟩) _ rfl) <| .cons (seg_sum 9 (by decide) (k0_off7_eq k ⟨1, by decide⟩ ⟨9, by decide⟩) _ rfl) <| .cons (seg_min 9 (by decide) (k0_off7_eq k ⟨0, by decide⟩ ⟨9, by decide⟩) _ rfl) <| .cons (seg_max 9 (by decide) (k0_off6_eq k ⟨9, by decide⟩) _ rfl) <| .cons (seg_sum 8 (by decide) (k0_off7_eq k ⟨1, by decide⟩ ⟨8, by decide⟩) _ rfl) <| .cons (seg_min 8 (by decide) (k0_off7_eq k ⟨0, by decide⟩ ⟨8, by decide⟩) _ rfl) <| .cons (seg_max 8 (by decide) (k0_off6_eq k ⟨8, by decide⟩) _ rfl) <| .cons (seg_sum 7 (by decide) (k0_off7_eq k ⟨1, by decide⟩ ⟨7, by decide⟩) _ rfl) <| .cons (seg_min 7 (by decide) (k0_off7_eq k ⟨0, by decide⟩ ⟨7, by decide⟩) _ rfl) <| .cons (seg_max 7 (by decide) (k0_off6_eq k ⟨7, by decide⟩) _ rfl) <| .cons (seg_sum 6 (by decide) (k0_off7_eq k ⟨1, by decide⟩ ⟨6, by decide⟩) _ rfl) <| .cons (seg_min 6 (by decide) (k0_off7_eq k ⟨0, by decide⟩ ⟨6, by decide⟩) _ rfl) <| .cons (seg_max 6 (by decide) (k0_off6_eq k ⟨6, by decide⟩) _ rfl) <| .cons (seg_sum 5 (by decide) (k0_off7_eq k ⟨1, by decide⟩ ⟨5, by decide⟩) _ rfl) <| .cons (seg_min 5 (by decide) (k0_off7_eq k ⟨0, by decide⟩ ⟨5, by decide⟩) _ rfl) <| .cons (seg_max 5 (by decide) (k0_off6_eq k ⟨5, by decide⟩) _ rfl) <| .cons (seg_sum 4 (by decide) (k0_off7_eq k ⟨1, by decide⟩ ⟨4, by decide⟩) _ rfl) <| .cons (seg_min 4 (by decide) (k0_off7_eq k ⟨0, by decide⟩ ⟨4, by decide⟩) _ rfl) <| .cons (seg_max 4 (by decide) (k0_off6_eq k ⟨4, by decide⟩) _ rfl) <| .cons (seg_sum 3 (by decide) (k0_off7_eq k ⟨1, by decide⟩ ⟨3, by decide⟩) _ rfl) <| .cons (seg_min 3 (by decide) (k0_off7_eq k ⟨0, by decide⟩ ⟨3, by decide⟩) _ rfl) <| .cons (seg_max 3 (by decide) (k0_off6_eq k ⟨3, by decide⟩) _ rfl) <| .cons (seg_sum 2 (by decide) (k0_off7_eq k ⟨1, by decide⟩ ⟨2, by decide⟩) _ rfl) <| .cons (seg_min 2 (by decide) (k0_off7_eq k ⟨0, by decide⟩ ⟨2, by decide⟩) _ rfl) <| .cons (seg_max 2 (by decide) (k0_off6_eq k ⟨2, by decide⟩) _ rfl) <| .cons (seg_sum 1 (by decide) (k0_off7_eq k ⟨1, by decide⟩ ⟨1, by decide⟩) _ rfl) <| .cons (seg_min 1 (by decide) (k0_off7_eq k ⟨0, by decide⟩ ⟨1, by decide⟩) _ rfl) <| .cons (seg_max 1 (by decide) (k0_off6_eq k ⟨1, by decide⟩) _ rfl) <| .cons (seg_sum 0 (by decide) (k0_off7_eq k ⟨1, by decide⟩ ⟨0, by decide⟩) _ rfl) <| .cons (seg_min 0 (by decide) (k0_off7_eq k ⟨0, by decide⟩ ⟨0, by decide⟩) _ rfl) <| .cons (seg_max 0 (by decide) (k0_off6_eq k ⟨0, by decide⟩) _ rfl) <| .nil)

end Cert.Pool
-- ==== Proof.Fetch.lean ====
/-
  A tile's first two stretches: the batch fetched and padded, the five searches, the accumulators set to their starting
  values.
-/
module

public import proofs.«01_k».proof.Proof.Search
public import proofs.«01_k».proof.Proof.Init

@[expose] public section

noncomputable section

namespace Cert.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Affine (IsInt)

variable {F : FTy → Type} [FloatOps F] [∀ e, Nonempty (Elt F e)]

local notation "𝕄" => MT nD τ sig (HIx 1) (Elt F) ℕ UU ℕ

/-- The tile's first segment. -/
abbrev base (L : grid0.Coords) : ℕ := 8 * (L 1).val + 4 * (L 0).val

/-- The first row of each of the tile's segments, and the row after its last. -/
def tileOffs (B : ℕ → BitVec 32) (L : grid0.Coords) (i : ℕ) : ℕ := offs B (base L + min i 4)

theorem base_le (L : grid0.Coords) : base L ≤ 124 := by
  have h0 : (L 0).val < 2 := (L 0).isLt
  have h1 : (L 1).val < 16 := (L 1).isLt
  unfold base
  omega

/-- The target of the tile's search `i`, as the kernel computes it. -/
abbrev target (L : grid0.Coords) (i : BitVec 32) : BitVec 32 :=
  Scalar.addi (Scalar.muli (Scalar.addi (Scalar.muli (BitVec.ofNat 32 (L 1).val) 2#32) (BitVec.ofNat 32 (L 0).val)) 4#32) i

theorem target_eq (L : grid0.Coords) {i : ℕ} (hi : i ≤ 4) : target L (BitVec.ofNat 32 i) = BitVec.ofNat 32 (base L + i) := by
  have h0 : (L 0).val < 2 := (L 0).isLt
  have h1 : (L 1).val < 16 := (L 1).isLt
  apply BitVec.eq_of_toNat_eq
  show ((BitVec.ofNat 32 (L 1).val * 2#32 + BitVec.ofNat 32 (L 0).val) * 4#32 + BitVec.ofNat 32 i).toNat = _
  simp only [BitVec.toNat_add, BitVec.toNat_mul, BitVec.toNat_ofNat]
  unfold base
  omega

theorem toInt_le (n : ℕ) (hn : n ≤ 128) : (BitVec.ofNat 32 n).toInt ≤ 128 := by
  rw [BitVec.toInt_eq_toNat_cond, BitVec.toNat_ofNat]
  omega

theorem target_le (L : grid0.Coords) {i : ℕ} (hi : i ≤ 4) : (target L (BitVec.ofNat 32 i)).toInt ≤ 128 := by
  rw [target_eq L hi]
  have := base_le L
  exact toInt_le _ (by omega)

theorem tileOffs_eq (B : ℕ → BitVec 32) (L : grid0.Coords) {i : ℕ} (hi : i ≤ 4) :
    (bs (padded B) (target L (BitVec.ofNat 32 i)) 16).1 = tileOffs B L i := by
  rw [target_eq L hi]
  unfold tileOffs offs
  rw [Nat.min_eq_left hi]

theorem tileOffs_le (B : ℕ → BitVec 32) (L : grid0.Coords) (i : ℕ) : tileOffs B L i ≤ 50000 := by
  have h := bsOk (B := B) (t := BitVec.ofNat 32 (base L + min i 4)) (toInt_le _ (by have := base_le L; omega)) 16
  exact Nat.le_trans h.1 h.2.1

/-- The row-number memory holds the first `n` numbers. -/
def OffsTo (o : ℕ → ℕ) (n : ℕ) (g : S5.Idx → Elt F .i32) : Prop := ∀ e, (e 0).val < n → g e = BitVec.ofNat 32 (o (e 0).val)

omit [FloatOps F] [∀ e, Nonempty (Elt F e)] in
theorem offsTo_zero (o : ℕ → ℕ) (g : S5.Idx → Elt F .i32) : OffsTo (F := F) o 0 g := fun _ h => absurd h (Nat.not_lt_zero _)

omit [FloatOps F] [∀ e, Nonempty (Elt F e)] in
theorem offsTo_all {o : ℕ → ℕ} {g : S5.Idx → Elt F .i32} (h : OffsTo (F := F) o 5 g) : OffsAre (F := F) o g := fun e => h e (e 0).isLt

/-- A store of number `n`. -/
def Num (o : ℕ → ℕ) (n : ℕ) (p : View.Piece (Elt F) S5 .i32) : Prop :=
  ∃ (off : Fin 1 → ℕ) (h : ∀ a, off a + S1.size a ≤ S5.size a) (w : S1.Idx → Elt F .i32),
    p = ⟨Rect.unit (s := S5) off S1.size h, w⟩ ∧ off = ![n] ∧ w = fun _ => BitVec.ofNat 32 (o n)

theorem mem_unit1 {e : ℕ} {h : ∀ a, (![e] : Fin 1 → ℕ) a + S1.size a ≤ S5.size a} {y : S5.Idx} :
    y ∈ (Rect.unit (s := S5) ![e] S1.size h).set ↔ (y 0).val = e := by
  rw [Rect.mem_set_unit]
  constructor
  · intro H
    have h1 : e ≤ (y 0).val := (H 0).1
    have h2 : (y 0).val < e + 1 := (H 0).2
    omega
  · intro H a
    match a with
    | 0 => exact ⟨Nat.le_of_eq H.symm, by show (y 0).val < e + 1; omega⟩

omit [FloatOps F] [∀ e, Nonempty (Elt F e)] in
/-- Some more numbers stored. -/
theorem offsTo_writes {v : View sig .scVector .smem S5 .i32} {g : v.ty.Contents (Elt F)} {o : ℕ → ℕ} {n m : ℕ} (hg : OffsTo (F := F) o n (v.read (Elt F) g))
    {ns : List ℕ} {L : List (View.Piece (Elt F) S5 .i32)} (hL : List.Forall₂ (Num (F := F) o) ns L) (hns : ∀ i < m, i < n ∨ i ∈ ns) :
    OffsTo (F := F) o m (v.read (Elt F) (v.writes (Elt F) g L)) := by
  intro e he
  by_cases h : (e 0).val ∈ ns
  · obtain ⟨p, hp, off, h', w, rfl, rfl, hw⟩ := forall₂_left hL _ h
    refine View.read_writes_apply_of_pieces v g (fun e => BitVec.ofNat 32 (o (e 0).val)) _ ?_ e ⟨_, hp, (mem_unit1 (h := h')).2 rfl⟩
    intro p hp x
    obtain ⟨i, -, off', h'', w', rfl, rfl, hw'⟩ := forall₂_right hL p hp
    have e0 : (((Rect.unit (s := S5) ![i] S1.size h'').emb x) 0).val = i + 1 * (x 0).val := rfl
    have hx : (x 0).val < 1 := (x 0).isLt
    show w' x = BitVec.ofNat 32 (o _)
    rw [e0, hw', show i + 1 * (x 0).val = i by omega]
  · refine (View.read_writes_apply_of_forall_not_mem v g e _ ?_).trans (hg e (by have := hns _ he; tauto))
    intro p hp hm
    obtain ⟨i, hi, off', h'', w', rfl, rfl, hw'⟩ := forall₂_right hL p hp
    have := (mem_unit1 (h := h'')).1 hm
    exact h (this ▸ hi)

omit [FloatOps F] [∀ e, Nonempty (Elt F e)] in
theorem num_target (B : ℕ → BitVec 32) (L : grid0.Coords) {i : ℕ} (hi : i ≤ 4) (h : ∀ a, (![i] : Fin 1 → ℕ) a + S1.size a ≤ S5.size a) :
    Num (F := F) (tileOffs B L) i ⟨Rect.unit (s := S5) ![i] S1.size h, fun _ => BitVec.ofNat 32 (bs (padded B) (target L (BitVec.ofNat 32 i)) 16).1⟩ :=
  ⟨_, h, _, rfl, rfl, by rw [tileOffs_eq B L hi]; rfl⟩

/-- The batch holds `B`. -/
def WordsAre (B : ℕ → BitVec 32) (bv : S50000.Idx → Elt F .i32) : Prop := ∀ e, bv e = B (e 0).val

/-- The fetch and its padding. -/
theorem padded_batch {B : ℕ → BitVec 32} {bv : S50000.Idx → Elt F .i32} (hb : WordsAre (F := F) B bv) {v : View sig .scVector .vmem S50016 .i32} {f : v.ty.Contents (Elt F)}
    (h0 : ∀ a, (![0] : Fin 1 → ℕ) a + S50000.size a ≤ S50016.size a) (h1 : ∀ a, (![50000] : Fin 1 → ℕ) a + S16.size a ≤ S50016.size a)
    {w : Vec F S16 .i32} (hw : w = fun _ => 128#32) :
    BatchIs (F := F) (padded B) (v.read (Elt F) (v.writes (Elt F) f [⟨Rect.unit (s := S50016) ![50000] S16.size h1, w⟩,
      ⟨Rect.unit (s := S50016) ![0] S50000.size h0, bv⟩])) := by
  subst hw
  intro e
  have he : (e 0).val < 50016 := (e 0).isLt
  refine View.read_writes_apply_of_pieces v f (fun e => padded B (e 0).val) _ ?_ e ?_
  · intro p hp x
    rcases List.mem_cons.1 hp with rfl | hp
    · have e0 : (((Rect.unit (s := S50016) ![50000] S16.size h1).emb x) 0).val = 50000 + 1 * (x 0).val := rfl
      show 128#32 = padded B _
      rw [e0]
      unfold padded
      rw [if_neg (by omega)]
    · obtain rfl := List.mem_singleton.1 hp
      have e0 : (((Rect.unit (s := S50016) ![0] S50000.size h0).emb x) 0).val = 0 + 1 * (x 0).val := rfl
      have hx : (x 0).val < 50000 := (x 0).isLt
      show bv x = padded B _
      rw [e0, hb]
      unfold padded
      rw [if_pos (by omega), Nat.zero_add, Nat.one_mul]
  · by_cases h : (e 0).val < 50000
    · refine ⟨_, List.mem_cons_of_mem _ (List.mem_singleton_self _), ?_⟩
      rw [Rect.mem_set_unit]
      intro a
      match a with
      | 0 => exact ⟨Nat.zero_le _, by show (e 0).val < 0 + 50000; omega⟩
    · refine ⟨_, List.mem_cons_self, ?_⟩
      rw [Rect.mem_set_unit]
      intro a
      match a with
      | 0 => exact ⟨by show 50000 ≤ (e 0).val; omega, by show (e 0).val < 50000 + 16; omega⟩

/-- The waits recorded so far are those of before and the tile's own. -/
abbrev owing' (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

set_option maxHeartbeats 4000000 in
/-- The fetch and the first two searches. -/
theorem fetched (d : Dev nD) (L : grid0.Coords) {B : ℕ → BitVec 32} (qb : PosShare TreeShare) {bv : Buf (Elt F) ((thr d L).loc main_arg1_scv)} (hb : WordsAre (F := F) B bv)
    (f : Buf (Elt F) ((thr d L).loc cc0_scratch0)) (fo : Buf (Elt F) ((thr d L).loc cc0_scratch4)) (O : CellTallies nD τ sig (HIx 1)) (W : Waits sig (HIx 1)) :
    (iprop(((aB).view.loc (thr d L) ↦{qb} bv) ∗ ((sB).view.loc (thr d L) ↦{fullShare} f) ∗ ((sO).view.loc (thr d L) ↦{fullShare} fo)
        ∗ semVal (thr d L, SemLoc.dma cc0_scoped0.sem) 0 ∗ owes (thr d L) O W ∗ Transfers.MayWaits (thr d L) (none : HIx 1) O) : sProp 𝕄) ⊢
    wp frame (wpE (defs₀ (F := F)) 𝒱₀ (thr d L) none) Set.univ
      (k0_part78 L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1)
      fun r => iprop(⌜r = ⟨Scalar.muli (Scalar.addi (Scalar.muli (BitVec.ofNat 32 (L 1).val) 2#32) (BitVec.ofNat 32 (L 0).val)) 4#32, target L 2#32, 0#32, 50000#32, 0#32, 1#32⟩⌝
        ∗ ((aB).view.loc (thr d L) ↦{qb} bv) ∗ (∃ f, ⌜BatchIs (F := F) (padded B) f⌝ ∗ ((sB).view.loc (thr d L) ↦{fullShare} f))
        ∗ (∃ fo, ⌜OffsTo (F := F) (tileOffs B L) 2 fo⌝ ∗ ((sO).view.loc (thr d L) ↦{fullShare} fo))
        ∗ semVal (thr d L, SemLoc.dma cc0_scoped0.sem) 0 ∗ owing' d L O W) := by
  rw [k0_part78_eq_skeleton]
  unfold k0_part78_skel
  iintro ⟨HB, HS, HO, Hs, Hw, Hmw⟩
  sl_exec (disch := exact View.amount_pos _ _ (show 0 < S50000.numel by decide))
  have hS : BatchIs (F := F) (padded B) ((sB).view.read (Elt F) ((sB).view.writes (Elt F) (sB).view.junk (fetched.sl.HS_2 (bv := bv) d L))) := by
    exact padded_batch (v := sB.view) hb _ _ (by funext l; rfl)
  generalize (sB).view.writes (Elt F) (sB).view.junk (fetched.sl.HS_2 (bv := bv) d L) = fS at hS
  have hf : BatchIs (F := F) (padded B) fS := hS
  rw [wp_bind]
  iapply (wp_wand) $$ [HS]
  · iapply (search1 d L hf (target_le L (i := 0) (by decide)))
    iexact HS
  iintro %r1 ⟨%hr1, HS⟩
  subst hr1
  sl_exec
  rw [wp_bind]
  iapply (wp_wand) $$ [HS]
  · iapply (search2 d L hf (target_le L (i := 1) (by decide)))
    iexact HS
  iintro %r2 ⟨%hr2, HS⟩
  subst hr2
  sl_exec
  have hL : List.Forall₂ (Num (F := F) (tileOffs B L)) [1, 0] [⟨Rect.unit (s := S5) ![1] S1.size inb_S5_S1_1, fun _ => BitVec.ofNat 32 (bs (padded B) (target L 1#32) 16).1⟩,
      ⟨Rect.unit (s := S5) ![0] S1.size inb_S5_S1_0, fun _ => BitVec.ofNat 32 (bs (padded B) (target L 0#32) 16).1⟩] :=
    .cons (num_target B L (i := 1) (by decide) _) <| .cons (num_target B L (i := 0) (by decide) _) <| .nil
  have hO := offsTo_writes (m := 2) (v := sO.view) (g := fo) (offsTo_zero _ _) hL (fun i hi => .inr (by
    rcases i with _ | _ | i
    · decide
    · decide
    · omega))
  sl_step
  isplitr [HB HS HO Hs Hw]
  · ipureintro; rfl
  isplitl [HB]; · iexact HB
  isplitl [HS]
  · iexists fS
    isplitr [HS]; swap
    · iexact HS
    · ipureintro; exact hf
  isplitl [HO]
  · iexists _
    isplitr [HO]; swap
    · iexact HO
    · ipureintro; exact hO
  isplitl [Hs]; · iexact Hs
  iexists _
  isplitr [Hw]; swap
  · iexact Hw
  · ipureintro
    intro p hp
    rcases Finset.mem_insert.1 hp with rfl | hp
    · exact .inr rfl
    · exact .inl hp

set_option maxHeartbeats 4000000 in
/-- The other three searches, and the accumulators' starting values. -/
theorem searched (d : Dev nD) (L : grid0.Coords) {B : ℕ → BitVec 32}
    {f : Buf (Elt F) ((thr d L).loc cc0_scratch0)} (hf : BatchIs (F := F) (padded B) f) {fo : Buf (Elt F) ((thr d L).loc cc0_scratch4)}
    (hfo : OffsTo (F := F) (tileOffs B L) 2 fo) (g : Buf (Elt F) ((thr d L).loc cc0_scratch3)) :
    (iprop(((sB).view.loc (thr d L) ↦{fullShare} f) ∗ ((sO).view.loc (thr d L) ↦{fullShare} fo) ∗ ((sA).view.loc (thr d L) ↦{fullShare} g)) : sProp 𝕄) ⊢
    wp frame (wpE (defs₀ (F := F)) 𝒱₀ (thr d L) none) Set.univ
      (k0_part79 L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 (Scalar.muli (Scalar.addi (Scalar.muli (BitVec.ofNat 32 (L 1).val) 2#32) (BitVec.ofNat 32 (L 0).val)) 4#32)
        (target L 2#32) 0#32 50000#32 0#32 1#32)
      fun r => iprop(⌜∃ hw, r = ⟨BitVec.ofNat 32 (tileOffs B L 0), BitVec.ofNat 32 (tileOffs B L 4), hw, 8#32, Scalar.divsi (BitVec.ofNat 32 (tileOffs B L 0)) 8#32,
          Scalar.subi (Scalar.extui (Scalar.cmpi .sgt (BitVec.ofNat 32 (tileOffs B L 0)) 0#32)) (Scalar.extui (Scalar.cmpi .slt (BitVec.ofNat 32 (tileOffs B L 0)) 0#32)),
          Scalar.extui (Scalar.cmpi .sgt 8#32 0#32)⟩⌝
        ∗ ((sB).view.loc (thr d L) ↦{fullShare} f)
        ∗ (∃ fo, ⌜OffsAre (F := F) (tileOffs B L) fo⌝ ∗ ((sO).view.loc (thr d L) ↦{fullShare} fo))
        ∗ (∃ g, ⌜Started 4 g⌝ ∗ ((sA).view.loc (thr d L) ↦{fullShare} g))) := by
  rw [k0_part79_eq_skeleton]
  unfold k0_part79_skel
  iintro ⟨HS, HO, HA⟩
  sl_exec
  rw [wp_bind]
  iapply (wp_wand) $$ [HS]
  · iapply (search3 d L hf _ _ _ _ _ (target_le L (i := 2) (by decide)))
    iexact HS
  iintro %r3 ⟨%hr3, HS⟩
  subst hr3
  sl_exec
  rw [wp_bind]
  iapply (wp_wand) $$ [HS]
  · iapply (search4 d L hf _ _ _ _ _ _ (target_le L (i := 3) (by decide)))
    iexact HS
  iintro %r4 ⟨%hr4, HS⟩
  subst hr4
  sl_exec
  rw [wp_bind]
  iapply (wp_wand) $$ [HS]
  · iapply (search5 d L hf _ _ _ _ _ _ (target_le L (i := 4) (by decide)))
    iexact HS
  iintro %r5 ⟨%hr5, HS⟩
  subst hr5
  sl_exec
  have hL : List.Forall₂ (Num (F := F) (tileOffs B L)) [4, 3, 2] [⟨Rect.unit (s := S5) ![4] S1.size inb_S5_S1_4, fun _ => BitVec.ofNat 32 (bs (padded B) (target L 4#32) 16).1⟩,
      ⟨Rect.unit (s := S5) ![3] S1.size inb_S5_S1_3, fun _ => BitVec.ofNat 32 (bs (padded B) (target L 3#32) 16).1⟩,
      ⟨Rect.unit (s := S5) ![2] S1.size inb_S5_S1_2, fun _ => BitVec.ofNat 32 (bs (padded B) (target L 2#32) 16).1⟩] :=
    .cons (num_target B L (i := 4) (by decide) _) <| .cons (num_target B L (i := 3) (by decide) _) <| .cons (num_target B L (i := 2) (by decide) _) <| .nil
  have hO : OffsAre (F := F) (tileOffs B L) _ := offsTo_all (offsTo_writes (m := 5) (v := sO.view) (g := fo) hfo hL (fun i hi => by
    by_cases h2 : i < 2
    · exact .inl h2
    · refine .inr ?_
      rcases (show i = 2 ∨ i = 3 ∨ i = 4 by omega) with rfl | rfl | rfl <;> decide))
  generalize (sO).view.writes (Elt F) fo _ = fo5 at hO
  have hO5 : OffsAre (F := F) (tileOffs B L) fo5 := hO
  sl_for (fun (k : ℕ) (_ : BitVec 32) => (iprop(∃ g, ⌜Started k g⌝ ∗ ((sA).view.loc (thr d L) ↦{fullShare} g)) : sProp 𝕄)) $$ [HA]
  case region =>
    intro k z
    iintro ⟨%g, %hg, HA⟩
    have ht := start_trip d L (Scalar.muli (Scalar.addi (Scalar.muli (BitVec.ofNat 32 (L 1).val) 2#32) (BitVec.ofNat 32 (L 0).val)) 4#32)
      (target L 2#32) 0#32 50000#32 0#32 1#32 k z g hg
    unfold searched.sl.prog.body_1
    iapply ht
    iexact HA
  · iexists g
    isplitr [HA]; swap
    · iexact HA
    · ipureintro; exact started_zero g
  · iintro %z HA
    sl_exec
    have e3 : searched.sl.r_3 fo5 = BitVec.ofNat 32 (tileOffs B L 0) := by
      exact (hO5 _).trans (congrArg (fun n => BitVec.ofNat 32 (tileOffs B L n)) (offs_idx rfl _ _))
    have e4 : searched.sl.r_4 fo5 = BitVec.ofNat 32 (tileOffs B L 4) := by
      exact (hO5 _).trans (congrArg (fun n => BitVec.ofNat 32 (tileOffs B L n)) (offs_idx rfl _ _))
    generalize searched.sl.r_3 fo5 = v35 at e3
    generalize searched.sl.r_4 fo5 = v37 at e4
    subst e3 e4
    have hw := chk6 (tileOffs_le B L 0) (tileOffs_le B L 4)
    sl_exec
    sl_step
    isplitr [HS HO HA]
    · ipureintro; exact ⟨hw, rfl⟩
    isplitl [HS]; · iexact HS
    isplitl [HO]
    · iexists fo5
      isplitr [HO]; swap
      · iexact HO
      · ipureintro; exact hO5
    iexact HA

end Cert.Pool
-- ==== Proof.Flights.lean ====
/-
  The two chunk transfers: a transfer in flight delivers a chunk buffer filled with the rows it was asked for, and the
  share of the input it was lent.
-/
module

public import proofs.«01_k».proof.Proof.Lanes

@[expose] public section

noncomputable section

namespace Cert.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-- What is held beside a flight can be handed over with what it delivers. -/
theorem flight_with {c : Thread nD τ} {sm : SemLoc sig} {N : ℕ} {A B : sProp 𝕄} :
    iprop(Transfers.Flight (countersEmb (U := UU)) c sm (none : HIx 1) N A ∗ B)
      ⊢ Transfers.Flight (countersEmb (U := UU)) c sm (none : HIx 1) N iprop(A ∗ B) := by
  unfold Transfers.Flight
  iintro ⟨⟨⟨%R, HR, %hcap, %hpeek⟩, Hc⟩, HB⟩
  isplitr [Hc]
  · iexists iprop(R ∗ B)
    isplitl [HR HB]
    · isplitl [HR]; · iexact HR
      iexact HB
    isplit
    · ipureintro
      intro Q
      iintro ⟨⟨HR, HB⟩, HQ⟩
      iapply (hcap Q)
      isplitl [HR]; · iexact HR
      iintro ⟨Hv, HA⟩
      iapply HQ
      isplitl [Hv]; · iexact Hv
      isplitl [HA]; · iexact HA
      iexact HB
    · ipureintro
      intro Q
      iintro ⟨⟨HR, HB⟩, HQ⟩
      iapply (hpeek Q)
      isplitl [HR]; · iexact HR
      iintro HR
      iapply HQ
      isplitl [HR]; · iexact HR
      iexact HB
  · iexact Hc

/-- The input rows a chunk starting at row `n` covers. -/
abbrev rowsRect (n : ℕ) (h : ∀ a, (![n, 0] : Fin 2 → ℕ) a + S144x256.size a ≤ S50000x256.size a) : Rect S50000x256 :=
  Rect.unit (s := S50000x256) ![n, 0] S144x256.size h

/-- That window of the input. -/
abbrev winX (n : ℕ) (h : ∀ a, (![n, 0] : Fin 2 → ℕ) a + S144x256.size a ≤ S50000x256.size a) : Memref sig .scVector .hbm S144x256 .f32 :=
  (aX).slice (rowsRect n h) (fun _ => rfl)

/-- The input holds `X`. -/
def InIs (X : ℕ → ℕ → F .f32) (xv : S50000x256.Idx → Elt F .f32) : Prop := ∀ e, xv e = X (e 0).val (e 1).val

omit [FloatOps F] [∀ e, Nonempty (Elt F e)] in
/-- Reading the chunk's window of the input. -/
theorem rows_read {X : ℕ → ℕ → F .f32} {xv : (View.whole main_arg0_scv).ty.Contents (Elt F)} (hx : InIs (F := F) X xv) {n : ℕ}
    (h : ∀ a, (![n, 0] : Fin 2 → ℕ) a + S144x256.size a ≤ S50000x256.size a) :
    RowsFrom X n ((winX n h).view.read (Elt F) xv) := by
  intro e
  refine (hx _).trans ?_
  have e0 : (((rowsRect n h).emb e) 0).val = n + 1 * (e 0).val := rfl
  have e1 : (((rowsRect n h).emb e) 1).val = 0 + 1 * (e 1).val := rfl
  rw [Nat.one_mul] at e0
  rw [Nat.one_mul, Nat.zero_add] at e1
  show X (((rowsRect n h).emb e) 0).val (((rowsRect n h).emb e) 1).val = _
  rw [e0, e1]

section
variable (d : Dev nD) (L : grid0.Coords) (X : ℕ → ℕ → F .f32) (q : PosShare TreeShare) (xv : Buf (Elt F) ((thr d L).loc main_arg0_scv))

/-- A share of the whole input. -/
abbrev xPts : sProp 𝕄 := (aX).view.loc (thr d L) ↦{q} xv

/-- The credits of one chunk transfer. -/
abbrev NX0 : ℕ := (sX0).view.amount (SemLoc.dma cc0_scratch5.sem)
abbrev NX1 : ℕ := (sX1).view.amount (SemLoc.dma cc0_scratch6.sem)

/-- Chunk buffer 0 filled from row `n` on, and the input's share. -/
abbrev got0 (n : ℕ) : sProp 𝕄 := iprop((∃ f, ⌜RowsFrom X n f⌝ ∗ ((sX0).view.loc (thr d L) ↦{fullShare} f)) ∗ xPts d L q xv)
/-- The transfer of the chunk from row `n` into buffer 0, under way. -/
abbrev fly0 (n : ℕ) : sProp 𝕄 :=
  Transfers.Flight (countersEmb (U := UU)) (thr d L) (.dma cc0_scratch5.sem) (none : HIx 1) NX0 (got0 d L X q xv n)
/-- Buffer 0 idle: its semaphore at zero, some contents, the input's share. -/
abbrev idle0 : sProp 𝕄 :=
  iprop(semVal (thr d L, SemLoc.dma cc0_scratch5.sem) 0 ∗ (∃ f, (sX0).view.loc (thr d L) ↦{fullShare} f) ∗ xPts d L q xv)

/-- Chunk buffer 1 filled from row `n` on, and the input's share. -/
abbrev got1 (n : ℕ) : sProp 𝕄 := iprop((∃ f, ⌜RowsFrom X n f⌝ ∗ ((sX1).view.loc (thr d L) ↦{fullShare} f)) ∗ xPts d L q xv)
/-- The transfer of the chunk from row `n` into buffer 1, under way. -/
abbrev fly1 (n : ℕ) : sProp 𝕄 :=
  Transfers.Flight (countersEmb (U := UU)) (thr d L) (.dma cc0_scratch6.sem) (none : HIx 1) NX1 (got1 d L X q xv n)
/-- Buffer 1 idle: its semaphore at zero, some contents, the input's share. -/
abbrev idle1 : sProp 𝕄 :=
  iprop(semVal (thr d L, SemLoc.dma cc0_scratch6.sem) 0 ∗ (∃ f, (sX1).view.loc (thr d L) ↦{fullShare} f) ∗ xPts d L q xv)

variable {X xv}

/-- Starting the transfer into buffer 0. -/
theorem issue0 (hx : InIs (F := F) X xv) {n : ℕ} {off : Fin 2 → ℕ} (hoff : off = ![n, 0]) (hin : ∀ a, off a + S144x256.size a ≤ S50000x256.size a)
    {hs} {hsrc : (aX.slice (Rect.unit (s := S50000x256) off S144x256.size hin) hs).view.WordExact} {hdst : (sX0).view.WordExact} {hsem}
    {α : Type} {k : PUnit → Prog (TpuEff nD τ sig (Elt F) Λ₀ (thr d L).2) α} {Q : α → sProp 𝕄} :
    (idle0 d L q xv : sProp 𝕄)
      ⊢ iprop((fly0 d L X q xv n -∗ wp frame (wpE (defs₀ (F := F)) 𝒱₀ (thr d L) none) Set.univ (k ⟨⟩) Q)
        -∗ wp frame (wpE (defs₀ (F := F)) 𝒱₀ (thr d L) none) Set.univ
            (.op (.enqueueDma (aX.slice (Rect.unit (s := S50000x256) off S144x256.size hin) hs) (.here sX0) (.dma cc0_scratch5.sem) hsrc hdst hsem) k) Q) := by
  subst hoff
  iintro ⟨Hv, ⟨%f, Hb⟩, Hx⟩ Hk
  ihave Hx2 := ((pointsTo_split_subset (ℓ := (thr d L).loc main_arg0_scv) (q := q) (f := xv)
    (Finset.subset_univ (winX n hin).view.set)).1) $$ Hx
  icases Hx2 with ⟨Hw, Hr⟩
  iapply (Transfers.wp_dmaLocal (countersEmb (U := UU)) 𝒱₀ (thr d L) none (none : HIx 1) NX0 rfl (View.amount_pos _ _ (show 0 < S144x256.numel by decide))
    (Sd := Finset.univ) (Finset.subset_univ _) (fs := xv) (fd := f) (q := q)) $$ [Hw Hb Hv]
  · isplitl [Hw]; · iexact Hw
    isplitl [Hb]; · iexact Hb
    iexact Hv
  iintro HF
  iapply Hk
  iapply (Transfers.Flight_mono (countersEmb (U := UU)) (thr d L) (D := iprop(((((sX0).view.loc (thr d L)) ↦{fullShare} (sX0).view.write (Elt F) f ((winX n hin).view.read (Elt F) xv) Finset.univ) ∗ ((thr d L).loc main_arg0_scv ↦[(winX n hin).view.set]{q} xv))
      ∗ ((thr d L).loc main_arg0_scv ↦[Finset.univ \ (winX n hin).view.set]{q} xv))) ?_)
  · iintro ⟨⟨Hb, Hw⟩, Hr⟩
    isplitl [Hb]
    · iexists _
      isplitr [Hb]
      swap; · iexact Hb
      ipureintro
      intro e
      exact (congrFun (View.write_whole_univ _ _ _) e).trans (rows_read hx hin e)
    iapply (pointsTo_split_subset (ℓ := (thr d L).loc main_arg0_scv) (q := q) (f := xv)
      (Finset.subset_univ (winX n hin).view.set)).2
    isplitl [Hw]; · iexact Hw
    iexact Hr
  iapply flight_with
  isplitl [HF]; · iexact HF
  iexact Hr

/-- Waiting for the transfer into buffer 0. -/
theorem await0 {n : ℕ} {O : CellTallies nD τ sig (HIx 1)} {W : Waits sig (HIx 1)}
    {srcw : Memref sig (thr d L).2.kind .hbm S144x256 .f32} {hsrc : srcw.view.WordExact} {hdst : (sX0).view.WordExact}
    {α : Type} {k : PUnit → Prog (TpuEff nD τ sig (Elt F) Λ₀ (thr d L).2) α} {Q : α → sProp 𝕄} :
    (iprop(fly0 d L X q xv n ∗ owes (thr d L) O W ∗ Transfers.MayWaits (thr d L) (none : HIx 1) O) : sProp 𝕄)
      ⊢ iprop((iprop(got0 d L X q xv n ∗ semVal (thr d L, SemLoc.dma cc0_scratch5.sem) 0
            ∗ owes (thr d L) O (insert (SemLoc.dma cc0_scratch5.sem, (none : HIx 1)) W))
          -∗ wp frame (wpE (defs₀ (F := F)) 𝒱₀ (thr d L) none) Set.univ (k ⟨⟩) Q)
        -∗ wp frame (wpE (defs₀ (F := F)) 𝒱₀ (thr d L) none) Set.univ
            (.op (.waitDma2 cc0_scratch5.sem srcw sX0 hsrc hdst) k) Q) := by
  iintro ⟨HF, HO, #HM⟩ Hk
  iapply (Transfers.wp_waitLocalO (countersEmb (U := UU)) 𝒱₀ (thr d L) none (none : HIx 1) (N := NX0) rfl) $$ [HF HO]
  · isplitl [HF]; · iexact HF
    isplitl [HO]; · iexact HO
    iapply (Transfers.MayWaits.elim (SemLoc.dma cc0_scratch5.sem)); iexact HM
  iexact Hk

/-- Starting the transfer into buffer 1. -/
theorem issue1 (hx : InIs (F := F) X xv) {n : ℕ} {off : Fin 2 → ℕ} (hoff : off = ![n, 0]) (hin : ∀ a, off a + S144x256.size a ≤ S50000x256.size a)
    {hs} {hsrc : (aX.slice (Rect.unit (s := S50000x256) off S144x256.size hin) hs).view.WordExact} {hdst : (sX1).view.WordExact} {hsem}
    {α : Type} {k : PUnit → Prog (TpuEff nD τ sig (Elt F) Λ₀ (thr d L).2) α} {Q : α → sProp 𝕄} :
    (idle1 d L q xv : sProp 𝕄)
      ⊢ iprop((fly1 d L X q xv n -∗ wp frame (wpE (defs₀ (F := F)) 𝒱₀ (thr d L) none) Set.univ (k ⟨⟩) Q)
        -∗ wp frame (wpE (defs₀ (F := F)) 𝒱₀ (thr d L) none) Set.univ
            (.op (.enqueueDma (aX.slice (Rect.unit (s := S50000x256) off S144x256.size hin) hs) (.here sX1) (.dma cc0_scratch6.sem) hsrc hdst hsem) k) Q) := by
  subst hoff
  iintro ⟨Hv, ⟨%f, Hb⟩, Hx⟩ Hk
  ihave Hx2 := ((pointsTo_split_subset (ℓ := (thr d L).loc main_arg0_scv) (q := q) (f := xv)
    (Finset.subset_univ (winX n hin).view.set)).1) $$ Hx
  icases Hx2 with ⟨Hw, Hr⟩
  iapply (Transfers.wp_dmaLocal (countersEmb (U := UU)) 𝒱₀ (thr d L) none (none : HIx 1) NX1 rfl (View.amount_pos _ _ (show 0 < S144x256.numel by decide))
    (Sd := Finset.univ) (Finset.subset_univ _) (fs := xv) (fd := f) (q := q)) $$ [Hw Hb Hv]
  · isplitl [Hw]; · iexact Hw
    isplitl [Hb]; · iexact Hb
    iexact Hv
  iintro HF
  iapply Hk
  iapply (Transfers.Flight_mono (countersEmb (U := UU)) (thr d L) (D := iprop(((((sX1).view.loc (thr d L)) ↦{fullShare} (sX1).view.write (Elt F) f ((winX n hin).view.read (Elt F) xv) Finset.univ) ∗ ((thr d L).loc main_arg0_scv ↦[(winX n hin).view.set]{q} xv))
      ∗ ((thr d L).loc main_arg0_scv ↦[Finset.univ \ (winX n hin).view.set]{q} xv))) ?_)
  · iintro ⟨⟨Hb, Hw⟩, Hr⟩
    isplitl [Hb]
    · iexists _
      isplitr [Hb]
      swap; · iexact Hb
      ipureintro
      intro e
      exact (congrFun (View.write_whole_univ _ _ _) e).trans (rows_read hx hin e)
    iapply (pointsTo_split_subset (ℓ := (thr d L).loc main_arg0_scv) (q := q) (f := xv)
      (Finset.subset_univ (winX n hin).view.set)).2
    isplitl [Hw]; · iexact Hw
    iexact Hr
  iapply flight_with
  isplitl [HF]; · iexact HF
  iexact Hr

/-- Waiting for the transfer into buffer 1. -/
theorem await1 {n : ℕ} {O : CellTallies nD τ sig (HIx 1)} {W : Waits sig (HIx 1)}
    {srcw : Memref sig (thr d L).2.kind .hbm S144x256 .f32} {hsrc : srcw.view.WordExact} {hdst : (sX1).view.WordExact}
    {α : Type} {k : PUnit → Prog (TpuEff nD τ sig (Elt F) Λ₀ (thr d L).2) α} {Q : α → sProp 𝕄} :
    (iprop(fly1 d L X q xv n ∗ owes (thr d L) O W ∗ Transfers.MayWaits (thr d L) (none : HIx 1) O) : sProp 𝕄)
      ⊢ iprop((iprop(got1 d L X q xv n ∗ semVal (thr d L, SemLoc.dma cc0_scratch6.sem) 0
            ∗ owes (thr d L) O (insert (SemLoc.dma cc0_scratch6.sem, (none : HIx 1)) W))
          -∗ wp frame (wpE (defs₀ (F := F)) 𝒱₀ (thr d L) none) Set.univ (k ⟨⟩) Q)
        -∗ wp frame (wpE (defs₀ (F := F)) 𝒱₀ (thr d L) none) Set.univ
            (.op (.waitDma2 cc0_scratch6.sem srcw sX1 hsrc hdst) k) Q) := by
  iintro ⟨HF, HO, #HM⟩ Hk
  iapply (Transfers.wp_waitLocalO (countersEmb (U := UU)) 𝒱₀ (thr d L) none (none : HIx 1) (N := NX1) rfl) $$ [HF HO]
  · isplitl [HF]; · iexact HF
    isplitl [HO]; · iexact HO
    iapply (Transfers.MayWaits.elim (SemLoc.dma cc0_scratch6.sem)); iexact HM
  iexact Hk

end

end Cert.Pool
-- ==== Proof.Segment.lean ====
/-
  One segment's part of one chunk: its rows in the chunk folded onto its accumulators, in two halves of eight column
  groups, then stored. The chunk lies in one of the two chunk buffers.
-/
module

public import proofs.«01_k».proof.Proof.Lanes

@[expose] public section

noncomputable section

namespace Cert.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The accumulators at the chunk whose rows start at `s`, the first `k` segments done. -/
def accAtSeg (X : ℕ → ℕ → F .f32) (o : ℕ → ℕ) (a s k e : ℕ) : F .f32 :=
  if e / 768 < k then accS X o a (s + 144) e else accS X o a s e

theorem accAtSeg_self {X : ℕ → ℕ → F .f32} {o : ℕ → ℕ} {a s k : ℕ} : ∀ e, e / 768 = k → accAtSeg X o a s k e = accS X o a s e := by
  intro e he; unfold accAtSeg; rw [if_neg (by omega)]

/-- With segment `k` replaced by its accumulators past the chunk, one more segment is done. -/
theorem accAtSeg_succ {X : ℕ → ℕ → F .f32} {o : ℕ → ℕ} {a s k : ℕ} :
    (fun e => if e / 768 = k then accS X o a (s + 144) e else accAtSeg X o a s k e) = accAtSeg X o a s (k + 1) := by
  funext e; unfold accAtSeg
  by_cases h : e / 768 = k
  · rw [if_pos h, if_pos (by omega)]
  · rw [if_neg h]
    by_cases h2 : e / 768 < k
    · rw [if_pos h2, if_pos (by omega)]
    · rw [if_neg h2, if_neg (by omega)]

/-- A segment without rows in the chunk is done as it stands. -/
theorem accAtSeg_skip {X : ℕ → ℕ → F .f32} {o : ℕ → ℕ} {a s k : ℕ} (ha : a ≤ s) (h : min (o (k + 1)) (s + 144) ≤ max (o k) s) :
    accAtSeg X o a s (k + 1) = accAtSeg X o a s k := by
  rw [← accAtSeg_succ]
  funext e
  show (if e / 768 = k then _ else _) = _
  by_cases he : e / 768 = k
  · rw [if_pos he, accAtSeg_self e he, ← accS_window X o (n := 144) ha e, he, Nat.sub_eq_zero_of_le h, foldN_zero]
  · rw [if_neg he]

set_option maxHeartbeats 4000000 in
theorem seg0 (d : Dev nD) (L : grid0.Coords) {X : ℕ → ℕ → F .f32} {o : ℕ → ℕ} (ho : ∀ i, o i ≤ 50000)
    (k7 : Fin (k0_t7_loop (BitVec.ofNat 32 (o 0)) (BitVec.ofNat 32 (o 4))).trips) (k8 : Fin k0_t8_loop.trips) (z : BitVec 32)
    (f : Buf (Elt F) ((thr d L).loc cc0_scratch1)) (g : Buf (Elt F) ((thr d L).loc cc0_scratch3)) (fo : Buf (Elt F) ((thr d L).loc cc0_scratch4))
    {s : ℕ} (hs : s = stN (o 0) + 144 * (2 * k7.val + 0)) (hf : RowsFrom X (clamp s) f)
    (hg : AccIs (accAtSeg X o (stN (o 0)) s k8.val) g) (hfo : OffsAre (F := F) o fo) :
    (iprop(((sX0).view.loc (thr d L) ↦{fullShare} f) ∗ ((sA).view.loc (thr d L) ↦{fullShare} g) ∗ ((sO).view.loc (thr d L) ↦{fullShare} fo)) : sProp 𝕄) ⊢
    wp frame (wpE (defs₀ (F := F)) 𝒱₀ (thr d L) none) Set.univ
      (k0_t8_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 (BitVec.ofNat 32 (o 0)) (BitVec.ofNat 32 (o 4)) k7
        (cw (BitVec.ofNat 32 (o 0)) k7.val 0) (Scalar.minsi (cw (BitVec.ofNat 32 (o 0)) k7.val 0) 49856#32) k8 z)
      fun _ => iprop(((sX0).view.loc (thr d L) ↦{fullShare} f)
        ∗ (∃ g', ⌜AccIs (accAtSeg X o (stN (o 0)) s (k8.val + 1)) g'⌝ ∗ ((sA).view.loc (thr d L) ↦{fullShare} g'))
        ∗ ((sO).view.loc (thr d L) ↦{fullShare} fo)) := by
  have hk8 : k8.val < 4 := Nat.lt_of_lt_of_le k8.isLt (by decide)
  have has : stN (o 0) ≤ s := by omega
  have hcl : clamp s ≤ s := by unfold clamp; omega
  have hF : RowsFrom X (clamp s) ((sX0).view.read (Elt F) f) := hf
  have hG : AccIs (accAtSeg X o (stN (o 0)) s k8.val) ((sA).view.read (Elt F) g) := hg
  unfold k0_t8_body
  iintro ⟨HX, HA, HO⟩
  sl_exec
  have e1 : seg0.sl.r d L k8 fo = BitVec.ofNat 32 (o k8.val) := by
    exact (hfo _).trans (congrArg (fun n => BitVec.ofNat 32 (o n)) (offs_idx (k0_off11_eq k8) _ _))
  have e2 : seg0.sl.r_1 d L k8 fo = BitVec.ofNat 32 (o (k8.val + 1)) := by
    exact (hfo _).trans (congrArg (fun n => BitVec.ofNat 32 (o n)) (offs_idx (k0_off12_eq k8) _ _))
  have e3 := e1
  generalize seg0.sl.r d L k8 fo = v133 at e1
  generalize seg0.sl.r_1 d L k8 fo = v137 at e2
  subst v133 v137
  have hw7 := chk7 (ho 0) (ho 4) (ho k8.val) (ho (k8.val + 1)) k7
  have hC := cond3_iff (ho 0) (ho 4) (ho k8.val) (ho (k8.val + 1)) k7
  rw [← hs] at hC
  by_cases C : k0_cond3 (BitVec.ofNat 32 (o 0)) (BitVec.ofNat 32 (o 4)) k7 (BitVec.ofNat 32 (o k8.val)) (BitVec.ofNat 32 (o (k8.val + 1))) = 1#1
  · have hlt := hC.1 C
    have hT9 := trips9 (ho 0) (ho 4) (ho k8.val) (ho (k8.val + 1)) k7
    have hT11 := trips11 (ho 0) (ho 4) (ho k8.val) (ho (k8.val + 1)) k7
    have hst := rowStart (ho 0) (ho 4) (ho k8.val) (ho (k8.val + 1)) k7 (r := 0) (by decide)
    rw [← hs] at hT9 hT11 hst
    obtain ⟨w0, hw0⟩ : ∃ w0, w0 = max (o k8.val) s - clamp s := ⟨_, rfl⟩
    rw [← hw0, ← Nat.add_zero w0, ← e3] at hst
    have hrow : ∀ r, r < min (o (k8.val + 1)) (s + 144) - max (o k8.val) s → (BitVec.ofNat 32 (w0 + r)).toNat = w0 + r ∧ w0 + r < 144 := by
      intro r hr
      have := row_lt (ho (k8.val + 1)) hr
      rw [← hw0] at this
      exact ⟨by rw [BitVec.toNat_ofNat]; omega, this⟩
    sl_exec
    sl_for (fun (r : ℕ) (acc : Acc25 F) =>
      (iprop(⌜acc = rowTup X (accAtSeg X o (stN (o 0)) s k8.val) k8.val (max (o k8.val) s) w0 0 r⌝ ∗ ((sX0).view.loc (thr d L) ↦{fullShare} f)) : sProp 𝕄)) $$ [HX]
    case region =>
      intro r acc
      obtain ⟨hw, hw144⟩ := hrow r.val (Nat.lt_of_lt_of_eq r.isLt hT9)
      iintro ⟨%hacc, HX⟩
      subst hacc
      have hsum : clamp s + (w0 + r.val) = max (o k8.val) s + r.val := by omega
      have hw8 := chk8 (v := BitVec.ofNat 32 (o 0)) (w := BitVec.ofNat 32 (o 4)) (k := k7) (a := BitVec.ofNat 32 (o k8.val)) (b := BitVec.ofNat 32 (o (k8.val + 1))) (r := BitVec.ofNat 32 (w0 + r.val)) (by rw [hw]; exact hw144)
      unfold rowTup
      sl_exec
      sl_step
      isplitr [HX]
      · ipureintro
        exact tup_eq (row_succ _ _)
            (acc_row hF _ k8.val _ r.val 0 0 (w := w0 + r.val) (congrArg (![·, 0]) hw) hsum _ _)
            (acc_row hF _ k8.val _ r.val 0 1 (w := w0 + r.val) (congrArg (![·, 16]) hw) hsum _ _)
            (acc_row hF _ k8.val _ r.val 0 2 (w := w0 + r.val) (congrArg (![·, 32]) hw) hsum _ _)
            (acc_row hF _ k8.val _ r.val 0 3 (w := w0 + r.val) (congrArg (![·, 48]) hw) hsum _ _)
            (acc_row hF _ k8.val _ r.val 0 4 (w := w0 + r.val) (congrArg (![·, 64]) hw) hsum _ _)
            (acc_row hF _ k8.val _ r.val 0 5 (w := w0 + r.val) (congrArg (![·, 80]) hw) hsum _ _)
            (acc_row hF _ k8.val _ r.val 0 6 (w := w0 + r.val) (congrArg (![·, 96]) hw) hsum _ _)
            (acc_row hF _ k8.val _ r.val 0 7 (w := w0 + r.val) (congrArg (![·, 112]) hw) hsum _ _)
            (acc_row hF _ k8.val _ r.val 1 0 (w := w0 + r.val) (congrArg (![·, 0]) hw) hsum _ _)
            (acc_row hF _ k8.val _ r.val 1 1 (w := w0 + r.val) (congrArg (![·, 16]) hw) hsum _ _)
            (acc_row hF _ k8.val _ r.val 1 2 (w := w0 + r.val) (congrArg (![·, 32]) hw) hsum _ _)
            (acc_row hF _ k8.val _ r.val 1 3 (w := w0 + r.val) (congrArg (![·, 48]) hw) hsum _ _)
            (acc_row hF _ k8.val _ r.val 1 4 (w := w0 + r.val) (congrArg (![·, 64]) hw) hsum _ _)
            (acc_row hF _ k8.val _ r.val 1 5 (w := w0 + r.val) (congrArg (![·, 80]) hw) hsum _ _)
            (acc_row hF _ k8.val _ r.val 1 6 (w := w0 + r.val) (congrArg (![·, 96]) hw) hsum _ _)
            (acc_row hF _ k8.val _ r.val 1 7 (w := w0 + r.val) (congrArg (![·, 112]) hw) hsum _ _)
            (acc_row hF _ k8.val _ r.val 2 0 (w := w0 + r.val) (congrArg (![·, 0]) hw) hsum _ _)
            (acc_row hF _ k8.val _ r.val 2 1 (w := w0 + r.val) (congrArg (![·, 16]) hw) hsum _ _)
            (acc_row hF _ k8.val _ r.val 2 2 (w := w0 + r.val) (congrArg (![·, 32]) hw) hsum _ _)
            (acc_row hF _ k8.val _ r.val 2 3 (w := w0 + r.val) (congrArg (![·, 48]) hw) hsum _ _)
            (acc_row hF _ k8.val _ r.val 2 4 (w := w0 + r.val) (congrArg (![·, 64]) hw) hsum _ _)
            (acc_row hF _ k8.val _ r.val 2 5 (w := w0 + r.val) (congrArg (![·, 80]) hw) hsum _ _)
            (acc_row hF _ k8.val _ r.val 2 6 (w := w0 + r.val) (congrArg (![·, 96]) hw) hsum _ _)
            (acc_row hF _ k8.val _ r.val 2 7 (w := w0 + r.val) (congrArg (![·, 112]) hw) hsum _ _)
      · iexact HX
    · isplitr [HX]
      · ipureintro
        exact tup_eq hst
          (acc_entry hG X k8.val _ 0 0 (k0_off13_eq k8 ⟨0, by decide⟩) _ _) (acc_entry hG X k8.val _ 0 1 (k0_off13_eq k8 ⟨1, by decide⟩) _ _) (acc_entry hG X k8.val _ 0 2 (k0_off13_eq k8 ⟨2, by decide⟩) _ _) (acc_entry hG X k8.val _ 0 3 (k0_off13_eq k8 ⟨3, by decide⟩) _ _) (acc_entry hG X k8.val _ 0 4 (k0_off13_eq k8 ⟨4, by decide⟩) _ _) (acc_entry hG X k8.val _ 0 5 (k0_off13_eq k8 ⟨5, by decide⟩) _ _) (acc_entry hG X k8.val _ 0 6 (k0_off13_eq k8 ⟨6, by decide⟩) _ _) (acc_entry hG X k8.val _ 0 7 (k0_off13_eq k8 ⟨7, by decide⟩) _ _) (acc_entry hG X k8.val _ 1 0 (k0_off14_eq k8 ⟨0, by decide⟩ ⟨0, by decide⟩) _ _) (acc_entry hG X k8.val _ 1 1 (k0_off14_eq k8 ⟨0, by decide⟩ ⟨1, by decide⟩) _ _) (acc_entry hG X k8.val _ 1 2 (k0_off14_eq k8 ⟨0, by decide⟩ ⟨2, by decide⟩) _ _) (acc_entry hG X k8.val _ 1 3 (k0_off14_eq k8 ⟨0, by decide⟩ ⟨3, by decide⟩) _ _) (acc_entry hG X k8.val _ 1 4 (k0_off14_eq k8 ⟨0, by decide⟩ ⟨4, by decide⟩) _ _) (acc_entry hG X k8.val _ 1 5 (k0_off14_eq k8 ⟨0, by decide⟩ ⟨5, by decide⟩) _ _) (acc_entry hG X k8.val _ 1 6 (k0_off14_eq k8 ⟨0, by decide⟩ ⟨6, by decide⟩) _ _) (acc_entry hG X k8.val _ 1 7 (k0_off14_eq k8 ⟨0, by decide⟩ ⟨7, by decide⟩) _ _) (acc_entry hG X k8.val _ 2 0 (k0_off14_eq k8 ⟨1, by decide⟩ ⟨0, by decide⟩) _ _) (acc_entry hG X k8.val _ 2 1 (k0_off14_eq k8 ⟨1, by decide⟩ ⟨1, by decide⟩) _ _) (acc_entry hG X k8.val _ 2 2 (k0_off14_eq k8 ⟨1, by decide⟩ ⟨2, by decide⟩) _ _) (acc_entry hG X k8.val _ 2 3 (k0_off14_eq k8 ⟨1, by decide⟩ ⟨3, by decide⟩) _ _) (acc_entry hG X k8.val _ 2 4 (k0_off14_eq k8 ⟨1, by decide⟩ ⟨4, by decide⟩) _ _) (acc_entry hG X k8.val _ 2 5 (k0_off14_eq k8 ⟨1, by decide⟩ ⟨5, by decide⟩) _ _) (acc_entry hG X k8.val _ 2 6 (k0_off14_eq k8 ⟨1, by decide⟩ ⟨6, by decide⟩) _ _) (acc_entry hG X k8.val _ 2 7 (k0_off14_eq k8 ⟨1, by decide⟩ ⟨7, by decide⟩) _ _)
      · iexact HX
    · iintro %acc ⟨%hacc, HX⟩
      replace hacc := hacc.trans (congrArg (rowTup X (accAtSeg X o (stN (o 0)) s k8.val) k8.val (max (o k8.val) s) w0 0) hT9)
      subst hacc
      unfold rowTup
      sl_exec
      sl_for (fun (r : ℕ) (acc : Acc25 F) =>
        (iprop(⌜acc = rowTup X (accAtSeg X o (stN (o 0)) s k8.val) k8.val (max (o k8.val) s) w0 1 r⌝ ∗ ((sX0).view.loc (thr d L) ↦{fullShare} f)) : sProp 𝕄)) $$ [HX]
      case region =>
        intro r acc
        obtain ⟨hw, hw144⟩ := hrow r.val (Nat.lt_of_lt_of_eq r.isLt hT11)
        iintro ⟨%hacc, HX⟩
        subst hacc
        have hsum : clamp s + (w0 + r.val) = max (o k8.val) s + r.val := by omega
        have hw10 := chk10 (v := BitVec.ofNat 32 (o 0)) (w := BitVec.ofNat 32 (o 4)) (k := k7) (a := BitVec.ofNat 32 (o k8.val)) (b := BitVec.ofNat 32 (o (k8.val + 1))) (r := BitVec.ofNat 32 (w0 + r.val)) (by rw [hw]; exact hw144)
        unfold rowTup
        sl_exec
        sl_step
        isplitr [HX]
        · ipureintro
          exact tup_eq (row_succ _ _)
            (acc_row hF _ k8.val _ r.val 0 8 (w := w0 + r.val) (congrArg (![·, 128]) hw) hsum _ _)
            (acc_row hF _ k8.val _ r.val 0 9 (w := w0 + r.val) (congrArg (![·, 144]) hw) hsum _ _)
            (acc_row hF _ k8.val _ r.val 0 10 (w := w0 + r.val) (congrArg (![·, 160]) hw) hsum _ _)
            (acc_row hF _ k8.val _ r.val 0 11 (w := w0 + r.val) (congrArg (![·, 176]) hw) hsum _ _)
            (acc_row hF _ k8.val _ r.val 0 12 (w := w0 + r.val) (congrArg (![·, 192]) hw) hsum _ _)
            (acc_row hF _ k8.val _ r.val 0 13 (w := w0 + r.val) (congrArg (![·, 208]) hw) hsum _ _)
            (acc_row hF _ k8.val _ r.val 0 14 (w := w0 + r.val) (congrArg (![·, 224]) hw) hsum _ _)
            (acc_row hF _ k8.val _ r.val 0 15 (w := w0 + r.val) (congrArg (![·, 240]) hw) hsum _ _)
            (acc_row hF _ k8.val _ r.val 1 8 (w := w0 + r.val) (congrArg (![·, 128]) hw) hsum _ _)
            (acc_row hF _ k8.val _ r.val 1 9 (w := w0 + r.val) (congrArg (![·, 144]) hw) hsum _ _)
            (acc_row hF _ k8.val _ r.val 1 10 (w := w0 + r.val) (congrArg (![·, 160]) hw) hsum _ _)
            (acc_row hF _ k8.val _ r.val 1 11 (w := w0 + r.val) (congrArg (![·, 176]) hw) hsum _ _)
            (acc_row hF _ k8.val _ r.val 1 12 (w := w0 + r.val) (congrArg (![·, 192]) hw) hsum _ _)
            (acc_row hF _ k8.val _ r.val 1 13 (w := w0 + r.val) (congrArg (![·, 208]) hw) hsum _ _)
            (acc_row hF _ k8.val _ r.val 1 14 (w := w0 + r.val) (congrArg (![·, 224]) hw) hsum _ _)
            (acc_row hF _ k8.val _ r.val 1 15 (w := w0 + r.val) (congrArg (![·, 240]) hw) hsum _ _)
            (acc_row hF _ k8.val _ r.val 2 8 (w := w0 + r.val) (congrArg (![·, 128]) hw) hsum _ _)
            (acc_row hF _ k8.val _ r.val 2 9 (w := w0 + r.val) (congrArg (![·, 144]) hw) hsum _ _)
            (acc_row hF _ k8.val _ r.val 2 10 (w := w0 + r.val) (congrArg (![·, 160]) hw) hsum _ _)
            (acc_row hF _ k8.val _ r.val 2 11 (w := w0 + r.val) (congrArg (![·, 176]) hw) hsum _ _)
            (acc_row hF _ k8.val _ r.val 2 12 (w := w0 + r.val) (congrArg (![·, 192]) hw) hsum _ _)
            (acc_row hF _ k8.val _ r.val 2 13 (w := w0 + r.val) (congrArg (![·, 208]) hw) hsum _ _)
            (acc_row hF _ k8.val _ r.val 2 14 (w := w0 + r.val) (congrArg (![·, 224]) hw) hsum _ _)
            (acc_row hF _ k8.val _ r.val 2 15 (w := w0 + r.val) (congrArg (![·, 240]) hw) hsum _ _)
        · iexact HX
      · isplitr [HX]
        · ipureintro
          exact tup_eq hst
            (acc_entry hG X k8.val _ 0 8 (k0_off13_eq k8 ⟨8, by decide⟩) _ _) (acc_entry hG X k8.val _ 0 9 (k0_off13_eq k8 ⟨9, by decide⟩) _ _) (acc_entry hG X k8.val _ 0 10 (k0_off13_eq k8 ⟨10, by decide⟩) _ _) (acc_entry hG X k8.val _ 0 11 (k0_off13_eq k8 ⟨11, by decide⟩) _ _) (acc_entry hG X k8.val _ 0 12 (k0_off13_eq k8 ⟨12, by decide⟩) _ _) (acc_entry hG X k8.val _ 0 13 (k0_off13_eq k8 ⟨13, by decide⟩) _ _) (acc_entry hG X k8.val _ 0 14 (k0_off13_eq k8 ⟨14, by decide⟩) _ _) (acc_entry hG X k8.val _ 0 15 (k0_off13_eq k8 ⟨15, by decide⟩) _ _) (acc_entry hG X k8.val _ 1 8 (k0_off14_eq k8 ⟨0, by decide⟩ ⟨8, by decide⟩) _ _) (acc_entry hG X k8.val _ 1 9 (k0_off14_eq k8 ⟨0, by decide⟩ ⟨9, by decide⟩) _ _) (acc_entry hG X k8.val _ 1 10 (k0_off14_eq k8 ⟨0, by decide⟩ ⟨10, by decide⟩) _ _) (acc_entry hG X k8.val _ 1 11 (k0_off14_eq k8 ⟨0, by decide⟩ ⟨11, by decide⟩) _ _) (acc_entry hG X k8.val _ 1 12 (k0_off14_eq k8 ⟨0, by decide⟩ ⟨12, by decide⟩) _ _) (acc_entry hG X k8.val _ 1 13 (k0_off14_eq k8 ⟨0, by decide⟩ ⟨13, by decide⟩) _ _) (acc_entry hG X k8.val _ 1 14 (k0_off14_eq k8 ⟨0, by decide⟩ ⟨14, by decide⟩) _ _) (acc_entry hG X k8.val _ 1 15 (k0_off14_eq k8 ⟨0, by decide⟩ ⟨15, by decide⟩) _ _) (acc_entry hG X k8.val _ 2 8 (k0_off14_eq k8 ⟨1, by decide⟩ ⟨8, by decide⟩) _ _) (acc_entry hG X k8.val _ 2 9 (k0_off14_eq k8 ⟨1, by decide⟩ ⟨9, by decide⟩) _ _) (acc_entry hG X k8.val _ 2 10 (k0_off14_eq k8 ⟨1, by decide⟩ ⟨10, by decide⟩) _ _) (acc_entry hG X k8.val _ 2 11 (k0_off14_eq k8 ⟨1, by decide⟩ ⟨11, by decide⟩) _ _) (acc_entry hG X k8.val _ 2 12 (k0_off14_eq k8 ⟨1, by decide⟩ ⟨12, by decide⟩) _ _) (acc_entry hG X k8.val _ 2 13 (k0_off14_eq k8 ⟨1, by decide⟩ ⟨13, by decide⟩) _ _) (acc_entry hG X k8.val _ 2 14 (k0_off14_eq k8 ⟨1, by decide⟩ ⟨14, by decide⟩) _ _) (acc_entry hG X k8.val _ 2 15 (k0_off14_eq k8 ⟨1, by decide⟩ ⟨15, by decide⟩) _ _)
        · iexact HX
      · iintro %acc ⟨%hacc, HX⟩
        replace hacc := hacc.trans (congrArg (rowTup X (accAtSeg X o (stN (o 0)) s k8.val) k8.val (max (o k8.val) s) w0 1) hT11)
        subst hacc
        unfold rowTup
        sl_exec
        sl_step
        isplitl [HX]
        · iexact HX
        · isplitr [HO]
          · iexists _
            isplitr [HA]; swap
            · iexact HA
            · ipureintro
              rw [← accAtSeg_succ]
              exact writes_seg (v := sA.view) (qs := [47, 31, 15, 46, 30, 14, 45, 29, 13, 44, 28, 12, 43, 27, 11, 42, 26, 10, 41, 25, 9, 40, 24, 8, 39, 23, 7, 38, 22, 6, 37, 21, 5, 36, 20, 4, 35, 19, 3, 34, 18, 2, 33, 17, 1, 32, 16, 0])
                hG (.cons (seg_done 2 15 has (by decide) (by decide) accAtSeg_self rfl rfl (k0_off14_eq k8 ⟨1, by decide⟩ ⟨15, by decide⟩) _ (shapeCast_self _ _)) <| .cons (seg_done 1 15 has (by decide) (by decide) accAtSeg_self rfl rfl (k0_off14_eq k8 ⟨0, by decide⟩ ⟨15, by decide⟩) _ (shapeCast_self _ _)) <| .cons (seg_done 0 15 has (by decide) (by decide) accAtSeg_self rfl rfl (k0_off13_eq k8 ⟨15, by decide⟩) _ (shapeCast_self _ _)) <| .cons (seg_done 2 14 has (by decide) (by decide) accAtSeg_self rfl rfl (k0_off14_eq k8 ⟨1, by decide⟩ ⟨14, by decide⟩) _ (shapeCast_self _ _)) <| .cons (seg_done 1 14 has (by decide) (by decide) accAtSeg_self rfl rfl (k0_off14_eq k8 ⟨0, by decide⟩ ⟨14, by decide⟩) _ (shapeCast_self _ _)) <| .cons (seg_done 0 14 has (by decide) (by decide) accAtSeg_self rfl rfl (k0_off13_eq k8 ⟨14, by decide⟩) _ (shapeCast_self _ _)) <| .cons (seg_done 2 13 has (by decide) (by decide) accAtSeg_self rfl rfl (k0_off14_eq k8 ⟨1, by decide⟩ ⟨13, by decide⟩) _ (shapeCast_self _ _)) <| .cons (seg_done 1 13 has (by decide) (by decide) accAtSeg_self rfl rfl (k0_off14_eq k8 ⟨0, by decide⟩ ⟨13, by decide⟩) _ (shapeCast_self _ _)) <| .cons (seg_done 0 13 has (by decide) (by decide) accAtSeg_self rfl rfl (k0_off13_eq k8 ⟨13, by decide⟩) _ (shapeCast_self _ _)) <| .cons (seg_done 2 12 has (by decide) (by decide) accAtSeg_self rfl rfl (k0_off14_eq k8 ⟨1, by decide⟩ ⟨12, by decide⟩) _ (shapeCast_self _ _)) <| .cons (seg_done 1 12 has (by decide) (by decide) accAtSeg_self rfl rfl (k0_off14_eq k8 ⟨0, by decide⟩ ⟨12, by decide⟩) _ (shapeCast_self _ _)) <| .cons (seg_done 0 12 has (by decide) (by decide) accAtSeg_self rfl rfl (k0_off13_eq k8 ⟨12, by decide⟩) _ (shapeCast_self _ _)) <| .cons (seg_done 2 11 has (by decide) (by decide) accAtSeg_self rfl rfl (k0_off14_eq k8 ⟨1, by decide⟩ ⟨11, by decide⟩) _ (shapeCast_self _ _)) <| .cons (seg_done 1 11 has (by decide) (by decide) accAtSeg_self rfl rfl (k0_off14_eq k8 ⟨0, by decide⟩ ⟨11, by decide⟩) _ (shapeCast_self _ _)) <| .cons (seg_done 0 11 has (by decide) (by decide) accAtSeg_self rfl rfl (k0_off13_eq k8 ⟨11, by decide⟩) _ (shapeCast_self _ _)) <| .cons (seg_done 2 10 has (by decide) (by decide) accAtSeg_self rfl rfl (k0_off14_eq k8 ⟨1, by decide⟩ ⟨10, by decide⟩) _ (shapeCast_self _ _)) <| .cons (seg_done 1 10 has (by decide) (by decide) accAtSeg_self rfl rfl (k0_off14_eq k8 ⟨0, by decide⟩ ⟨10, by decide⟩) _ (shapeCast_self _ _)) <| .cons (seg_done 0 10 has (by decide) (by decide) accAtSeg_self rfl rfl (k0_off13_eq k8 ⟨10, by decide⟩) _ (shapeCast_self _ _)) <| .cons (seg_done 2 9 has (by decide) (by decide) accAtSeg_self rfl rfl (k0_off14_eq k8 ⟨1, by decide⟩ ⟨9, by decide⟩) _ (shapeCast_self _ _)) <| .cons (seg_done 1 9 has (by decide) (by decide) accAtSeg_self rfl rfl (k0_off14_eq k8 ⟨0, by decide⟩ ⟨9, by decide⟩) _ (shapeCast_self _ _)) <| .cons (seg_done 0 9 has (by decide) (by decide) accAtSeg_self rfl rfl (k0_off13_eq k8 ⟨9, by decide⟩) _ (shapeCast_self _ _)) <| .cons (seg_done 2 8 has (by decide) (by decide) accAtSeg_self rfl rfl (k0_off14_eq k8 ⟨1, by decide⟩ ⟨8, by decide⟩) _ (shapeCast_self _ _)) <| .cons (seg_done 1 8 has (by decide) (by decide) accAtSeg_self rfl rfl (k0_off14_eq k8 ⟨0, by decide⟩ ⟨8, by decide⟩) _ (shapeCast_self _ _)) <| .cons (seg_done 0 8 has (by decide) (by decide) accAtSeg_self rfl rfl (k0_off13_eq k8 ⟨8, by decide⟩) _ (shapeCast_self _ _)) <| .cons (seg_done 2 7 has (by decide) (by decide) accAtSeg_self rfl rfl (k0_off14_eq k8 ⟨1, by decide⟩ ⟨7, by decide⟩) _ (shapeCast_self _ _)) <| .cons (seg_done 1 7 has (by decide) (by decide) accAtSeg_self rfl rfl (k0_off14_eq k8 ⟨0, by decide⟩ ⟨7, by decide⟩) _ (shapeCast_self _ _)) <| .cons (seg_done 0 7 has (by decide) (by decide) accAtSeg_self rfl rfl (k0_off13_eq k8 ⟨7, by decide⟩) _ (shapeCast_self _ _)) <| .cons (seg_done 2 6 has (by decide) (by decide) accAtSeg_self rfl rfl (k0_off14_eq k8 ⟨1, by decide⟩ ⟨6, by decide⟩) _ (shapeCast_self _ _)) <| .cons (seg_done 1 6 has (by decide) (by decide) accAtSeg_self rfl rfl (k0_off14_eq k8 ⟨0, by decide⟩ ⟨6, by decide⟩) _ (shapeCast_self _ _)) <| .cons (seg_done 0 6 has (by decide) (by decide) accAtSeg_self rfl rfl (k0_off13_eq k8 ⟨6, by decide⟩) _ (shapeCast_self _ _)) <| .cons (seg_done 2 5 has (by decide) (by decide) accAtSeg_self rfl rfl (k0_off14_eq k8 ⟨1, by decide⟩ ⟨5, by decide⟩) _ (shapeCast_self _ _)) <| .cons (seg_done 1 5 has (by decide) (by decide) accAtSeg_self rfl rfl (k0_off14_eq k8 ⟨0, by decide⟩ ⟨5, by decide⟩) _ (shapeCast_self _ _)) <| .cons (seg_done 0 5 has (by decide) (by decide) accAtSeg_self rfl rfl (k0_off13_eq k8 ⟨5, by decide⟩) _ (shapeCast_self _ _)) <| .cons (seg_done 2 4 has (by decide) (by decide) accAtSeg_self rfl rfl (k0_off14_eq k8 ⟨1, by decide⟩ ⟨4, by decide⟩) _ (shapeCast_self _ _)) <| .cons (seg_done 1 4 has (by decide) (by decide) accAtSeg_self rfl rfl (k0_off14_eq k8 ⟨0, by decide⟩ ⟨4, by decide⟩) _ (shapeCast_self _ _)) <| .cons (seg_done 0 4 has (by decide) (by decide) accAtSeg_self rfl rfl (k0_off13_eq k8 ⟨4, by decide⟩) _ (shapeCast_self _ _)) <| .cons (seg_done 2 3 has (by decide) (by decide) accAtSeg_self rfl rfl (k0_off14_eq k8 ⟨1, by decide⟩ ⟨3, by decide⟩) _ (shapeCast_self _ _)) <| .cons (seg_done 1 3 has (by decide) (by decide) accAtSeg_self rfl rfl (k0_off14_eq k8 ⟨0, by decide⟩ ⟨3, by decide⟩) _ (shapeCast_self _ _)) <| .cons (seg_done 0 3 has (by decide) (by decide) accAtSeg_self rfl rfl (k0_off13_eq k8 ⟨3, by decide⟩) _ (shapeCast_self _ _)) <| .cons (seg_done 2 2 has (by decide) (by decide) accAtSeg_self rfl rfl (k0_off14_eq k8 ⟨1, by decide⟩ ⟨2, by decide⟩) _ (shapeCast_self _ _)) <| .cons (seg_done 1 2 has (by decide) (by decide) accAtSeg_self rfl rfl (k0_off14_eq k8 ⟨0, by decide⟩ ⟨2, by decide⟩) _ (shapeCast_self _ _)) <| .cons (seg_done 0 2 has (by decide) (by decide) accAtSeg_self rfl rfl (k0_off13_eq k8 ⟨2, by decide⟩) _ (shapeCast_self _ _)) <| .cons (seg_done 2 1 has (by decide) (by decide) accAtSeg_self rfl rfl (k0_off14_eq k8 ⟨1, by decide⟩ ⟨1, by decide⟩) _ (shapeCast_self _ _)) <| .cons (seg_done 1 1 has (by decide) (by decide) accAtSeg_self rfl rfl (k0_off14_eq k8 ⟨0, by decide⟩ ⟨1, by decide⟩) _ (shapeCast_self _ _)) <| .cons (seg_done 0 1 has (by decide) (by decide) accAtSeg_self rfl rfl (k0_off13_eq k8 ⟨1, by decide⟩) _ (shapeCast_self _ _)) <| .cons (seg_done 2 0 has (by decide) (by decide) accAtSeg_self rfl rfl (k0_off14_eq k8 ⟨1, by decide⟩ ⟨0, by decide⟩) _ (shapeCast_self _ _)) <| .cons (seg_done 1 0 has (by decide) (by decide) accAtSeg_self rfl rfl (k0_off14_eq k8 ⟨0, by decide⟩ ⟨0, by decide⟩) _ (shapeCast_self _ _)) <| .cons (seg_done 0 0 has (by decide) (by decide) accAtSeg_self rfl rfl (k0_off13_eq k8 ⟨0, by decide⟩) _ (shapeCast_self _ _)) <| .nil) (by decide)
          · iexact HO
  · have hle := mt hC.2 C
    sl_exec
    sl_step
    isplitl [HX]
    · iexact HX
    · isplitr [HO]
      · iexists g
        isplitr [HA]
        · ipureintro
          rw [accAtSeg_skip has (by omega)]
          exact hg
        · iexact HA
      · iexact HO

set_option maxHeartbeats 4000000 in
theorem seg1 (d : Dev nD) (L : grid0.Coords) {X : ℕ → ℕ → F .f32} {o : ℕ → ℕ} (ho : ∀ i, o i ≤ 50000)
    (k7 : Fin (k0_t7_loop (BitVec.ofNat 32 (o 0)) (BitVec.ofNat 32 (o 4))).trips)
    (h5 : k0_cond5 (BitVec.ofNat 32 (o 0)) (BitVec.ofNat 32 (o 4)) k7 = 1#1) (k8 : Fin k0_t13_loop.trips) (z : BitVec 32)
    (f : Buf (Elt F) ((thr d L).loc cc0_scratch2)) (g : Buf (Elt F) ((thr d L).loc cc0_scratch3)) (fo : Buf (Elt F) ((thr d L).loc cc0_scratch4))
    {s : ℕ} (hs : s = stN (o 0) + 144 * (2 * k7.val + 1)) (hf : RowsFrom X (clamp s) f)
    (hg : AccIs (accAtSeg X o (stN (o 0)) s k8.val) g) (hfo : OffsAre (F := F) o fo) :
    (iprop(((sX1).view.loc (thr d L) ↦{fullShare} f) ∗ ((sA).view.loc (thr d L) ↦{fullShare} g) ∗ ((sO).view.loc (thr d L) ↦{fullShare} fo)) : sProp 𝕄) ⊢
    wp frame (wpE (defs₀ (F := F)) 𝒱₀ (thr d L) none) Set.univ
      (k0_t13_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 (BitVec.ofNat 32 (o 0)) (BitVec.ofNat 32 (o 4)) k7 h5
        (cw (BitVec.ofNat 32 (o 0)) k7.val 1) (Scalar.minsi (cw (BitVec.ofNat 32 (o 0)) k7.val 1) 49856#32) k8 z)
      fun _ => iprop(((sX1).view.loc (thr d L) ↦{fullShare} f)
        ∗ (∃ g', ⌜AccIs (accAtSeg X o (stN (o 0)) s (k8.val + 1)) g'⌝ ∗ ((sA).view.loc (thr d L) ↦{fullShare} g'))
        ∗ ((sO).view.loc (thr d L) ↦{fullShare} fo)) := by
  have hk8 : k8.val < 4 := Nat.lt_of_lt_of_le k8.isLt (by decide)
  have has : stN (o 0) ≤ s := by omega
  have hcl : clamp s ≤ s := by unfold clamp; omega
  have hF : RowsFrom X (clamp s) ((sX1).view.read (Elt F) f) := hf
  have hG : AccIs (accAtSeg X o (stN (o 0)) s k8.val) ((sA).view.read (Elt F) g) := hg
  unfold k0_t13_body
  iintro ⟨HX, HA, HO⟩
  sl_exec
  have e1 : seg1.sl.r d L k8 fo = BitVec.ofNat 32 (o k8.val) := by
    exact (hfo _).trans (congrArg (fun n => BitVec.ofNat 32 (o n)) (offs_idx (k0_off49_eq k8) _ _))
  have e2 : seg1.sl.r_1 d L k8 fo = BitVec.ofNat 32 (o (k8.val + 1)) := by
    exact (hfo _).trans (congrArg (fun n => BitVec.ofNat 32 (o n)) (offs_idx (k0_off50_eq k8) _ _))
  have e3 := e1
  generalize seg1.sl.r d L k8 fo = v133 at e1
  generalize seg1.sl.r_1 d L k8 fo = v137 at e2
  subst v133 v137
  have hw7 := chk12 (ho 0) (ho 4) (ho k8.val) (ho (k8.val + 1)) k7
  have hC := cond6_iff (ho 0) (ho 4) (ho k8.val) (ho (k8.val + 1)) k7
  rw [← hs] at hC
  by_cases C : k0_cond6 (BitVec.ofNat 32 (o 0)) (BitVec.ofNat 32 (o 4)) k7 (BitVec.ofNat 32 (o k8.val)) (BitVec.ofNat 32 (o (k8.val + 1))) = 1#1
  · have hlt := hC.1 C
    have hT9 := trips14 (ho 0) (ho 4) (ho k8.val) (ho (k8.val + 1)) k7
    have hT11 := trips16 (ho 0) (ho 4) (ho k8.val) (ho (k8.val + 1)) k7
    have hst := rowStart (ho 0) (ho 4) (ho k8.val) (ho (k8.val + 1)) k7 (r := 1) (by decide)
    rw [← hs] at hT9 hT11 hst
    obtain ⟨w0, hw0⟩ : ∃ w0, w0 = max (o k8.val) s - clamp s := ⟨_, rfl⟩
    rw [← hw0, ← Nat.add_zero w0, ← e3] at hst
    have hrow : ∀ r, r < min (o (k8.val + 1)) (s + 144) - max (o k8.val) s → (BitVec.ofNat 32 (w0 + r)).toNat = w0 + r ∧ w0 + r < 144 := by
      intro r hr
      have := row_lt (ho (k8.val + 1)) hr
      rw [← hw0] at this
      exact ⟨by rw [BitVec.toNat_ofNat]; omega, this⟩
    sl_exec
    sl_for (fun (r : ℕ) (acc : Acc25 F) =>
      (iprop(⌜acc = rowTup X (accAtSeg X o (stN (o 0)) s k8.val) k8.val (max (o k8.val) s) w0 0 r⌝ ∗ ((sX1).view.loc (thr d L) ↦{fullShare} f)) : sProp 𝕄)) $$ [HX]
    case region =>
      intro r acc
      obtain ⟨hw, hw144⟩ := hrow r.val (Nat.lt_of_lt_of_eq r.isLt hT9)
      iintro ⟨%hacc, HX⟩
      subst hacc
      have hsum : clamp s + (w0 + r.val) = max (o k8.val) s + r.val := by omega
      have hw8 := chk13 (v := BitVec.ofNat 32 (o 0)) (w := BitVec.ofNat 32 (o 4)) (k := k7) (a := BitVec.ofNat 32 (o k8.val)) (b := BitVec.ofNat 32 (o (k8.val + 1))) (r := BitVec.ofNat 32 (w0 + r.val)) (by rw [hw]; exact hw144)
      unfold rowTup
      sl_exec
      sl_step
      isplitr [HX]
      · ipureintro
        exact tup_eq (row_succ _ _)
            (acc_row hF _ k8.val _ r.val 0 0 (w := w0 + r.val) (congrArg (![·, 0]) hw) hsum _ _)
            (acc_row hF _ k8.val _ r.val 0 1 (w := w0 + r.val) (congrArg (![·, 16]) hw) hsum _ _)
            (acc_row hF _ k8.val _ r.val 0 2 (w := w0 + r.val) (congrArg (![·, 32]) hw) hsum _ _)
            (acc_row hF _ k8.val _ r.val 0 3 (w := w0 + r.val) (congrArg (![·, 48]) hw) hsum _ _)
            (acc_row hF _ k8.val _ r.val 0 4 (w := w0 + r.val) (congrArg (![·, 64]) hw) hsum _ _)
            (acc_row hF _ k8.val _ r.val 0 5 (w := w0 + r.val) (congrArg (![·, 80]) hw) hsum _ _)
            (acc_row hF _ k8.val _ r.val 0 6 (w := w0 + r.val) (congrArg (![·, 96]) hw) hsum _ _)
            (acc_row hF _ k8.val _ r.val 0 7 (w := w0 + r.val) (congrArg (![·, 112]) hw) hsum _ _)
            (acc_row hF _ k8.val _ r.val 1 0 (w := w0 + r.val) (congrArg (![·, 0]) hw) hsum _ _)
            (acc_row hF _ k8.val _ r.val 1 1 (w := w0 + r.val) (congrArg (![·, 16]) hw) hsum _ _)
            (acc_row hF _ k8.val _ r.val 1 2 (w := w0 + r.val) (congrArg (![·, 32]) hw) hsum _ _)
            (acc_row hF _ k8.val _ r.val 1 3 (w := w0 + r.val) (congrArg (![·, 48]) hw) hsum _ _)
            (acc_row hF _ k8.val _ r.val 1 4 (w := w0 + r.val) (congrArg (![·, 64]) hw) hsum _ _)
            (acc_row hF _ k8.val _ r.val 1 5 (w := w0 + r.val) (congrArg (![·, 80]) hw) hsum _ _)
            (acc_row hF _ k8.val _ r.val 1 6 (w := w0 + r.val) (congrArg (![·, 96]) hw) hsum _ _)
            (acc_row hF _ k8.val _ r.val 1 7 (w := w0 + r.val) (congrArg (![·, 112]) hw) hsum _ _)
            (acc_row hF _ k8.val _ r.val 2 0 (w := w0 + r.val) (congrArg (![·, 0]) hw) hsum _ _)
            (acc_row hF _ k8.val _ r.val 2 1 (w := w0 + r.val) (congrArg (![·, 16]) hw) hsum _ _)
            (acc_row hF _ k8.val _ r.val 2 2 (w := w0 + r.val) (congrArg (![·, 32]) hw) hsum _ _)
            (acc_row hF _ k8.val _ r.val 2 3 (w := w0 + r.val) (congrArg (![·, 48]) hw) hsum _ _)
            (acc_row hF _ k8.val _ r.val 2 4 (w := w0 + r.val) (congrArg (![·, 64]) hw) hsum _ _)
            (acc_row hF _ k8.val _ r.val 2 5 (w := w0 + r.val) (congrArg (![·, 80]) hw) hsum _ _)
            (acc_row hF _ k8.val _ r.val 2 6 (w := w0 + r.val) (congrArg (![·, 96]) hw) hsum _ _)
            (acc_row hF _ k8.val _ r.val 2 7 (w := w0 + r.val) (congrArg (![·, 112]) hw) hsum _ _)
      · iexact HX
    · isplitr [HX]
      · ipureintro
        exact tup_eq hst
          (acc_entry hG X k8.val _ 0 0 (k0_off51_eq k8 ⟨0, by decide⟩) _ _) (acc_entry hG X k8.val _ 0 1 (k0_off51_eq k8 ⟨1, by decide⟩) _ _) (acc_entry hG X k8.val _ 0 2 (k0_off51_eq k8 ⟨2, by decide⟩) _ _) (acc_entry hG X k8.val _ 0 3 (k0_off51_eq k8 ⟨3, by decide⟩) _ _) (acc_entry hG X k8.val _ 0 4 (k0_off51_eq k8 ⟨4, by decide⟩) _ _) (acc_entry hG X k8.val _ 0 5 (k0_off51_eq k8 ⟨5, by decide⟩) _ _) (acc_entry hG X k8.val _ 0 6 (k0_off51_eq k8 ⟨6, by decide⟩) _ _) (acc_entry hG X k8.val _ 0 7 (k0_off51_eq k8 ⟨7, by decide⟩) _ _) (acc_entry hG X k8.val _ 1 0 (k0_off52_eq k8 ⟨0, by decide⟩ ⟨0, by decide⟩) _ _) (acc_entry hG X k8.val _ 1 1 (k0_off52_eq k8 ⟨0, by decide⟩ ⟨1, by decide⟩) _ _) (acc_entry hG X k8.val _ 1 2 (k0_off52_eq k8 ⟨0, by decide⟩ ⟨2, by decide⟩) _ _) (acc_entry hG X k8.val _ 1 3 (k0_off52_eq k8 ⟨0, by decide⟩ ⟨3, by decide⟩) _ _) (acc_entry hG X k8.val _ 1 4 (k0_off52_eq k8 ⟨0, by decide⟩ ⟨4, by decide⟩) _ _) (acc_entry hG X k8.val _ 1 5 (k0_off52_eq k8 ⟨0, by decide⟩ ⟨5, by decide⟩) _ _) (acc_entry hG X k8.val _ 1 6 (k0_off52_eq k8 ⟨0, by decide⟩ ⟨6, by decide⟩) _ _) (acc_entry hG X k8.val _ 1 7 (k0_off52_eq k8 ⟨0, by decide⟩ ⟨7, by decide⟩) _ _) (acc_entry hG X k8.val _ 2 0 (k0_off52_eq k8 ⟨1, by decide⟩ ⟨0, by decide⟩) _ _) (acc_entry hG X k8.val _ 2 1 (k0_off52_eq k8 ⟨1, by decide⟩ ⟨1, by decide⟩) _ _) (acc_entry hG X k8.val _ 2 2 (k0_off52_eq k8 ⟨1, by decide⟩ ⟨2, by decide⟩) _ _) (acc_entry hG X k8.val _ 2 3 (k0_off52_eq k8 ⟨1, by decide⟩ ⟨3, by decide⟩) _ _) (acc_entry hG X k8.val _ 2 4 (k0_off52_eq k8 ⟨1, by decide⟩ ⟨4, by decide⟩) _ _) (acc_entry hG X k8.val _ 2 5 (k0_off52_eq k8 ⟨1, by decide⟩ ⟨5, by decide⟩) _ _) (acc_entry hG X k8.val _ 2 6 (k0_off52_eq k8 ⟨1, by decide⟩ ⟨6, by decide⟩) _ _) (acc_entry hG X k8.val _ 2 7 (k0_off52_eq k8 ⟨1, by decide⟩ ⟨7, by decide⟩) _ _)
      · iexact HX
    · iintro %acc ⟨%hacc, HX⟩
      replace hacc := hacc.trans (congrArg (rowTup X (accAtSeg X o (stN (o 0)) s k8.val) k8.val (max (o k8.val) s) w0 0) hT9)
      subst hacc
      unfold rowTup
      sl_exec
      sl_for (fun (r : ℕ) (acc : Acc25 F) =>
        (iprop(⌜acc = rowTup X (accAtSeg X o (stN (o 0)) s k8.val) k8.val (max (o k8.val) s) w0 1 r⌝ ∗ ((sX1).view.loc (thr d L) ↦{fullShare} f)) : sProp 𝕄)) $$ [HX]
      case region =>
        intro r acc
        obtain ⟨hw, hw144⟩ := hrow r.val (Nat.lt_of_lt_of_eq r.isLt hT11)
        iintro ⟨%hacc, HX⟩
        subst hacc
        have hsum : clamp s + (w0 + r.val) = max (o k8.val) s + r.val := by omega
        have hw10 := chk15 (v := BitVec.ofNat 32 (o 0)) (w := BitVec.ofNat 32 (o 4)) (k := k7) (a := BitVec.ofNat 32 (o k8.val)) (b := BitVec.ofNat 32 (o (k8.val + 1))) (r := BitVec.ofNat 32 (w0 + r.val)) (by rw [hw]; exact hw144)
        unfold rowTup
        sl_exec
        sl_step
        isplitr [HX]
        · ipureintro
          exact tup_eq (row_succ _ _)
            (acc_row hF _ k8.val _ r.val 0 8 (w := w0 + r.val) (congrArg (![·, 128]) hw) hsum _ _)
            (acc_row hF _ k8.val _ r.val 0 9 (w := w0 + r.val) (congrArg (![·, 144]) hw) hsum _ _)
            (acc_row hF _ k8.val _ r.val 0 10 (w := w0 + r.val) (congrArg (![·, 160]) hw) hsum _ _)
            (acc_row hF _ k8.val _ r.val 0 11 (w := w0 + r.val) (congrArg (![·, 176]) hw) hsum _ _)
            (acc_row hF _ k8.val _ r.val 0 12 (w := w0 + r.val) (congrArg (![·, 192]) hw) hsum _ _)
            (acc_row hF _ k8.val _ r.val 0 13 (w := w0 + r.val) (congrArg (![·, 208]) hw) hsum _ _)
            (acc_row hF _ k8.val _ r.val 0 14 (w := w0 + r.val) (congrArg (![·, 224]) hw) hsum _ _)
            (acc_row hF _ k8.val _ r.val 0 15 (w := w0 + r.val) (congrArg (![·, 240]) hw) hsum _ _)
            (acc_row hF _ k8.val _ r.val 1 8 (w := w0 + r.val) (congrArg (![·, 128]) hw) hsum _ _)
            (acc_row hF _ k8.val _ r.val 1 9 (w := w0 + r.val) (congrArg (![·, 144]) hw) hsum _ _)
            (acc_row hF _ k8.val _ r.val 1 10 (w := w0 + r.val) (congrArg (![·, 160]) hw) hsum _ _)
            (acc_row hF _ k8.val _ r.val 1 11 (w := w0 + r.val) (congrArg (![·, 176]) hw) hsum _ _)
            (acc_row hF _ k8.val _ r.val 1 12 (w := w0 + r.val) (congrArg (![·, 192]) hw) hsum _ _)
            (acc_row hF _ k8.val _ r.val 1 13 (w := w0 + r.val) (congrArg (![·, 208]) hw) hsum _ _)
            (acc_row hF _ k8.val _ r.val 1 14 (w := w0 + r.val) (congrArg (![·, 224]) hw) hsum _ _)
            (acc_row hF _ k8.val _ r.val 1 15 (w := w0 + r.val) (congrArg (![·, 240]) hw) hsum _ _)
            (acc_row hF _ k8.val _ r.val 2 8 (w := w0 + r.val) (congrArg (![·, 128]) hw) hsum _ _)
            (acc_row hF _ k8.val _ r.val 2 9 (w := w0 + r.val) (congrArg (![·, 144]) hw) hsum _ _)
            (acc_row hF _ k8.val _ r.val 2 10 (w := w0 + r.val) (congrArg (![·, 160]) hw) hsum _ _)
            (acc_row hF _ k8.val _ r.val 2 11 (w := w0 + r.val) (congrArg (![·, 176]) hw) hsum _ _)
            (acc_row hF _ k8.val _ r.val 2 12 (w := w0 + r.val) (congrArg (![·, 192]) hw) hsum _ _)
            (acc_row hF _ k8.val _ r.val 2 13 (w := w0 + r.val) (congrArg (![·, 208]) hw) hsum _ _)
            (acc_row hF _ k8.val _ r.val 2 14 (w := w0 + r.val) (congrArg (![·, 224]) hw) hsum _ _)
            (acc_row hF _ k8.val _ r.val 2 15 (w := w0 + r.val) (congrArg (![·, 240]) hw) hsum _ _)
        · iexact HX
      · isplitr [HX]
        · ipureintro
          exact tup_eq hst
            (acc_entry hG X k8.val _ 0 8 (k0_off51_eq k8 ⟨8, by decide⟩) _ _) (acc_entry hG X k8.val _ 0 9 (k0_off51_eq k8 ⟨9, by decide⟩) _ _) (acc_entry hG X k8.val _ 0 10 (k0_off51_eq k8 ⟨10, by decide⟩) _ _) (acc_entry hG X k8.val _ 0 11 (k0_off51_eq k8 ⟨11, by decide⟩) _ _) (acc_entry hG X k8.val _ 0 12 (k0_off51_eq k8 ⟨12, by decide⟩) _ _) (acc_entry hG X k8.val _ 0 13 (k0_off51_eq k8 ⟨13, by decide⟩) _ _) (acc_entry hG X k8.val _ 0 14 (k0_off51_eq k8 ⟨14, by decide⟩) _ _) (acc_entry hG X k8.val _ 0 15 (k0_off51_eq k8 ⟨15, by decide⟩) _ _) (acc_entry hG X k8.val _ 1 8 (k0_off52_eq k8 ⟨0, by decide⟩ ⟨8, by decide⟩) _ _) (acc_entry hG X k8.val _ 1 9 (k0_off52_eq k8 ⟨0, by decide⟩ ⟨9, by decide⟩) _ _) (acc_entry hG X k8.val _ 1 10 (k0_off52_eq k8 ⟨0, by decide⟩ ⟨10, by decide⟩) _ _) (acc_entry hG X k8.val _ 1 11 (k0_off52_eq k8 ⟨0, by decide⟩ ⟨11, by decide⟩) _ _) (acc_entry hG X k8.val _ 1 12 (k0_off52_eq k8 ⟨0, by decide⟩ ⟨12, by decide⟩) _ _) (acc_entry hG X k8.val _ 1 13 (k0_off52_eq k8 ⟨0, by decide⟩ ⟨13, by decide⟩) _ _) (acc_entry hG X k8.val _ 1 14 (k0_off52_eq k8 ⟨0, by decide⟩ ⟨14, by decide⟩) _ _) (acc_entry hG X k8.val _ 1 15 (k0_off52_eq k8 ⟨0, by decide⟩ ⟨15, by decide⟩) _ _) (acc_entry hG X k8.val _ 2 8 (k0_off52_eq k8 ⟨1, by decide⟩ ⟨8, by decide⟩) _ _) (acc_entry hG X k8.val _ 2 9 (k0_off52_eq k8 ⟨1, by decide⟩ ⟨9, by decide⟩) _ _) (acc_entry hG X k8.val _ 2 10 (k0_off52_eq k8 ⟨1, by decide⟩ ⟨10, by decide⟩) _ _) (acc_entry hG X k8.val _ 2 11 (k0_off52_eq k8 ⟨1, by decide⟩ ⟨11, by decide⟩) _ _) (acc_entry hG X k8.val _ 2 12 (k0_off52_eq k8 ⟨1, by decide⟩ ⟨12, by decide⟩) _ _) (acc_entry hG X k8.val _ 2 13 (k0_off52_eq k8 ⟨1, by decide⟩ ⟨13, by decide⟩) _ _) (acc_entry hG X k8.val _ 2 14 (k0_off52_eq k8 ⟨1, by decide⟩ ⟨14, by decide⟩) _ _) (acc_entry hG X k8.val _ 2 15 (k0_off52_eq k8 ⟨1, by decide⟩ ⟨15, by decide⟩) _ _)
        · iexact HX
      · iintro %acc ⟨%hacc, HX⟩
        replace hacc := hacc.trans (congrArg (rowTup X (accAtSeg X o (stN (o 0)) s k8.val) k8.val (max (o k8.val) s) w0 1) hT11)
        subst hacc
        unfold rowTup
        sl_exec
        sl_step
        isplitl [HX]
        · iexact HX
        · isplitr [HO]
          · iexists _
            isplitr [HA]; swap
            · iexact HA
            · ipureintro
              rw [← accAtSeg_succ]
              exact writes_seg (v := sA.view) (qs := [47, 31, 15, 46, 30, 14, 45, 29, 13, 44, 28, 12, 43, 27, 11, 42, 26, 10, 41, 25, 9, 40, 24, 8, 39, 23, 7, 38, 22, 6, 37, 21, 5, 36, 20, 4, 35, 19, 3, 34, 18, 2, 33, 17, 1, 32, 16, 0])
                hG (.cons (seg_done 2 15 has (by decide) (by decide) accAtSeg_self rfl rfl (k0_off52_eq k8 ⟨1, by decide⟩ ⟨15, by decide⟩) _ (shapeCast_self _ _)) <| .cons (seg_done 1 15 has (by decide) (by decide) accAtSeg_self rfl rfl (k0_off52_eq k8 ⟨0, by decide⟩ ⟨15, by decide⟩) _ (shapeCast_self _ _)) <| .cons (seg_done 0 15 has (by decide) (by decide) accAtSeg_self rfl rfl (k0_off51_eq k8 ⟨15, by decide⟩) _ (shapeCast_self _ _)) <| .cons (seg_done 2 14 has (by decide) (by decide) accAtSeg_self rfl rfl (k0_off52_eq k8 ⟨1, by decide⟩ ⟨14, by decide⟩) _ (shapeCast_self _ _)) <| .cons (seg_done 1 14 has (by decide) (by decide) accAtSeg_self rfl rfl (k0_off52_eq k8 ⟨0, by decide⟩ ⟨14, by decide⟩) _ (shapeCast_self _ _)) <| .cons (seg_done 0 14 has (by decide) (by decide) accAtSeg_self rfl rfl (k0_off51_eq k8 ⟨14, by decide⟩) _ (shapeCast_self _ _)) <| .cons (seg_done 2 13 has (by decide) (by decide) accAtSeg_self rfl rfl (k0_off52_eq k8 ⟨1, by decide⟩ ⟨13, by decide⟩) _ (shapeCast_self _ _)) <| .cons (seg_done 1 13 has (by decide) (by decide) accAtSeg_self rfl rfl (k0_off52_eq k8 ⟨0, by decide⟩ ⟨13, by decide⟩) _ (shapeCast_self _ _)) <| .cons (seg_done 0 13 has (by decide) (by decide) accAtSeg_self rfl rfl (k0_off51_eq k8 ⟨13, by decide⟩) _ (shapeCast_self _ _)) <| .cons (seg_done 2 12 has (by decide) (by decide) accAtSeg_self rfl rfl (k0_off52_eq k8 ⟨1, by decide⟩ ⟨12, by decide⟩) _ (shapeCast_self _ _)) <| .cons (seg_done 1 12 has (by decide) (by decide) accAtSeg_self rfl rfl (k0_off52_eq k8 ⟨0, by decide⟩ ⟨12, by decide⟩) _ (shapeCast_self _ _)) <| .cons (seg_done 0 12 has (by decide) (by decide) accAtSeg_self rfl rfl (k0_off51_eq k8 ⟨12, by decide⟩) _ (shapeCast_self _ _)) <| .cons (seg_done 2 11 has (by decide) (by decide) accAtSeg_self rfl rfl (k0_off52_eq k8 ⟨1, by decide⟩ ⟨11, by decide⟩) _ (shapeCast_self _ _)) <| .cons (seg_done 1 11 has (by decide) (by decide) accAtSeg_self rfl rfl (k0_off52_eq k8 ⟨0, by decide⟩ ⟨11, by decide⟩) _ (shapeCast_self _ _)) <| .cons (seg_done 0 11 has (by decide) (by decide) accAtSeg_self rfl rfl (k0_off51_eq k8 ⟨11, by decide⟩) _ (shapeCast_self _ _)) <| .cons (seg_done 2 10 has (by decide) (by decide) accAtSeg_self rfl rfl (k0_off52_eq k8 ⟨1, by decide⟩ ⟨10, by decide⟩) _ (shapeCast_self _ _)) <| .cons (seg_done 1 10 has (by decide) (by decide) accAtSeg_self rfl rfl (k0_off52_eq k8 ⟨0, by decide⟩ ⟨10, by decide⟩) _ (shapeCast_self _ _)) <| .cons (seg_done 0 10 has (by decide) (by decide) accAtSeg_self rfl rfl (k0_off51_eq k8 ⟨10, by decide⟩) _ (shapeCast_self _ _)) <| .cons (seg_done 2 9 has (by decide) (by decide) accAtSeg_self rfl rfl (k0_off52_eq k8 ⟨1, by decide⟩ ⟨9, by decide⟩) _ (shapeCast_self _ _)) <| .cons (seg_done 1 9 has (by decide) (by decide) accAtSeg_self rfl rfl (k0_off52_eq k8 ⟨0, by decide⟩ ⟨9, by decide⟩) _ (shapeCast_self _ _)) <| .cons (seg_done 0 9 has (by decide) (by decide) accAtSeg_self rfl rfl (k0_off51_eq k8 ⟨9, by decide⟩) _ (shapeCast_self _ _)) <| .cons (seg_done 2 8 has (by decide) (by decide) accAtSeg_self rfl rfl (k0_off52_eq k8 ⟨1, by decide⟩ ⟨8, by decide⟩) _ (shapeCast_self _ _)) <| .cons (seg_done 1 8 has (by decide) (by decide) accAtSeg_self rfl rfl (k0_off52_eq k8 ⟨0, by decide⟩ ⟨8, by decide⟩) _ (shapeCast_self _ _)) <| .cons (seg_done 0 8 has (by decide) (by decide) accAtSeg_self rfl rfl (k0_off51_eq k8 ⟨8, by decide⟩) _ (shapeCast_self _ _)) <| .cons (seg_done 2 7 has (by decide) (by decide) accAtSeg_self rfl rfl (k0_off52_eq k8 ⟨1, by decide⟩ ⟨7, by decide⟩) _ (shapeCast_self _ _)) <| .cons (seg_done 1 7 has (by decide) (by decide) accAtSeg_self rfl rfl (k0_off52_eq k8 ⟨0, by decide⟩ ⟨7, by decide⟩) _ (shapeCast_self _ _)) <| .cons (seg_done 0 7 has (by decide) (by decide) accAtSeg_self rfl rfl (k0_off51_eq k8 ⟨7, by decide⟩) _ (shapeCast_self _ _)) <| .cons (seg_done 2 6 has (by decide) (by decide) accAtSeg_self rfl rfl (k0_off52_eq k8 ⟨1, by decide⟩ ⟨6, by decide⟩) _ (shapeCast_self _ _)) <| .cons (seg_done 1 6 has (by decide) (by decide) accAtSeg_self rfl rfl (k0_off52_eq k8 ⟨0, by decide⟩ ⟨6, by decide⟩) _ (shapeCast_self _ _)) <| .cons (seg_done 0 6 has (by decide) (by decide) accAtSeg_self rfl rfl (k0_off51_eq k8 ⟨6, by decide⟩) _ (shapeCast_self _ _)) <| .cons (seg_done 2 5 has (by decide) (by decide) accAtSeg_self rfl rfl (k0_off52_eq k8 ⟨1, by decide⟩ ⟨5, by decide⟩) _ (shapeCast_self _ _)) <| .cons (seg_done 1 5 has (by decide) (by decide) accAtSeg_self rfl rfl (k0_off52_eq k8 ⟨0, by decide⟩ ⟨5, by decide⟩) _ (shapeCast_self _ _)) <| .cons (seg_done 0 5 has (by decide) (by decide) accAtSeg_self rfl rfl (k0_off51_eq k8 ⟨5, by decide⟩) _ (shapeCast_self _ _)) <| .cons (seg_done 2 4 has (by decide) (by decide) accAtSeg_self rfl rfl (k0_off52_eq k8 ⟨1, by decide⟩ ⟨4, by decide⟩) _ (shapeCast_self _ _)) <| .cons (seg_done 1 4 has (by decide) (by decide) accAtSeg_self rfl rfl (k0_off52_eq k8 ⟨0, by decide⟩ ⟨4, by decide⟩) _ (shapeCast_self _ _)) <| .cons (seg_done 0 4 has (by decide) (by decide) accAtSeg_self rfl rfl (k0_off51_eq k8 ⟨4, by decide⟩) _ (shapeCast_self _ _)) <| .cons (seg_done 2 3 has (by decide) (by decide) accAtSeg_self rfl rfl (k0_off52_eq k8 ⟨1, by decide⟩ ⟨3, by decide⟩) _ (shapeCast_self _ _)) <| .cons (seg_done 1 3 has (by decide) (by decide) accAtSeg_self rfl rfl (k0_off52_eq k8 ⟨0, by decide⟩ ⟨3, by decide⟩) _ (shapeCast_self _ _)) <| .cons (seg_done 0 3 has (by decide) (by decide) accAtSeg_self rfl rfl (k0_off51_eq k8 ⟨3, by decide⟩) _ (shapeCast_self _ _)) <| .cons (seg_done 2 2 has (by decide) (by decide) accAtSeg_self rfl rfl (k0_off52_eq k8 ⟨1, by decide⟩ ⟨2, by decide⟩) _ (shapeCast_self _ _)) <| .cons (seg_done 1 2 has (by decide) (by decide) accAtSeg_self rfl rfl (k0_off52_eq k8 ⟨0, by decide⟩ ⟨2, by decide⟩) _ (shapeCast_self _ _)) <| .cons (seg_done 0 2 has (by decide) (by decide) accAtSeg_self rfl rfl (k0_off51_eq k8 ⟨2, by decide⟩) _ (shapeCast_self _ _)) <| .cons (seg_done 2 1 has (by decide) (by decide) accAtSeg_self rfl rfl (k0_off52_eq k8 ⟨1, by decide⟩ ⟨1, by decide⟩) _ (shapeCast_self _ _)) <| .cons (seg_done 1 1 has (by decide) (by decide) accAtSeg_self rfl rfl (k0_off52_eq k8 ⟨0, by decide⟩ ⟨1, by decide⟩) _ (shapeCast_self _ _)) <| .cons (seg_done 0 1 has (by decide) (by decide) accAtSeg_self rfl rfl (k0_off51_eq k8 ⟨1, by decide⟩) _ (shapeCast_self _ _)) <| .cons (seg_done 2 0 has (by decide) (by decide) accAtSeg_self rfl rfl (k0_off52_eq k8 ⟨1, by decide⟩ ⟨0, by decide⟩) _ (shapeCast_self _ _)) <| .cons (seg_done 1 0 has (by decide) (by decide) accAtSeg_self rfl rfl (k0_off52_eq k8 ⟨0, by decide⟩ ⟨0, by decide⟩) _ (shapeCast_self _ _)) <| .cons (seg_done 0 0 has (by decide) (by decide) accAtSeg_self rfl rfl (k0_off51_eq k8 ⟨0, by decide⟩) _ (shapeCast_self _ _)) <| .nil) (by decide)
          · iexact HO
  · have hle := mt hC.2 C
    sl_exec
    sl_step
    isplitl [HX]
    · iexact HX
    · isplitr [HO]
      · iexists g
        isplitr [HA]
        · ipureintro
          rw [accAtSeg_skip has (by omega)]
          exact hg
        · iexact HA
      · iexact HO

end Cert.Pool
-- ==== Proof.Pairs.lean ====
/-
  One trip of the loop over pairs of chunks: the next chunk's transfer is started before the current chunk is folded in.
-/
module

public import proofs.«01_k».proof.Proof.Flights
public import proofs.«01_k».proof.Proof.Segment

@[expose] public section

noncomputable section

namespace Cert.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

omit [∀ e, Nonempty (Elt F e)] in
/-- Before the first segment of a chunk nothing of it is folded in. -/
theorem accIs_first {X : ℕ → ℕ → F .f32} {o : ℕ → ℕ} {a s : ℕ} {g : S3072.Idx → Elt F .f32} (h : AccIs (accS X o a s) g) :
    AccIs (accAtSeg X o a s 0) g := by
  intro e; rw [h e]; unfold accAtSeg; simp

omit [∀ e, Nonempty (Elt F e)] in
/-- After the fourth all of it is. -/
theorem accIs_last {X : ℕ → ℕ → F .f32} {o : ℕ → ℕ} {a s : ℕ} {g : S3072.Idx → Elt F .f32} (h : AccIs (accAtSeg X o a s 4) g) :
    AccIs (accS X o a (s + 144)) g := by
  intro e; rw [h e]; unfold accAtSeg
  have : (e 0).val < 3072 := (e 0).isLt
  rw [if_pos (by omega)]

section
variable (d : Dev nD) (L : grid0.Coords) (X : ℕ → ℕ → F .f32) (o : ℕ → ℕ) (q0 q1 : PosShare TreeShare)
  (xv : Buf (Elt F) ((thr d L).loc main_arg0_scv)) (fo : Buf (Elt F) ((thr d L).loc cc0_scratch4))
  (O : CellTallies nD τ sig (HIx 1)) (W : Waits sig (HIx 1))

/-- The start of chunk `n`'s rows. -/
abbrev chunkAt (n : ℕ) : ℕ := stN (o 0) + 144 * n

/-- Buffer 0 before chunk `n`: its transfer under way when there is such a chunk. -/
def slot0 (n : ℕ) : sProp 𝕄 := if n < nch (o 0) (o 4) then fly0 d L X q0 xv (clamp (chunkAt o n)) else idle0 d L q0 xv

/-- The accumulators with the first `n` chunks folded in. -/
abbrev accPts (n : ℕ) : sProp 𝕄 :=
  iprop(∃ g, ⌜AccIs (accS X o (stN (o 0)) (chunkAt o n)) g⌝ ∗ ((sA).view.loc (thr d L) ↦{fullShare} g))

/-- The waits recorded so far are those of before and the tile's own. -/
abbrev owing : sProp 𝕄 := iprop(∃ W', ⌜∀ p ∈ W', p ∈ W ∨ p.2 = none⌝ ∗ owes (thr d L) O W')

/-- What holds before pair `k`. -/
def pairInv (k : ℕ) : sProp 𝕄 :=
  iprop(slot0 d L X o q0 xv (2 * k) ∗ idle1 d L q1 xv ∗ accPts d L X o (min (2 * k) (nch (o 0) (o 4)))
    ∗ ((sO).view.loc (thr d L) ↦{fullShare} fo) ∗ owing d L O W)
end

/-- The four segments' share of the chunk in buffer 0. -/
theorem chunk0 (d : Dev nD) (L : grid0.Coords) {X : ℕ → ℕ → F .f32} {o : ℕ → ℕ} (ho : ∀ i, o i ≤ 50000)
    (k7 : Fin (k0_t7_loop (BitVec.ofNat 32 (o 0)) (BitVec.ofNat 32 (o 4))).trips)
    {fo : Buf (Elt F) ((thr d L).loc cc0_scratch4)} (hfo : OffsAre (F := F) o fo) (n : ℕ) (hn : n = 2 * k7.val + 0) :
    (iprop((∃ f, ⌜RowsFrom X (clamp (chunkAt o n)) f⌝ ∗ ((sX0).view.loc (thr d L) ↦{fullShare} f)) ∗ accPts d L X o n ∗ ((sO).view.loc (thr d L) ↦{fullShare} fo)) : sProp 𝕄) ⊢
    wp frame (wpE (defs₀ (F := F)) 𝒱₀ (thr d L) none) Set.univ
      (k0_t8_loop.for k0_t8_ok 0#32 (k0_t8_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 (BitVec.ofNat 32 (o 0)) (BitVec.ofNat 32 (o 4)) k7
        (cw (BitVec.ofNat 32 (o 0)) k7.val 0) (Scalar.minsi (cw (BitVec.ofNat 32 (o 0)) k7.val 0) 49856#32)))
      fun _ => iprop((∃ f, (sX0).view.loc (thr d L) ↦{fullShare} f) ∗ accPts d L X o (n + 1) ∗ ((sO).view.loc (thr d L) ↦{fullShare} fo)) := by
  have hs : chunkAt o n = stN (o 0) + 144 * (2 * k7.val + 0) := by rw [hn]
  iintro ⟨⟨%f, %hf, HX⟩, ⟨%g, %hg, HA⟩, HO⟩
  sl_for (fun (k : ℕ) (_ : BitVec 32) => (iprop(((sX0).view.loc (thr d L) ↦{fullShare} f)
    ∗ (∃ g, ⌜AccIs (accAtSeg X o (stN (o 0)) (chunkAt o n) k) g⌝ ∗ ((sA).view.loc (thr d L) ↦{fullShare} g))
    ∗ ((sO).view.loc (thr d L) ↦{fullShare} fo)) : sProp 𝕄)) $$ [HX HA HO]
  case region =>
    intro k z
    iintro ⟨HX, ⟨%g', %hg', HA⟩, HO⟩
    have hseg := seg0 d L ho k7 k z f g' fo hs hf hg' hfo
    unfold chunk0.sl.prog.body_1
    iapply hseg
    isplitl [HX]; · iexact HX
    isplitl [HA]; · iexact HA
    iexact HO
  · isplitl [HX HA HO]
    · isplitl [HX]; · iexact HX
      isplitl [HA]
      · iexists g
        isplitr [HA]; swap; · iexact HA
        ipureintro
        exact accIs_first hg
      iexact HO
    iintro %z ⟨HX, ⟨%g', %hg', HA⟩, HO⟩
    isplitl [HX]; · iexists f; iexact HX
    isplitl [HA]
    · iexists g'
      isplitr [HA]; swap; · iexact HA
      ipureintro
      exact accIs_last hg'
    iexact HO

/-- The four segments' share of the chunk in buffer 1. -/
theorem chunk1 (d : Dev nD) (L : grid0.Coords) {X : ℕ → ℕ → F .f32} {o : ℕ → ℕ} (ho : ∀ i, o i ≤ 50000)
    (k7 : Fin (k0_t7_loop (BitVec.ofNat 32 (o 0)) (BitVec.ofNat 32 (o 4))).trips)
    (h5 : k0_cond5 (BitVec.ofNat 32 (o 0)) (BitVec.ofNat 32 (o 4)) k7 = 1#1)
    {fo : Buf (Elt F) ((thr d L).loc cc0_scratch4)} (hfo : OffsAre (F := F) o fo) (n : ℕ) (hn : n = 2 * k7.val + 1) :
    (iprop((∃ f, ⌜RowsFrom X (clamp (chunkAt o n)) f⌝ ∗ ((sX1).view.loc (thr d L) ↦{fullShare} f)) ∗ accPts d L X o n ∗ ((sO).view.loc (thr d L) ↦{fullShare} fo)) : sProp 𝕄) ⊢
    wp frame (wpE (defs₀ (F := F)) 𝒱₀ (thr d L) none) Set.univ
      (k0_t13_loop.for k0_t13_ok 0#32 (k0_t13_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 (BitVec.ofNat 32 (o 0)) (BitVec.ofNat 32 (o 4)) k7 h5
        (cw (BitVec.ofNat 32 (o 0)) k7.val 1) (Scalar.minsi (cw (BitVec.ofNat 32 (o 0)) k7.val 1) 49856#32)))
      fun _ => iprop((∃ f, (sX1).view.loc (thr d L) ↦{fullShare} f) ∗ accPts d L X o (n + 1) ∗ ((sO).view.loc (thr d L) ↦{fullShare} fo)) := by
  have hs : chunkAt o n = stN (o 0) + 144 * (2 * k7.val + 1) := by rw [hn]
  iintro ⟨⟨%f, %hf, HX⟩, ⟨%g, %hg, HA⟩, HO⟩
  sl_for (fun (k : ℕ) (_ : BitVec 32) => (iprop(((sX1).view.loc (thr d L) ↦{fullShare} f)
    ∗ (∃ g, ⌜AccIs (accAtSeg X o (stN (o 0)) (chunkAt o n) k) g⌝ ∗ ((sA).view.loc (thr d L) ↦{fullShare} g))
    ∗ ((sO).view.loc (thr d L) ↦{fullShare} fo)) : sProp 𝕄)) $$ [HX HA HO]
  case region =>
    intro k z
    iintro ⟨HX, ⟨%g', %hg', HA⟩, HO⟩
    have hseg := seg1 d L ho k7 h5 k z f g' fo hs hf hg' hfo
    unfold chunk1.sl.prog.body_1
    iapply hseg
    isplitl [HX]; · iexact HX
    isplitl [HA]; · iexact HA
    iexact HO
  · isplitl [HX HA HO]
    · isplitl [HX]; · iexact HX
      isplitl [HA]
      · iexists g
        isplitr [HA]; swap; · iexact HA
        ipureintro
        exact accIs_first hg
      iexact HO
    iintro %z ⟨HX, ⟨%g', %hg', HA⟩, HO⟩
    isplitl [HX]; · iexists f; iexact HX
    isplitl [HA]
    · iexists g'
      isplitr [HA]; swap; · iexact HA
      ipureintro
      exact accIs_last hg'
    iexact HO

/-- The waits recorded stay those of before and the tile's own. -/
theorem owed_insert {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact h p hp

set_option maxHeartbeats 1000000 in
/-- One pair of chunks. -/
theorem pair_trip (d : Dev nD) (L : grid0.Coords) {X : ℕ → ℕ → F .f32} {o : ℕ → ℕ} (ho : ∀ i, o i ≤ 50000) (q0 q1 : PosShare TreeShare)
    {xv : Buf (Elt F) ((thr d L).loc main_arg0_scv)} (hx : InIs (F := F) X xv) {fo : Buf (Elt F) ((thr d L).loc cc0_scratch4)} (hfo : OffsAre (F := F) o fo)
    (O : CellTallies nD τ sig (HIx 1)) (W : Waits sig (HIx 1)) (hw : k0_chk6 (BitVec.ofNat 32 (o 0)) (BitVec.ofNat 32 (o 4)))
    (k7 : Fin (k0_t7_loop (BitVec.ofNat 32 (o 0)) (BitVec.ofNat 32 (o 4))).trips) (z : BitVec 32) :
    (iprop(pairInv d L X o q0 q1 xv fo O W k7.val ∗ Transfers.MayWaits (thr d L) (none : HIx 1) O) : sProp 𝕄) ⊢
    wp frame (wpE (defs₀ (F := F)) 𝒱₀ (thr d L) none) Set.univ
      (k0_t7_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 (BitVec.ofNat 32 (o 0)) (BitVec.ofNat 32 (o 4)) hw
        (st0 (BitVec.ofNat 32 (o 0))) k7 z)
      fun _ => pairInv d L X o q0 q1 xv fo O W (k7.val + 1) := by
  have hk := lt_of_trip (ho 0) (ho 4) k7
  have h2 := cond2_iff (ho 0) (ho 4) k7
  have h4 := cond4_iff (ho 0) (ho 4) k7
  have h5 := cond5_iff (ho 0) (ho 4) k7
  unfold pairInv slot0
  rw [if_pos (by omega), show min (2 * k7.val) (nch (o 0) (o 4)) = 2 * k7.val by omega]
  iintro ⟨⟨HF, HI, HA, HO, ⟨%W1, %hW1, HW⟩⟩, #HM⟩
  unfold k0_t7_body
  simp only [Prog.lift, Prog.bind_op, Prog.bind_ret, Prog.pure_eq_ret]
  rcases Classical.em (2 * k7.val + 1 < nch (o 0) (o 4)) with hc | hc
  · have c2 := h2.mpr hc
    have c5 := h5.mpr hc
    simp only [dif_pos c2, dif_pos c5]
    rw [show min (2 * (k7.val + 1)) (nch (o 0) (o 4)) = 2 * k7.val + 1 + 1 by omega]
    iapply (issue1 d L q1 hx (off9_eq (ho 0) (ho 4) k7) _) $$ HI
    iintro HF1
    iapply (await0 d L q0) $$ [HF HW]
    · isplitl [HF]; · iexact HF
      isplitl [HW]; · iexact HW
      iexact HM
    iintro ⟨⟨HX0, Hx0⟩, HV0, HW⟩
    rw [wp_bind]
    iapply (wp_wand) $$ [HX0 HA HO]
    · iapply (chunk0 d L ho k7 hfo (2 * k7.val) rfl)
      isplitl [HX0]; · iexact HX0
      isplitl [HA]; · iexact HA
      iexact HO
    iintro %z1 ⟨HX0, HA, HO⟩
    rcases Classical.em (2 * k7.val + 2 < nch (o 0) (o 4)) with hd | hd
    · have c4 := h4.mpr hd
      simp only [dif_pos c4]
      rw [if_pos (by omega)]
      iapply (issue0 d L q0 hx (off47_eq (ho 0) (ho 4) k7) _) $$ [HV0 HX0 Hx0]
      · isplitl [HV0]; · iexact HV0
        isplitl [HX0]; · iexact HX0
        iexact Hx0
      iintro HF
      iapply (await1 d L q1) $$ [HF1 HW]
      · isplitl [HF1]; · iexact HF1
        isplitl [HW]; · iexact HW
        iexact HM
      iintro ⟨⟨HX1, Hx1⟩, HV1, HW⟩
      rw [wp_bind]
      iapply (wp_wand) $$ [HX1 HA HO]
      · iapply (chunk1 d L ho k7 c5 hfo (2 * k7.val + 1) rfl)
        isplitl [HX1]; · iexact HX1
        isplitl [HA]; · iexact HA
        iexact HO
      iintro %z2 ⟨HX1, HA, HO⟩
      sl_step
      isplitl [HF]; · iexact HF
      isplitl [HV1 HX1 Hx1]
      · isplitl [HV1]; · iexact HV1
        isplitl [HX1]; · iexact HX1
        iexact Hx1
      isplitl [HA]; · iexact HA
      isplitl [HO]; · iexact HO
      iexists _
      isplitr [HW]; swap; · iexact HW
      ipureintro
      exact owed_insert (owed_insert hW1 _) _
    · have c4 := fun h => hd (h4.mp h)
      simp only [dif_neg c4]
      rw [if_neg (by omega)]
      iapply (await1 d L q1) $$ [HF1 HW]
      · isplitl [HF1]; · iexact HF1
        isplitl [HW]; · iexact HW
        iexact HM
      iintro ⟨⟨HX1, Hx1⟩, HV1, HW⟩
      rw [wp_bind]
      iapply (wp_wand) $$ [HX1 HA HO]
      · iapply (chunk1 d L ho k7 c5 hfo (2 * k7.val + 1) rfl)
        isplitl [HX1]; · iexact HX1
        isplitl [HA]; · iexact HA
        iexact HO
      iintro %z2 ⟨HX1, HA, HO⟩
      sl_step
      isplitl [HV0 HX0 Hx0]
      · isplitl [HV0]; · iexact HV0
        isplitl [HX0]; · iexact HX0
        iexact Hx0
      isplitl [HV1 HX1 Hx1]
      · isplitl [HV1]; · iexact HV1
        isplitl [HX1]; · iexact HX1
        iexact Hx1
      isplitl [HA]; · iexact HA
      isplitl [HO]; · iexact HO
      iexists _
      isplitr [HW]; swap; · iexact HW
      ipureintro
      exact owed_insert (owed_insert hW1 _) _
  · have c2 := fun h => hc (h2.mp h)
    have c5 := fun h => hc (h5.mp h)
    have c4 := fun h => hc (show 2 * k7.val + 1 < nch (o 0) (o 4) by have := h4.mp h; omega)
    simp only [dif_neg c2, dif_neg c4, dif_neg c5]
    rw [show min (2 * (k7.val + 1)) (nch (o 0) (o 4)) = 2 * k7.val + 1 by omega, if_neg (by omega)]
    iapply (await0 d L q0) $$ [HF HW]
    · isplitl [HF]; · iexact HF
      isplitl [HW]; · iexact HW
      iexact HM
    iintro ⟨⟨HX0, Hx0⟩, HV0, HW⟩
    rw [wp_bind]
    iapply (wp_wand) $$ [HX0 HA HO]
    · iapply (chunk0 d L ho k7 hfo (2 * k7.val) rfl)
      isplitl [HX0]; · iexact HX0
      isplitl [HA]; · iexact HA
      iexact HO
    iintro %z1 ⟨HX0, HA, HO⟩
    sl_step
    isplitl [HV0 HX0 Hx0]
    · isplitl [HV0]; · iexact HV0
      isplitl [HX0]; · iexact HX0
      iexact Hx0
    isplitl [HI]; · iexact HI
    isplitl [HA]; · iexact HA
    isplitl [HO]; · iexact HO
    iexists _
    isplitr [HW]; swap; · iexact HW
    ipureintro
    exact owed_insert hW1 _

end Cert.Pool
-- ==== Proof.Final.lean ====
/-
  The last loop: each segment's sums divided by its number of rows (at least one), and its 768 results sent to its row of
  the output.
-/
module

public import proofs.«01_k».proof.Proof.Lanes

@[expose] public section

noncomputable section

namespace Cert.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Affine (IsInt)

variable {F : FTy → Type} [FloatOps F] [∀ e, Nonempty (Elt F e)]

local notation "𝕄" => MT nD τ sig (HIx 1) (Elt F) ℕ UU ℕ

/-- The four segments from `n` on still hold their accumulators `G`. -/
def Left (n : ℕ) (G : ℕ → F .f32) (g : S3072.Idx → Elt F .f32) : Prop := ∀ y, n ≤ (y 0).val / 768 → g y = G (y 0).val

/-- What segment `k`'s sums are divided by: its number of rows, or one. -/
def den (o : ℕ → ℕ) (k : ℕ) : F .f32 :=
  Scalar.maximumf (Scalar.sitofp .f32 (Scalar.subi (BitVec.ofNat 32 (o (k + 1))) (BitVec.ofNat 32 (o k)))) (Scalar.ofBits .f32 0x3F800000#32)

/-- The results, from the accumulators: the sums are divided. -/
def res (G : ℕ → F .f32) (o : ℕ → ℕ) (e : ℕ) : F .f32 := if e % 768 / 256 = 2 then FloatOps.divf (G e) (den o (e / 768)) else G e

/-- Trip `k`'s row of the output, as the transfer names it. -/
abbrev rowM (L : grid0.Coords) (k : Fin k0_t29_loop.trips) : Memref sig .scVector .hbm S768 .f32 :=
  ((aO).slice (Rect.unit (s := S128x768) (k0_off165 L k) S1x768.size (k0_off165_inb L k)) (fun _ => rfl)).squeeze S768 squeezes_S1x768_S768

omit [∀ e, Nonempty (Elt F e)] in
/-- A group of segment `k`'s sums, divided and stored. -/
theorem seg_div {v : View sig .scVector .vmem S3072 .f32} {g : v.ty.Contents (Elt F)} {G : ℕ → F .f32} {o : ℕ → ℕ} {k : ℕ} (q : ℕ) (hq : q < 16)
    (hg : Left k G (v.read (Elt F) g)) {n m : BitVec 32} (hn : n = BitVec.ofNat 32 (o (k + 1))) (hm : m = BitVec.ofNat 32 (o k))
    {off : Fin 1 → ℕ} (hoff : off = ![768 * k + 16 * q + 512]) (h : ∀ a, off a + S16.size a ≤ S3072.size a) {w : FVec F S16 .f32}
    (hw : w = shapeCast S16 (divf (shapeCast S16 (v.readAt (Elt F) (Rect.unit (s := S3072) off S16.size h).toLoadRect g : Vec F S16 .f32)
      shapeCasts_S16_S16) (broadcast S16 (k0_pay950 n m))) shapeCasts_S16_S16) :
    Seg k (res G o) (32 + q) ⟨Rect.unit (s := S3072) off S16.size h, w⟩ := by
  subst hoff hn hm hw
  refine ⟨_, h, _, rfl, by rw [show 768 * k + 16 * q + 512 = 768 * k + 16 * (32 + q) by omega], by omega, ?_⟩
  rw [shapeCast_self, shapeCast_self]
  funext l
  have hl : (l 0).val < 16 := (l 0).isLt
  have e0 : (((Rect.unit (s := S3072) ![768 * k + 16 * q + 512] S16.size h).toLoadRect.idx l) 0).val = 768 * k + 16 * q + 512 + 1 * (l 0).val := rfl
  rw [Nat.one_mul] at e0
  have e1 : v.readAt (Elt F) (Rect.unit (s := S3072) ![768 * k + 16 * q + 512] S16.size h).toLoadRect g l = G (768 * k + 16 * (32 + q) + (l 0).val) := by
    refine (hg _ (by rw [e0]; omega)).trans ?_
    rw [e0, show 768 * k + 16 * q + 512 + (l 0).val = 768 * k + 16 * (32 + q) + (l 0).val by omega]
  unfold res
  rw [if_pos (by omega), show (768 * k + 16 * (32 + q) + (l 0).val) / 768 = k by omega, ← e1]
  rfl

omit [∀ e, Nonempty (Elt F e)] in
/-- The sixteen stores of segment `k`'s divided sums: the accumulators then are the segment's results, and the later segments' are as before. -/
theorem divided {v : View sig .scVector .vmem S3072 .f32} {g : v.ty.Contents (Elt F)} {G : ℕ → F .f32} {o : ℕ → ℕ} {k : ℕ} {qs : List ℕ}
    {L : List (View.Piece (Elt F) S3072 .f32)} (hg : Left k G (v.read (Elt F) g)) (hL : List.Forall₂ (Seg k (res G o)) qs L)
    (hq : ∀ q < 16, 32 + q ∈ qs) (hq' : ∀ q ∈ qs, 32 ≤ q) :
    Left (k + 1) G (v.read (Elt F) (v.writes (Elt F) g L))
      ∧ ∀ y : S3072.Idx, (y 0).val / 768 = k → v.read (Elt F) (v.writes (Elt F) g L) y = res G o (y 0).val := by
  have off : ∀ y : S3072.Idx, (¬ (y 0).val / 768 = k ∨ (y 0).val % 768 / 256 < 2) → v.read (Elt F) (v.writes (Elt F) g L) y = v.read (Elt F) g y := by
    intro y hy
    refine View.read_writes_apply_of_forall_not_mem v g y L ?_
    intro p' hp' hm
    obtain ⟨q, hqq, off', h', w', rfl, rfl, hq2, -⟩ := forall₂_right hL p' hp'
    have h1 := (mem_unit16 (h := h')).1 hm
    have h2 := hq' q hqq
    omega
  refine ⟨fun y hy => (off y (.inl (by omega))).trans (hg y (by omega)), fun y hy => ?_⟩
  by_cases hj : (y 0).val % 768 / 256 = 2
  · obtain ⟨p, hp, off, h, w, rfl, rfl, -, hw⟩ := forall₂_left hL ((y 0).val % 768 / 16) (by
      have := hq ((y 0).val % 768 / 16 - 32) (by omega)
      rwa [show 32 + ((y 0).val % 768 / 16 - 32) = (y 0).val % 768 / 16 by omega] at this)
    refine View.read_writes_apply_of_pieces v g (fun y => res G o (y 0).val) L ?_ y ⟨_, hp, (mem_unit16 (h := h)).2 (by omega)⟩
    intro p' hp' x
    obtain ⟨q, -, off', h', w', rfl, rfl, -, hw'⟩ := forall₂_right hL p' hp'
    have e0 : (((Rect.unit (s := S3072) ![768 * k + 16 * q] S16.size h').emb x) 0).val = 768 * k + 16 * q + 1 * (x 0).val := rfl
    show w' x = res G o _
    rw [e0, hw', Nat.one_mul]
  · refine (off y (.inr (by omega))).trans ((hg y (by omega)).trans ?_)
    unfold res
    rw [if_neg hj]

set_option maxHeartbeats 4000000 in
/-- One trip of the last loop. -/
theorem out_trip (d : Dev nD) (L : grid0.Coords) {G : ℕ → F .f32} {o : ℕ → ℕ} (k : Fin k0_t29_loop.trips) (z : BitVec 32)
    (g : Buf (Elt F) ((thr d L).loc cc0_scratch3)) (fo : Buf (Elt F) ((thr d L).loc cc0_scratch4)) (fr : Buf (Elt F) ((rowM L k).view.loc (thr d L)))
    (hg : Left k.val G g) (hfo : OffsAre (F := F) o fo) (O : CellTallies nD τ sig (HIx 1)) (W : Waits sig (HIx 1)) :
    (iprop(((sA).view.loc (thr d L) ↦{fullShare} g) ∗ ((sO).view.loc (thr d L) ↦{fullShare} fo)
        ∗ ((rowM L k).view.loc (thr d L) ↦[(rowM L k).view.set]{fullShare} fr) ∗ semVal (thr d L, SemLoc.dma cc0_scoped1.sem) 0
        ∗ owes (thr d L) O W ∗ Transfers.MayWaits (thr d L) (none : HIx 1) O) : sProp 𝕄) ⊢
    wp frame (wpE (defs₀ (F := F)) 𝒱₀ (thr d L) none) Set.univ
      (k0_t29_body L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 k z)
      fun _ => iprop((∃ g', ⌜Left (k.val + 1) G g'⌝ ∗ ((sA).view.loc (thr d L) ↦{fullShare} g')) ∗ ((sO).view.loc (thr d L) ↦{fullShare} fo)
        ∗ (∃ fr', ⌜∀ e, (rowM L k).view.read (Elt F) fr' e = res G o (768 * k.val + (e 0).val)⌝ ∗ ((rowM L k).view.loc (thr d L) ↦[(rowM L k).view.set]{fullShare} fr'))
        ∗ semVal (thr d L, SemLoc.dma cc0_scoped1.sem) 0 ∗ ∃ W', ⌜∀ p ∈ W', p ∈ W ∨ p.2 = none⌝ ∗ owes (thr d L) O W') := by
  have hG : Left k.val G ((sA).view.read (Elt F) g) := hg
  unfold k0_t29_body
  iintro ⟨HA, HO, HR, Hs, Hw, Hmw⟩
  sl_exec
  have e1 : out_trip.sl.r d L k fo = BitVec.ofNat 32 (o (k.val + 1)) := by
    exact (hfo _).trans (congrArg (fun n => BitVec.ofNat 32 (o n)) (offs_idx (k0_off161_eq k) _ _))
  have e2 : out_trip.sl.r_1 d L k fo = BitVec.ofNat 32 (o k.val) := by
    exact (hfo _).trans (congrArg (fun n => BitVec.ofNat 32 (o n)) (offs_idx (k0_off162_eq k) _ _))
  have hL : List.Forall₂ (Seg k.val (res G o)) [47, 46, 45, 44, 43, 42, 41, 40, 39, 38, 37, 36, 35, 34, 33, 32] (out_trip.sl.HA_16 d L k g fo) :=
    .cons (seg_div 15 (by decide) hG e1 e2 (k0_off163_eq k ⟨15, by decide⟩) _ rfl) <|
    .cons (seg_div 14 (by decide) hG e1 e2 (k0_off163_eq k ⟨14, by decide⟩) _ rfl) <|
    .cons (seg_div 13 (by decide) hG e1 e2 (k0_off163_eq k ⟨13, by decide⟩) _ rfl) <|
    .cons (seg_div 12 (by decide) hG e1 e2 (k0_off163_eq k ⟨12, by decide⟩) _ rfl) <|
    .cons (seg_div 11 (by decide) hG e1 e2 (k0_off163_eq k ⟨11, by decide⟩) _ rfl) <|
    .cons (seg_div 10 (by decide) hG e1 e2 (k0_off163_eq k ⟨10, by decide⟩) _ rfl) <|
    .cons (seg_div 9 (by decide) hG e1 e2 (k0_off163_eq k ⟨9, by decide⟩) _ rfl) <|
    .cons (seg_div 8 (by decide) hG e1 e2 (k0_off163_eq k ⟨8, by decide⟩) _ rfl) <|
    .cons (seg_div 7 (by decide) hG e1 e2 (k0_off163_eq k ⟨7, by decide⟩) _ rfl) <|
    .cons (seg_div 6 (by decide) hG e1 e2 (k0_off163_eq k ⟨6, by decide⟩) _ rfl) <|
    .cons (seg_div 5 (by decide) hG e1 e2 (k0_off163_eq k ⟨5, by decide⟩) _ rfl) <|
    .cons (seg_div 4 (by decide) hG e1 e2 (k0_off163_eq k ⟨4, by decide⟩) _ rfl) <|
    .cons (seg_div 3 (by decide) hG e1 e2 (k0_off163_eq k ⟨3, by decide⟩) _ rfl) <|
    .cons (seg_div 2 (by decide) hG e1 e2 (k0_off163_eq k ⟨2, by decide⟩) _ rfl) <|
    .cons (seg_div 1 (by decide) hG e1 e2 (k0_off163_eq k ⟨1, by decide⟩) _ rfl) <|
    .cons (seg_div 0 (by decide) hG e1 e2 (k0_off163_eq k ⟨0, by decide⟩) _ rfl) <| .nil
  have hD := divided (v := sA.view) hG hL (by decide) (by decide)
  sl_step
  isplitl [HA]
  · iexists _
    isplitr [HA]; swap
    · iexact HA
    · ipureintro
      exact hD.1
  isplitl [HO]
  · iexact HO
  isplitl [HR]
  · iexists _
    isplitr [HR]; swap
    · iexact HR
    · ipureintro
      intro e
      have he : (e 0).val < 768 := (e 0).isLt
      rw [View.read_writes_whole]
      have e0 : (((Rect.unit (s := S3072) (k0_off164 k) S768.size (k0_off164_inb k)).emb e) 0).val = 768 * k.val + (e 0).val := by
        show k0_off164 k 0 + 1 * (e 0).val = _
        rw [k0_off164_eq, Nat.one_mul]
        rfl
      refine (hD.2 ((Rect.unit (s := S3072) (k0_off164 k) S768.size (k0_off164_inb k)).emb e) (by rw [e0]; omega)).trans ?_
      rw [e0]
  isplitl [Hs]
  · iexact Hs
  iexists _
  isplitr [Hw]; swap
  · iexact Hw
  · ipureintro
    intro p hp
    rcases Finset.mem_insert.1 hp with rfl | hp
    · exact .inr rfl
    · exact .inl hp

end Cert.Pool
-- ==== Proof.Tile.lean ====
/-
  A tile's whole run: its four rows of the output hold the results of its four segments.
-/
module

public import proofs.«01_k».proof.Proof.Fetch
public import proofs.«01_k».proof.Proof.Pairs
public import proofs.«01_k».proof.Proof.Final
public import Idealize.ShloMosaic.Lib.Pipeline.Value

@[expose] public section

noncomputable section

namespace Cert.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Affine (IsInt)

variable {F : FTy → Type} [FloatOps F] [∀ e, Nonempty (Elt F e)]

local notation "𝕄" => MT nD τ sig (HIx 1) (Elt F) ℕ UU ℕ

set_option maxHeartbeats 4000000 in
/-- The first chunk's transfer is started when there is a chunk. -/
theorem primed (d : Dev nD) (L : grid0.Coords) {X : ℕ → ℕ → F .f32} {o : ℕ → ℕ} (ho : ∀ i, o i ≤ 50000) (q0 : PosShare TreeShare)
    {xv : Buf (Elt F) ((thr d L).loc main_arg0_scv)} (hx : InIs (F := F) X xv) (hw : k0_chk6 (BitVec.ofNat 32 (o 0)) (BitVec.ofNat 32 (o 4))) :
    (idle0 d L q0 xv : sProp 𝕄) ⊢
    wp frame (wpE (defs₀ (F := F)) 𝒱₀ (thr d L) none) Set.univ
      (k0_part80 L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1 (BitVec.ofNat 32 (o 0)) (BitVec.ofNat 32 (o 4)) hw
        8#32 (Scalar.divsi (BitVec.ofNat 32 (o 0)) 8#32)
        (Scalar.subi (Scalar.extui (Scalar.cmpi .sgt (BitVec.ofNat 32 (o 0)) 0#32)) (Scalar.extui (Scalar.cmpi .slt (BitVec.ofNat 32 (o 0)) 0#32)))
        (Scalar.extui (Scalar.cmpi .sgt 8#32 0#32)))
      fun r => iprop(⌜r.1 = st0 (BitVec.ofNat 32 (o 0))⌝ ∗ slot0 d L X o q0 xv 0) := by
  have h1 := cond1_iff (ho 0) (ho 4)
  unfold slot0
  rw [k0_part80_eq_skeleton]
  unfold k0_part80_skel
  simp only [Prog.lift, Prog.bind_op, Prog.bind_ret, Prog.pure_eq_ret]
  iintro HI
  rcases Classical.em (0 < nch (o 0) (o 4)) with hc | hc
  · have c1 := h1.mpr hc
    simp only [dif_pos c1]
    rw [if_pos hc]
    iapply (issue0 d L q0 hx (off8_eq (ho 0) (ho 4)) _) $$ [HI]
    · iexact HI
    iintro HF
    sl_step
    isplitr [HF]
    · ipureintro; rfl
    iexact HF
  · have c1 := mt h1.mp hc
    simp only [dif_neg c1]
    rw [if_neg hc]
    sl_step
    isplitr [HI]
    · ipureintro; rfl
    iexact HI

/-! ## The tile's rows of the output -/

/-- The tile's four rows of the output. -/
def tileSet (L : grid0.Coords) : Finset S128x768.Idx := Finset.univ.filter fun y => base L ≤ (y 0).val ∧ (y 0).val < base L + 4

/-- One row of the output. -/
def rowSet (r : ℕ) : Finset S128x768.Idx := Finset.univ.filter fun y => (y 0).val = r

/-- The first row of each of the segments `b, …, b + 3`, and the row after the last. -/
abbrev quadOffs (B : ℕ → BitVec 32) (b i : ℕ) : ℕ := offs B (b + min i 4)

/-- Column `c` of the row the kernel makes for segment `s`. -/
def featVal (X : ℕ → ℕ → F .f32) (B : ℕ → BitVec 32) (s c : ℕ) : F .f32 :=
  res (accS X (quadOffs B (4 * (s / 4))) (stN (quadOffs B (4 * (s / 4)) 0))
      (chunkAt (quadOffs B (4 * (s / 4))) (nch (quadOffs B (4 * (s / 4)) 0) (quadOffs B (4 * (s / 4)) 4))))
    (quadOffs B (4 * (s / 4))) (768 * (s % 4) + c)

/-- The output the kernel makes. -/
def feat (X : ℕ → ℕ → F .f32) (B : ℕ → BitVec 32) : S128x768.Idx → Elt F .f32 := fun y => featVal X B (y 0).val (y 1).val

/-- The tile's accumulators after all its chunks. -/
abbrev total (X : ℕ → ℕ → F .f32) (o : ℕ → ℕ) : ℕ → F .f32 := accS X o (stN (o 0)) (chunkAt o (nch (o 0) (o 4)))

omit [∀ e, Nonempty (Elt F e)] in
theorem featVal_tile (X : ℕ → ℕ → F .f32) (B : ℕ → BitVec 32) (L : grid0.Coords) {k : ℕ} (hk : k < 4) (c : ℕ) :
    featVal X B (base L + k) c = res (total X (tileOffs B L)) (tileOffs B L) (768 * k + c) := by
  have e1 : 4 * ((base L + k) / 4) = base L := by unfold base; omega
  have e2 : (base L + k) % 4 = k := by unfold base; omega
  unfold featVal
  rw [e1, e2]
  rfl

/-- The output with the tile's first `k` rows made. -/
def upTo (L : grid0.Coords) (X : ℕ → ℕ → F .f32) (B : ℕ → BitVec 32) (f : S128x768.Idx → Elt F .f32) (k : ℕ) : S128x768.Idx → Elt F .f32 :=
  fun y => if (y 0).val < base L + k then feat X B y else f y

theorem row_set (L : grid0.Coords) (k : Fin k0_t29_loop.trips) : (rowM L k).view.set = rowSet (base L + k.val) := by
  show ((((aO).view.slice (Rect.unit (s := S128x768) (k0_off165 L k) S1x768.size (k0_off165_inb L k)))).reshape S768 squeezes_S1x768_S768.numel_eq).set = _
  rw [View.set_reshape, View.set_slice_whole]
  ext y
  rw [Rect.mem_set_unit]
  unfold rowSet
  rw [Finset.mem_filter]
  have e : k0_off165 L k = ![8 * (L 1).val + 4 * (L 0).val + k.val, 0] := k0_off165_eq L k
  constructor
  · intro H
    refine ⟨Finset.mem_univ _, ?_⟩
    have h0 := H 0
    rw [e] at h0
    have h1 : base L + k.val ≤ (y 0).val := h0.1
    have h2 : (y 0).val < base L + k.val + 1 := h0.2
    omega
  · rintro ⟨-, H⟩ a
    rw [e]
    match a with
    | 0 => exact ⟨by show base L + k.val ≤ (y 0).val; omega, by show (y 0).val < base L + k.val + 1; omega⟩
    | 1 => exact ⟨Nat.zero_le _, by have h1 : (y 1).val < 768 := (y 1).isLt; show (y 1).val < 0 + 768; omega⟩

omit [FloatOps F] [∀ e, Nonempty (Elt F e)] in
theorem row_read (L : grid0.Coords) (k : Fin k0_t29_loop.trips) (f : (rowM L k).view.ty.Contents (Elt F)) (e : S768.Idx) (y : S128x768.Idx)
    (h0 : (y 0).val = base L + k.val) (h1 : (y 1).val = (e 0).val) : (rowM L k).view.read (Elt F) f e = f y := by
  have hq : S1x768.ShapeCasts S768 := by decide
  have hr : (rowM L k).view.read (Elt F) f = shapeCast S768 ((aO).view.readAt (Elt F)
    (Rect.unit (s := S128x768) (k0_off165 L k) S1x768.size (k0_off165_inb L k)).toLoadRect f) hq := rfl
  refine (congrFun hr e).trans ((shapeCast_dropUnit_apply (n := 1) ![768] _ hq e).trans ?_)
  have e0 : k0_off165 L k = ![8 * (L 1).val + 4 * (L 0).val + k.val, 0] := k0_off165_eq L k
  refine congrArg f (funext fun a => Fin.ext ?_)
  match a with
  | 0 =>
    show k0_off165 L k 0 + 1 * 0 = (y 0).val
    rw [e0, h0]
    rfl
  | 1 =>
    show k0_off165 L k 1 + 1 * (e 0).val = (y 1).val
    rw [e0, h1]
    show 0 + 1 * (e 0).val = _
    omega

theorem row_subset (L : grid0.Coords) {k : ℕ} (hk : k < 4) : rowSet (base L + k) ⊆ tileSet L := by
  intro y hy
  unfold rowSet at hy
  unfold tileSet
  rw [Finset.mem_filter] at hy ⊢
  exact ⟨Finset.mem_univ _, by omega⟩

/-- One row taken out of the tile's rows, to be written. -/
theorem row_take (d : Dev nD) (L : grid0.Coords) (X : ℕ → ℕ → F .f32) (B : ℕ → BitVec 32) (f : Buf (Elt F) ((aO).view.loc (thr d L))) (k : Fin k0_t29_loop.trips) :
    (((aO).view.loc (thr d L) ↦[tileSet L]{fullShare} upTo L X B f k.val) : sProp 𝕄)
      ⊢ iprop(((rowM L k).view.loc (thr d L) ↦[(rowM L k).view.set]{fullShare} upTo L X B f k.val)
        ∗ ((aO).view.loc (thr d L) ↦[tileSet L \ rowSet (base L + k.val)]{fullShare} upTo L X B f k.val)) := by
  have hk : k.val < 4 := Nat.lt_of_lt_of_le k.isLt (by decide)
  rw [row_set]
  exact (pointsTo_split_subset (row_subset L hk)).1

/-- The row put back, written. -/
theorem row_put (d : Dev nD) (L : grid0.Coords) (X : ℕ → ℕ → F .f32) (B : ℕ → BitVec 32) (f : Buf (Elt F) ((aO).view.loc (thr d L))) (k : Fin k0_t29_loop.trips)
    {fr : Buf (Elt F) ((rowM L k).view.loc (thr d L))}
    (hfr : ∀ e, (rowM L k).view.read (Elt F) fr e = res (total X (tileOffs B L)) (tileOffs B L) (768 * k.val + (e 0).val)) :
    iprop(((rowM L k).view.loc (thr d L) ↦[(rowM L k).view.set]{fullShare} fr)
        ∗ ((aO).view.loc (thr d L) ↦[tileSet L \ rowSet (base L + k.val)]{fullShare} upTo L X B f k.val))
      ⊢ (((aO).view.loc (thr d L) ↦[tileSet L]{fullShare} upTo L X B f (k.val + 1)) : sProp 𝕄) := by
  have hk : k.val < 4 := Nat.lt_of_lt_of_le k.isLt (by decide)
  rw [row_set]
  rw [show (((rowM L k).view.loc (thr d L) ↦[rowSet (base L + k.val)]{fullShare} fr) : sProp 𝕄)
      = ((aO).view.loc (thr d L) ↦[rowSet (base L + k.val)]{fullShare} upTo L X B f (k.val + 1)) from pointsTo_congr fun y hy => by
    unfold rowSet at hy
    rw [Finset.mem_filter] at hy
    have h := row_read L k fr (fun a => ⟨(y 1).val, by
      have h1 : (y 1).val < 768 := (y 1).isLt
      have h2 : a = 0 := Subsingleton.elim _ _
      subst h2
      exact h1⟩) y hy.2 rfl
    refine h.symm.trans ((hfr _).trans ?_)
    refine Eq.trans ?_ (if_pos (by omega)).symm
    show _ = featVal X B (y 0).val (y 1).val
    rw [hy.2, featVal_tile X B L hk]]
  rw [show (((aO).view.loc (thr d L) ↦[tileSet L \ rowSet (base L + k.val)]{fullShare} upTo L X B f k.val) : sProp 𝕄)
      = ((aO).view.loc (thr d L) ↦[tileSet L \ rowSet (base L + k.val)]{fullShare} upTo L X B f (k.val + 1)) from pointsTo_congr fun y hy => by
    unfold rowSet at hy
    rw [Finset.mem_sdiff, Finset.mem_filter] at hy
    have hne : (y 0).val ≠ base L + k.val := fun h => hy.2 ⟨Finset.mem_univ _, h⟩
    unfold upTo
    by_cases h : (y 0).val < base L + k.val
    · rw [if_pos h, if_pos (by omega)]
    · rw [if_neg h, if_neg (by omega)]]
  exact (pointsTo_split_subset (row_subset L hk)).2

theorem rows_start (d : Dev nD) (L : grid0.Coords) (X : ℕ → ℕ → F .f32) (B : ℕ → BitVec 32) (f : Buf (Elt F) ((aO).view.loc (thr d L))) :
    (((aO).view.loc (thr d L) ↦[tileSet L]{fullShare} f) : sProp 𝕄) = ((aO).view.loc (thr d L) ↦[tileSet L]{fullShare} upTo L X B f 0) :=
  pointsTo_congr fun y hy => by
    unfold tileSet at hy
    rw [Finset.mem_filter] at hy
    exact (if_neg (by omega)).symm

theorem rows_end (d : Dev nD) (L : grid0.Coords) (X : ℕ → ℕ → F .f32) (B : ℕ → BitVec 32) (f : Buf (Elt F) ((aO).view.loc (thr d L))) :
    (((aO).view.loc (thr d L) ↦[tileSet L]{fullShare} upTo L X B f 4) : sProp 𝕄) = ((aO).view.loc (thr d L) ↦[tileSet L]{fullShare} feat X B) :=
  pointsTo_congr fun y hy => by
    unfold tileSet at hy
    rw [Finset.mem_filter] at hy
    exact if_pos (by omega)

/-! ## The tile's run -/

set_option maxHeartbeats 4000000 in
theorem tile_run (d : Dev nD) (L : grid0.Coords) {X : ℕ → ℕ → F .f32} {B : ℕ → BitVec 32} (q0 q1 qb : PosShare TreeShare)
    {xv : Buf (Elt F) ((thr d L).loc main_arg0_scv)} (hx : InIs (F := F) X xv) {bv : Buf (Elt F) ((thr d L).loc main_arg1_scv)} (hb : WordsAre (F := F) B bv)
    (fB : Buf (Elt F) ((thr d L).loc cc0_scratch0)) (fA : Buf (Elt F) ((thr d L).loc cc0_scratch3)) (fO : Buf (Elt F) ((thr d L).loc cc0_scratch4))
    (fR : Buf (Elt F) ((aO).view.loc (thr d L))) (O : CellTallies nD τ sig (HIx 1)) (W : Waits sig (HIx 1)) :
    (iprop(idle0 d L q0 xv ∗ idle1 d L q1 xv ∗ ((aB).view.loc (thr d L) ↦{qb} bv) ∗ ((aO).view.loc (thr d L) ↦[tileSet L]{fullShare} fR)
        ∗ ((sB).view.loc (thr d L) ↦{fullShare} fB) ∗ ((sA).view.loc (thr d L) ↦{fullShare} fA) ∗ ((sO).view.loc (thr d L) ↦{fullShare} fO)
        ∗ semVal (thr d L, SemLoc.dma cc0_scoped0.sem) 0 ∗ semVal (thr d L, SemLoc.dma cc0_scoped1.sem) 0
        ∗ owes (thr d L) O W ∗ Transfers.MayWaits (thr d L) (none : HIx 1) O) : sProp 𝕄) ⊢
    wp frame (wpE (defs₀ (F := F)) 𝒱₀ (thr d L) none) Set.univ
      (cc0__pool_kernel L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1)
      fun _ => iprop(idle0 d L q0 xv ∗ idle1 d L q1 xv ∗ ((aB).view.loc (thr d L) ↦{qb} bv) ∗ ((aO).view.loc (thr d L) ↦[tileSet L]{fullShare} feat X B)
        ∗ (∃ f, (sB).view.loc (thr d L) ↦{fullShare} f) ∗ (∃ f, (sA).view.loc (thr d L) ↦{fullShare} f) ∗ (∃ f, (sO).view.loc (thr d L) ↦{fullShare} f)
        ∗ semVal (thr d L, SemLoc.dma cc0_scoped0.sem) 0 ∗ semVal (thr d L, SemLoc.dma cc0_scoped1.sem) 0
        ∗ owing' d L O W) := by
  have ho := tileOffs_le B L
  rw [cc0__pool_kernel_eq_skeleton]
  unfold cc0__pool_kernel_skel
  iintro ⟨HI0, HI1, HB, HR, HS, HA, HO, Hs0, Hs1, Hw, #HM⟩
  rw [wp_bind]
  iapply (wp_wand) $$ [HB HS HO Hs0 Hw]
  · iapply (fetched d L qb hb fB fO O W)
    isplitl [HB]; · iexact HB
    isplitl [HS]; · iexact HS
    isplitl [HO]; · iexact HO
    isplitl [Hs0]; · iexact Hs0
    isplitl [Hw]; · iexact Hw
    iexact HM
  iintro %r1 ⟨%hr1, HB, ⟨%f1, %hf1, HS⟩, ⟨%fo1, %hfo1, HO⟩, Hs0, ⟨%W1, %hW1, Hw⟩⟩
  subst hr1
  simp only
  rw [wp_bind]
  iapply (wp_wand) $$ [HS HO HA]
  · iapply (searched d L hf1 hfo1 fA)
    isplitl [HS]; · iexact HS
    isplitl [HO]; · iexact HO
    iexact HA
  iintro %r2 ⟨%hr2, HS, ⟨%fo2, %hfo2, HO⟩, ⟨%g2, %hg2, HA⟩⟩
  obtain ⟨hw, hr2⟩ := hr2
  subst hr2
  simp only
  rw [wp_bind]
  iapply (wp_wand) $$ [HI0]
  · iapply (primed d L (X := X) ho q0 hx hw)
    iexact HI0
  iintro %r3 ⟨%hr3, HF⟩
  obtain ⟨v55, v75, v79, c2, v80, v85⟩ := r3
  have hr3' : v55 = st0 (BitVec.ofNat 32 (tileOffs B L 0)) := hr3
  subst hr3'
  have t7 := trips7 (ho 0) (ho 4)
  have hz : Scf.trips k0_t29_loop.lb k0_t29_loop.ub k0_t29_loop.st = 4 := by decide
  sl_for (fun k (_ : BitVec 32) => (iprop(pairInv d L X (tileOffs B L) q0 q1 xv fo2 O W1 k ∗ Transfers.MayWaits (thr d L) (none : HIx 1) O) : sProp 𝕄)) $$ [HF HI1 HA HO Hw]
  case region =>
    intro k7 z
    iintro ⟨HP, #HM⟩
    have h := pair_trip d L ho q0 q1 hx hfo2 O W1 hw k7 z
    unfold tile_run.sl.prog.body_1
    iapply (wp_wand) $$ [HP]
    · iapply h
      isplitl [HP]; · iexact HP
      iexact HM
    iintro %_ HP
    isplitl [HP]; · iexact HP
    iexact HM
  · unfold pairInv
    isplitl
    swap
    · iexact HM
    isplitl [HF]; · iexact HF
    isplitl [HI1]; · iexact HI1
    isplitl [HA]
    · iexists g2
      isplitr [HA]
      · ipureintro
        have hc : min (2 * 0) (nch (tileOffs B L 0) (tileOffs B L 4)) = 0 := Nat.zero_min _
        rw [hc]
        exact started_all hg2 X (tileOffs B L) _
      iexact HA
    isplitl [HO]; · iexact HO
    iexists W1
    isplitr [Hw]
    · ipureintro; exact fun p hp => Or.inl hp
    iexact Hw
  iintro %z ⟨HP, -⟩
  have t7' : Scf.trips (k0_t7_loop (BitVec.ofNat 32 (tileOffs B L 0)) (BitVec.ofNat 32 (tileOffs B L 4))).lb
      (k0_t7_loop (BitVec.ofNat 32 (tileOffs B L 0)) (BitVec.ofNat 32 (tileOffs B L 4))).ub
      (k0_t7_loop (BitVec.ofNat 32 (tileOffs B L 0)) (BitVec.ofNat 32 (tileOffs B L 4))).st = _ := t7
  rw [t7']
  unfold pairInv
  icases HP with ⟨HF, HI1, ⟨%g3, %hg3, HA⟩, HO, ⟨%W3, %hW3, Hw⟩⟩
  have hc : min (2 * ((nch (tileOffs B L 0) (tileOffs B L 4) + 1) / 2)) (nch (tileOffs B L 0) (tileOffs B L 4)) = nch (tileOffs B L 0) (tileOffs B L 4) := by omega
  rw [hc] at hg3
  have hf : slot0 d L X (tileOffs B L) q0 xv (2 * ((nch (tileOffs B L 0) (tileOffs B L 4) + 1) / 2)) = idle0 d L q0 xv := by
    unfold slot0
    exact if_neg (by omega)
  ihave HF := (show (slot0 d L X (tileOffs B L) q0 xv (2 * ((nch (tileOffs B L 0) (tileOffs B L 4) + 1) / 2)) : sProp 𝕄) ⊢ idle0 d L q0 xv by rw [hf]) $$ HF
  have hW3' : ∀ p ∈ W3, p ∈ W ∨ p.2 = none := fun p hp => (hW3 p hp).elim (hW1 p) Or.inr
  ihave HR := (show (((aO).view.loc (thr d L) ↦[tileSet L]{fullShare} fR) : sProp 𝕄) ⊢ ((aO).view.loc (thr d L) ↦[tileSet L]{fullShare} upTo L X B fR 0) by rw [rows_start d L X B fR]) $$ HR
  sl_exec
  sl_for (fun k (_ : BitVec 32) => (iprop((∃ g, ⌜Left k (total X (tileOffs B L)) g⌝ ∗ ((sA).view.loc (thr d L) ↦{fullShare} g))
      ∗ ((sO).view.loc (thr d L) ↦{fullShare} fo2) ∗ ((aO).view.loc (thr d L) ↦[tileSet L]{fullShare} upTo L X B fR k)
      ∗ semVal (thr d L, SemLoc.dma cc0_scoped1.sem) 0 ∗ owing' d L O W ∗ Transfers.MayWaits (thr d L) (none : HIx 1) O) : sProp 𝕄)) $$ [HA HO HR Hs1 Hw]
  case region =>
    intro k z
    iintro ⟨⟨%g, %hg, HA⟩, HO, HR, Hs1, ⟨%W4, %hW4, Hw⟩, #HM⟩
    have h := out_trip d L k z g fo2 (upTo L X B fR k.val) hg hfo2 O W4
    ihave HR2 := (row_take d L X B fR k) $$ HR
    icases HR2 with ⟨HR, HL⟩
    iapply (wp_wand) $$ [HA HO HR Hs1 Hw]
    · unfold tile_run.sl.prog.body_2
      iapply h
      isplitl [HA]; · iexact HA
      isplitl [HO]; · iexact HO
      isplitl [HR]; · iexact HR
      isplitl [Hs1]; · iexact Hs1
      isplitl [Hw]; · iexact Hw
      iexact HM
    iintro %_ ⟨HA, HO, ⟨%fr, %hfr, HR⟩, Hs1, ⟨%W5, %hW5, Hw⟩⟩
    isplitl [HA]; · iexact HA
    isplitl [HO]; · iexact HO
    isplitl [HR HL]
    · iapply (row_put d L X B fR k hfr)
      isplitl [HR]; · iexact HR
      iexact HL
    isplitl [Hs1]; · iexact Hs1
    isplitl [Hw]
    · iexists W5
      isplitr [Hw]
      · ipureintro; exact fun p hp => (hW5 p hp).elim (hW4 p) Or.inr
      iexact Hw
    iexact HM
  · isplitl [HA]
    · iexists g3
      isplitr [HA]
      · ipureintro; exact fun y _ => hg3 y
      iexact HA
    isplitl [HO]; · iexact HO
    isplitl [HR]; · iexact HR
    isplitl [Hs1]; · iexact Hs1
    isplitl [Hw]
    · iexists W3
      isplitr [Hw]
      · ipureintro; exact hW3'
      iexact Hw
    iexact HM
  iintro %z2 HP
  rw [hz]
  icases HP with ⟨⟨%g4, %hg4, HA⟩, HO, HR, Hs1, Hw, -⟩
  ihave HR := (show (((aO).view.loc (thr d L) ↦[tileSet L]{fullShare} upTo L X B fR 4) : sProp 𝕄) ⊢ ((aO).view.loc (thr d L) ↦[tileSet L]{fullShare} feat X B) by rw [rows_end d L X B fR]) $$ HR
  try sl_exec
  sl_step
  isplitl [HF]; · iexact HF
  isplitl [HI1]; · iexact HI1
  isplitl [HB]; · iexact HB
  isplitl [HR]; · iexact HR
  isplitl [HS]; · iexists f1; iexact HS
  isplitl [HA]; · iexists g4; iexact HA
  isplitl [HO]; · iexists fo2; iexact HO
  isplitl [Hs0]; · iexact Hs0
  isplitl [Hs1]; · iexact Hs1
  iexact Hw

end Cert.Pool
-- ==== Proof.Task.lean ====
/-
  One task of the SparseCore call: what it is handed, its run from the thread's own storage, how the call's operands are
  dealt to the tasks.
-/
module

public import proofs.«01_k».proof.Proof.Tile

@[expose] public section

noncomputable section

namespace Cert.Pool

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Affine (IsInt)

variable {F : FTy → Type} [FloatOps F] [∀ e, Nonempty (Elt F e)]

local notation "𝕄" => MT nD τ sig (HIx 1) (Elt F) ℕ UU ℕ

/-! ## The launch memory -/

abbrev xLoc (d : Dev nD) : Loc nD τ sig := (SparseCore.T d).loc main_arg0
abbrev bLoc (d : Dev nD) : Loc nD τ sig := (SparseCore.T d).loc main_arg1
abbrev wLoc (d : Dev nD) : Loc nD τ sig := (SparseCore.T d).loc main_arg2
abbrev vLoc (d : Dev nD) : Loc nD τ sig := (SparseCore.T d).loc main_arg3
abbrev oLoc (d : Dev nD) : Loc nD τ sig := (SparseCore.T d).loc main_v0
abbrev rLoc (d : Dev nD) : Loc nD τ sig := (SparseCore.T d).loc main_v1
abbrev yLoc (d : Dev nD) : Loc nD τ sig := (SparseCore.T d).loc main_v2

/-- The index of row `r` and column `c` of the input. -/
def ixX (r c : ℕ) (h : r < 50000 ∧ c < 256) : S50000x256.Idx := fun a => match a with | 0 => ⟨r, h.1⟩ | 1 => ⟨c, h.2⟩
/-- The index of row `r` of the row's segment numbers. -/
def ixB (r : ℕ) (h : r < 50000) : S50000.Idx := fun a => match a with | 0 => ⟨r, h⟩

/-- An array of rows, by the numbers of its rows and columns. -/
def rowsOf (x : S50000x256.Idx → F .f32) (r c : ℕ) : F .f32 := if h : r < 50000 ∧ c < 256 then x (ixX r c h) else ini 0
/-- A list of segment numbers, by the numbers of its rows. -/
def segsOf (b : S50000.Idx → BitVec 32) (r : ℕ) : BitVec 32 := if h : r < 50000 then b (ixB r h) else 0#32

omit [∀ e, Nonempty (Elt F e)] in
theorem rowsOf_is (x : S50000x256.Idx → F .f32) : InIs (F := F) (rowsOf x) x := fun e => by
  have h : (e 0).val < 50000 ∧ (e 1).val < 256 := ⟨(e 0).isLt, (e 1).isLt⟩
  unfold rowsOf
  rw [dif_pos h]
  exact congrArg x (funext fun a => match a with | 0 => rfl | 1 => rfl)
omit [FloatOps F] [∀ e, Nonempty (Elt F e)] in
theorem segsOf_is (b : S50000.Idx → BitVec 32) : WordsAre (F := F) (segsOf b) b := fun e => by
  have h : (e 0).val < 50000 := (e 0).isLt
  unfold segsOf
  rw [dif_pos h]
  exact congrArg b (funext fun a => match a with | 0 => rfl)

variable (m : (ℓ : Loc nD τ sig) → Buf (Elt F) ℓ)

/-- The input's rows and their segments' numbers at the launch. -/
abbrev XX (d : Dev nD) : ℕ → ℕ → F .f32 := rowsOf (m (xLoc d))
abbrev BB (d : Dev nD) : ℕ → BitVec 32 := segsOf (m (bLoc d))

/-! ## What a task is handed -/

/-- The grid coordinates of tile `i` of SparseCore `c`. -/
def coords (c : Fin (grid0.bound 0)) (i : Fin (grid0.bound 1)) : grid0.Coords :=
  fun | 0 => c | 1 => i | ⟨_ + 2, h⟩ => absurd h (Nat.not_lt.2 (Nat.le_add_left _ _))

/-- The read share of each SparseCore, and of each of its tiles. -/
def coreShare (c : ℕ) : PosShare TreeShare := if c = 0 then fullShare.left else fullShare.right
def tileShare (L : grid0.Coords) : PosShare TreeShare := Transfers.shareTokN (coreShare (L 0).val) (L 1).val

/-- The read shares of the two inputs that a tile takes. -/
abbrev reads (d : Dev nD) (L : grid0.Coords) : sProp 𝕄 :=
  iprop((xLoc d ↦{tileShare L} m (xLoc d)) ∗ (bLoc d ↦{tileShare L} m (bLoc d)))
/-- A tile's operands before and after its task. -/
abbrev goes (d : Dev nD) (L : grid0.Coords) : sProp 𝕄 := iprop(reads m d L ∗ (oLoc d ↦[tileSet L]{fullShare} m (oLoc d)))
abbrev comes (d : Dev nD) (L : grid0.Coords) : sProp 𝕄 := iprop(reads m d L ∗ (oLoc d ↦[tileSet L]{fullShare} feat (XX m d) (BB m d)))

/-- What the handshakes carry: a SparseCore its tiles' operands, a tile its own. -/
def P : (K (F := F)).Pay (nD := nD) (Val := Elt F) (Name := ℕ) (U := UU) where
  st := fun q d c => match q with | 0 => bigSep Finset.univ fun i : Fin (grid0.bound 1) => goes m d (coords c i)
  dn := fun q d c => match q with | 0 => bigSep Finset.univ fun i : Fin (grid0.bound 1) => comes m d (coords c i)
  go := fun q d c i => match q with | 0 => goes m d (coords c i)
  td := fun q d c i => match q with | 0 => comes m d (coords c i)
  x := fun _ _ => iprop(emp)

instance P_storable : (P (F := F) m).IsStorable where
  st q d c := match q with
    | 0 => (inferInstance : BI.Storable (upEmb : UEmb _ 𝕄) (bigSep Finset.univ fun i : Fin (grid0.bound 1) => goes m d (coords c i)))
  dn q d c := match q with
    | 0 => (inferInstance : BI.Storable (upEmb : UEmb _ 𝕄) (bigSep Finset.univ fun i : Fin (grid0.bound 1) => comes m d (coords c i)))
  go q d c i := match q with | 0 => (inferInstance : BI.Storable (upEmb : UEmb _ 𝕄) (goes m d (coords c i)))
  td q d c i := match q with | 0 => (inferInstance : BI.Storable (upEmb : UEmb _ 𝕄) (comes m d (coords c i)))

/-! ## The thread's own storage -/

section Tile

variable (d : Dev nD) (L : grid0.Coords)

/-- A transfer semaphore of the tile. -/
abbrev cellG (s : DmaSem sig) : GSem nD τ sig := (thr d L, .dma s)
omit [FloatOps F] [∀ e, Nonempty (Elt F e)] in
theorem cellG_ne {s t : DmaSem sig} (h : s ≠ t) : cellG d L s ≠ cellG d L t := fun e => h (SemLoc.dma.inj (Prod.ext_iff.mp e).2)

theorem cellG_own (s : DmaSem sig) (h : (SemLoc.dma s : SemLoc sig).isScoped .scVector = true) : cellG d L s ∈ ownCells (thr d L) :=
  mem_ownCells.mpr ⟨rfl, h⟩

omit [FloatOps F] [∀ e, Nonempty (Elt F e)] in
theorem sems_V : (ownSems0 (thr d L) : sProp 𝕄)
    = iprop(semVal (cellG d L cc0_scratch5.sem) 0 ∗ semVal (cellG d L cc0_scratch6.sem) 0 ∗ semVal (cellG d L cc0_scoped0.sem) 0 ∗ semVal (cellG d L cc0_scoped1.sem) 0
        ∗ bigSep (((((ownCells (thr d L)).erase (cellG d L cc0_scratch5.sem)).erase (cellG d L cc0_scratch6.sem)).erase (cellG d L cc0_scoped0.sem)).erase (cellG d L cc0_scoped1.sem)) fun g => semVal g 0) := by
  unfold SparseCore.Cfg.ownSems0
  rw [SparseCore.bigSep_erase' (cellG_own d L cc0_scratch5.sem (by decide)),
    SparseCore.bigSep_erase' (Finset.mem_erase.mpr ⟨cellG_ne d L (show cc0_scratch6.sem ≠ cc0_scratch5.sem by decide), (cellG_own d L cc0_scratch6.sem (by decide))⟩),
    SparseCore.bigSep_erase' (Finset.mem_erase.mpr ⟨cellG_ne d L (show cc0_scoped0.sem ≠ cc0_scratch6.sem by decide), (Finset.mem_erase.mpr ⟨cellG_ne d L (show cc0_scoped0.sem ≠ cc0_scratch5.sem by decide), (cellG_own d L cc0_scoped0.sem (by decide))⟩)⟩),
    SparseCore.bigSep_erase' (Finset.mem_erase.mpr ⟨cellG_ne d L (show cc0_scoped1.sem ≠ cc0_scoped0.sem by decide), (Finset.mem_erase.mpr ⟨cellG_ne d L (show cc0_scoped1.sem ≠ cc0_scratch6.sem by decide), (Finset.mem_erase.mpr ⟨cellG_ne d L (show cc0_scoped1.sem ≠ cc0_scratch5.sem by decide), (cellG_own d L cc0_scoped1.sem (by decide))⟩)⟩)⟩)]

omit [FloatOps F] [∀ e, Nonempty (Elt F e)] in
theorem bufs_V : (ownBufs (thr d L) : sProp 𝕄)
    = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
        ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := (Proc.scVector (cV L) (jV L))) (b := ((Proc.scVector (cV L) (jV L)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := (Proc.scVector (cV L) (jV L))) (b := ((Proc.scVector (cV L) (jV L)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := (Proc.scVector (cV L) (jV L))) (b := ((Proc.scVector (cV L) (jV L)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := (Proc.scVector (cV L) (jV L))) (b := ((Proc.scVector (cV L) (jV L)).devRef cc0_scratch4)) rfl)⟩)⟩)⟩)⟩)]

/-- The task, from what it is handed and the thread's own storage. -/
theorem tile_body (hF : (K (F := F)).Facts) (O : CellTallies nD τ sig (HIx 1)) (W : Waits sig (HIx 1)) (hO : ∀ g, O g none = 0) :
    iprop(levAts (K (F := F)).L (K (F := F)).lev ∗ emp ∗ goes m d L ∗ scopedBufs (thr d L) ∗ scopedSems0 (thr d L) ∗ owes (thr d L) O W)
      ⊢ wp frame (wpE (defs₀ (F := F)) 𝒱₀ (thr d L) none) Set.univ
          (cc0__pool_kernel L aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1)
          fun _ => iprop(comes m d L ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), sems_V, bufs_V]
  have hx : (xLoc d ↦{tileShare L} m (xLoc d) : sProp 𝕄)
      ⊣⊢ iprop((xLoc d ↦{(tileShare L).left} m (xLoc d)) ∗ (xLoc d ↦{(tileShare L).right} m (xLoc d))) := pointsTo_share (PosShare.mem_left_op_right _)
  iintro ⟨#Hlv, -, ⟨⟨Hx, Hb⟩, Ho⟩, ⟨⟨%fB, HB⟩, ⟨%f0, H0⟩, ⟨%f1, H1⟩, ⟨%fA, HA⟩, ⟨%fO, HO⟩, Hbufs⟩, ⟨Hs5, Hs6, Hsc0, Hsc1, Hsems⟩, Hw⟩
  ihave Hmw := (show levAts (K (F := F)).L (K (F := F)).lev ⊢ Transfers.MayWaits (thr d L) (none : HIx 1) O from
    (K (F := F)).mayWaits_none (thr := thr d L) hO) $$ Hlv
  ihave Hx := hx.1 $$ Hx
  icases Hx with ⟨Hx0, Hx1⟩
  iapply (wp_wand) $$ [Hx0 Hx1 Hb Ho HB H0 H1 HA HO Hs5 Hs6 Hsc0 Hsc1 Hw Hmw]
  · iapply (tile_run d L (X := XX m d) (B := BB m d) (tileShare L).left (tileShare L).right (tileShare L) (rowsOf_is (m (xLoc d))) (segsOf_is (m (bLoc d)))
      fB fA fO (m (oLoc d)) O W)
    isplitl [Hx0 Hs5 H0]
    · isplitl [Hs5]; · iexact Hs5
      isplitl [H0]; · iexists f0; iexact H0
      iexact Hx0
    isplitl [Hx1 Hs6 H1]
    · isplitl [Hs6]; · iexact Hs6
      isplitl [H1]; · iexists f1; iexact H1
      iexact Hx1
    isplitl [Hb]; · iexact Hb
    isplitl [Ho]; · iexact Ho
    isplitl [HB]; · iexact HB
    isplitl [HA]; · iexact HA
    isplitl [HO]; · iexact HO
    isplitl [Hsc0]; · iexact Hsc0
    isplitl [Hsc1]; · iexact Hsc1
    isplitl [Hw]; · iexact Hw
    iexact Hmw
  iintro %_ ⟨⟨Hs5, H0, Hx0⟩, ⟨Hs6, H1, Hx1⟩, Hb, Ho, HB, HA, HO, Hsc0, Hsc1, ⟨%W', %hW', Hw⟩⟩
  isplitl [Hx0 Hx1 Hb Ho]
  · isplitl [Hx0 Hx1 Hb]
    · isplitl [Hx0 Hx1]
      · iapply hx.2
        isplitl [Hx0]; · iexact Hx0
        iexact Hx1
      iexact Hb
    iexact Ho
  isplitl [HB H0 H1 HA HO Hbufs]
  · isplitl [HB]; · iexact HB
    isplitl [H0]; · iexact H0
    isplitl [H1]; · iexact H1
    isplitl [HA]; · iexact HA
    isplitl [HO]; · iexact HO
    iexact Hbufs
  isplitl [Hs5 Hs6 Hsc0 Hsc1 Hsems]
  · isplitl [Hs5]; · iexact Hs5
    isplitl [Hs6]; · iexact Hs6
    isplitl [Hsc0]; · iexact Hsc0
    isplitl [Hsc1]; · iexact Hsc1
    iexact Hsems
  iexists W'
  isplitr [Hw]
  · ipureintro; exact fun p hp => (hW' p hp).imp_right Or.inl
  iexact Hw

end Tile

theorem defs₀_tile (c : Fin τ.nSC) (s : Fin τ.nSub) :
    defs₀ (F := F) (.scVector c s) 0 ()
      = SparseCore.onTile hcore0 hsub0 (fun c s => cc0__pool_kernel (coords c s) aX (Memref.isWhole_whole _) aB (Memref.isWhole_whole _) aO (Memref.isWhole_whole _) sB (Memref.isWhole_whole _)
        sX0 (Memref.isWhole_whole _) sX1 (Memref.isWhole_whole _) sA (Memref.isWhole_whole _) sO (Memref.isWhole_whole _)
        cc0_scratch5 cc0_scratch6 cc0_scoped0 cc0_scoped1) ⟨⟩ c s := rfl

/-- Every task of the call runs as its handshake says. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]
  simp only [SparseCore.onTile, hci, and_self, ↓reduceDIte]
  exact tile_body m d (coords ⟨_, hci.1⟩ ⟨_, hci.2⟩) hF O W hO

/-- A SparseCore's operands are its tiles'. -/
theorem vecSplit : (K (F := F)).VecSplit' (P m) 0 := by
  intro d c
  show (bigSep Finset.univ fun i : Fin (grid0.bound 1) => goes m d (coords c i)) ⊢ |={Set.univ}=> iprop(
      (bigSep Finset.univ fun i : Fin (grid0.bound 1) => goes m d (coords c i))
      ∗ ((bigSep Finset.univ fun i : Fin (grid0.bound 1) => comes m d (coords c i)) -∗ bigSep Finset.univ fun i : Fin (grid0.bound 1) => comes m d (coords c i)))
  iintro H
  imodintro
  isplitl [H]; · iexact H
  iintro H
  iexact H

end Cert.Pool
-- ==== Proof.Product.lean ====
/-
  The matrix product on the TensorCore: the kernel's body run once on its staging buffers, the region entered from the four
  arrays its windows name and left with the result's array at the product plus the bias.
-/
module

public import proofs.«01_k».proof.Proof.Tile
public import proofs.«01_k».proof.Proof.Gen.KernelIdeal.Launch
public import proofs.«01_k».proof.Proof.Gen.KernelIdeal.Points
public import Idealize.ShloMosaic.Lib.Pipeline.RegionsLoop

@[expose] public section

noncomputable section

namespace Cert.Pool

open Cert.KernelIdeal Cert.KernelIdeal.Gen
open Idealize.ShloMosaic
open Idealize.ShloMosaic.SparseCore (S V T)
open Idealize.ShloMosaic.SparseCore.Cfg (HIx)
open Idealize.ShloMosaic.Pipeline (Dat BodyObligation)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Affine (IsInt)

variable {F : FTy → Type} [FloatOps F] [∀ e, Nonempty (Elt F e)]

local notation "𝕄" => MT nD τ sig (HIx 1) (Elt F) ℕ UU ℕ

/-! ## The body -/

section Body

/-- Memref `M`'s buffer on the TensorCore of `c`. -/
abbrev on (c : Dev nD) {sp : Space} {S : Shape} (M : Memref sig .tc sp S .f32) (f : Buf (Elt F) (M.view.loc (c : Thread nD τ))) : sProp 𝕄 :=
  M.view.loc (c : Thread nD τ) ↦{fullShare} f

theorem off0 : (![0, 0] : Fin 2 → ℕ) = fun _ => 0 := funext fun a => match a with | 0 => rfl | 1 => rfl

/-- The staging buffers are whole buffers: a load reads what they hold, the store leaves what it writes. -/
theorem stored (x : S128x768.Idx → F .f32) (w : S768x256.Idx → F .f32) (b : S1x256.Idx → F .f32) (o : S128x256.Idx → F .f32) :
    (stage1_3 0).view.writes (Elt F) o [⟨Rect.unit ![0, 0] S128x256.size inb_S128x256_S128x256_0_0,
      k1_pay1 (View.readAt (Elt F) (stage1_0 0).view (Rect.unit ![0, 0] S128x768.size inb_S128x768_S128x768_0_0).toLoadRect x)
        (View.readAt (Elt F) (stage1_1 0).view (Rect.unit ![0, 0] S768x256.size inb_S768x256_S768x256_0_0).toLoadRect w)
        (View.readAt (Elt F) (stage1_2 0).view (Rect.unit ![0, 0] S1x256.size inb_S1x256_S1x256_0_0).toLoadRect b)⟩] = k1_pay1 x w b := by
  have h0 : View.readAt (Elt F) (stage1_0 0).view (Rect.unit ![0, 0] S128x768.size inb_S128x768_S128x768_0_0).toLoadRect x = x :=
    Memref.readAt_unit_zero (Elt F) cc1_stg0_0 off0 inb_S128x768_S128x768_0_0 x
  have h1 : View.readAt (Elt F) (stage1_1 0).view (Rect.unit ![0, 0] S768x256.size inb_S768x256_S768x256_0_0).toLoadRect w = w :=
    Memref.readAt_unit_zero (Elt F) cc1_stg1_0 off0 inb_S768x256_S768x256_0_0 w
  have h2 : View.readAt (Elt F) (stage1_2 0).view (Rect.unit ![0, 0] S1x256.size inb_S1x256_S1x256_0_0).toLoadRect b = b :=
    Memref.readAt_unit_zero (Elt F) cc1_stg2_0 off0 inb_S1x256_S1x256_0_0 b
  rw [h0, h1, h2]
  generalize k1_pay1 x w b = y
  exact Memref.write_access_unit_zero_univ (Elt F) cc1_stg3_0 off0 inb_S128x256_S128x256_0_0 o y

/-- From its three operands' staging buffers the body leaves the product plus the bias in the result's. -/
theorem body_run (c : Dev nD) (x : S128x768.Idx → F .f32) (w : S768x256.Idx → F .f32) (b : S1x256.Idx → F .f32) (o : S128x256.Idx → F .f32) (E : Set ℕ) :
    iprop(on c (stage1_0 0) x ∗ on c (stage1_1 0) w ∗ on c (stage1_2 0) b ∗ on c (stage1_3 0) o)
      ⊢ wp frame (wpE (defs₀ (F := F)) 𝒱₀ c none) E
          (cc1__mm_kernel (stage1_0 0) (hstage1_0 0) (stage1_1 0) (hstage1_1 0) (stage1_2 0) (hstage1_2 0) (stage1_3 0) (hstage1_3 0))
          fun _ => iprop(on c (stage1_0 0) x ∗ on c (stage1_1 0) w ∗ on c (stage1_2 0) b ∗ on c (stage1_3 0) (k1_pay1 x w b)) := by
  rw [cc1__mm_kernel_eq_skeleton]
  unfold cc1__mm_kernel_skel
  iintro ⟨H0, H1, H2, H3⟩
  sl_exec
  sl_step
  isplitl [H0]; · iexact H0
  isplitl [H1]; · iexact H1
  isplitl [H2]; · iexact H2
  ihave H := (show on c (stage1_3 0) _ ⊢ (on c (stage1_3 0) (k1_pay1 x w b) : sProp 𝕄) from
    Entails.of_eq (congrArg (on c (stage1_3 0)) (stored x w b o))) $$ H3
  iexact H

end Body

/-! ## The region -/

section Region

variable (x : S128x768.Idx → F .f32) (w : S768x256.Idx → F .f32) (b : S1x256.Idx → F .f32) (o : S128x256.Idx → F .f32)

/-- The region's data: the arrays at entry, what the body leaves in each staging buffer; nothing else held, nothing owed. -/
def dat (c : Dev nD) : Dat τ (Elt F) (HIx 1) ℕ UU ℕ cfg1 c where
  A := fun | 0 => x | 1 => w | 2 => b | 3 => o
  after
    | 0, _ => x
    | 1, _ => w
    | 2, _ => b
    | 3, _ => k1_pay1 x w b
  Φ _ := BI.emp
  q _ := fullShare
  owed _ := 0

variable (adm : (p : Fin 1) → (pcfgs (F := F) p).Adm)

/-- The same as a family over the program's one pipeline. -/
def dats : (p : Fin 1) → (c : Dev nD) → Dat τ (Elt F) (HIx 1) ℕ UU ℕ (Pipeline.pin (pcfgs (F := F)) adm p) c
  | 0 => fun c => dat x w b o c

/-- A window whose block is its whole array reads the array. -/
theorem block0 (c : Dev nD) : (dat x w b o c).blockOf 0 t1_0 = x := by
  funext i
  unfold Dat.blockOf
  rw [View.read_apply]
  exact congrArg x (funext fun a => Fin.ext (Pipeline.Window.rect_emb_val_of_index_zero win1_0 t1_0 a rfl i))
theorem block1 (c : Dev nD) : (dat x w b o c).blockOf 1 t1_0 = w := by
  funext i
  unfold Dat.blockOf
  rw [View.read_apply]
  exact congrArg w (funext fun a => Fin.ext (Pipeline.Window.rect_emb_val_of_index_zero win1_1 t1_0 a rfl i))
theorem block2 (c : Dev nD) : (dat x w b o c).blockOf 2 t1_0 = b := by
  funext i
  unfold Dat.blockOf
  rw [View.read_apply]
  exact congrArg b (funext fun a => Fin.ext (Pipeline.Window.rect_emb_val_of_index_zero win1_2 t1_0 a rfl i))

theorem before0 (c : Dev nD) (g) : (dat x w b o c).before 0 t1_0 g = x := by
  unfold Dat.before; rw [if_pos (by decide)]; exact block0 x w b o c
theorem before1 (c : Dev nD) (g) : (dat x w b o c).before 1 t1_0 g = w := by
  unfold Dat.before; rw [if_pos (by decide)]; exact block1 x w b o c
theorem before2 (c : Dev nD) (g) : (dat x w b o c).before 2 t1_0 g = b := by
  unfold Dat.before; rw [if_pos (by decide)]; exact block2 x w b o c

/-- The body at the region's one point. -/
theorem body_ok (c : Dev nD) : BodyObligation (dat x w b o c) (defs₀ (F := F)) 𝒱₀ (none : HIx 1) Set.univ := fun t => by
  obtain rfl := fin_N1 t
  rw [bigSep_W1, bigSep_W1]
  simp only [owns_whole_eq]
  rw [show (dat x w b o c).Φ t1_0.castSucc = BI.emp from rfl, show (dat x w b o c).Φ t1_0.succ = BI.emp from rfl,
    show (dat x w b o c).owesAt none t1_0.succ = (dat x w b o c).owesAt none t1_0.castSucc from rfl]
  iintro ⟨-, Hw, ⟨%d0, %f0, %h0, H0⟩, ⟨%d1, %f1, %h1, H1⟩, ⟨%d2, %f2, %h2, H2⟩, ⟨%d3, %f3, -, H3⟩⟩
  rw [before0] at h0
  rw [before1] at h1
  rw [before2] at h2
  subst h0
  subst h1
  subst h2
  iapply (wp_wand) $$ [H0 H1 H2 H3]
  · iapply (body_run c f0 f1 f2 f3 Set.univ)
    isplitl [H0]; · iexact H0
    isplitl [H1]; · iexact H1
    isplitl [H2]; · iexact H2
    iexact H3
  iintro %_ ⟨H0, H1, H2, H3⟩
  isplitr; · iempintro
  isplitl [Hw]; · iexact Hw
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

/-- The result's array after the region's one write-back. -/
theorem result (c : Dev nD) : (dat x w b o c).arrAt 3 cfg1.N = k1_pay1 x w b := by
  refine Dat.arrAt_eq_of_cover _ 3 _ (fun t _ => ?_) fun i => ⟨t1_0, flush1_3 _, ?_⟩
  · obtain rfl := fin_N1 t
    funext i
    rw [View.read_apply]
    exact congrArg (k1_pay1 x w b) (funext fun a => Fin.ext (Pipeline.Window.rect_emb_val_of_index_zero win1_3 t1_0 a rfl i).symm)
  · have h : ((cfg1.win 3).blk t1_0).view.emb i = i :=
      funext fun a => Fin.ext (Pipeline.Window.rect_emb_val_of_index_zero win1_3 t1_0 a rfl i)
    rw [← h]
    exact View.emb_mem_set _ _

/-- The four arrays' buffers on a core. -/
abbrev four (c : Dev nD) (y : S128x256.Idx → F .f32) : sProp 𝕄 :=
  iprop(((c : Thread nD τ).loc main_v0 ↦{fullShare} x) ∗ ((c : Thread nD τ).loc main_arg2 ↦{fullShare} w)
    ∗ ((c : Thread nD τ).loc main_v1 ↦{fullShare} b) ∗ ((c : Thread nD τ).loc main_v2 ↦{fullShare} y))

theorem arrays_in (c : Dev nD) : (dats x w b o adm 0 c).arrays ((dats x w b o adm 0 c).arrAt · 0) = four x w b c o :=
  ((Pipeline.arrays_eq (Pipeline.pin (pcfgs (F := F)) adm) (dats x w b o adm) 0 c arr_whole1
    ((dats x w b o adm 0 c).share_full fun _ => rfl) _).trans (bigSep_W1 _))
theorem arrays_out (c : Dev nD) : (dats x w b o adm 0 c).arrays ((dats x w b o adm 0 c).arrAt · (Pipeline.pin (pcfgs (F := F)) adm 0).N) = four x w b c (k1_pay1 x w b) := by
  refine ((Pipeline.arrays_eq (Pipeline.pin (pcfgs (F := F)) adm) (dats x w b o adm) 0 c arr_whole1
    ((dats x w b o adm 0 c).share_full fun _ => rfl) _).trans (bigSep_W1 _)).trans ?_
  rw [show (dats x w b o adm 0 c).arrAt 0 (Pipeline.pin (pcfgs (F := F)) adm 0).N = x from (dat x w b o c).arrAt_in 0 rfl _,
    show (dats x w b o adm 0 c).arrAt 1 (Pipeline.pin (pcfgs (F := F)) adm 0).N = w from (dat x w b o c).arrAt_in 1 rfl _,
    show (dats x w b o adm 0 c).arrAt 2 (Pipeline.pin (pcfgs (F := F)) adm 0).N = b from (dat x w b o c).arrAt_in 2 rfl _,
    show (dats x w b o adm 0 c).arrAt 3 (Pipeline.pin (pcfgs (F := F)) adm 0).N = k1_pay1 x w b from result x w b o c]

set_option backward.isDefEq.respectTransparency.types false in
/-- The region: entered from the four arrays, left with the result's at the product plus the bias. -/
def region (L : GSem nD τ sig → Finset (HIx 1)) (lv : GSem nD τ sig → HIx 1 → ℕ) :
    Pipeline.RegionSeg (pcfgs (F := F)) adm (dats x w b o adm) none defs₀ 𝒱₀ L lv 0 where
  win := launch1.win.to₀
  block_pos := launch1.block_pos
  stage_whole := launch1.stage_whole
  K := PEmpty
  osem k := k.elim
  ho := Pipeline.OwnSemFacts.none _
  hbody c := (body_ok x w b o c).loose
  hwaits := Pipeline.hwaits_of_owed_zero _ _ _ _ L lv 0 fun _ _ => rfl
  pre c := iprop(four x w b c o ∗ ∃ W, owes (c : Thread nD τ) (0 : CellTallies nD τ sig (HIx 1)) W)
  post c := iprop(four x w b c (k1_pay1 x w b) ∗ ∃ W, owes (c : Thread nD τ) (0 : CellTallies nD τ sig (HIx 1)) W)
  X _ := BI.emp
  Y _ := BI.emp
  Z _ := BI.emp
  hentry c := by
    rw [Pipeline.ownSems0_none, ← arrays_in x w b o adm c]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Dat.owesAt Pipeline.owesWithin
      icases HO with ⟨%W, HO⟩
      iexists W
      isplitr; · ipureintro; exact fun _ _ => Or.inl trivial
      iexact HO
    isplitr <;> iempintro
  hin c := by
    rw [show (dats x w b o adm 0 c).Φ 0 = BI.emp from rfl]
    iintro -
    iempintro
  hout c := by
    rw [Pipeline.ownSems0_none, show Pipeline.scopedRest (Pipeline.pin (pcfgs (F := F)) adm 0).spec c = BI.emp from scopedRest1_eq c]
    iintro -
    isplitr; · iempintro
    isplitr <;> iempintro
  hexit c := by
    rw [← arrays_out x w b o adm c]
    iintro ⟨Ha, HO, -, -⟩
    imodintro
    isplitl [Ha]; · iexact Ha
    unfold Dat.owesAt Pipeline.owesWithin
    icases HO with ⟨%W, -, HO⟩
    iexists W
    iexact HO

end Region

end Cert.Pool
-- ==== Proof.Launch.lean ====
/-
  The program's run: the operands dealt to the SparseCores' tiles and joined again, the bias reshaped, the product's region,
  and from the launch theorem what every execution leaves in memory.
-/
module

public import proofs.«01_k».proof.Proof.Task
public import proofs.«01_k».proof.Proof.Product

@[expose] public section

noncomputable section

namespace Cert.Pool

open Cert.KernelIdeal Cert.KernelIdeal.Gen
open Idealize.ShloMosaic
open Idealize.ShloMosaic.SparseCore (S V T)
open Idealize.ShloMosaic.SparseCore.Cfg (HIx)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Affine (IsInt)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The dealing of the operands -/

/-- What stays of a read-only operand after every tile has its share. -/
abbrev kept (ℓ : Loc nD τ sig) (f : Buf (Elt F) ℓ) : sProp 𝕄 :=
  iprop((ℓ ↦{Transfers.shareDrop (coreShare 0) 16} f) ∗ (ℓ ↦{Transfers.shareDrop (coreShare 1) 16} f))

theorem pair_of (Φ : Fin 2 → sProp 𝕄) : bigSep Finset.univ Φ = iprop(Φ 0 ∗ Φ 1) := bigSep_fin_two Φ

/-- The coordinates of tile `i` of core `c`. -/
def tileAt (c : Fin 2) (i : Fin 16) : grid0.Coords := coords c i

/-- A read-only operand, held whole, is every tile's share and what stays. -/
theorem dealt (ℓ : Loc nD τ sig) (f : Buf (Elt F) ℓ) :
    (ℓ ↦{fullShare} f : sProp 𝕄) ⊣⊢ iprop(kept ℓ f
      ∗ bigSep Finset.univ fun c : Fin 2 => bigSep Finset.univ fun i : Fin 16 => ℓ ↦{tileShare (tileAt c i)} f) := by
  rw [pair_of]
  have h : (ℓ ↦{fullShare} f : sProp 𝕄) ⊣⊢ iprop((ℓ ↦{fullShare.left} f) ∗ (ℓ ↦{fullShare.right} f)) := pointsTo_share (PosShare.mem_left_op_right _)
  have h0 := Transfers.pointsTo_toks (nD := nD) (τ := τ) (sig := sig) (Ix := HIx 1) (Val := Elt F) (Name := ℕ) (U := UU) (Lvl := ℕ)
    (ℓ := ℓ) (S := Finset.univ) (f := f) fullShare.left 16
  have h1 := Transfers.pointsTo_toks (nD := nD) (τ := τ) (sig := sig) (Ix := HIx 1) (Val := Elt F) (Name := ℕ) (U := UU) (Lvl := ℕ)
    (ℓ := ℓ) (S := Finset.univ) (f := f) fullShare.right 16
  constructor
  · iintro H
    ihave H := h.1 $$ H
    icases H with ⟨H0, H1⟩
    ihave H0 := h0.1 $$ H0
    ihave H1 := h1.1 $$ H1
    icases H0 with ⟨Hk0, H0⟩
    icases H1 with ⟨Hk1, H1⟩
    isplitl [Hk0 Hk1]
    · isplitl [Hk0]; · iexact Hk0
      iexact Hk1
    isplitl [H0]; · iexact H0
    iexact H1
  · iintro ⟨⟨Hk0, Hk1⟩, H0, H1⟩
    iapply h.2
    isplitl [Hk0 H0]
    · iapply h0.2
      isplitl [Hk0]; · iexact Hk0
      iexact H0
    iapply h1.2
    isplitl [Hk1]; · iexact Hk1
    iexact H1

/-- The tiles' rows are the features' rows. -/
theorem rows_dealt (d : Dev nD) (f : Buf (Elt F) (oLoc d)) :
    (oLoc d ↦{fullShare} f : sProp 𝕄)
      = bigSep Finset.univ fun c : Fin 2 => bigSep Finset.univ fun i : Fin 16 => oLoc d ↦[tileSet (tileAt c i)]{fullShare} f := by
  rw [← bigSep_univ_prod (fun ci : Fin 2 × Fin 16 => (oLoc d ↦[tileSet (tileAt ci.1 ci.2)]{fullShare} f : sProp 𝕄))]
  have hU : (Finset.univ.biUnion fun ci : Fin 2 × Fin 16 => tileSet (tileAt ci.1 ci.2)) = Finset.univ := by
    refine Finset.eq_univ_of_forall fun y => ?_
    have hy : ((y : S128x768.Idx) 0).val < 128 := (y 0).isLt
    refine Finset.mem_biUnion.mpr ⟨(⟨((y : S128x768.Idx) 0).val / 4 % 2, by omega⟩, ⟨((y : S128x768.Idx) 0).val / 8, by omega⟩), Finset.mem_univ _, ?_⟩
    refine Finset.mem_filter.mpr ⟨Finset.mem_univ _, ?_⟩
    show 8 * (((y : S128x768.Idx) 0).val / 8) + 4 * (((y : S128x768.Idx) 0).val / 4 % 2) ≤ ((y : S128x768.Idx) 0).val
      ∧ ((y : S128x768.Idx) 0).val < 8 * (((y : S128x768.Idx) 0).val / 8) + 4 * (((y : S128x768.Idx) 0).val / 4 % 2) + 4
    omega
  refine (congrArg (fun S => (oLoc d ↦[S]{fullShare} f : sProp 𝕄)) hU.symm).trans
    (pointsTo_biUnion (ℓ := oLoc d) (q := fullShare) (f := f) Finset.univ (fun ci : Fin 2 × Fin 16 => tileSet (tileAt ci.1 ci.2)) ?_)
  · rintro ⟨c, i⟩ - ⟨c', i'⟩ - hne
    refine Finset.disjoint_left.mpr fun y h h' => hne ?_
    have h := (Finset.mem_filter.mp h).2
    have h' := (Finset.mem_filter.mp h').2
    replace h : 8 * i.val + 4 * c.val ≤ ((y : S128x768.Idx) 0).val ∧ ((y : S128x768.Idx) 0).val < 8 * i.val + 4 * c.val + 4 := h
    replace h' : 8 * i'.val + 4 * c'.val ≤ ((y : S128x768.Idx) 0).val ∧ ((y : S128x768.Idx) 0).val < 8 * i'.val + 4 * c'.val + 4 := h'
    exact Prod.ext (Fin.ext (by show c.val = c'.val; omega)) (Fin.ext (by show i.val = i'.val; omega))

/-- What the call is started with, and what it leaves. -/
theorem starts (d : Dev nD) : (bigSep Finset.univ fun c : Fin ((K (F := F)).nCore 0) => (P m).st 0 d c)
    = iprop(((bigSep Finset.univ fun c : Fin 2 => bigSep Finset.univ fun i : Fin 16 => xLoc d ↦{tileShare (tileAt c i)} m (xLoc d))
      ∗ (bigSep Finset.univ fun c : Fin 2 => bigSep Finset.univ fun i : Fin 16 => bLoc d ↦{tileShare (tileAt c i)} m (bLoc d)))
      ∗ (oLoc d ↦{fullShare} m (oLoc d))) := by
  show (bigSep Finset.univ fun c : Fin 2 => bigSep Finset.univ fun i : Fin 16 => goes m d (tileAt c i)) = _
  unfold goes reads
  rw [rows_dealt d]
  simp only [bigSep_sep']
theorem ends (d : Dev nD) : (bigSep Finset.univ fun c : Fin ((K (F := F)).nCore 0) => (P m).dn 0 d c)
    = iprop(((bigSep Finset.univ fun c : Fin 2 => bigSep Finset.univ fun i : Fin 16 => xLoc d ↦{tileShare (tileAt c i)} m (xLoc d))
      ∗ (bigSep Finset.univ fun c : Fin 2 => bigSep Finset.univ fun i : Fin 16 => bLoc d ↦{tileShare (tileAt c i)} m (bLoc d)))
      ∗ (oLoc d ↦{fullShare} feat (XX m d) (BB m d))) := by
  show (bigSep Finset.univ fun c : Fin 2 => bigSep Finset.univ fun i : Fin 16 => comes m d (tileAt c i)) = _
  unfold comes reads
  rw [rows_dealt d]
  simp only [bigSep_sep']

/-! ## The launch element -/

/-- The pipeline prefetches no table. -/
abbrev adm : (p : Fin 1) → (pcfgs (F := F) p).Adm := fun p => (cfgs p).toPCfg_adm

theorem pin_inj : Function.Injective (Pipeline.cellOf (nD := nD) (τ := τ) (Pipeline.pin (pcfgs (F := F)) adm)) := cellOf_inj

def uP : UP := initOf (Pipeline.cells (nD := nD) (τ := τ) (Pipeline.pin (pcfgs (F := F)) adm) pin_inj) (Pipeline.launchToks (nD := nD) (τ := τ) (Pipeline.pin (pcfgs (F := F)) adm) pin_inj)

/-- The handshakes' rounds, the pipeline's rounds, no counter. -/
def u₀ : UU := (initOf (K (F := F)).hsCells (K (F := F)).hsToks, (uP (F := F), 1))

/-- What the product's region needs of the launch. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

theorem launched : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m).x q thr) := by
  unfold u₀
  iintro Hu
  ihave H := (ownU_pair (initOf (K (F := F)).hsCells (K (F := F)).hsToks) (uP (F := F), (1 : Counters))) $$ Hu
  icases H with ⟨HH, HR⟩
  ihave HP := (show BI.own ((embR : Emb (UP × Counters) 𝕄) (uP (F := F), (1 : Counters))) ⊢ BI.own ((EP : Emb UP 𝕄) (initOf (Pipeline.cells (nD := nD) (τ := τ) (Pipeline.pin (pcfgs (F := F)) adm) pin_inj)
    (Pipeline.launchToks (nD := nD) (τ := τ) (Pipeline.pin (pcfgs (F := F)) adm) pin_inj))) from .rfl) $$ HR
  imod (Pipeline.fund_ghost (Pipeline.pin (pcfgs (F := F)) adm) EP pin_inj) $$ HP with ⟨Hg, Ht⟩
  imodintro
  isplitl [HH]; · iexact HH
  isplitl [Hg Ht]
  · ihave Hg := (Entails.of_eq (show (bigSep Finset.univ fun c : Dev nD => bigSep Finset.univ fun p : Fin 1 => Pipeline.cellsGhost (Pipeline.pin (pcfgs (F := F)) adm) EP p c)
      = (bigSep Finset.univ fun c : Dev nD => Pipeline.cellsGhost (Pipeline.pin (pcfgs (F := F)) adm) EP 0 c : sProp 𝕄) from
      bigSep_congr fun _ _ => bigSep_univ_of_subsingleton (0 : Fin 1))) $$ Hg
    ihave Ht := (Entails.of_eq (show (bigSep Finset.univ fun c : Dev nD => bigSep Finset.univ fun p : Fin 1 => Pipeline.toksInit (Pipeline.pin (pcfgs (F := F)) adm) EP p c)
      = (bigSep Finset.univ fun c : Dev nD => Pipeline.toksInit (Pipeline.pin (pcfgs (F := F)) adm) EP 0 c : sProp 𝕄) from
      bigSep_congr fun _ _ => bigSep_univ_of_subsingleton (0 : Fin 1))) $$ Ht
    iapply (Entails.of_eq (show iprop((bigSep Finset.univ fun d : Dev nD => Pipeline.cellsGhost (Pipeline.pin (pcfgs (F := F)) adm) EP 0 d)
      ∗ (bigSep Finset.univ fun d : Dev nD => Pipeline.toksInit (Pipeline.pin (pcfgs (F := F)) adm) EP 0 d)) = (bigSep Finset.univ fun d : Dev nD => ghost d : sProp 𝕄) from
      (bigSep_sep' _ _ _).symm))
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## @main on the TensorCore -/

theorem unscoped (d : Dev nD) (W : (b : Ref sig .tc) → Buf (Elt F) ((d.tc : Thread nD τ).loc b)) :
    (unscopedBufs d W : sProp 𝕄)
      = iprop((xLoc d ↦{fullShare} W main_arg0) ∗ (bLoc d ↦{fullShare} W main_arg1) ∗ (wLoc d ↦{fullShare} W main_arg2) ∗ (vLoc d ↦{fullShare} W main_arg3)
        ∗ (oLoc d ↦{fullShare} W main_v0) ∗ (rLoc d ↦{fullShare} W main_v1) ∗ (yLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The bias as one row. -/
abbrev row (v : S256.Idx → F .f32) : S1x256.Idx → F .f32 := shapeCast S1x256 v shapeCasts_S256_S1x256

/-- The program's result from its arguments. -/
abbrev out (x : S50000x256.Idx → F .f32) (b : S50000.Idx → BitVec 32) (w : S768x256.Idx → F .f32) (v : S256.Idx → F .f32) : S128x256.Idx → F .f32 :=
  k1_pay1 (feat (rowsOf x) (segsOf b)) w (row v)

/-- What the program leaves: the arguments as they were, the result. -/
abbrev FIN (d : Dev nD) : sProp 𝕄 :=
  iprop((xLoc d ↦{fullShare} m (xLoc d)) ∗ (bLoc d ↦{fullShare} m (bLoc d)) ∗ (wLoc d ↦{fullShare} m (wLoc d)) ∗ (vLoc d ↦{fullShare} m (vLoc d))
    ∗ (yLoc d ↦{fullShare} out (m (xLoc d)) (m (bLoc d)) (m (wLoc d)) (m (vLoc d))))

abbrev reshapeOp : HloOp τ sig (Elt F) := StableHlo.reshape main_arg3 main_v1 (rfl : (.f32 : EltTy) = .f32) shapeCasts_S256_S1x256

/-- Every pair a TensorCore waits on is at a level below the end of the one call. -/
theorem below (d : Dev nD) (W : Waits sig (HIx 1)) : (K (F := F)).WBelow (T d) W 8 := by
  rintro ⟨c, ι⟩ -
  match ι with
  | none => exact Nat.zero_le _
  | some q =>
    refine ((K (F := F)).lev_some_le (T d, c) q).trans ?_
    have := q.isLt
    omega

/-- The TensorCore's state after the call: it owes nothing. -/
theorem state_end (d : Dev nD) : ((K (F := F)).tcSt EH d ((0 : Fin 1).val + 1) : sProp 𝕄)
    = iprop((∃ W, ⌜(K (F := F)).WBelow (T d) W 8⌝ ∗ owes (T d) (0 : CellTallies nD τ sig (HIx 1)) W)
      ∗ atPos EH ((K (F := F)).doneCell d) 1 ∅ 0 ∗ reached EH ((K (F := F)).doneCell d) 1
      ∗ (bigSep Finset.univ fun c : Fin τ.nSC => reached EH ((K (F := F)).startCell d c) ((K (F := F)).sRank c 1))
      ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1))) := by
  rw [← (K (F := F)).Otc_end d (le_refl 1)]
  rfl

/-- The reshape's two buffers. -/
theorem reshaped (d : Dev nD) (Fv : Valuation τ sig (Elt F)) :
    (bigSep (reshapeOp (F := F)).bufs fun b => (((d, b) : Loc nD τ sig) ↦{fullShare} Fv b : sProp 𝕄))
      = iprop((vLoc d ↦{fullShare} Fv (Proc.devRef .tc main_arg3)) ∗ (rLoc d ↦{fullShare} Fv (Proc.devRef .tc main_v1))) := by
  rw [show (reshapeOp (F := F)).bufs = {Proc.devRef .tc main_arg3, Proc.devRef .tc main_v1} from rfl, SparseCore.bigSep_insert' (by decide), bigSep_singleton]

/-- The product's region, called from the program: from its four arrays and what the launch gave it, to the product in the result's array. -/
theorem region_run (x : Vec F S128x768 .f32) (w : Vec F S768x256 .f32) (b : Vec F S1x256 .f32) (o : Vec F S128x256 .f32) (d : Dev nD) (Φ : PUnit → sProp 𝕄) :
    iprop((iprop(boundary (T d) ∗ four x w b d (k1_pay1 x w b) ∗ ∃ W, owes (T d) (0 : CellTallies nD τ sig (HIx 1)) W) -∗ Φ ⟨⟩)
        ∗ boundary (T d) ∗ (four x w b d o ∗ ∃ W, owes (T d) (0 : CellTallies nD τ sig (HIx 1)) W) ∗ levAts (K (F := F)).L (K (F := F)).lev ∗ ghost d)
      ⊢ wp frame (wpE ((K (F := F)).defs (D (F := F))) 𝒱 (T d) none) Set.univ
          (Prog.lift (TpuEff.customCall (SparseCore.inner (Pipeline.entry 0)) ())) Φ := by
  have h0 := (K (F := F)).wp_liftProg (D (F := F)) 𝒱 (T d) Set.univ none (.op (.customCall (Pipeline.entry 0) ()) fun u => .ret u) Φ
  have e : SparseCore.liftProg (.op (.customCall (Pipeline.entry 0) ()) fun u => .ret u)
    = (Prog.lift (TpuEff.customCall (SparseCore.inner (Pipeline.entry 0)) ()) : Prog (TpuEff nD τ sig (Elt F) (SparseCore.Sig (ΛP (F := F)) 1) (T d : Thread nD τ).2) PUnit) := rfl
  replace h0 := h0.trans (Entails.of_eq (congrArg (fun p => wp frame (wpE ((K (F := F)).defs (D (F := F))) 𝒱 (T d) none) Set.univ p Φ) e))
  refine BIBase.Entails.trans ?_ h0
  have h := Pipeline.RegionSeg.wp (pcfgs (F := F)) adm (dats x w b o adm) none pin_inj EP defs₀ 𝒱₀
    (K (F := F)).L (K (F := F)).lev (region x w b o adm (K (F := F)).L (K (F := F)).lev) d none (fun _ h => absurd h (Option.not_mem_none _)) (fun u => .ret u) Φ
  refine BIBase.Entails.trans ?_ h
  iintro ⟨Hk, H⟩
  isplitl [Hk]
  · iintro H
    rw [wp_ret]
    imodintro
    iapply Hk
    iexact H
  iexact H

theorem hmain (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped]
  simp only [main, wp_bind]
  iintro ⟨#Hctx, Hst, ⟨Hb, ⟨Hx, Hseg, Hw, Hv, Ho, Hr, Hy⟩, Hts, -⟩, Hg⟩
  ihave Hx := (dealt (xLoc d) (m (xLoc d))).1 $$ Hx
  ihave Hseg := (dealt (bLoc d) (m (bLoc d))).1 $$ Hseg
  icases Hx with ⟨Hxk, Hx⟩
  icases Hseg with ⟨Hbk, Hseg⟩
  iapply ((K (F := F)).wp_run (D (F := F)) 𝒱 (EH := EH) (P := P m) κ d 0) $$ [Hst Hx Hseg Ho Hb Hts Hxk Hbk Hw Hv Hr Hy Hg]
  isplitr; · iexact Hctx
  isplitl [Hst]; · iexact Hst
  isplitl [Hx Hseg Ho]
  · rw [starts]
    isplitl [Hx Hseg]
    · isplitl [Hx]; · iexact Hx
      iexact Hseg
    iexact Ho
  iintro ⟨Hst, Hdn⟩
  ihave Hdn := (Entails.of_eq (ends m d)) $$ Hdn
  icases Hdn with ⟨⟨Hx, Hseg⟩, Ho⟩
  ihave Hx := (dealt (xLoc d) (m (xLoc d))).2 $$ [Hxk Hx]
  · isplitl [Hxk]; · iexact Hxk
    iexact Hx
  ihave Hseg := (dealt (bLoc d) (m (bLoc d))).2 $$ [Hbk Hseg]
  · isplitl [Hbk]; · iexact Hbk
    iexact Hseg
  iapply (wp_hlo 𝒱 (T d) none Set.univ (op := reshapeOp (F := F)) (q := fun _ => fullShare) (F := fun b => m (d, b)) (fun _ _ => rfl)) $$ [Hb Hv Hr]
  · isplitl [Hb]; · iexact Hb
    iapply (Entails.of_eq (reshaped d fun b => m (d, b)).symm)
    isplitl [Hv]; · iexact Hv
    iexact Hr
  iintro ⟨Hb, Hvr⟩
  ihave Hvr := (Entails.of_eq (reshaped d ((reshapeOp (F := F)).result fun b => m (d, b)))) $$ Hvr
  icases Hvr with ⟨Hv, Hr⟩
  ihave Hv := (Entails.of_eq (congrArg (fun f => (vLoc d ↦{fullShare} f : sProp 𝕄))
    (StableHlo.reshape_result_ne (τ := τ) (Val := Elt F) (x := main_arg3) (y := main_v1) rfl shapeCasts_S256_S1x256 _ _ (fun b => m (d, b)) (r := main_arg3) (by decide)))) $$ Hv
  ihave Hr := (Entails.of_eq (congrArg (fun f => (rLoc d ↦{fullShare} f : sProp 𝕄))
    ((StableHlo.reshape_result (τ := τ) (Val := Elt F) main_arg3 main_v1 rfl shapeCasts_S256_S1x256 _ _ (fun b => m (d, b))).trans
      (show _ = row (m (vLoc d)) from rfl)))) $$ Hr
  rw [wp_ret]
  imodintro
  ihave Hst := (Entails.of_eq (state_end d)) $$ Hst
  icases Hst with ⟨⟨%W, -, HO⟩, Hst⟩
  iapply (region_run (feat (XX m d) (BB m d)) (m (wLoc d)) (row (m (vLoc d))) (m (yLoc d)) d _)
  icases Hg with ⟨Hg, Ht⟩
  isplitr [Hb Ho Hw Hr Hy HO Hg Ht]
  · iintro ⟨Hb, ⟨Ho, Hw, Hr, Hy⟩, %W', HO⟩
    rw [wp_pure]
    imodintro
    isplitl [HO Hst]
    · iapply (Entails.of_eq (state_end d).symm)
      isplitl [HO]
      · iexists W'
        isplitr
        · ipureintro; exact below d W'
        iexact HO
      iexact Hst
    isplitr [Hb Hts]
    · isplitl [Hx]; · iexact Hx
      isplitl [Hseg]; · iexact Hseg
      isplitl [Hw]; · iexact Hw
      isplitl [Hv]; · iexact Hv
      iexact Hy
    isplitl [Hb]; · iexact Hb
    iexact Hts
  isplitl [Hb]; · iexact Hb
  isplitl [Ho Hw Hr Hy HO]
  · isplitl [Ho Hw Hr Hy]
    · isplitl [Ho]; · iexact Ho
      isplitl [Hw]; · iexact Hw
      isplitl [Hr]; · iexact Hr
      iexact Hy
    iexists W
    iexact HO
  isplitr; · iapply (SparseCore.Cfg.ctx_levAts κ) $$ Hctx
  isplitl [Hg]; · iexact Hg
  iexact Ht

/-! ## What every execution leaves -/

/-- Of device `d`'s arrays: the arguments as they were, the result computed from them. -/
def fq (d : Dev nD) (s' : Phys nD τ sig (Elt F)) : Prop :=
  s'.mem.mem (xLoc d) = m (xLoc d) ∧ s'.mem.mem (bLoc d) = m (bLoc d) ∧ s'.mem.mem (wLoc d) = m (wLoc d) ∧ s'.mem.mem (vLoc d) = m (vLoc d)
    ∧ s'.mem.mem (yLoc d) = out (m (xLoc d)) (m (bLoc d)) (m (wLoc d)) (m (vLoc d))

/-- An array held whole reads in the state as it is held, and stays held with the state. -/
theorem seen (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hx, Hseg, Hw, Hv, Hy⟩, HSI⟩
  ihave H := (seen s' (xLoc d) _) $$ [HSI Hx]
  · isplitl [HSI] <;> iassumption
  icases H with ⟨%hx, HSI⟩
  ihave H := (seen s' (bLoc d) _) $$ [HSI Hseg]
  · isplitl [HSI] <;> iassumption
  icases H with ⟨%hb, HSI⟩
  ihave H := (seen s' (wLoc d) _) $$ [HSI Hw]
  · isplitl [HSI] <;> iassumption
  icases H with ⟨%hw, HSI⟩
  ihave H := (seen s' (vLoc d) _) $$ [HSI Hv]
  · isplitl [HSI] <;> iassumption
  icases H with ⟨%hv, HSI⟩
  ihave H := (seen s' (yLoc d) _) $$ [HSI Hy]
  · isplitl [HSI] <;> iassumption
  icases H with ⟨%hy, -⟩
  ipureintro
  exact ⟨hx, hb, hw, hv, hy⟩

/-- Every execution's outcome, over all devices: the arrays, and every semaphore back at zero. -/
def Outcome (r : PUnit × MemSt nD τ sig (Elt F)) : Prop :=
  (∀ d : Dev nD, r.2.mem (xLoc d) = m (xLoc d) ∧ r.2.mem (bLoc d) = m (bLoc d) ∧ r.2.mem (wLoc d) = m (wLoc d) ∧ r.2.mem (vLoc d) = m (vLoc d)
    ∧ r.2.mem (yLoc d) = out (m (xLoc d)) (m (bLoc d)) (m (wLoc d)) (m (vLoc d))) ∧ r.2.sem = fun _ => 0

theorem run_main : θ_run (Cert.KernelIdeal.defs (F := F)) (Cert.KernelIdeal.threads (F := F)) ⟨m, fun _ => 0, ρ⟩ (Outcome m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => ghost d) (FIN m) (u₀ (F := F)) (sep_elim_left.trans (launched m)) (hmain m ρ) (fq m) (hfin m) (Outcome m) (fun _ h hz => ⟨h, hz⟩)

end Cert.Pool
-- ==== Proof.Frames.lean ====
/-
  The frames: the kernel's and its idealization's from the one run of the program over any float values (Launch.lean), the
  reference's from its generated run.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import Idealize.ShloMosaic.Lib.Quiescent

@[expose] public section

noncomputable section

namespace Cert.Proof

open Idealize.ShloMosaic Idealize.SL.Sem

/-- The frame's outcome, from the program's. -/
theorem outcome_frame {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : Cert.Pool.Outcome m r) :
    (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  ⟨fun c => ⟨(h.1 c).1, (h.1 c).2.1, (h.1 c).2.2.1, (h.1 c).2.2.2.1⟩, h.2⟩

/-- The kernel and its idealization are one program: the body tables agree label by label. -/
theorem bodies_eq {F : FTy → Type} [FloatOps F] : Cert.Kernel.defs₀ (F := F) = Cert.KernelIdeal.defs₀ (F := F) := by
  funext p ℓ a
  match p, ℓ, a with
  | .scVector c s, ⟨0, _⟩, _ => rfl
  | .scVector c s, ⟨1, _⟩, _ => rfl
  | .scScalar c, ⟨0, _⟩, _ => rfl
  | .scScalar c, ⟨1, _⟩, _ => rfl
  | .tc, ⟨0, _⟩, _ => rfl
  | .tc, ⟨1, _⟩, (t, s) => rfl

theorem table_eq {F : FTy → Type} [FloatOps F] : Cert.Kernel.defs (F := F) = Cert.KernelIdeal.defs (F := F) :=
  congrArg (fun d => Cert.KernelIdeal.sc.defs (Pipeline.defs Cert.KernelIdeal.pcfgs d)) bodies_eq

theorem frame_kernel : Cert.quiescent_Kernel := fun m ρ _ => by
  have h := (θ_run (Cert.KernelIdeal.defs (F := Bits)) (Cert.KernelIdeal.threads (F := Bits)) ⟨m, fun _ => 0, ρ⟩).mono (fun _ h => outcome_frame h)
    (Cert.Pool.run_main (F := Bits) m ρ)
  rw [← table_eq] at h
  exact h

theorem frame_ideal : Cert.quiescent_KernelIdeal := fun m ρ _ =>
  (θ_run Cert.KernelIdeal.defs _ _).mono (fun _ h => outcome_frame h) (Cert.Pool.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Sorted.lean ====
/-
  Segment numbers in order: what the binary search finds, and which rows a segment has.
-/
module

public import proofs.«01_k».proof.Proof.Tile

@[expose] public section
noncomputable section

namespace Cert.Pool
open Idealize.ShloMosaic

/-- Segment numbers as the inputs have them: each names one of the 128 segments, and they never go down. -/
structure Ordered (B : ℕ → BitVec 32) : Prop where
  low : ∀ r, r < 50000 → 0 ≤ (B r).toInt
  high : ∀ r, r < 50000 → (B r).toInt < 128
  step : ∀ r, r + 1 < 50000 → (B r).toInt ≤ (B (r + 1)).toInt

theorem toInt_seg {s : ℕ} (hs : s ≤ 128) : (BitVec.ofNat 32 s).toInt = s := by
  rw [BitVec.toInt_eq_toNat_of_lt (by rw [BitVec.toNat_ofNat]; omega), BitVec.toNat_ofNat, Nat.mod_eq_of_lt (by omega)]

section
variable {B : ℕ → BitVec 32} (hB : Ordered B)
include hB

theorem Ordered.mono (r n : ℕ) (h : r + n < 50000) : (B r).toInt ≤ (B (r + n)).toInt := by
  induction n with
  | zero => exact le_refl _
  | succ n ih => exact le_trans (ih (by omega)) (hB.step (r + n) (by omega))

/-- With the padding behind them the words still never go down. -/
theorem Ordered.padded_mono {r q : ℕ} (h : r ≤ q) : (padded B r).toInt ≤ (padded B q).toInt := by
  unfold padded
  by_cases hq : q < 50000
  · rw [if_pos hq, if_pos (by omega)]
    obtain ⟨n, rfl⟩ := Nat.exists_eq_add_of_le h
    exact hB.mono r n hq
  · rw [if_neg hq]
    by_cases hr : r < 50000
    · rw [if_pos hr]
      have := hB.high r hr
      have e : (128#32 : BitVec 32).toInt = 128 := by decide
      omega
    · rw [if_neg hr]

/-- The bounds after `k` steps: everything below the first is below the target, nothing from the second on is, and the
    distance has been halved `k` times. -/
theorem Ordered.bs_inv (t : BitVec 32) (ht : t.toInt ≤ 128) (k : ℕ) :
    (bs (padded B) t k).1 ≤ (bs (padded B) t k).2 ∧ (bs (padded B) t k).2 ≤ 50000
      ∧ ((bs (padded B) t k).2 - (bs (padded B) t k).1) * 2 ^ k ≤ 50000
      ∧ (∀ r, r < (bs (padded B) t k).1 → (padded B r).toInt < t.toInt)
      ∧ ∀ r, (bs (padded B) t k).2 ≤ r → t.toInt ≤ (padded B r).toInt := by
  induction k with
  | zero =>
    refine ⟨Nat.zero_le _, le_refl _, le_refl _, fun r h => absurd h (Nat.not_lt_zero r), fun r h => ?_⟩
    have h : 50000 ≤ r := h
    unfold padded
    rw [if_neg (by omega)]
    have e : (128#32 : BitVec 32).toInt = 128 := by decide
    omega
  | succ k ih =>
    show (bsStep (padded B) t (bs (padded B) t k)).1 ≤ (bsStep (padded B) t (bs (padded B) t k)).2 ∧ _
    rw [show bs (padded B) t (k + 1) = bsStep (padded B) t (bs (padded B) t k) from rfl]
    generalize bs (padded B) t k = p at ih
    obtain ⟨lo, hi⟩ := p
    obtain ⟨h1, h2, h3, h4, h5⟩ := ih
    dsimp only at h1 h2 h3 h4 h5
    have half (d : ℕ) (h : d * 2 ≤ hi - lo) : d * 2 ^ (k + 1) ≤ 50000 := by
      rw [Nat.pow_succ, Nat.mul_comm (2 ^ k), ← Nat.mul_assoc]
      exact le_trans (Nat.mul_le_mul_right _ h) h3
    unfold bsStep
    dsimp only
    by_cases c : (padded B ((lo + hi) / 2)).toInt < t.toInt
    · rw [if_pos c]
      have hlt : (lo + hi) / 2 < hi := by
        by_contra hn
        have := h5 ((lo + hi) / 2) (by omega)
        omega
      refine ⟨by dsimp only; omega, h2, half _ (by dsimp only; omega), fun r h => ?_, h5⟩
      have h : r < (lo + hi) / 2 + 1 := h
      exact lt_of_le_of_lt (hB.padded_mono (by omega)) c
    · rw [if_neg c]
      refine ⟨by dsimp only; omega, by dsimp only; omega, half _ (by dsimp only; omega), h4, fun r h => ?_⟩
      exact le_trans (not_lt.1 c) (hB.padded_mono h)

/-- A segment's first row: the rows before it are those of earlier segments. -/
theorem Ordered.lt_offs {s : ℕ} (hs : s ≤ 128) (r : ℕ) : r < offs B s ↔ (padded B r).toInt < s := by
  have e := toInt_seg hs
  obtain ⟨h1, _, h3, h4, h5⟩ := hB.bs_inv (BitVec.ofNat 32 s) (by omega) 16
  rw [e] at h4 h5
  have h3 : ((bs (padded B) (BitVec.ofNat 32 s) 16).2 - (bs (padded B) (BitVec.ofNat 32 s) 16).1) * 65536 ≤ 50000 := h3
  refine ⟨h4 r, fun h => ?_⟩
  by_contra hn
  unfold offs at hn
  have := h5 r (by omega)
  omega

theorem Ordered.offs_le {s : ℕ} (hs : s ≤ 128) : offs B s ≤ 50000 := by
  have e := toInt_seg hs
  obtain ⟨h1, h2, _⟩ := hB.bs_inv (BitVec.ofNat 32 s) (by omega) 16
  exact le_trans h1 h2

theorem Ordered.offs_mono {s q : ℕ} (h : s ≤ q) (hq : q ≤ 128) : offs B s ≤ offs B q := by
  by_contra hn
  have h1 := (hB.lt_offs (s := s) (by omega) (offs B q)).1 (by omega)
  have h2 := (hB.lt_offs (s := q) hq (offs B q)).2 (by omega)
  omega

/-- The rows of segment `s` are those from its first to the next segment's first. -/
theorem Ordered.mem_iff {s : ℕ} (hs : s < 128) {r : ℕ} (hr : r < 50000) :
    (offs B s ≤ r ∧ r < offs B (s + 1)) ↔ (B r).toInt = s := by
  have e1 := hB.lt_offs (s := s) (by omega) r
  have e2 := hB.lt_offs (s := s + 1) (by omega) r
  unfold padded at e1 e2
  rw [if_pos hr] at e1 e2
  push_cast at e2
  constructor
  · rintro ⟨h1, h2⟩
    have := e2.1 h2
    have : ¬ (B r).toInt < s := fun h => absurd (e1.2 h) (by omega)
    omega
  · intro h
    have : ¬ r < offs B s := fun h' => absurd (e1.1 h') (by omega)
    exact ⟨by omega, e2.2 (by omega)⟩

variable {F : FTy → Type} [FloatOps F]

/-- The quad's rows cover each of its segments, so an accumulator is the fold over all of its segment's rows. -/
theorem Ordered.total_eq (X : ℕ → ℕ → F .f32) {s c : ℕ} (hs : s < 128) (hc : c < 768) :
    total X (quadOffs B (4 * (s / 4))) (768 * (s % 4) + c)
      = foldN (opv (c / 256)) (fun r => X r (c % 256)) (ini (c / 256)) (offs B s) (offs B (s + 1) - offs B s) := by
  unfold total accS
  have e1 : (768 * (s % 4) + c) / 768 = s % 4 := by omega
  have e2 : (768 * (s % 4) + c) % 768 = c := by omega
  have e3 : (768 * (s % 4) + c) % 256 = c % 256 := by omega
  rw [e1, e2, e3]
  have q (i : ℕ) (hi : i ≤ 4) : quadOffs B (4 * (s / 4)) i = offs B (4 * (s / 4) + i) := by
    unfold quadOffs
    rw [Nat.min_eq_left hi]
  have k0 : quadOffs B (4 * (s / 4)) (s % 4) = offs B s := by
    rw [q _ (by omega)]; congr 1; omega
  have k1 : quadOffs B (4 * (s / 4)) (s % 4 + 1) = offs B (s + 1) := by
    rw [q _ (by omega)]; congr 1; omega
  rw [k0, k1, q 0 (by omega), q 4 (by omega)]
  unfold chunkAt
  rw [q 0 (by omega)]
  have m0 : offs B (4 * (s / 4) + 0) ≤ offs B s := hB.offs_mono (by omega) (by omega)
  have m1 : offs B (s + 1) ≤ offs B (4 * (s / 4) + 4) := hB.offs_mono (by omega) (by omega)
  have m2 : offs B (4 * (s / 4) + 0) ≤ offs B (4 * (s / 4) + 4) := hB.offs_mono (by omega) (by omega)
  generalize offs B (4 * (s / 4) + 0) = a at *
  generalize offs B (4 * (s / 4) + 4) = z at *
  have g1 : max (offs B s) (stN a) = offs B s := by unfold stN; omega
  have g2 : min (offs B (s + 1)) (stN a + 144 * nch a z) = offs B (s + 1) := by unfold nch stN; omega
  rw [g1, g2]

/-- A feature of segment `s`: the fold over its rows, the sum divided by their number (1 if there are none). -/
theorem Ordered.featVal_eq (X : ℕ → ℕ → F .f32) {s c : ℕ} (hs : s < 128) (hc : c < 768) :
    featVal X B s c = if c / 256 = 2 then
        FloatOps.divf (foldN (opv (c / 256)) (fun r => X r (c % 256)) (ini (c / 256)) (offs B s) (offs B (s + 1) - offs B s))
          (Scalar.maximumf (Scalar.sitofp .f32 (Scalar.subi (BitVec.ofNat 32 (offs B (s + 1))) (BitVec.ofNat 32 (offs B s))))
            (Scalar.ofBits .f32 0x3F800000#32))
      else foldN (opv (c / 256)) (fun r => X r (c % 256)) (ini (c / 256)) (offs B s) (offs B (s + 1) - offs B s) := by
  have h := hB.total_eq X hs hc
  unfold featVal res
  unfold total at h
  rw [h]
  have e1 : (768 * (s % 4) + c) / 768 = s % 4 := by omega
  have e2 : (768 * (s % 4) + c) % 768 = c := by omega
  rw [e1, e2]
  unfold den
  have q (i : ℕ) (hi : i ≤ 4) : quadOffs B (4 * (s / 4)) i = offs B (4 * (s / 4) + i) := by
    unfold quadOffs
    rw [Nat.min_eq_left hi]
  have k0 : quadOffs B (4 * (s / 4)) (s % 4) = offs B s := by
    rw [q _ (by omega)]; congr 1; omega
  have k1 : quadOffs B (4 * (s / 4)) (s % 4 + 1) = offs B (s + 1) := by
    rw [q _ (by omega)]; congr 1; omega
  rw [k0, k1]

end
end Cert.Pool
-- ==== Proof.Masked.lean ====
/-
  What the reference computes at an element: the maxima over a mask, the sums and the counts.
-/
module

public import proofs.«01_k».proof.Proof.Sorted
public import proofs.«01_k».proof.Proof.Task
public import proofs.«01_k».proof.Proof.Gen.ReferenceIdeal
public import Idealize.ShloMosaic.Lib.Routing.OpsPair
public import Idealize.ShloMosaic.Lib.IdealHost
public import Idealize.ShloMosaic.Lib.KernelVsHost
public import Idealize.ShloMosaic.Lib.ReduceAll
public import Idealize.ShloMosaic.Lib.Affine
public import Idealize.ShloMosaic.Lib.Pointwise

@[expose] public section
noncomputable section

namespace Cert.Pool
open Cert.ReferenceIdeal Cert.ReferenceIdeal.Gen Idealize.ShloMosaic

/-- The batch's numbers against the segments' numbers, at every row and column. -/
def maskAt (b : IVec S50000 32) : IVec S128x50000x256 1 :=
  broadcastInDim S128x50000x256 ![0, 1, 2] bcast_S128x50000x1_S128x50000x256_0_1_2 (broadcastInDim S128x50000x1 ![0, 1] bcast_S128x50000_S128x50000x1_0_1 (cmpi .eq (broadcastInDim S128x50000 ![0, 1] bcast_S1x50000_S128x50000_0_1 (broadcastInDim S1x50000 ![1] bcast_S50000_S1x50000_1 b)) (iotaInDim S128x50000 32 0)))

/-- The rows of each segment, minus infinity elsewhere. -/
def masked (b : IVec S50000 32) (y : FVec Ideal S1x50000x256 .f32) : FVec Ideal S128x50000x256 .f32 :=
  select (maskAt b) (broadcastInDim S128x50000x256 ![0, 1, 2] bcast_S1x50000x256_S128x50000x256_0_1_2 y)
    (broadcastInDim S128x50000x256 ![] bcast_S_S128x50000x256 (id (constant S_ .f32 0xFF800000#32)))

/-- The largest of each segment's rows. -/
def refMax (b : IVec S50000 32) (y : FVec Ideal S1x50000x256 .f32) : FVec Ideal S128x256 .f32 :=
  Host.reduce FloatOps.maximumf (masked b y) (constant S_ .f32 0xFF800000#32) reducesTo_S128x50000x256_S128x256_d1 h_S_

theorem neg_inf : Ideal.ofBits .f32 0xFF800000#32 = ⊥ := by simp [Ideal.ofBits, Ideal.ieee]
theorem pos_inf : Ideal.ofBits .f32 0x7F800000#32 = ⊤ := by simp [Ideal.ofBits, Ideal.ieee]
theorem zero_bits : Ideal.ofBits .f32 0x00000000#32 = 0 := by simp [Ideal.ofBits, Ideal.ieee]

theorem segsOf_val (b : IVec S50000 32) (r : Fin 50000) : segsOf b r.val = b (ix1 r) := by
  unfold segsOf
  rw [dif_pos r.isLt]
  exact congrArg b (funext fun a => match a with | 0 => rfl)

theorem rowsOf_val (x : FVec Ideal S50000x256 .f32) (r : Fin 50000) (c : Fin 256) : rowsOf (F := Ideal) x r.val c.val = x (ix2 r c) := by
  unfold rowsOf
  rw [dif_pos ⟨r.isLt, c.isLt⟩]
  exact congrArg x (funext fun a => match a with | 0 => rfl | 1 => rfl)

theorem maskAt_apply (b : IVec S50000 32) (i : S128x50000x256.Idx) :
    maskAt b i = 1#1 ↔ (segsOf b (i 1).val).toInt = (i 0).val := by
  unfold maskAt
  pointwise
  have hi : (i 0).val < 128 := (i 0).isLt
  rw [IntOp.cmpi_eq, show b (ix1 (i 1)) = segsOf b (i 1).val from (segsOf_val b (i 1)).symm]
  rw [← toInt_seg (s := (i 0).val) (by omega)]
  exact BitVec.toInt_inj.symm

theorem masked_apply (b : IVec S50000 32) (y : FVec Ideal S1x50000x256 .f32) (s : Fin 128) (r : Fin 50000) (c : Fin 256) :
    masked b y (ix3 s r c) = if (segsOf b r.val).toInt = s.val then y (ix3 0 r c) else (⊥ : EReal) := by
  have h0 := maskAt_apply b (ix3 s r c)
  unfold masked
  pointwise
  by_cases h : (segsOf b r.val).toInt = s.val
  · rw [if_pos h, h0.2 h]; rfl
  · have h' : ¬ maskAt b (ix3 s r c) = 1#1 := fun e => h (h0.1 e)
    exact ((if_neg h').trans neg_inf).trans (if_neg h).symm

/-- What is at least every row of a segment is what is at least their largest. -/
theorem refMax_le (b : IVec S50000 32) (y : FVec Ideal S1x50000x256 .f32) (s : Fin 128) (c : Fin 256) (z : EReal) :
    refMax b y (ix2 s c) ≤ z ↔ ∀ r : Fin 50000, (segsOf b r.val).toInt = s.val → y (ix3 0 r c) ≤ z := by
  unfold refMax
  rw [Host.reduce_eq_fold]
  refine (Finset.fold_max_le (b := Ideal.ofBits .f32 0xFF800000#32) (f := masked b y) (c := z)).trans ?_
  rw [neg_inf]
  constructor
  · rintro ⟨_, h⟩ r hr
    have := h (ix3 s r c) (Finset.mem_filter.2 ⟨Finset.mem_univ _, funext fun a => match a with | 0 => rfl | 1 => rfl⟩)
    exact le_of_eq_of_le (((masked_apply b y s r c).trans (if_pos hr)).symm) this
  · intro h
    refine ⟨bot_le, fun i hi => ?_⟩
    have hd := (Finset.mem_filter.1 hi).2
    have e0 : i 0 = s := congrFun hd 0
    have e2 : i 2 = c := congrFun hd 1
    have e : i = ix3 s (i 1) c := funext fun a => match a with | 0 => e0 | 1 => rfl | 2 => e2
    rw [e]
    refine le_of_eq_of_le (masked_apply b y s (i 1) c) ?_
    by_cases hm : (segsOf b (i 1).val).toInt = s.val
    · exact le_of_eq_of_le (if_pos hm) (h (i 1) hm)
    · exact le_of_eq_of_le (if_neg hm) bot_le

/-! ## Folds over a range of rows, on the extended reals -/

theorem foldN_max_le (X : ℕ → EReal) (lo n : ℕ) (z : EReal) :
    foldN max X ⊥ lo n ≤ z ↔ ∀ r, lo ≤ r → r < lo + n → X r ≤ z := by
  induction n with
  | zero => exact ⟨fun _ r h1 h2 => absurd h2 (by omega), fun _ => bot_le⟩
  | succ n ih =>
    rw [foldN_succ, max_le_iff, ih]
    constructor
    · rintro ⟨h1, h2⟩ r hl hr
      by_cases e : r = lo + n
      · rw [e]; exact h2
      · exact h1 r hl (by omega)
    · exact fun h => ⟨fun r hl hr => h r hl (by omega), h _ (by omega) (by omega)⟩

theorem le_foldN_min (X : ℕ → EReal) (lo n : ℕ) (z : EReal) :
    z ≤ foldN min X ⊤ lo n ↔ ∀ r, lo ≤ r → r < lo + n → z ≤ X r := by
  induction n with
  | zero => exact ⟨fun _ r h1 h2 => absurd h2 (by omega), fun _ => le_top⟩
  | succ n ih =>
    rw [foldN_succ, le_min_iff, ih]
    constructor
    · rintro ⟨h1, h2⟩ r hl hr
      by_cases e : r = lo + n
      · rw [e]; exact h2
      · exact h1 r hl (by omega)
    · exact fun h => ⟨fun r hl hr => h r hl (by omega), h _ (by omega) (by omega)⟩

theorem foldN_sum (X : ℕ → EReal) (lo n : ℕ) : foldN (· + ·) X 0 lo n = ∑ r ∈ Finset.Ico lo (lo + n), X r := by
  induction n with
  | zero => simp [foldN_zero]
  | succ n ih => rw [foldN_succ, ih, ← Nat.add_assoc, Finset.sum_Ico_succ_top (by omega)]

end Cert.Pool
-- ==== Proof.Sums.lean ====
/-
  The reference's sums and counts: each row is added to its own segment.
-/
module

public import proofs.«01_k».proof.Proof.Masked

@[expose] public section
noncomputable section

namespace Cert.Pool
open Cert.ReferenceIdeal Cert.ReferenceIdeal.Gen Idealize.ShloMosaic

/-- The batch's numbers, one index word per row. -/
def wordsAt (b : IVec S50000 32) : IVec S50000x1 32 := broadcastInDim S50000x1 ![0] bcast_S50000_S50000x1_0 b

theorem wordsAt_apply (b : IVec S50000 32) (r : Fin 50000) : wordsAt b (ix2 r 0) = segsOf b r.val := by
  rw [segsOf_val]
  unfold wordsAt
  pointwise

/-- Each segment's rows added up. -/
def refSum (b : IVec S50000 32) (x : FVec Ideal S50000x256 .f32) : FVec Ideal S128x256 .f32 :=
  Host.scatterAdd scatter_S128x256_S50000x1_S50000x256_1_0_0_1 (broadcastInDim S128x256 ![] bcast_S_S128x256 (constant S_ .f32 0x00000000#32)) (wordsAt b) x

/-- How many rows each segment has. -/
def refCnt (b : IVec S50000 32) : FVec Ideal S128 .f32 :=
  Host.scatterAdd scatter_S128_S50000x1_S50000_n_0_0_1 (broadcastInDim S128 ![] bcast_S_S128 (constant S_ .f32 0x00000000#32)) (wordsAt b)
    (broadcastInDim S50000 ![] bcast_S_S50000 (constant S_ .f32 0x3F800000#32))

theorem lands_row (b : IVec S50000 32) (r : Fin 50000) (q : Fin 256) (s : Fin 128) (c : Fin 256) :
    scatter_S128x256_S50000x1_S50000x256_1_0_0_1.resultIdx? (ix2 r q) (wordsAt b) = some (ix2 s c)
      ↔ (segsOf b r.val).toInt = s.val ∧ q = c := by
  have e0 : scatter_S128x256_S50000x1_S50000x256_1_0_0_1.start (ix2 r q) (wordsAt b) 0 = (segsOf b r.val).toInt := by
    rw [← wordsAt_apply]
    refine congrArg (fun i => (wordsAt b i).toInt) (funext fun a => ?_)
    match a with
    | 0 => rfl
    | 1 => rfl
  have e1 : scatter_S128x256_S50000x1_S50000x256_1_0_0_1.start (ix2 r q) (wordsAt b) 1 = 0 := rfl
  have w0 : scatter_S128x256_S50000x1_S50000x256_1_0_0_1.window (ix2 r q) 0 = 0 := rfl
  have w1 : scatter_S128x256_S50000x1_S50000x256_1_0_0_1.window (ix2 r q) 1 = q.val := rfl
  refine (Routing.resultIdx?_eq_some _ _ _ _).trans ?_
  constructor
  · intro h
    have h0 := h 0
    have h1 := h 1
    rw [e0, w0] at h0
    rw [e1, w1] at h1
    have g0 : (segsOf b r.val).toInt + ((0 : ℕ) : ℤ) = (s.val : ℤ) := h0
    have g1 : (0 : ℤ) + (q.val : ℤ) = (c.val : ℤ) := h1
    exact ⟨by omega, Fin.ext (by omega)⟩
  · rintro ⟨h, rfl⟩ a
    match a with
    | 0 => rw [e0, w0]; exact (add_zero _).trans h
    | 1 => rw [e1, w1]; exact zero_add _

theorem lands_one (b : IVec S50000 32) (r : Fin 50000) (s : Fin 128) :
    scatter_S128_S50000x1_S50000_n_0_0_1.resultIdx? (ix1 r) (wordsAt b) = some (ix1 s) ↔ (segsOf b r.val).toInt = s.val := by
  have e0 : scatter_S128_S50000x1_S50000_n_0_0_1.start (ix1 r) (wordsAt b) 0 = (segsOf b r.val).toInt := by
    rw [← wordsAt_apply]
    refine congrArg (fun i => (wordsAt b i).toInt) (funext fun a => ?_)
    match a with
    | 0 => rfl
    | 1 => rfl
  have w0 : scatter_S128_S50000x1_S50000_n_0_0_1.window (ix1 r) 0 = 0 := rfl
  refine (Routing.resultIdx?_eq_some _ _ _ _).trans ?_
  constructor
  · intro h
    have h0 := h 0
    rw [e0, w0] at h0
    have g0 : (segsOf b r.val).toInt + ((0 : ℕ) : ℤ) = (s.val : ℤ) := h0
    omega
  · intro h a
    match a with
    | 0 => rw [e0, w0]; exact (add_zero _).trans h

variable {b : IVec S50000 32} (hB : Ordered (segsOf b))
include hB

theorem refSum_apply (x : FVec Ideal S50000x256 .f32) (s : Fin 128) (c : Fin 256) :
    refSum b x (ix2 s c)
      = foldN (· + ·) (fun r => (rowsOf (F := Ideal) x r c.val : EReal)) 0 (offs (segsOf b) s.val) (offs (segsOf b) (s.val + 1) - offs (segsOf b) s.val) := by
  have m : offs (segsOf b) s.val ≤ offs (segsOf b) (s.val + 1) := hB.offs_mono (by omega) (by omega)
  have m2 : offs (segsOf b) (s.val + 1) ≤ 50000 := hB.offs_le (by omega)
  rw [foldN_sum, Nat.add_sub_cancel' m]
  show (_ : EReal) + ∑ j ∈ Finset.univ.filter (fun j => scatter_S128x256_S50000x1_S50000x256_1_0_0_1.resultIdx? j (wordsAt b) = some (ix2 s c)), x j = _
  rw [show (broadcastInDim S128x256 ![] bcast_S_S128x256 (constant (F := Ideal) S_ .f32 0x00000000#32) (ix2 s c) : EReal) = 0 from zero_bits, zero_add]
  symm
  refine Finset.sum_bij (fun r hr => ix2 (⟨r, by have := Finset.mem_Ico.1 hr; omega⟩ : Fin 50000) c) ?_ ?_ ?_ ?_
  · intro r hr
    have hr := Finset.mem_Ico.1 hr
    exact Finset.mem_filter.2 ⟨Finset.mem_univ _, (lands_row b ⟨r, by omega⟩ c s c).2 ⟨(hB.mem_iff s.isLt (by omega)).1 hr, rfl⟩⟩
  · intro r _ q _ h
    exact congrArg (fun i : S50000x256.Idx => (i 0).val) h
  · intro j hj
    have hj := (Finset.mem_filter.1 hj).2
    have e : j = ix2 (j 0) (j 1) := (ix2_eta j).symm
    rw [e] at hj
    obtain ⟨h1, h2⟩ := (lands_row b (j 0) (j 1) s c).1 hj
    exact ⟨(j 0).val, Finset.mem_Ico.2 ((hB.mem_iff s.isLt (j 0).isLt).2 h1), (congrArg (ix2 (j 0)) h2.symm).trans e.symm⟩
  · intro r hr
    have hr := Finset.mem_Ico.1 hr
    exact rowsOf_val x ⟨r, by omega⟩ c

theorem refCnt_apply (s : Fin 128) :
    refCnt b (ix1 s) = (((offs (segsOf b) (s.val + 1) - offs (segsOf b) s.val : ℕ) : ℝ) : EReal) := by
  have m : offs (segsOf b) s.val ≤ offs (segsOf b) (s.val + 1) := hB.offs_mono (by omega) (by omega)
  have m2 : offs (segsOf b) (s.val + 1) ≤ 50000 := hB.offs_le (by omega)
  show (_ : EReal) + ∑ j ∈ Finset.univ.filter (fun j => scatter_S128_S50000x1_S50000_n_0_0_1.resultIdx? j (wordsAt b) = some (ix1 s)),
    (broadcastInDim S50000 ![] bcast_S_S50000 (constant (F := Ideal) S_ .f32 0x3F800000#32) j : EReal) = _
  rw [show (broadcastInDim S128 ![] bcast_S_S128 (constant (F := Ideal) S_ .f32 0x00000000#32) (ix1 s) : EReal) = 0 from zero_bits, zero_add]
  have e : ∑ j ∈ Finset.univ.filter (fun j => scatter_S128_S50000x1_S50000_n_0_0_1.resultIdx? j (wordsAt b) = some (ix1 s)),
      (broadcastInDim S50000 ![] bcast_S_S50000 (constant (F := Ideal) S_ .f32 0x3F800000#32) j : EReal)
      = ∑ r ∈ Finset.Ico (offs (segsOf b) s.val) (offs (segsOf b) (s.val + 1)), (1 : EReal) := by
    symm
    refine Finset.sum_bij (fun r hr => ix1 (⟨r, by have := Finset.mem_Ico.1 hr; omega⟩ : Fin 50000)) ?_ ?_ ?_ ?_
    · intro r hr
      have hr := Finset.mem_Ico.1 hr
      exact Finset.mem_filter.2 ⟨Finset.mem_univ _, (lands_one b ⟨r, by omega⟩ s).2 ((hB.mem_iff s.isLt (by omega)).1 hr)⟩
    · intro r _ q _ h
      exact congrArg (fun i : S50000.Idx => (i 0).val) h
    · intro j hj
      have hj := (Finset.mem_filter.1 hj).2
      have e : j = ix1 (j 0) := funext fun a => match a with | 0 => rfl
      rw [e] at hj
      exact ⟨(j 0).val, Finset.mem_Ico.2 ((hB.mem_iff s.isLt (j 0).isLt).2 ((lands_one b (j 0) s).1 hj)), e.symm⟩
    · intro r hr
      exact Ideal.ofBits_one_f32.symm
  rw [e, Finset.sum_const, Nat.card_Ico]
  simp

end Cert.Pool
-- ==== Proof.Equal.lean ====
/-
  The kernel's result is the reference's, when the segment numbers are in order.
-/
module

public import proofs.«01_k».proof.Proof.Sums
public import proofs.«01_k».proof.Proof.Launch
public import proofs.«01_k».proof.Proof.Gen.Pre_drawn

@[expose] public section
noncomputable section

namespace Cert.Pool
open Cert.ReferenceIdeal Cert.ReferenceIdeal.Gen Idealize.ShloMosaic

/-- The precondition's words: in order. -/
theorem ordered_of_pre (x : FVec Ideal S50000x256 .f32) (b : IVec S50000 32) (w : FVec Ideal S768x256 .f32) (v : FVec Ideal S256 .f32)
    (h : Cert.Pre_drawn.fn (F := Ideal) x b w v = fun _ => 1#1) : Ordered (segsOf b) := by
  have h0 := congrFun h (fun a => a.elim0)
  dsimp only [Cert.Pre_drawn.fn] at h0
  obtain ⟨h1, h2⟩ := IntOp.andi_eq_one.1 h0
  have r (i : Fin 50000) : 0 ≤ (segsOf b i.val).toInt ∧ (segsOf b i.val).toInt < 128 := by
    have e := Host.reduce_andi_all _ _ _ _ _ h1 (ix1 i)
    obtain ⟨e1, e2⟩ := IntOp.andi_eq_one.1 e
    have e1 := IntOp.cmpi_sge.1 e1
    have e2 := IntOp.cmpi_slt.1 e2
    rw [segsOf_val]
    exact ⟨e1, e2⟩
  refine ⟨fun q hq => (r ⟨q, hq⟩).1, fun q hq => (r ⟨q, hq⟩).2, fun q hq => ?_⟩
  have e := IntOp.cmpi_sle.1 (Host.reduce_andi_all _ _ _ _ _ h2 (ix1 (⟨q, by omega⟩ : Fin 49999)))
  have s1 : segsOf b q = b (ix1 (⟨q, by omega⟩ : Fin 50000)) := segsOf_val b ⟨q, by omega⟩
  have s2 : segsOf b (q + 1) = b (ix1 (⟨q + 1, hq⟩ : Fin 50000)) := segsOf_val b ⟨q + 1, hq⟩
  have t1 : extractStridedSlice Cert.Pre_drawn.S49999 ![0] b Cert.Pre_drawn.Facts.slices_S50000_S49999_0 (ix1 (⟨q, by omega⟩ : Fin 49999)) = b (ix1 (⟨q, by omega⟩ : Fin 50000)) :=
    congrArg b (funext fun a => match a with | 0 => Fin.ext (by show 0 + q = q; omega))
  have t2 : extractStridedSlice Cert.Pre_drawn.S49999 ![1] b Cert.Pre_drawn.Facts.slices_S50000_S49999_1 (ix1 (⟨q, by omega⟩ : Fin 49999)) = b (ix1 (⟨q + 1, hq⟩ : Fin 50000)) :=
    congrArg b (funext fun a => match a with | 0 => Fin.ext (by show 1 + q = q + 1; omega))
  rw [s1, s2, ← t1, ← t2]
  exact e

/-- The rows, with one segment axis in front. -/
def rowsAt (x : FVec Ideal S50000x256 .f32) : FVec Ideal S1x50000x256 .f32 :=
  broadcastInDim S1x50000x256 ![1, 2] bcast_S50000x256_S1x50000x256_1_2 x

theorem rowsAt_apply (x : FVec Ideal S50000x256 .f32) (r : Fin 50000) (c : Fin 256) :
    rowsAt x (ix3 0 r c) = rowsOf (F := Ideal) x r.val c.val := by
  rw [rowsOf_val]
  unfold rowsAt
  pointwise

/-- The reference's means. -/
def refMean (b : IVec S50000 32) (x : FVec Ideal S50000x256 .f32) : FVec Ideal S128x256 .f32 :=
  Host.divf (refSum b x) (broadcastInDim S128x256 ![0, 1] bcast_S128x1_S128x256_0_1 (broadcastInDim S128x1 ![0] bcast_S128_S128x1_0
    (maximumf (refCnt b) (broadcastInDim S128 ![] bcast_S_S128 (constant S_ .f32 0x3F800000#32)))))

/-- The reference's features: maxima, minima, means. -/
def refFeat (b : IVec S50000 32) (x : FVec Ideal S50000x256 .f32) : FVec Ideal S128x768 .f32 :=
  concatenate S128x768 1 [⟨S128x256, refMax b (rowsAt x)⟩, ⟨S128x256, Host.negf (refMax b (Host.negf (rowsAt x)))⟩, ⟨S128x256, refMean b x⟩]
    concatenates_S128x256_S128x256_S128x256_S128x768_d1

/-- The reference's result. -/
def refOut (b : IVec S50000 32) (x : FVec Ideal S50000x256 .f32) (w : FVec Ideal S768x256 .f32) (v : FVec Ideal S256 .f32) : FVec Ideal S128x256 .f32 :=
  addf (Host.dotGeneral dot_S128x768_S768x256_S128x256_1_0_0_1_n_n none (refFeat b x) w)
    (broadcastInDim S128x256 ![0, 1] bcast_S1x256_S128x256_0_1 (broadcastInDim S1x256 ![1] bcast_S256_S1x256_1 v))

theorem negf_at {t : Shape} (y : FVec Ideal t .f32) (i : t.Idx) : Host.negf y i = (-(y i : EReal) : EReal) := rfl

theorem cat_at (A B C : FVec Ideal S128x256 .f32) (s : Fin 128) (c : Fin 768) :
    concatenate S128x768 1 [⟨S128x256, A⟩, ⟨S128x256, B⟩, ⟨S128x256, C⟩] concatenates_S128x256_S128x256_S128x256_S128x768_d1 (ix2 s c)
      = if h : c.val < 256 then A (ix2 s ⟨c.val, h⟩) else if h : c.val - 256 < 256 then B (ix2 s ⟨c.val - 256, h⟩)
        else C (ix2 s ⟨c.val - 256 - 256, by omega⟩) := by
  pointwise

theorem mean_at (A : FVec Ideal S128x256 .f32) (n : FVec Ideal S128 .f32) (s : Fin 128) (c : Fin 256) :
    Host.divf A (broadcastInDim S128x256 ![0, 1] bcast_S128x1_S128x256_0_1 (broadcastInDim S128x1 ![0] bcast_S128_S128x1_0
      (maximumf n (broadcastInDim S128 ![] bcast_S_S128 (constant S_ .f32 0x3F800000#32))))) (ix2 s c)
      = Ideal.div (A (ix2 s c)) (max (n (ix1 s) : EReal) 1) := by
  pointwise

theorem fold_max (X : ℕ → EReal) (lo n : ℕ) : foldN (opv (F := Ideal) 0) X (ini (F := Ideal) 0) lo n = foldN max X ⊥ lo n := by
  rw [show ini (F := Ideal) 0 = (⊥ : EReal) from neg_inf]; rfl
theorem fold_min (X : ℕ → EReal) (lo n : ℕ) : foldN (opv (F := Ideal) 1) X (ini (F := Ideal) 1) lo n = foldN min X ⊤ lo n := by
  rw [show ini (F := Ideal) 1 = (⊤ : EReal) from pos_inf]; rfl
theorem fold_sum (X : ℕ → EReal) (lo n : ℕ) : foldN (opv (F := Ideal) 2) X (ini (F := Ideal) 2) lo n = foldN (· + ·) X 0 lo n := by
  rw [show ini (F := Ideal) 2 = (0 : EReal) from zero_bits]; rfl

/-- The number of rows, from the words of the two ends. -/
theorem count_word {a z : ℕ} (h : a ≤ z) (hz : z ≤ 50000) :
    Scalar.maximumf (F := Ideal) (Scalar.sitofp .f32 (Scalar.subi (BitVec.ofNat 32 z) (BitVec.ofNat 32 a))) (Scalar.ofBits .f32 0x3F800000#32)
      = (max (((z - a : ℕ) : ℝ) : EReal) 1 : EReal) := by
  have e : (Scalar.subi (BitVec.ofNat 32 z) (BitVec.ofNat 32 a)).toInt = ((z - a : ℕ) : ℤ) := by
    show (BitVec.ofNat 32 z - BitVec.ofNat 32 a).toInt = _
    have e2 : (BitVec.ofNat 32 z - BitVec.ofNat 32 a).toNat = z - a := by
      rw [BitVec.toNat_sub, BitVec.toNat_ofNat, BitVec.toNat_ofNat, Nat.mod_eq_of_lt (a := a) (by omega), Nat.mod_eq_of_lt (a := z) (by omega)]
      omega
    rw [BitVec.toInt_eq_toNat_of_lt (by omega), e2]
  have e3 : (Scalar.sitofp (F := Ideal) .f32 (Scalar.subi (BitVec.ofNat 32 z) (BitVec.ofNat 32 a)) : EReal) = (((z - a : ℕ) : ℝ) : EReal) := by
    rw [Ideal.scalar_sitofp_def, e]; simp
  have e4 : (Scalar.ofBits (F := Ideal) .f32 0x3F800000#32 : EReal) = 1 := Ideal.ofBits_one_f32
  exact congrArg₂ (fun p q : EReal => max p q) e3 e4

theorem feat_at {F : FTy → Type} [FloatOps F] (X : ℕ → ℕ → F .f32) (B : ℕ → BitVec 32) (s : Fin 128) (c : Fin 768) :
    feat X B (ix2 s c) = featVal X B s.val c.val := rfl

section
variable {b : IVec S50000 32} (hB : Ordered (segsOf b)) (x : FVec Ideal S50000x256 .f32) (s : Fin 128) (c : Fin 256)
include hB

theorem max_eq : refMax b (rowsAt x) (ix2 s c) = (foldN max (fun r => (rowsOf (F := Ideal) x r c.val : EReal)) ⊥ (offs (segsOf b) s.val) (offs (segsOf b) (s.val + 1) - offs (segsOf b) s.val) : EReal) := by
  have m : offs (segsOf b) s.val ≤ offs (segsOf b) (s.val + 1) := hB.offs_mono (by omega) (by omega)
  have m2 : offs (segsOf b) (s.val + 1) ≤ 50000 := hB.offs_le (by omega)
  refine eq_of_forall_ge_iff fun z => ?_
  rw [refMax_le, foldN_max_le, Nat.add_sub_cancel' m]
  constructor
  · intro h r h1 h2
    have := h ⟨r, by omega⟩ ((hB.mem_iff s.isLt (by omega)).1 ⟨h1, h2⟩)
    rw [rowsAt_apply] at this
    exact this
  · intro h r hr
    obtain ⟨h1, h2⟩ := (hB.mem_iff s.isLt r.isLt).2 hr
    rw [rowsAt_apply]
    exact h r.val h1 h2

theorem min_eq : Host.negf (refMax b (Host.negf (rowsAt x))) (ix2 s c) = (foldN min (fun r => (rowsOf (F := Ideal) x r c.val : EReal)) ⊤ (offs (segsOf b) s.val) (offs (segsOf b) (s.val + 1) - offs (segsOf b) s.val) : EReal) := by
  have m : offs (segsOf b) s.val ≤ offs (segsOf b) (s.val + 1) := hB.offs_mono (by omega) (by omega)
  have m2 : offs (segsOf b) (s.val + 1) ≤ 50000 := hB.offs_le (by omega)
  rw [negf_at]
  have e (r : Fin 50000) : Host.negf (rowsAt x) (ix3 0 r c) = (-(rowsOf (F := Ideal) x r.val c.val : EReal) : EReal) := by
    rw [negf_at, rowsAt_apply]
  refine eq_of_forall_le_iff fun z => ?_
  rw [EReal.le_neg, refMax_le, le_foldN_min, Nat.add_sub_cancel' m]
  constructor
  · intro h r h1 h2
    have := h ⟨r, by omega⟩ ((hB.mem_iff s.isLt (by omega)).1 ⟨h1, h2⟩)
    rw [e] at this
    exact EReal.neg_le_neg_iff.1 this
  · intro h r hr
    obtain ⟨h1, h2⟩ := (hB.mem_iff s.isLt r.isLt).2 hr
    rw [e]
    exact EReal.neg_le_neg_iff.2 (h r.val h1 h2)

theorem mean_eq : refMean b x (ix2 s c) = Ideal.div
    (foldN (· + ·) (fun r => (rowsOf (F := Ideal) x r c.val : EReal)) 0 (offs (segsOf b) s.val) (offs (segsOf b) (s.val + 1) - offs (segsOf b) s.val))
    (max (((offs (segsOf b) (s.val + 1) - offs (segsOf b) s.val : ℕ) : ℝ) : EReal) 1) := by
  unfold refMean
  rw [mean_at, refSum_apply hB, refCnt_apply hB]

end

theorem feat_eq {b : IVec S50000 32} (hB : Ordered (segsOf b)) (x : FVec Ideal S50000x256 .f32) (s : Fin 128) (c : Fin 768) :
    feat (F := Ideal) (rowsOf x) (segsOf b) (ix2 s c) = refFeat b x (ix2 s c) := by
  have m : offs (segsOf b) s.val ≤ offs (segsOf b) (s.val + 1) := hB.offs_mono (by omega) (by omega)
  have m2 : offs (segsOf b) (s.val + 1) ≤ 50000 := hB.offs_le (by omega)
  rw [feat_at, hB.featVal_eq (F := Ideal) (rowsOf x) s.isLt c.isLt]
  unfold refFeat
  rw [cat_at]
  by_cases h0 : c.val < 256
  · rw [dif_pos h0, max_eq hB x s ⟨c.val, h0⟩, show c.val / 256 = 0 by omega, if_neg (by decide), show c.val % 256 = c.val by omega]
    exact fold_max _ _ _
  · rw [dif_neg h0]
    by_cases h1 : c.val - 256 < 256
    · rw [dif_pos h1, min_eq hB x s ⟨c.val - 256, h1⟩, show c.val / 256 = 1 by omega, if_neg (by decide), show c.val % 256 = c.val - 256 by omega]
      exact fold_min _ _ _
    · rw [dif_neg h1, mean_eq hB x s ⟨c.val - 256 - 256, by omega⟩, show c.val / 256 = 2 by omega, if_pos rfl, count_word m m2,
        show c.val % 256 = c.val - 256 - 256 by omega, fold_sum]
      rfl

theorem pay_eq (f : FVec Ideal S128x768 .f32) (w : FVec Ideal S768x256 .f32) (v : FVec Ideal S256 .f32) :
    Cert.KernelIdeal.Gen.k1_pay1 (F := Ideal) f w (row v)
      = addf (Host.dotGeneral dot_S128x768_S768x256_S128x256_1_0_0_1_n_n none f w)
          (broadcastInDim S128x256 ![0, 1] bcast_S1x256_S128x256_0_1 (broadcastInDim S1x256 ![1] bcast_S256_S1x256_1 v)) := by
  have e1 := matmul_zero_eq_dotGeneral dot_S128x768_S768x256_S128x256_1_0_0_1_n_n none f w
  rw [← e1]
  unfold Cert.KernelIdeal.Gen.k1_pay1
  dsimp only
  rw [Idealize.ShloMosaic.shapeCast_self, Idealize.ShloMosaic.shapeCast_self]
  refine congrArg₂ addf rfl (funext fun i => ?_)
  rw [show i = ix2 (i 0) (i 1) from (ix2_eta i).symm]
  pointwise

/-- The kernel's result is the reference's. -/
theorem out_eq {b : IVec S50000 32} (hB : Ordered (segsOf b)) (x : FVec Ideal S50000x256 .f32) (w : FVec Ideal S768x256 .f32) (v : FVec Ideal S256 .f32) :
    out (F := Ideal) x b w v = refOut b x w v := by
  have e : feat (F := Ideal) (rowsOf x) (segsOf b) = refFeat b x := funext fun i => by
    rw [show i = ix2 (i 0) (i 1) from (ix2_eta i).symm]
    exact feat_eq hB x (i 0) (i 1)
  unfold refOut out
  rw [e]
  exact pay_eq (refFeat b x) w v

end Cert.Pool
-- ==== Proof.lean ====
/-
  The certificate's claims: the frames (Proof/Frames.lean), and the equality of the two results at exact arithmetic when the
  segment numbers are in order (Proof/Equal.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_drawn
public import proofs.«01_k».proof.Proof.Frames
public import proofs.«01_k».proof.Proof.Equal

@[expose] public section

noncomputable section

namespace Cert.Proof

open Idealize.ShloMosaic Idealize.SL.Sem

/-- From memories with the same arguments, in order, the two programs leave the same result. -/
theorem algebraic : Cert.algebraic_KernelIdeal_ReferenceIdeal_pre_drawn := fun m g m' g' hp ha => by
  refine ⟨fun c => Cert.Pool.out (F := Ideal) (m (Cert.Pool.xLoc c)) (m (Cert.Pool.bLoc c)) (m (Cert.Pool.wLoc c)) (m (Cert.Pool.vLoc c)), ?_, ?_⟩
  · exact (θ_run Cert.KernelIdeal.defs _ _).mono
      (fun _ h c => ⟨(h.1 c).2.2.2.2, (h.1 c).1, (h.1 c).2.1, (h.1 c).2.2.1, (h.1 c).2.2.2.1⟩) (Cert.Pool.run_main (F := Ideal) m g)
  · refine (θ_run Cert.ReferenceIdeal.defs _ _).mono (fun _ h c => ⟨(h c).1.trans ?_, (h c).2⟩) (Cert.ReferenceIdeal.Value.run (F := Ideal) m' g')
    obtain ⟨a0, a1, a2, a3⟩ := ha c
    rw [a0, a1, a2, a3]
    exact (Cert.Pool.out_eq (Cert.Pool.ordered_of_pre _ _ _ _ (hp c)) _ _ _).symm

theorem claim : Cert.Claim :=
  ⟨Cert.Kernel.Gen.facts, Cert.KernelIdeal.Gen.facts, Cert.ReferenceIdeal.Gen.facts, Cert.Pre_drawn.Gen.facts,
    frame_kernel, frame_ideal, fun m g _ => frame_ideal m g trivial, frame_reference, fun m g _ => frame_reference m g trivial, trivial, algebraic⟩

end Cert.Proof

end
